-- ==== Defs.lean ====
def Pre_Kernel [hPre_inputs_finite : Cert.Pre_inputs_finite.Facts] (m : (ℓ : Loc Cert.Kernel.nD Cert.Kernel.τ Cert.Kernel.sig) → Buf (Elt Bits) ℓ) : Prop :=
  ∀ c : Dev Cert.Kernel.nD,
    (Cert.Pre_inputs_finite.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_inputs_finite : Cert.Pre_inputs_finite.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_inputs_finite : Cert.Pre_inputs_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_inputs_finite : Cert.Pre_inputs_finite.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] [hPre_inputs_finite : Cert.Pre_inputs_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_3)) (v2 : (c : Dev Cert.KernelIdeal.nD) → Buf (Elt Ideal) ((c.tc : Thread Cert.KernelIdeal.nD Cert.KernelIdeal.τ).loc Cert.KernelIdeal.main_v1_5)) (v3 : (c : Dev Cert.KernelIdeal.nD) → Buf (Elt Ideal) ((c.tc : Thread Cert.KernelIdeal.nD Cert.KernelIdeal.τ).loc Cert.KernelIdeal.main_v1_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_3) = v1 c
          ∧ r.2.mem ((c.tc : Thread Cert.KernelIdeal.nD Cert.KernelIdeal.τ).loc Cert.KernelIdeal.main_v1_5) = v2 c
          ∧ r.2.mem ((c.tc : Thread Cert.KernelIdeal.nD Cert.KernelIdeal.τ).loc Cert.KernelIdeal.main_v1_6) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9_0) = v0 c
          ∧ r.2.mem ((c.tc : Thread Cert.ReferenceIdeal.nD Cert.ReferenceIdeal.τ).loc Cert.ReferenceIdeal.main_v9_1) = v1 c
          ∧ r.2.mem ((c.tc : Thread Cert.ReferenceIdeal.nD Cert.ReferenceIdeal.τ).loc Cert.ReferenceIdeal.main_v9_2) = v2 c
          ∧ r.2.mem ((c.tc : Thread Cert.ReferenceIdeal.nD Cert.ReferenceIdeal.τ).loc Cert.ReferenceIdeal.main_v9_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_inputs_finite : Cert.Pre_inputs_finite.Facts),
    quiescent_Kernel (hKernel := hKernel) (hPre_inputs_finite := hPre_inputs_finite)
    ∧ quiescent_KernelIdeal (hKernelIdeal := hKernelIdeal) (hPre_inputs_finite := hPre_inputs_finite)
    ∧ quiescent_ReferenceIdeal (hReferenceIdeal := hReferenceIdeal) (hPre_inputs_finite := hPre_inputs_finite)
    ∧ preserves_Kernel_KernelIdeal
    ∧ algebraic_KernelIdeal_ReferenceIdeal (hKernelIdeal := hKernelIdeal) (hReferenceIdeal := hReferenceIdeal) (hPre_inputs_finite := hPre_inputs_finite)
-- ==== Pre_inputs_finite.lean ====
abbrev S3x1x7168 : Shape := ⟨3, ![3, 1, 7168]⟩
abbrev S7168x32256 : Shape := ⟨2, ![7168, 32256]⟩
abbrev S32256 : Shape := ⟨1, ![32256]⟩
abbrev S3x1008 : Shape := ⟨2, ![3, 1008]⟩
abbrev S3x1x40 : Shape := ⟨3, ![3, 1, 40]⟩
abbrev S_ : Shape := ⟨0, ![]⟩

class Facts : Prop where
  bcast_S_S3x1x7168 : S_.BroadcastsInDim S3x1x7168 (![] : Fin 0 → Fin S3x1x7168.rank)
  bitsLt_bf16_f32 : FTy.bits .bf16 < FTy.bits .f32
  reducesTo_S3x1x7168_S_d0_1_2 : S3x1x7168.ReducesTo [0, 1, 2] S_
  h_S_ : 0 < S_.numel

variable [Facts]

def fn {F : FTy → Type} [FloatOps F] (main_arg0 : FVec F S3x1x7168 .bf16) (main_arg1 : FVec F S7168x32256 .fp8e4m3) (main_arg2 : FVec F S32256 .f32) (main_arg3 : IVec S3x1008 32) (main_arg4 : IVec S3x1x40 32) : IVec S_ 1 :=
  let main_cst : FVec F S_ .f32 := constant S_ .f32 0x7F7F0000#32
  let main_v0 : FVec F S3x1x7168 .f32 := broadcastInDim S3x1x7168 ![] bcast_S_S3x1x7168 main_cst
  let main_v1 : FVec F S3x1x7168 .f32 := (extf .f32 · bitsLt_bf16_f32) main_arg0
  let main_v2 : FVec F S3x1x7168 .f32 := Host.absf main_v1
  let main_v3 : IVec S3x1x7168 1 := cmpf .ole main_v2 main_v0
  let main_c : IVec S_ 1 := constantI S_ 1 1#1
  let main_v4 : IVec S_ 1 := (fun x v => Host.reduce IntOp.andi x v reducesTo_S3x1x7168_S_d0_1_2 h_S_) main_v3 main_c
  main_v4
-- ==== Kernel.lean ====
abbrev S3x1x7168 : Shape := ⟨3, ![3, 1, 7168]⟩
abbrev S7168x32256 : Shape := ⟨2, ![7168, 32256]⟩
abbrev S32256 : Shape := ⟨1, ![32256]⟩
abbrev S3x1008 : Shape := ⟨2, ![3, 1008]⟩
abbrev S3x1x40 : Shape := ⟨3, ![3, 1, 40]⟩
abbrev S3x7168 : Shape := ⟨2, ![3, 7168]⟩
abbrev S3x1x32256 : Shape := ⟨3, ![3, 1, 32256]⟩
abbrev S1x3 : Shape := ⟨2, ![1, 3]⟩
abbrev S3x1x8 : Shape := ⟨3, ![3, 1, 8]⟩
abbrev S32x7168 : Shape := ⟨2, ![32, 7168]⟩
abbrev S8x128 : Shape := ⟨2, ![8, 128]⟩
abbrev S8x1024 : Shape := ⟨2, ![8, 1024]⟩
abbrev S8x2x8x128 : Shape := ⟨4, ![8, 2, 8, 128]⟩
abbrev S1 : Shape := ⟨1, ![1]⟩
abbrev S11 : Shape := ⟨1, ![11]⟩
abbrev S_ : Shape := ⟨0, ![]⟩
abbrev S4x7168x512 : Shape := ⟨3, ![4, 7168, 512]⟩
abbrev S4 : Shape := ⟨1, ![4]⟩
abbrev S1x7168x512 : Shape := ⟨3, ![1, 7168, 512]⟩
abbrev S7168x512 : Shape := ⟨2, ![7168, 512]⟩
abbrev S5x7168 : Shape := ⟨2, ![5, 7168]⟩
abbrev S8x7168 : Shape := ⟨2, ![8, 7168]⟩
abbrev S8 : Shape := ⟨1, ![8]⟩
abbrev S8x1 : Shape := ⟨2, ![8, 1]⟩
abbrev S8x256 : Shape := ⟨2, ![8, 256]⟩
abbrev S24x7168 : Shape := ⟨2, ![24, 7168]⟩
abbrev S128 : Shape := ⟨1, ![128]⟩
abbrev S1x128 : Shape := ⟨2, ![1, 128]⟩
abbrev S1x1x40 : Shape := ⟨3, ![1, 1, 40]⟩
abbrev S1x40 : Shape := ⟨2, ![1, 40]⟩
abbrev S1x1x8x128 : Shape := ⟨4, ![1, 1, 8, 128]⟩
abbrev S8x512 : Shape := ⟨2, ![8, 512]⟩
abbrev S32x256 : Shape := ⟨2, ![32, 256]⟩
abbrev S256x512 : Shape := ⟨2, ![256, 512]⟩
abbrev S32x512 : Shape := ⟨2, ![32, 512]⟩
abbrev S32x128 : Shape := ⟨2, ![32, 128]⟩
abbrev S128x512 : Shape := ⟨2, ![128, 512]⟩
abbrev S8x128x1 : Shape := ⟨3, ![8, 128, 1]⟩
abbrev S1x1x128 : Shape := ⟨3, ![1, 1, 128]⟩
abbrev S1x8 : Shape := ⟨2, ![1, 8]⟩
abbrev S1x1x8 : Shape := ⟨3, ![1, 1, 8]⟩

abbrev nBuf : Space → Nat
  | .hbm => 13
  | .vmem => 18
  | .smem => 1
  | _ => 0

abbrev bufTy : (tb : Table) → Fin (tcTables nBuf tb) → BufTy
  | .hbm, ⟨0, _⟩ => ⟨S3x1x7168, .bf16⟩
  | .hbm, ⟨1, _⟩ => ⟨S7168x32256, .fp8e4m3⟩
  | .hbm, ⟨2, _⟩ => ⟨S32256, .f32⟩
  | .hbm, ⟨3, _⟩ => ⟨S3x1008, .i32⟩
  | .hbm, ⟨4, _⟩ => ⟨S3x1x40, .i32⟩
  | .hbm, ⟨5, _⟩ => ⟨S3x7168, .bf16⟩
  | .hbm, ⟨6, _⟩ => ⟨S3x1x32256, .f32⟩
  | .hbm, ⟨7, _⟩ => ⟨S1x3, .f32⟩
  | .hbm, ⟨8, _⟩ => ⟨S3x1x40, .f32⟩
  | .hbm, ⟨9, _⟩ => ⟨S3x1x8, .f32⟩
  | .hbm, ⟨10, _⟩ => ⟨S3x1x8, .f32⟩
  | .hbm, ⟨11, _⟩ => ⟨S3x7168, .fp8e4m3⟩
  | .hbm, ⟨12, _⟩ => ⟨S1x3, .f32⟩
  | .local _ .vmem, ⟨0, _⟩ => ⟨S3x7168, .bf16⟩
  | .local _ .vmem, ⟨1, _⟩ => ⟨S32256, .f32⟩
  | .local _ .vmem, ⟨2, _⟩ => ⟨S3x1008, .i32⟩
  | .local _ .vmem, ⟨3, _⟩ => ⟨S3x1x40, .i32⟩
  | .local _ .vmem, ⟨4, _⟩ => ⟨S32x7168, .fp8e4m3⟩
  | .local _ .vmem, ⟨5, _⟩ => ⟨S8x128, .f32⟩
  | .local _ .vmem, ⟨6, _⟩ => ⟨S8x1024, .i32⟩
  | .local _ .vmem, ⟨7, _⟩ => ⟨S8x128, .i32⟩
  | .local _ .vmem, ⟨8, _⟩ => ⟨S8x2x8x128, .f32⟩
  | .local _ .vmem, ⟨9, _⟩ => ⟨S8x128, .f32⟩
  | .local _ .vmem, ⟨10, _⟩ => ⟨S3x1x32256, .f32⟩
  | .local _ .vmem, ⟨11, _⟩ => ⟨S1x3, .f32⟩
  | .local _ .vmem, ⟨12, _⟩ => ⟨S3x1x40, .f32⟩
  | .local _ .vmem, ⟨13, _⟩ => ⟨S3x1x8, .f32⟩
  | .local _ .vmem, ⟨14, _⟩ => ⟨S3x1x8, .f32⟩
  | .local _ .vmem, ⟨15, _⟩ => ⟨S3x7168, .fp8e4m3⟩
  | .local _ .vmem, ⟨16, _⟩ => ⟨S1x3, .f32⟩
  | .local _ .vmem, ⟨17, _⟩ => ⟨S4x7168x512, .fp8e4m3⟩
  | .local _ .smem, ⟨0, _⟩ => ⟨S1, .i32⟩
  | _, _ => ⟨S3x1x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev main_v1_5 : Ref sig .tc := ⟨.hbm, 11, rfl⟩
abbrev main_v1_6 : Ref sig .tc := ⟨.hbm, 12, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch11 : Ref sig .tc := ⟨.vmem, 10, rfl⟩
abbrev cc0_scratch12 : Ref sig .tc := ⟨.vmem, 11, rfl⟩
abbrev cc0_scratch13 : Ref sig .tc := ⟨.vmem, 12, rfl⟩
abbrev cc0_scratch14 : Ref sig .tc := ⟨.vmem, 13, rfl⟩
abbrev cc0_scratch15 : Ref sig .tc := ⟨.vmem, 14, rfl⟩
abbrev cc0_scratch16 : Ref sig .tc := ⟨.vmem, 15, rfl⟩
abbrev cc0_scratch17 : Ref sig .tc := ⟨.vmem, 16, rfl⟩
abbrev cc0_scoped0 : Ref sig .tc := ⟨.vmem, 17, rfl⟩
abbrev cc0_scratch10 : Ref sig .tc := ⟨.smem, 0, rfl⟩

abbrev nD : Nat := 1
abbrev τ : Topo := Topo.v7x

variable {F : FTy → Type} [FloatOps F]

abbrev grid0 : Pipeline.Grid := .none

def k0_off1 : Fin 1 → Nat :=
  let c0_i32_394_r0 : BitVec 32 := 0#32
  let c4_i32_395_r0 : BitVec 32 := 4#32
  let v961_r0 : BitVec 32 := Scalar.remui c0_i32_394_r0 c4_i32_395_r0
  ![v961_r0.toNat]
def k0_off2 : Fin 3 → Nat :=
  let c0_i32_394_r0 : BitVec 32 := 0#32
  let c4_i32_395_r0 : BitVec 32 := 4#32
  let v961_r0 : BitVec 32 := Scalar.remui c0_i32_394_r0 c4_i32_395_r0
  let c0_i32_396_r0 : BitVec 32 := 0#32
  let c0_i32_397_r0 : BitVec 32 := 0#32
  ![v961_r0.toNat, 0, 0]
def k0_cond1 : BitVec 1 :=
  let true_403_r0 : BitVec 1 := 1#1
  let true_374_r0 : BitVec 1 := 1#1
  let c1_i32_376_r0 : BitVec 32 := 1#32
  let c0_i32_375_r0 : BitVec 32 := 0#32
  let v942_r0 : BitVec 32 := Scalar.select true_374_r0 c1_i32_376_r0 c0_i32_375_r0
  let c63_i32_r0 : BitVec 32 := 63#32
  let v943_r0 : BitVec 1 := Scalar.cmpi .eq v942_r0 c63_i32_r0
  let c0_i32_377_r0 : BitVec 32 := 0#32
  let v944_r0 : BitVec 32 := Scalar.select v943_r0 c0_i32_377_r0 v942_r0
  let c0_i32_378_r0 : BitVec 32 := 0#32
  let v945_r0 : BitVec 32 := Scalar.addi v944_r0 c0_i32_378_r0
  let c0_i32_402_r0 : BitVec 32 := 0#32
  let v968_r0 : BitVec 1 := Scalar.cmpi .ne v945_r0 c0_i32_402_r0
  let v969_r0 : BitVec 1 := Scalar.andi true_403_r0 v968_r0
  let true_404_r0 : BitVec 1 := 1#1
  let v970_r0 : BitVec 1 := Scalar.andi v969_r0 true_404_r0
  let v971_r0 : BitVec 32 := Scalar.extui v970_r0
  let c0_i32_405_r0 : BitVec 32 := 0#32
  let v972_r0 : BitVec 1 := Scalar.cmpi .ne v971_r0 c0_i32_405_r0
  v972_r0

def k0_off3 : Fin 1 → Nat :=
  let c0_i32_400_r0 : BitVec 32 := 0#32
  let c1_i32_401_r0 : BitVec 32 := 1#32
  let v967_r0 : BitVec 32 := Scalar.addi c0_i32_400_r0 c1_i32_401_r0
  let c4_i32_447_r0 : BitVec 32 := 4#32
  let v1014_r0 : BitVec 32 := Scalar.remui v967_r0 c4_i32_447_r0
  ![v1014_r0.toNat]
def k0_off4 : Fin 3 → Nat :=
  let c0_i32_400_r0 : BitVec 32 := 0#32
  let c1_i32_401_r0 : BitVec 32 := 1#32
  let v967_r0 : BitVec 32 := Scalar.addi c0_i32_400_r0 c1_i32_401_r0
  let c4_i32_447_r0 : BitVec 32 := 4#32
  let v1014_r0 : BitVec 32 := Scalar.remui v967_r0 c4_i32_447_r0
  let c0_i32_448_r0 : BitVec 32 := 0#32
  let c0_i32_449_r0 : BitVec 32 := 0#32
  ![v1014_r0.toNat, 0, 0]
def k0_off5 : Fin 2 → Nat :=
  let c0_i32_450_r0 : BitVec 32 := 0#32
  let c512_i32_r0 : BitVec 32 := 512#32
  let true_374_r0 : BitVec 1 := 1#1
  let c1_i32_376_r0 : BitVec 32 := 1#32
  let c0_i32_375_r0 : BitVec 32 := 0#32
  let v942_r0 : BitVec 32 := Scalar.select true_374_r0 c1_i32_376_r0 c0_i32_375_r0
  let c63_i32_r0 : BitVec 32 := 63#32
  let v943_r0 : BitVec 1 := Scalar.cmpi .eq v942_r0 c63_i32_r0
  let c0_i32_377_r0 : BitVec 32 := 0#32
  let v944_r0 : BitVec 32 := Scalar.select v943_r0 c0_i32_377_r0 v942_r0
  let c0_i32_378_r0 : BitVec 32 := 0#32
  let v945_r0 : BitVec 32 := Scalar.addi v944_r0 c0_i32_378_r0
  let v1015_r0 : BitVec 32 := Scalar.muli c512_i32_r0 v945_r0
  ![0, v1015_r0.toNat]
def k0_cond2 : BitVec 1 :=
  let true_407_r0 : BitVec 1 := 1#1
  let true_380_r0 : BitVec 1 := 1#1
  let true_374_r0 : BitVec 1 := 1#1
  let c1_i32_376_r0 : BitVec 32 := 1#32
  let c0_i32_375_r0 : BitVec 32 := 0#32
  let v942_r0 : BitVec 32 := Scalar.select true_374_r0 c1_i32_376_r0 c0_i32_375_r0
  let c63_i32_r0 : BitVec 32 := 63#32
  let v943_r0 : BitVec 1 := Scalar.cmpi .eq v942_r0 c63_i32_r0
  let c0_i32_377_r0 : BitVec 32 := 0#32
  let v944_r0 : BitVec 32 := Scalar.select v943_r0 c0_i32_377_r0 v942_r0
  let c1_i32_379_r0 : BitVec 32 := 1#32
  let v946_r0 : BitVec 32 := Scalar.addi v944_r0 c1_i32_379_r0
  let v947_r0 : BitVec 32 := Scalar.select true_380_r0 v946_r0 v944_r0
  let c63_i32_381_r0 : BitVec 32 := 63#32
  let v948_r0 : BitVec 1 := Scalar.cmpi .eq v947_r0 c63_i32_381_r0
  let c0_i32_382_r0 : BitVec 32 := 0#32
  let v949_r0 : BitVec 32 := Scalar.select v948_r0 c0_i32_382_r0 v947_r0
  let c0_i32_383_r0 : BitVec 32 := 0#32
  let v950_r0 : BitVec 32 := Scalar.addi v949_r0 c0_i32_383_r0
  let c0_i32_378_r0 : BitVec 32 := 0#32
  let v945_r0 : BitVec 32 := Scalar.addi v944_r0 c0_i32_378_r0
  let v975_r0 : BitVec 1 := Scalar.cmpi .ne v950_r0 v945_r0
  let v976_r0 : BitVec 1 := Scalar.andi true_407_r0 v975_r0
  let true_408_r0 : BitVec 1 := 1#1
  let v977_r0 : BitVec 1 := Scalar.andi v976_r0 true_408_r0
  let v978_r0 : BitVec 32 := Scalar.extui v977_r0
  let c0_i32_409_r0 : BitVec 32 := 0#32
  let v979_r0 : BitVec 1 := Scalar.cmpi .ne v978_r0 c0_i32_409_r0
  v979_r0

def k0_off6 : Fin 1 → Nat :=
  let true_403_r0 : BitVec 1 := 1#1
  let true_374_r0 : BitVec 1 := 1#1
  let c1_i32_376_r0 : BitVec 32 := 1#32
  let c0_i32_375_r0 : BitVec 32 := 0#32
  let v942_r0 : BitVec 32 := Scalar.select true_374_r0 c1_i32_376_r0 c0_i32_375_r0
  let c63_i32_r0 : BitVec 32 := 63#32
  let v943_r0 : BitVec 1 := Scalar.cmpi .eq v942_r0 c63_i32_r0
  let c0_i32_377_r0 : BitVec 32 := 0#32
  let v944_r0 : BitVec 32 := Scalar.select v943_r0 c0_i32_377_r0 v942_r0
  let c0_i32_378_r0 : BitVec 32 := 0#32
  let v945_r0 : BitVec 32 := Scalar.addi v944_r0 c0_i32_378_r0
  let c0_i32_402_r0 : BitVec 32 := 0#32
  let v968_r0 : BitVec 1 := Scalar.cmpi .ne v945_r0 c0_i32_402_r0
  let v969_r0 : BitVec 1 := Scalar.andi true_403_r0 v968_r0
  let c0_i32_400_r0 : BitVec 32 := 0#32
  let c1_i32_401_r0 : BitVec 32 := 1#32
  let v967_r0 : BitVec 32 := Scalar.addi c0_i32_400_r0 c1_i32_401_r0
  let c1_i32_406_r0 : BitVec 32 := 1#32
  let v973_r0 : BitVec 32 := Scalar.addi v967_r0 c1_i32_406_r0
  let v974_r0 : BitVec 32 := Scalar.select v969_r0 v973_r0 v967_r0
  let c4_i32_447_r0 : BitVec 32 := 4#32
  let v1014_r0 : BitVec 32 := Scalar.remui v974_r0 c4_i32_447_r0
  ![v1014_r0.toNat]
def k0_off7 : Fin 3 → Nat :=
  let true_403_r0 : BitVec 1 := 1#1
  let true_374_r0 : BitVec 1 := 1#1
  let c1_i32_376_r0 : BitVec 32 := 1#32
  let c0_i32_375_r0 : BitVec 32 := 0#32
  let v942_r0 : BitVec 32 := Scalar.select true_374_r0 c1_i32_376_r0 c0_i32_375_r0
  let c63_i32_r0 : BitVec 32 := 63#32
  let v943_r0 : BitVec 1 := Scalar.cmpi .eq v942_r0 c63_i32_r0
  let c0_i32_377_r0 : BitVec 32 := 0#32
  let v944_r0 : BitVec 32 := Scalar.select v943_r0 c0_i32_377_r0 v942_r0
  let c0_i32_378_r0 : BitVec 32 := 0#32
  let v945_r0 : BitVec 32 := Scalar.addi v944_r0 c0_i32_378_r0
  let c0_i32_402_r0 : BitVec 32 := 0#32
  let v968_r0 : BitVec 1 := Scalar.cmpi .ne v945_r0 c0_i32_402_r0
  let v969_r0 : BitVec 1 := Scalar.andi true_403_r0 v968_r0
  let c0_i32_400_r0 : BitVec 32 := 0#32
  let c1_i32_401_r0 : BitVec 32 := 1#32
  let v967_r0 : BitVec 32 := Scalar.addi c0_i32_400_r0 c1_i32_401_r0
  let c1_i32_406_r0 : BitVec 32 := 1#32
  let v973_r0 : BitVec 32 := Scalar.addi v967_r0 c1_i32_406_r0
  let v974_r0 : BitVec 32 := Scalar.select v969_r0 v973_r0 v967_r0
  let c4_i32_447_r0 : BitVec 32 := 4#32
  let v1014_r0 : BitVec 32 := Scalar.remui v974_r0 c4_i32_447_r0
  let c0_i32_448_r0 : BitVec 32 := 0#32
  let c0_i32_449_r0 : BitVec 32 := 0#32
  ![v1014_r0.toNat, 0, 0]
def k0_off8 : Fin 2 → Nat :=
  let c0_i32_450_r0 : BitVec 32 := 0#32
  let c512_i32_r0 : BitVec 32 := 512#32
  let true_380_r0 : BitVec 1 := 1#1
  let true_374_r0 : BitVec 1 := 1#1
  let c1_i32_376_r0 : BitVec 32 := 1#32
  let c0_i32_375_r0 : BitVec 32 := 0#32
  let v942_r0 : BitVec 32 := Scalar.select true_374_r0 c1_i32_376_r0 c0_i32_375_r0
  let c63_i32_r0 : BitVec 32 := 63#32
  let v943_r0 : BitVec 1 := Scalar.cmpi .eq v942_r0 c63_i32_r0
  let c0_i32_377_r0 : BitVec 32 := 0#32
  let v944_r0 : BitVec 32 := Scalar.select v943_r0 c0_i32_377_r0 v942_r0
  let c1_i32_379_r0 : BitVec 32 := 1#32
  let v946_r0 : BitVec 32 := Scalar.addi v944_r0 c1_i32_379_r0
  let v947_r0 : BitVec 32 := Scalar.select true_380_r0 v946_r0 v944_r0
  let c63_i32_381_r0 : BitVec 32 := 63#32
  let v948_r0 : BitVec 1 := Scalar.cmpi .eq v947_r0 c63_i32_381_r0
  let c0_i32_382_r0 : BitVec 32 := 0#32
  let v949_r0 : BitVec 32 := Scalar.select v948_r0 c0_i32_382_r0 v947_r0
  let c0_i32_383_r0 : BitVec 32 := 0#32
  let v950_r0 : BitVec 32 := Scalar.addi v949_r0 c0_i32_383_r0
  let v1015_r0 : BitVec 32 := Scalar.muli c512_i32_r0 v950_r0
  ![0, v1015_r0.toNat]
@[reducible] def k0_t1_loop : Scf.Loop 32 :=
  let c0_i32_413_r0 : BitVec 32 := 0#32
  let c63_i32_414_r0 : BitVec 32 := 63#32
  let v982_r0 : BitVec 32 := Scalar.addi c0_i32_413_r0 c63_i32_414_r0
  let c1_i32_415_r0 : BitVec 32 := 1#32
  ⟨c0_i32_413_r0, v982_r0, c1_i32_415_r0⟩
def k0_off9 (arg32_r0 : BitVec 32) : Fin 1 → Nat :=
  let c4_i32_849_r0 : BitVec 32 := 4#32
  let v1782_r0 : BitVec 32 := Scalar.remui arg32_r0 c4_i32_849_r0
  ![v1782_r0.toNat]
def k0_cond3 (k0_t1 : Fin k0_t1_loop.trips) (arg34_r0 : BitVec 32) : BitVec 1 :=
  let true_461_r0 : BitVec 1 := 1#1
  let true_456_r0 : BitVec 1 := 1#1
  let c1_i32_455_r0 : BitVec 32 := 1#32
  let v1022_r0 : BitVec 32 := Scalar.addi arg34_r0 c1_i32_455_r0
  let v1023_r0 : BitVec 32 := Scalar.select true_456_r0 v1022_r0 arg34_r0
  let c63_i32_457_r0 : BitVec 32 := 63#32
  let v1024_r0 : BitVec 1 := Scalar.cmpi .eq v1023_r0 c63_i32_457_r0
  let c0_i32_458_r0 : BitVec 32 := 0#32
  let v1025_r0 : BitVec 32 := Scalar.select v1024_r0 c0_i32_458_r0 v1023_r0
  let c1_i32_460_r0 : BitVec 32 := 1#32
  let v1027_r0 : BitVec 32 := Scalar.addi v1025_r0 c1_i32_460_r0
  let v1028_r0 : BitVec 32 := Scalar.select true_461_r0 v1027_r0 v1025_r0
  let c63_i32_462_r0 : BitVec 32 := 63#32
  let v1029_r0 : BitVec 1 := Scalar.cmpi .eq v1028_r0 c63_i32_462_r0
  let c0_i32_463_r0 : BitVec 32 := 0#32
  let v1030_r0 : BitVec 32 := Scalar.select v1029_r0 c0_i32_463_r0 v1028_r0
  let c0_i32_464_r0 : BitVec 32 := 0#32
  let v1031_r0 : BitVec 32 := Scalar.addi v1030_r0 c0_i32_464_r0
  let true_466_r0 : BitVec 1 := 1#1
  let c1_i32_465_r0 : BitVec 32 := 1#32
  let v1032_r0 : BitVec 32 := Scalar.addi v1030_r0 c1_i32_465_r0
  let v1033_r0 : BitVec 32 := Scalar.select true_466_r0 v1032_r0 v1030_r0
  let c63_i32_467_r0 : BitVec 32 := 63#32
  let v1034_r0 : BitVec 1 := Scalar.cmpi .eq v1033_r0 c63_i32_467_r0
  let c0_i32_468_r0 : BitVec 32 := 0#32
  let v1035_r0 : BitVec 32 := Scalar.select v1034_r0 c0_i32_468_r0 v1033_r0
  let c0_i32_469_r0 : BitVec 32 := 0#32
  let v1036_r0 : BitVec 32 := Scalar.addi v1035_r0 c0_i32_469_r0
  let v1042_r0 : BitVec 1 := Scalar.cmpi .ne v1031_r0 v1036_r0
  let c0_i32_413_r0 : BitVec 32 := 0#32
  let c1_i32_415_r0 : BitVec 32 := 1#32
  let arg31_r0 : BitVec 32 := Scf.iv c0_i32_413_r0 c1_i32_415_r0 k0_t1
  let c60_i32_r0 : BitVec 32 := 60#32
  let v1043_r0 : BitVec 1 := Scalar.cmpi .sge arg31_r0 c60_i32_r0
  let true_475_r0 : BitVec 1 := 1#1
  let v1044_r0 : BitVec 1 := Scalar.xori v1043_r0 true_475_r0
  let v1045_r0 : BitVec 1 := Scalar.andi v1042_r0 v1044_r0
  let true_476_r0 : BitVec 1 := 1#1
  let v1046_r0 : BitVec 1 := Scalar.andi v1045_r0 true_476_r0
  let v1047_r0 : BitVec 32 := Scalar.extui v1046_r0
  let c0_i32_477_r0 : BitVec 32 := 0#32
  let v1048_r0 : BitVec 1 := Scalar.cmpi .ne v1047_r0 c0_i32_477_r0
  v1048_r0

def k0_off10 (arg32_r0 : BitVec 32) : Fin 3 → Nat :=
  let c4_i32_849_r0 : BitVec 32 := 4#32
  let v1782_r0 : BitVec 32 := Scalar.remui arg32_r0 c4_i32_849_r0
  let c0_i32_850_r0 : BitVec 32 := 0#32
  let c0_i32_851_r0 : BitVec 32 := 0#32
  ![v1782_r0.toNat, 0, 0]
def k0_off11 (arg34_r0 : BitVec 32) : Fin 2 → Nat :=
  let c0_i32_852_r0 : BitVec 32 := 0#32
  let c512_i32_r0 : BitVec 32 := 512#32
  let true_466_r0 : BitVec 1 := 1#1
  let true_461_r0 : BitVec 1 := 1#1
  let true_456_r0 : BitVec 1 := 1#1
  let c1_i32_455_r0 : BitVec 32 := 1#32
  let v1022_r0 : BitVec 32 := Scalar.addi arg34_r0 c1_i32_455_r0
  let v1023_r0 : BitVec 32 := Scalar.select true_456_r0 v1022_r0 arg34_r0
  let c63_i32_457_r0 : BitVec 32 := 63#32
  let v1024_r0 : BitVec 1 := Scalar.cmpi .eq v1023_r0 c63_i32_457_r0
  let c0_i32_458_r0 : BitVec 32 := 0#32
  let v1025_r0 : BitVec 32 := Scalar.select v1024_r0 c0_i32_458_r0 v1023_r0
  let c1_i32_460_r0 : BitVec 32 := 1#32
  let v1027_r0 : BitVec 32 := Scalar.addi v1025_r0 c1_i32_460_r0
  let v1028_r0 : BitVec 32 := Scalar.select true_461_r0 v1027_r0 v1025_r0
  let c63_i32_462_r0 : BitVec 32 := 63#32
  let v1029_r0 : BitVec 1 := Scalar.cmpi .eq v1028_r0 c63_i32_462_r0
  let c0_i32_463_r0 : BitVec 32 := 0#32
  let v1030_r0 : BitVec 32 := Scalar.select v1029_r0 c0_i32_463_r0 v1028_r0
  let c1_i32_465_r0 : BitVec 32 := 1#32
  let v1032_r0 : BitVec 32 := Scalar.addi v1030_r0 c1_i32_465_r0
  let v1033_r0 : BitVec 32 := Scalar.select true_466_r0 v1032_r0 v1030_r0
  let c63_i32_467_r0 : BitVec 32 := 63#32
  let v1034_r0 : BitVec 1 := Scalar.cmpi .eq v1033_r0 c63_i32_467_r0
  let c0_i32_468_r0 : BitVec 32 := 0#32
  let v1035_r0 : BitVec 32 := Scalar.select v1034_r0 c0_i32_468_r0 v1033_r0
  let c0_i32_469_r0 : BitVec 32 := 0#32
  let v1036_r0 : BitVec 32 := Scalar.addi v1035_r0 c0_i32_469_r0
  let v1783_r0 : BitVec 32 := Scalar.muli c512_i32_r0 v1036_r0
  ![0, v1783_r0.toNat]
def k0_off12 (arg33_r0 : BitVec 32) : Fin 1 → Nat :=
  let c4_i32_849_r0 : BitVec 32 := 4#32
  let v1783_r0 : BitVec 32 := Scalar.remui arg33_r0 c4_i32_849_r0
  ![v1783_r0.toNat]
def k0_cond4 (k0_t1 : Fin k0_t1_loop.trips) (arg34_r0 : BitVec 32) : BitVec 1 :=
  let c0_i32_449_r0 : BitVec 32 := 0#32
  let v1016_r0 : BitVec 32 := Scalar.addi arg34_r0 c0_i32_449_r0
  let true_451_r0 : BitVec 1 := 1#1
  let c1_i32_450_r0 : BitVec 32 := 1#32
  let v1017_r0 : BitVec 32 := Scalar.subi arg34_r0 c1_i32_450_r0
  let v1018_r0 : BitVec 32 := Scalar.select true_451_r0 v1017_r0 arg34_r0
  let c_m1_i32_452_r0 : BitVec 32 := 4294967295#32
  let v1019_r0 : BitVec 1 := Scalar.cmpi .eq v1018_r0 c_m1_i32_452_r0
  let c62_i32_453_r0 : BitVec 32 := 62#32
  let v1020_r0 : BitVec 32 := Scalar.select v1019_r0 c62_i32_453_r0 v1018_r0
  let c0_i32_454_r0 : BitVec 32 := 0#32
  let v1021_r0 : BitVec 32 := Scalar.addi v1020_r0 c0_i32_454_r0
  let v1052_r0 : BitVec 1 := Scalar.cmpi .ne v1016_r0 v1021_r0
  let c0_i32_413_r0 : BitVec 32 := 0#32
  let c1_i32_415_r0 : BitVec 32 := 1#32
  let arg31_r0 : BitVec 32 := Scf.iv c0_i32_413_r0 c1_i32_415_r0 k0_t1
  let c0_i32_447_r0 : BitVec 32 := 0#32
  let v1014_r0 : BitVec 1 := Scalar.cmpi .eq arg31_r0 c0_i32_447_r0
  let v1053_r0 : BitVec 1 := Scalar.ori v1052_r0 v1014_r0
  let c0_i32_480_r0 : BitVec 32 := 0#32
  let v1054_r0 : BitVec 1 := Scalar.cmpi .sge arg31_r0 c0_i32_480_r0
  let v1055_r0 : BitVec 1 := Scalar.andi v1053_r0 v1054_r0
  let v1056_r0 : BitVec 32 := Scalar.extui v1055_r0
  let c0_i32_481_r0 : BitVec 32 := 0#32
  let v1057_r0 : BitVec 1 := Scalar.cmpi .ne v1056_r0 c0_i32_481_r0
  v1057_r0

def k0_off13 (arg33_r0 : BitVec 32) : Fin 3 → Nat :=
  let c4_i32_849_r0 : BitVec 32 := 4#32
  let v1783_r0 : BitVec 32 := Scalar.remui arg33_r0 c4_i32_849_r0
  let c0_i32_850_r0 : BitVec 32 := 0#32
  let c0_i32_851_r0 : BitVec 32 := 0#32
  ![v1783_r0.toNat, 0, 0]
def k0_off14 (arg34_r0 : BitVec 32) : Fin 2 → Nat :=
  let c0_i32_852_r0 : BitVec 32 := 0#32
  let c512_i32_r0 : BitVec 32 := 512#32
  let c0_i32_449_r0 : BitVec 32 := 0#32
  let v1016_r0 : BitVec 32 := Scalar.addi arg34_r0 c0_i32_449_r0
  let v1782_r0 : BitVec 32 := Scalar.muli c512_i32_r0 v1016_r0
  ![0, v1782_r0.toNat]

def k0_chk1 (k0_t1 : Fin k0_t1_loop.trips) (arg32_r0 : BitVec 32) (arg33_r0 : BitVec 32) (arg34_r0 : BitVec 32) : Prop :=
  (∀ (k0_h3 : k0_cond3 k0_t1 arg34_r0 = 1#1), ∀ a, (k0_off9 arg32_r0) a + S1.size a ≤ S4.size a) ∧
  (∀ (k0_h3 : k0_cond3 k0_t1 arg34_r0 = 1#1), ∀ a, (k0_off10 arg32_r0) a + S1x7168x512.size a ≤ S4x7168x512.size a) ∧
  (∀ (k0_h3 : k0_cond3 k0_t1 arg34_r0 = 1#1), ∀ a, (k0_off11 arg34_r0) a + S7168x512.size a ≤ S7168x32256.size a) ∧
  (∀ (k0_h3 : k0_cond3 k0_t1 arg34_r0 = 1#1), ∀ (hinb : ∀ a, (k0_off11 arg34_r0) a + S7168x512.size a ≤ S7168x32256.size a), (Rect.unit (s := S7168x32256) (k0_off11 arg34_r0) S7168x512.size hinb).WholeWords (EltTy.packing .fp8e4m3)) ∧
  (∀ (k0_h3 : k0_cond3 k0_t1 arg34_r0 = 1#1), ∀ (hinb : ∀ a, (k0_off10 arg32_r0) a + S1x7168x512.size a ≤ S4x7168x512.size a), (Rect.unit (s := S4x7168x512) (k0_off10 arg32_r0) S1x7168x512.size hinb).WholeWords (EltTy.packing .fp8e4m3)) ∧
  (∀ (k0_h4 : k0_cond4 k0_t1 arg34_r0 = 1#1), ∀ a, (k0_off12 arg33_r0) a + S1.size a ≤ S4.size a) ∧
  (∀ (k0_h4 : k0_cond4 k0_t1 arg34_r0 = 1#1), ∀ a, (k0_off13 arg33_r0) a + S1x7168x512.size a ≤ S4x7168x512.size a) ∧
  (∀ (k0_h4 : k0_cond4 k0_t1 arg34_r0 = 1#1), ∀ a, (k0_off14 arg34_r0) a + S7168x512.size a ≤ S7168x32256.size a) ∧
  (∀ (k0_h4 : k0_cond4 k0_t1 arg34_r0 = 1#1), ∀ (hinb : ∀ a, (k0_off14 arg34_r0) a + S7168x512.size a ≤ S7168x32256.size a), (Rect.unit (s := S7168x32256) (k0_off14 arg34_r0) S7168x512.size hinb).WholeWords (EltTy.packing .fp8e4m3)) ∧
  (∀ (k0_h4 : k0_cond4 k0_t1 arg34_r0 = 1#1), ∀ (hinb : ∀ a, (k0_off13 arg33_r0) a + S1x7168x512.size a ≤ S4x7168x512.size a), (Rect.unit (s := S4x7168x512) (k0_off13 arg33_r0) S1x7168x512.size hinb).WholeWords (EltTy.packing .fp8e4m3))
theorem k0_off9_inb : ∀ (k0_t1 : Fin k0_t1_loop.trips) (arg32_r0 : BitVec 32) (arg33_r0 : BitVec 32) (arg34_r0 : BitVec 32) (k0_hw1 : k0_chk1 k0_t1 arg32_r0 arg33_r0 arg34_r0), ∀ (k0_h3 : k0_cond3 k0_t1 arg34_r0 = 1#1), ∀ a, (k0_off9 arg32_r0) a + S1.size a ≤ S4.size a := fun k0_t1 arg32_r0 arg33_r0 arg34_r0 k0_hw1 k0_h3 => k0_hw1.1 k0_h3
theorem k0_off10_inb : ∀ (k0_t1 : Fin k0_t1_loop.trips) (arg32_r0 : BitVec 32) (arg33_r0 : BitVec 32) (arg34_r0 : BitVec 32) (k0_hw1 : k0_chk1 k0_t1 arg32_r0 arg33_r0 arg34_r0), ∀ (k0_h3 : k0_cond3 k0_t1 arg34_r0 = 1#1), ∀ a, (k0_off10 arg32_r0) a + S1x7168x512.size a ≤ S4x7168x512.size a := fun k0_t1 arg32_r0 arg33_r0 arg34_r0 k0_hw1 k0_h3 => k0_hw1.2.1 k0_h3
theorem k0_off11_inb : ∀ (k0_t1 : Fin k0_t1_loop.trips) (arg32_r0 : BitVec 32) (arg33_r0 : BitVec 32) (arg34_r0 : BitVec 32) (k0_hw1 : k0_chk1 k0_t1 arg32_r0 arg33_r0 arg34_r0), ∀ (k0_h3 : k0_cond3 k0_t1 arg34_r0 = 1#1), ∀ a, (k0_off11 arg34_r0) a + S7168x512.size a ≤ S7168x32256.size a := fun k0_t1 arg32_r0 arg33_r0 arg34_r0 k0_hw1 k0_h3 => k0_hw1.2.2.1 k0_h3
theorem k0_off11_wordsfp8e4m3 : ∀ (k0_t1 : Fin k0_t1_loop.trips) (arg32_r0 : BitVec 32) (arg33_r0 : BitVec 32) (arg34_r0 : BitVec 32) (k0_hw1 : k0_chk1 k0_t1 arg32_r0 arg33_r0 arg34_r0), ∀ (k0_h3 : k0_cond3 k0_t1 arg34_r0 = 1#1), (Rect.unit (s := S7168x32256) (k0_off11 arg34_r0) S7168x512.size (k0_off11_inb k0_t1 arg32_r0 arg33_r0 arg34_r0 k0_hw1 k0_h3)).WholeWords (EltTy.packing .fp8e4m3) := fun k0_t1 arg32_r0 arg33_r0 arg34_r0 k0_hw1 k0_h3 => k0_hw1.2.2.2.1 k0_h3 (k0_off11_inb k0_t1 arg32_r0 arg33_r0 arg34_r0 k0_hw1 k0_h3)
theorem k0_off10_wordsfp8e4m3 : ∀ (k0_t1 : Fin k0_t1_loop.trips) (arg32_r0 : BitVec 32) (arg33_r0 : BitVec 32) (arg34_r0 : BitVec 32) (k0_hw1 : k0_chk1 k0_t1 arg32_r0 arg33_r0 arg34_r0), ∀ (k0_h3 : k0_cond3 k0_t1 arg34_r0 = 1#1), (Rect.unit (s := S4x7168x512) (k0_off10 arg32_r0) S1x7168x512.size (k0_off10_inb k0_t1 arg32_r0 arg33_r0 arg34_r0 k0_hw1 k0_h3)).WholeWords (EltTy.packing .fp8e4m3) := fun k0_t1 arg32_r0 arg33_r0 arg34_r0 k0_hw1 k0_h3 => k0_hw1.2.2.2.2.1 k0_h3 (k0_off10_inb k0_t1 arg32_r0 arg33_r0 arg34_r0 k0_hw1 k0_h3)
theorem k0_off12_inb : ∀ (k0_t1 : Fin k0_t1_loop.trips) (arg32_r0 : BitVec 32) (arg33_r0 : BitVec 32) (arg34_r0 : BitVec 32) (k0_hw1 : k0_chk1 k0_t1 arg32_r0 arg33_r0 arg34_r0), ∀ (k0_h4 : k0_cond4 k0_t1 arg34_r0 = 1#1), ∀ a, (k0_off12 arg33_r0) a + S1.size a ≤ S4.size a := fun k0_t1 arg32_r0 arg33_r0 arg34_r0 k0_hw1 k0_h4 => k0_hw1.2.2.2.2.2.1 k0_h4
theorem k0_off13_inb : ∀ (k0_t1 : Fin k0_t1_loop.trips) (arg32_r0 : BitVec 32) (arg33_r0 : BitVec 32) (arg34_r0 : BitVec 32) (k0_hw1 : k0_chk1 k0_t1 arg32_r0 arg33_r0 arg34_r0), ∀ (k0_h4 : k0_cond4 k0_t1 arg34_r0 = 1#1), ∀ a, (k0_off13 arg33_r0) a + S1x7168x512.size a ≤ S4x7168x512.size a := fun k0_t1 arg32_r0 arg33_r0 arg34_r0 k0_hw1 k0_h4 => k0_hw1.2.2.2.2.2.2.1 k0_h4
theorem k0_off14_inb : ∀ (k0_t1 : Fin k0_t1_loop.trips) (arg32_r0 : BitVec 32) (arg33_r0 : BitVec 32) (arg34_r0 : BitVec 32) (k0_hw1 : k0_chk1 k0_t1 arg32_r0 arg33_r0 arg34_r0), ∀ (k0_h4 : k0_cond4 k0_t1 arg34_r0 = 1#1), ∀ a, (k0_off14 arg34_r0) a + S7168x512.size a ≤ S7168x32256.size a := fun k0_t1 arg32_r0 arg33_r0 arg34_r0 k0_hw1 k0_h4 => k0_hw1.2.2.2.2.2.2.2.1 k0_h4
theorem k0_off14_wordsfp8e4m3 : ∀ (k0_t1 : Fin k0_t1_loop.trips) (arg32_r0 : BitVec 32) (arg33_r0 : BitVec 32) (arg34_r0 : BitVec 32) (k0_hw1 : k0_chk1 k0_t1 arg32_r0 arg33_r0 arg34_r0), ∀ (k0_h4 : k0_cond4 k0_t1 arg34_r0 = 1#1), (Rect.unit (s := S7168x32256) (k0_off14 arg34_r0) S7168x512.size (k0_off14_inb k0_t1 arg32_r0 arg33_r0 arg34_r0 k0_hw1 k0_h4)).WholeWords (EltTy.packing .fp8e4m3) := fun k0_t1 arg32_r0 arg33_r0 arg34_r0 k0_hw1 k0_h4 => k0_hw1.2.2.2.2.2.2.2.2.1 k0_h4 (k0_off14_inb k0_t1 arg32_r0 arg33_r0 arg34_r0 k0_hw1 k0_h4)
theorem k0_off13_wordsfp8e4m3 : ∀ (k0_t1 : Fin k0_t1_loop.trips) (arg32_r0 : BitVec 32) (arg33_r0 : BitVec 32) (arg34_r0 : BitVec 32) (k0_hw1 : k0_chk1 k0_t1 arg32_r0 arg33_r0 arg34_r0), ∀ (k0_h4 : k0_cond4 k0_t1 arg34_r0 = 1#1), (Rect.unit (s := S4x7168x512) (k0_off13 arg33_r0) S1x7168x512.size (k0_off13_inb k0_t1 arg32_r0 arg33_r0 arg34_r0 k0_hw1 k0_h4)).WholeWords (EltTy.packing .fp8e4m3) := fun k0_t1 arg32_r0 arg33_r0 arg34_r0 k0_hw1 k0_h4 => k0_hw1.2.2.2.2.2.2.2.2.2 k0_h4 (k0_off13_inb k0_t1 arg32_r0 arg33_r0 arg34_r0 k0_hw1 k0_h4)

def k0_off15 (arg33_r0 : BitVec 32) : Fin 3 → Nat :=
  let c4_i32_482_r0 : BitVec 32 := 4#32
  let v1058_r0 : BitVec 32 := Scalar.remui arg33_r0 c4_i32_482_r0
  let c0_i32_491_r0 : BitVec 32 := 0#32
  let c0_i32_492_r0 : BitVec 32 := 0#32
  ![v1058_r0.toNat, 0, 0]

def k0_chk2 (arg33_r0 : BitVec 32) : Prop :=
  (∀ a, (k0_off15 arg33_r0) a + S1x7168x512.size a ≤ S4x7168x512.size a)
theorem k0_off15_inb : ∀ (arg33_r0 : BitVec 32) (k0_hw2 : k0_chk2 arg33_r0), ∀ a, (k0_off15 arg33_r0) a + S1x7168x512.size a ≤ S4x7168x512.size a := fun arg33_r0 k0_hw2 => k0_hw2

def k0_mult1 (v1059_r0 : BitVec 32) : BitVec 32 :=
  let c8_i32_667_r0 : BitVec 32 := 8#32
  let v1269_r0 : BitVec 32 := Scalar.divsi v1059_r0 c8_i32_667_r0
  let c128_i32_668_r0 : BitVec 32 := 128#32
  let v1270_r0 : BitVec 32 := Scalar.muli v1269_r0 c128_i32_668_r0
  v1270_r0

def k0_off16 (v1059_r0 : BitVec 32) : Fin 2 → Nat :=
  let c0_669_r0 : Index := 0#32
  let c8_i32_667_r0 : BitVec 32 := 8#32
  let v1269_r0 : BitVec 32 := Scalar.divsi v1059_r0 c8_i32_667_r0
  let c128_i32_668_r0 : BitVec 32 := 128#32
  let v1270_r0 : BitVec 32 := Scalar.muli v1269_r0 c128_i32_668_r0
  let v1271_r0 : BitVec 32 := v1270_r0
  let v1272_r0 : Index := Scalar.indexCast v1271_r0
  ![0, v1272_r0.toNat]
def k0_off17 (v1059_r0 : BitVec 32) : Fin 4 → Nat :=
  let c8_i32_667_r0 : BitVec 32 := 8#32
  let v1269_r0 : BitVec 32 := Scalar.divsi v1059_r0 c8_i32_667_r0
  let v1278_r0 : Index := Scalar.indexCast v1269_r0
  let c0_674_r0 : Index := 0#32
  let c0_675_r0 : Index := 0#32
  let c0_676_r0 : Index := 0#32
  ![v1278_r0.toNat, 0, 0, 0]
def k0_mult2 (v1059_r0 : BitVec 32) : BitVec 32 :=
  let c4_i32_679_r0 : BitVec 32 := 4#32
  let v1282_r0 : BitVec 32 := Scalar.muli v1059_r0 c4_i32_679_r0
  let c0_i32_680_r0 : BitVec 32 := 0#32
  let v1283_r0 : BitVec 32 := Scalar.addi v1282_r0 c0_i32_680_r0
  let c128_i32_681_r0 : BitVec 32 := 128#32
  let v1284_r0 : BitVec 32 := Scalar.muli v1283_r0 c128_i32_681_r0
  v1284_r0
def k0_off18 (v1059_r0 : BitVec 32) (c0_i32_680_r0 : BitVec 32) : Fin 1 → Nat :=
  let c4_i32_679_r0 : BitVec 32 := 4#32
  let v1282_r0 : BitVec 32 := Scalar.muli v1059_r0 c4_i32_679_r0
  let v1283_r0 : BitVec 32 := Scalar.addi v1282_r0 c0_i32_680_r0
  let c128_i32_681_r0 : BitVec 32 := 128#32
  let v1284_r0 : BitVec 32 := Scalar.muli v1283_r0 c128_i32_681_r0
  let v1285_r0 : BitVec 32 := v1284_r0
  let v1332_r0 : Index := Scalar.indexCast v1285_r0
  ![v1332_r0.toNat]
def k0_off19 (v1059_r0 : BitVec 32) (c0_i32_680_r0 : BitVec 32) : Fin 3 → Nat :=
  let c0_700_r0 : Index := 0#32
  let c0_701_r0 : Index := 0#32
  let c4_i32_679_r0 : BitVec 32 := 4#32
  let v1282_r0 : BitVec 32 := Scalar.muli v1059_r0 c4_i32_679_r0
  let v1283_r0 : BitVec 32 := Scalar.addi v1282_r0 c0_i32_680_r0
  let c128_i32_681_r0 : BitVec 32 := 128#32
  let v1284_r0 : BitVec 32 := Scalar.muli v1283_r0 c128_i32_681_r0
  let v1285_r0 : BitVec 32 := v1284_r0
  let v1342_r0 : Index := Scalar.indexCast v1285_r0
  ![0, 0, v1342_r0.toNat]
def k0_off20 (v1059_r0 : BitVec 32) (c0_i32_680_r0 : BitVec 32) : Fin 3 → Nat :=
  let c1_702_r0 : Index := 1#32
  let c0_703_r0 : Index := 0#32
  let c4_i32_679_r0 : BitVec 32 := 4#32
  let v1282_r0 : BitVec 32 := Scalar.muli v1059_r0 c4_i32_679_r0
  let v1283_r0 : BitVec 32 := Scalar.addi v1282_r0 c0_i32_680_r0
  let c128_i32_681_r0 : BitVec 32 := 128#32
  let v1284_r0 : BitVec 32 := Scalar.muli v1283_r0 c128_i32_681_r0
  let v1285_r0 : BitVec 32 := v1284_r0
  let v1347_r0 : Index := Scalar.indexCast v1285_r0
  ![1, 0, v1347_r0.toNat]
def k0_off21 (v1059_r0 : BitVec 32) (c0_i32_680_r0 : BitVec 32) : Fin 3 → Nat :=
  let c2_704_r0 : Index := 2#32
  let c0_705_r0 : Index := 0#32
  let c4_i32_679_r0 : BitVec 32 := 4#32
  let v1282_r0 : BitVec 32 := Scalar.muli v1059_r0 c4_i32_679_r0
  let v1283_r0 : BitVec 32 := Scalar.addi v1282_r0 c0_i32_680_r0
  let c128_i32_681_r0 : BitVec 32 := 128#32
  let v1284_r0 : BitVec 32 := Scalar.muli v1283_r0 c128_i32_681_r0
  let v1285_r0 : BitVec 32 := v1284_r0
  let v1352_r0 : Index := Scalar.indexCast v1285_r0
  ![2, 0, v1352_r0.toNat]
def k0_mult3 (v1059_r0 : BitVec 32) : BitVec 32 :=
  let c4_i32_716_r0 : BitVec 32 := 4#32
  let v1394_r0 : BitVec 32 := Scalar.muli v1059_r0 c4_i32_716_r0
  let c1_i32_717_r0 : BitVec 32 := 1#32
  let v1395_r0 : BitVec 32 := Scalar.addi v1394_r0 c1_i32_717_r0
  let c128_i32_718_r0 : BitVec 32 := 128#32
  let v1396_r0 : BitVec 32 := Scalar.muli v1395_r0 c128_i32_718_r0
  v1396_r0
def k0_mult4 (v1059_r0 : BitVec 32) : BitVec 32 :=
  let c4_i32_753_r0 : BitVec 32 := 4#32
  let v1506_r0 : BitVec 32 := Scalar.muli v1059_r0 c4_i32_753_r0
  let c2_i32_754_r0 : BitVec 32 := 2#32
  let v1507_r0 : BitVec 32 := Scalar.addi v1506_r0 c2_i32_754_r0
  let c128_i32_755_r0 : BitVec 32 := 128#32
  let v1508_r0 : BitVec 32 := Scalar.muli v1507_r0 c128_i32_755_r0
  v1508_r0
def k0_mult5 (v1059_r0 : BitVec 32) : BitVec 32 :=
  let c4_i32_790_r0 : BitVec 32 := 4#32
  let v1618_r0 : BitVec 32 := Scalar.muli v1059_r0 c4_i32_790_r0
  let c3_i32_791_r0 : BitVec 32 := 3#32
  let v1619_r0 : BitVec 32 := Scalar.addi v1618_r0 c3_i32_791_r0
  let c128_i32_792_r0 : BitVec 32 := 128#32
  let v1620_r0 : BitVec 32 := Scalar.muli v1619_r0 c128_i32_792_r0
  v1620_r0
def k0_off22 (v1059_r0 : BitVec 32) : Fin 4 → Nat :=
  let c8_i32_667_r0 : BitVec 32 := 8#32
  let v1269_r0 : BitVec 32 := Scalar.divsi v1059_r0 c8_i32_667_r0
  let v1734_r0 : Index := Scalar.indexCast v1269_r0
  let c1_829_r0 : Index := 1#32
  let c0_830_r0 : Index := 0#32
  let c0_831_r0 : Index := 0#32
  ![v1734_r0.toNat, 1, 0, 0]

def k0_chk3 (v1059_r0 : BitVec 32) : Prop :=
  (128 ∣ (k0_mult1 v1059_r0).toNat) ∧
  (∀ a, (k0_off16 v1059_r0) a + S8x128.size a ≤ S8x1024.size a) ∧
  (∀ a, (k0_off17 v1059_r0) a + S1x1x8x128.size a ≤ S8x2x8x128.size a) ∧
  (128 ∣ (k0_mult2 v1059_r0).toNat) ∧
  (∀ (r : Fin 4), ∀ a, (k0_off18 v1059_r0 (BitVec.ofNat 32 r.val)) a + S128.size a ≤ S32256.size a) ∧
  (∀ (r : Fin 4), ∀ a, (k0_off19 v1059_r0 (BitVec.ofNat 32 r.val)) a + S1x1x128.size a ≤ S3x1x32256.size a) ∧
  (∀ (r : Fin 4), ∀ a, (k0_off20 v1059_r0 (BitVec.ofNat 32 r.val)) a + S1x1x128.size a ≤ S3x1x32256.size a) ∧
  (∀ (r : Fin 4), ∀ a, (k0_off21 v1059_r0 (BitVec.ofNat 32 r.val)) a + S1x1x128.size a ≤ S3x1x32256.size a) ∧
  (128 ∣ (k0_mult3 v1059_r0).toNat) ∧
  (128 ∣ (k0_mult4 v1059_r0).toNat) ∧
  (128 ∣ (k0_mult5 v1059_r0).toNat) ∧
  (∀ a, (k0_off22 v1059_r0) a + S1x1x8x128.size a ≤ S8x2x8x128.size a)
theorem k0_mult1_dvd : ∀ (v1059_r0 : BitVec 32) (k0_hw3 : k0_chk3 v1059_r0), 128 ∣ (k0_mult1 v1059_r0).toNat := fun v1059_r0 k0_hw3 => k0_hw3.1
theorem k0_off16_inb : ∀ (v1059_r0 : BitVec 32) (k0_hw3 : k0_chk3 v1059_r0), ∀ a, (k0_off16 v1059_r0) a + S8x128.size a ≤ S8x1024.size a := fun v1059_r0 k0_hw3 => k0_hw3.2.1
theorem k0_off17_inb : ∀ (v1059_r0 : BitVec 32) (k0_hw3 : k0_chk3 v1059_r0), ∀ a, (k0_off17 v1059_r0) a + S1x1x8x128.size a ≤ S8x2x8x128.size a := fun v1059_r0 k0_hw3 => k0_hw3.2.2.1
theorem k0_mult2_dvd : ∀ (v1059_r0 : BitVec 32) (k0_hw3 : k0_chk3 v1059_r0), 128 ∣ (k0_mult2 v1059_r0).toNat := fun v1059_r0 k0_hw3 => k0_hw3.2.2.2.1
theorem k0_off18_inb : ∀ (v1059_r0 : BitVec 32) (k0_hw3 : k0_chk3 v1059_r0), ∀ (r : Fin 4), ∀ a, (k0_off18 v1059_r0 (BitVec.ofNat 32 r.val)) a + S128.size a ≤ S32256.size a := fun v1059_r0 k0_hw3 r => k0_hw3.2.2.2.2.1 r
theorem k0_off19_inb : ∀ (v1059_r0 : BitVec 32) (k0_hw3 : k0_chk3 v1059_r0), ∀ (r : Fin 4), ∀ a, (k0_off19 v1059_r0 (BitVec.ofNat 32 r.val)) a + S1x1x128.size a ≤ S3x1x32256.size a := fun v1059_r0 k0_hw3 r => k0_hw3.2.2.2.2.2.1 r
theorem k0_off20_inb : ∀ (v1059_r0 : BitVec 32) (k0_hw3 : k0_chk3 v1059_r0), ∀ (r : Fin 4), ∀ a, (k0_off20 v1059_r0 (BitVec.ofNat 32 r.val)) a + S1x1x128.size a ≤ S3x1x32256.size a := fun v1059_r0 k0_hw3 r => k0_hw3.2.2.2.2.2.2.1 r
theorem k0_off21_inb : ∀ (v1059_r0 : BitVec 32) (k0_hw3 : k0_chk3 v1059_r0), ∀ (r : Fin 4), ∀ a, (k0_off21 v1059_r0 (BitVec.ofNat 32 r.val)) a + S1x1x128.size a ≤ S3x1x32256.size a := fun v1059_r0 k0_hw3 r => k0_hw3.2.2.2.2.2.2.2.1 r
theorem k0_mult3_dvd : ∀ (v1059_r0 : BitVec 32) (k0_hw3 : k0_chk3 v1059_r0), 128 ∣ (k0_mult3 v1059_r0).toNat := fun v1059_r0 k0_hw3 => k0_hw3.2.2.2.2.2.2.2.2.1
theorem k0_mult4_dvd : ∀ (v1059_r0 : BitVec 32) (k0_hw3 : k0_chk3 v1059_r0), 128 ∣ (k0_mult4 v1059_r0).toNat := fun v1059_r0 k0_hw3 => k0_hw3.2.2.2.2.2.2.2.2.2.1
theorem k0_mult5_dvd : ∀ (v1059_r0 : BitVec 32) (k0_hw3 : k0_chk3 v1059_r0), 128 ∣ (k0_mult5 v1059_r0).toNat := fun v1059_r0 k0_hw3 => k0_hw3.2.2.2.2.2.2.2.2.2.2.1
theorem k0_off22_inb : ∀ (v1059_r0 : BitVec 32) (k0_hw3 : k0_chk3 v1059_r0), ∀ a, (k0_off22 v1059_r0) a + S1x1x8x128.size a ≤ S8x2x8x128.size a := fun v1059_r0 k0_hw3 => k0_hw3.2.2.2.2.2.2.2.2.2.2.2
-- ==== ReferenceIdeal.lean ====
abbrev S3x1x7168 : Shape := ⟨3, ![3, 1, 7168]⟩
abbrev S7168x32256 : Shape := ⟨2, ![7168, 32256]⟩
abbrev S32256 : Shape := ⟨1, ![32256]⟩
abbrev S3x1008 : Shape := ⟨2, ![3, 1008]⟩
abbrev S3x1x40 : Shape := ⟨3, ![3, 1, 40]⟩
abbrev S3x1008x32 : Shape := ⟨3, ![3, 1008, 32]⟩
abbrev S3x1008x1 : Shape := ⟨3, ![3, 1008, 1]⟩
abbrev S_ : Shape := ⟨0, ![]⟩
abbrev S3x7168 : Shape := ⟨2, ![3, 7168]⟩
abbrev S1x32256 : Shape := ⟨2, ![1, 32256]⟩
abbrev S3x32256 : Shape := ⟨2, ![3, 32256]⟩
abbrev S3x1x32256 : Shape := ⟨3, ![3, 1, 32256]⟩
abbrev S3x1x8 : Shape := ⟨3, ![3, 1, 8]⟩
abbrev S1x3 : Shape := ⟨2, ![1, 3]⟩
abbrev S3 : Shape := ⟨1, ![3]⟩
abbrev S3x1 : Shape := ⟨2, ![3, 1]⟩
abbrev S3x8x32256 : Shape := ⟨3, ![3, 8, 32256]⟩
abbrev S3x8 : Shape := ⟨2, ![3, 8]⟩

abbrev nBuf : Space → Nat
  | .hbm => 19
  | .vmem => 8
  | .smem => 0
  | _ => 0

abbrev bufTy : (tb : Table) → Fin (tcTables nBuf tb) → BufTy
  | .hbm, ⟨0, _⟩ => ⟨S3x1x7168, .bf16⟩
  | .hbm, ⟨1, _⟩ => ⟨S7168x32256, .fp8e4m3⟩
  | .hbm, ⟨2, _⟩ => ⟨S32256, .f32⟩
  | .hbm, ⟨3, _⟩ => ⟨S3x1008, .i32⟩
  | .hbm, ⟨4, _⟩ => ⟨S3x1x40, .i32⟩
  | .hbm, ⟨5, _⟩ => ⟨S3x1008x32, .i32⟩
  | .hbm, ⟨6, _⟩ => ⟨S3x1008x1, .i32⟩
  | .hbm, ⟨7, _⟩ => ⟨S3x1008x32, .i32⟩
  | .hbm, ⟨8, _⟩ => ⟨S3x1008x32, .i32⟩
  | .hbm, ⟨9, _⟩ => ⟨S_, .i32⟩
  | .hbm, ⟨10, _⟩ => ⟨S3x1008x32, .i32⟩
  | .hbm, ⟨11, _⟩ => ⟨S3x1008x32, .i32⟩
  | .hbm, ⟨12, _⟩ => ⟨S3x7168, .bf16⟩
  | .hbm, ⟨13, _⟩ => ⟨S1x32256, .f32⟩
  | .hbm, ⟨14, _⟩ => ⟨S3x32256, .i32⟩
  | .hbm, ⟨15, _⟩ => ⟨S3x1x32256, .f32⟩
  | .hbm, ⟨16, _⟩ => ⟨S3x1x8, .f32⟩
  | .hbm, ⟨17, _⟩ => ⟨S3x7168, .fp8e4m3⟩
  | .hbm, ⟨18, _⟩ => ⟨S1x3, .f32⟩
  | .local _ .vmem, ⟨0, _⟩ => ⟨S3x7168, .bf16⟩
  | .local _ .vmem, ⟨1, _⟩ => ⟨S7168x32256, .fp8e4m3⟩
  | .local _ .vmem, ⟨2, _⟩ => ⟨S1x32256, .f32⟩
  | .local _ .vmem, ⟨3, _⟩ => ⟨S3x32256, .i32⟩
  | .local _ .vmem, ⟨4, _⟩ => ⟨S3x1x32256, .f32⟩
  | .local _ .vmem, ⟨5, _⟩ => ⟨S3x1x8, .f32⟩
  | .local _ .vmem, ⟨6, _⟩ => ⟨S3x7168, .fp8e4m3⟩
  | .local _ .vmem, ⟨7, _⟩ => ⟨S1x3, .f32⟩
  | _, _ => ⟨S3x1x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev main_v9_3 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S3x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7168x32256 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x32256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x32256 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x1x32256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x7168 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x3 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Kernel.Words.lean ====
/-
  The integer side of one trip of the streaming loop: with the carried counters at `(min (k + 3) 63, k, k)` every
  check the body assumes holds, the issue's guard is `k + 3 < 63`, the wait's guard holds, and the offsets of the
  ring's slots, cells and blocks are the closed forms below.
-/
module

public import proofs.«01_k».proof.Proof.Gen.Kernel
public import Idealize.ShloMosaic.Lib.WordCmp
public import Idealize.ShloMosaic.Lib.Tactic

@[expose] public section

noncomputable section

namespace Cert.Proof.Kernel

open Cert.Kernel Cert.Kernel.Gen
open Idealize.ShloMosaic Idealize.ShloMosaic.TcCoe
open Idealize.SL.Sem

/-- A number as a word. -/
abbrev wd (n : ℕ) : BitVec 32 := BitVec.ofNat 32 n
/-- The three counters before trip `k`: blocks issued, blocks awaited, the block's index (which wraps at the end). -/
abbrev issued (k : ℕ) : BitVec 32 := wd (min (k + 3) 63)
abbrev index (k : ℕ) : BitVec 32 := wd (k % 63)

theorem trips_eq : k0_t1_loop.trips = 63 := by decide

/-- A slot of the ring, its cell, and a block of the weights, by the block's number. -/
abbrev slotOff (n : ℕ) : Fin 3 → ℕ := ![n % 4, 0, 0]
abbrev cellOff (n : ℕ) : Fin 1 → ℕ := ![n % 4]
abbrev blkOff (n : ℕ) : Fin 2 → ℕ := ![0, 512 * n]

theorem chk2_of : ∀ k : Fin 64, k0_chk2 (wd k) := by decide +kernel
theorem chk3_of : ∀ k : Fin 63, k0_chk3 (wd k) := by decide +kernel
theorem chk1_of : ∀ k : Fin k0_t1_loop.trips, k0_chk1 k (issued k) (wd k) (index k) := by decide +kernel
theorem cond3_iff : ∀ k : Fin k0_t1_loop.trips, k0_cond3 k (index k) = 1#1 ↔ k.val + 3 < 63 := by decide +kernel
theorem cond4_of : ∀ k : Fin k0_t1_loop.trips, k0_cond4 k (index k) = 1#1 := by decide +kernel
theorem off9_eq : ∀ k : Fin k0_t1_loop.trips, k.val + 3 < 63 → k0_off9 (issued k) = cellOff (k.val + 3) := by decide +kernel
theorem off10_eq : ∀ k : Fin k0_t1_loop.trips, k.val + 3 < 63 → k0_off10 (issued k) = slotOff (k.val + 3) := by decide +kernel
theorem off11_eq : ∀ k : Fin k0_t1_loop.trips, k.val + 3 < 63 → k0_off11 (index k) = blkOff (k.val + 3) := by decide +kernel
theorem off12_eq : ∀ k : Fin k0_t1_loop.trips, k0_off12 (wd k) = cellOff k.val := by decide +kernel
theorem off13_eq : ∀ k : Fin k0_t1_loop.trips, k0_off13 (wd k) = slotOff k.val := by decide +kernel
theorem off14_eq : ∀ k : Fin k0_t1_loop.trips, k0_off14 (index k) = blkOff k.val := by decide +kernel
theorem off15_eq : ∀ k : Fin k0_t1_loop.trips, k0_off15 (wd k) = slotOff k.val := by decide +kernel

theorem slotInb (n : ℕ) : ∀ a, slotOff n a + S1x7168x512.size a ≤ S4x7168x512.size a := by
  have := Nat.mod_lt n (show 0 < 4 by decide)
  intro a; fin_cases a
  · show n % 4 + 1 ≤ 4; omega
  · show 0 + 7168 ≤ 7168; omega
  · show 0 + 512 ≤ 512; omega
theorem cellInb (n : ℕ) : ∀ a, cellOff n a + S1.size a ≤ S4.size a := by
  have := Nat.mod_lt n (show 0 < 4 by decide)
  intro a; fin_cases a
  show n % 4 + 1 ≤ 4; omega
theorem blkInb (n : ℕ) (h : n < 63) : ∀ a, blkOff n a + S7168x512.size a ≤ S7168x32256.size a := by
  intro a; fin_cases a
  · show 0 + 7168 ≤ 7168; omega
  · show 512 * n + 512 ≤ 32256; omega

end Cert.Proof.Kernel

end
-- ==== Proof.Kernel.Base.lean ====
/-
  What a core holds around the streaming loop: the ring's slots, their cells, the weights lent a share per slot, and
  the transfers in flight between them.
-/
module

public import proofs.«01_k».proof.Proof.Kernel.Words
public import proofs.«01_k».proof.Proof.Gen.Kernel.Skeleton
public import Idealize.ShloMosaic.Lib.Pipeline.FrameBody
public import Idealize.ShloMosaic.Lib.Ring
public import Idealize.ShloMosaic.Lib.Ring.Trips
public import Idealize.ShloMosaic.Lib.Tactic

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The algebra: the pipeline library's beside the counters of the transfers. -/
abbrev UU (nD : ℕ) (τ : Topo) : Type := Pipeline.UD sig nD τ

local notation "𝕄" => MT nD τ sig Unit (Elt F) ℕ (UU nD τ) ℕ

/-- A buffer's contents, and a buffer held whole. -/
abbrev Bf (F : FTy → Type) (c : Dev nD) (b : Ref sig .tc) : Type := Buf (Elt F) ((Memref.whole b).view.loc (c : Thread nD τ))
abbrev pt (c : Dev nD) (b : Ref sig .tc) (f : Bf F c b) : sProp 𝕄 := (Memref.whole b).view.loc (c : Thread nD τ) ↦{fullShare} f

/-- The slot of the ring at offsets `o`, the block of the weights at offsets `o`, the cell at offset `o`. -/
abbrev slotAt (o : Fin 3 → ℕ) (h : ∀ a, o a + S1x7168x512.size a ≤ S4x7168x512.size a) : Memref sig .tc .vmem S7168x512 .fp8e4m3 :=
  ((Memref.whole cc0_scoped0).slice (Rect.unit (s := S4x7168x512) o S1x7168x512.size h) (fun _ => rfl)).squeeze S7168x512 squeezes_S1x7168x512_S7168x512
abbrev blkAt (o : Fin 2 → ℕ) (h : ∀ a, o a + S7168x512.size a ≤ S7168x32256.size a) : Memref sig .tc .hbm S7168x512 .fp8e4m3 :=
  (Memref.whole main_arg1).slice (Rect.unit (s := S7168x32256) o S7168x512.size h) (fun _ => rfl)
abbrev cellAt (o : Fin 1 → ℕ) (h : ∀ a, o a + S1.size a ≤ S4.size a) : DmaSem sig :=
  ((cc0_scoped1.slice (Rect.unit (s := S4) o S1.size h)).squeeze S_ squeezes_S1_S_).sem

abbrev ringLoc (c : Dev nD) := (Memref.whole cc0_scoped0).view.loc (c : Thread nD τ)
abbrev wLoc (c : Dev nD) := (Memref.whole main_arg1).view.loc (c : Thread nD τ)

/-- The share of the weights slot `n % 4` reads by: a quarter. -/
def wShare (n : ℕ) : PosShare TreeShare :=
  match n % 4 with
  | 0 => fullShare.left.left
  | 1 => fullShare.left.right
  | 2 => fullShare.right.left
  | _ => fullShare.right.right

/-- The weights' block `n`, laid over every slot. -/
def fill (c : Dev nD) (fw : Bf F c main_arg1) (n : ℕ) : Bf F c cc0_scoped0 :=
  fun i => fw ((fun | 0 => i 1 | 1 => ⟨(512 * n + (i 2).val) % 32256, Nat.mod_lt _ (by decide)⟩ : (a : Fin 2) → Fin (S7168x32256.size a)))

/-- A slot of the ring held at contents `g`. -/
abbrev slotPt (c : Dev nD) (n : ℕ) (g : Bf F c cc0_scoped0) : sProp 𝕄 :=
  ringLoc c ↦[(slotAt (slotOff n) (slotInb n)).view.set]{fullShare} g

/-- A cell at zero, with its slot at any contents and its share of the weights: nothing in flight. -/
abbrev cell0 (c : Dev nD) (n : ℕ) : sProp 𝕄 := semVal ((c : Thread nD τ), SemLoc.dma (cellAt (cellOff n) (cellInb n))) 0
def freeSlot (c : Dev nD) (fw : Bf F c main_arg1) (n : ℕ) : sProp 𝕄 :=
  iprop(cell0 c n ∗ (∃ g, slotPt c n g) ∗ (wLoc c ↦{wShare n} fw))

/-- Block `n` in flight into its slot: the transfer, and what of the share it does not read. -/
def inFlight (c : Dev nD) (fw : Bf F c main_arg1) (n : Fin 63) : sProp 𝕄 :=
  iprop(Transfers.Flight (countersEmb (U := UU nD τ)) (c : Thread nD τ) (.dma (cellAt (cellOff n) (cellInb n))) ()
      ((slotAt (slotOff n) (slotInb n)).view.dmaCredit)
      iprop(slotPt c n (fill c fw n) ∗ (wLoc c ↦[(blkAt (blkOff n) (blkInb n n.isLt)).view.set]{wShare n} fw))
    ∗ (wLoc c ↦[Finset.univ \ (blkAt (blkOff n) (blkInb n n.isLt)).view.set]{wShare n} fw))

end Cert.Proof.Kernel

end
-- ==== Proof.Kernel.Ring.lean ====
/-
  The steps of the ring: a block's transfer is issued into a free slot, and waited for.
-/
module

public import proofs.«01_k».proof.Proof.Kernel.Base

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-- Where a slot's element lies in the ring. -/
theorem slot_emb (n : ℕ) (x : S7168x512.Idx) : ((slotAt (slotOff n) (slotInb n)).view.emb x 1).val = (x 0).val
    ∧ ((slotAt (slotOff n) (slotInb n)).view.emb x 2).val = (x 1).val := by
  have e : Shape.reshapeEquiv (squeezes_S1x7168x512_S7168x512).numel_eq x = Fin.cons ⟨0, Nat.one_pos⟩ x :=
    Shape.reshapeEquiv_cons_one (d := ![7168, 512]) _ x
  constructor
  · show 0 + 1 * ((Shape.reshapeEquiv (squeezes_S1x7168x512_S7168x512).numel_eq x) 1).val = _
    rw [e]; show 0 + 1 * (x 0).val = _; omega
  · show 0 + 1 * ((Shape.reshapeEquiv (squeezes_S1x7168x512_S7168x512).numel_eq x) 2).val = _
    rw [e]; show 0 + 1 * (x 1).val = _; omega

/-- What a block's transfer leaves in its slot. -/
theorem fill_slot {c : Dev nD} (fw : Bf F c main_arg1) (n : Fin 63) (x : S7168x512.Idx) :
    fill c fw n ((slotAt (slotOff n) (slotInb n)).view.emb x) = fw ((blkAt (blkOff n) (blkInb n n.isLt)).view.emb x) := by
  obtain ⟨h1, h2⟩ := slot_emb n x
  have hx := (x 1).isLt
  change (x 1).val < 512 at hx
  have hn := n.isLt
  unfold fill
  congr 1
  funext a
  match a with
  | ⟨0, _⟩ =>
    apply Fin.ext
    show ((slotAt (slotOff n) (slotInb n)).view.emb x 1).val = 0 + 1 * (x 0).val
    omega
  | ⟨1, _⟩ =>
    apply Fin.ext
    show (512 * n.val + ((slotAt (slotOff n) (slotInb n)).view.emb x 2).val) % 32256 = 512 * n.val + 1 * (x 1).val
    rw [h2]
    omega

variable {defs : Defs nD τ sig (Elt F) Λ₀} (𝒱 : Variants) (c : Dev nD) (bd : Option 𝒱.V)
variable {α : Type} {Q : α → sProp (MT nD τ sig Unit (Elt F) ℕ (UU nD τ) ℕ)}

/-- Issuing a transfer out of an array held whole at some share: what is left of it stays behind. -/
theorem issue_gen {sp sp' : Space} {s : Shape} {e : EltTy} (src : Memref sig .tc sp s e) (dst : Memref sig .tc sp' s e) (sm : SemLoc sig)
    (N : ℕ) (hN : dst.view.amount sm = N) (hN0 : 0 < N) (q : PosShare TreeShare)
    (fs : Buf (Elt F) (src.view.loc (c : Thread nD τ))) (fd g : Buf (Elt F) (dst.view.loc (c : Thread nD τ)))
    (hg : ∀ i ∈ dst.view.set, dst.view.write (Elt F) fd ((ReadAs.same : ReadAs (Elt F) s e s e).apply (src.view.read (Elt F) fs)) Finset.univ i = g i)
    {hsrc : src.view.WordExact} {hdst : dst.view.WordExact}
    {hsem : DmaTarget.Typed (nD := nD) (τ := τ) (p := .tc) sp sm (.here dst)}
    {k : PUnit → Prog (TpuEff nD τ sig (Elt F) Λ₀ .tc) α} :
    iprop(semVal ((c : Thread nD τ), sm) 0 ∗ (dst.view.loc (c : Thread nD τ) ↦[dst.view.set]{fullShare} fd) ∗ (src.view.loc (c : Thread nD τ) ↦{q} fs))
      ⊢ iprop((iprop((Transfers.Flight (countersEmb (U := UU nD τ)) (c : Thread nD τ) sm () N
            iprop((dst.view.loc (c : Thread nD τ) ↦[dst.view.set]{fullShare} g) ∗ (src.view.loc (c : Thread nD τ) ↦[src.view.set]{q} fs)) : sProp 𝕄)
          ∗ (src.view.loc (c : Thread nD τ) ↦[Finset.univ \ src.view.set]{q} fs)) -∗ wp frame (wpE defs 𝒱 (c : Thread nD τ) bd) Set.univ (k ⟨⟩) Q)
      -∗ wp frame (wpE defs 𝒱 (c : Thread nD τ) bd) Set.univ (.op (.enqueueDma src (.here dst) sm hsrc hdst hsem) k) Q) := by
  iintro ⟨Hc, Hs, Hw⟩ Hk
  ihave Hw' := (pointsTo_split_subset (Finset.subset_univ src.view.set)).1 $$ Hw
  icases Hw' with ⟨Hw, Hr⟩
  iapply (Transfers.wp_dmaLocal (countersEmb (U := UU nD τ)) 𝒱 (c : Thread nD τ) bd () N hN hN0 (Finset.Subset.refl _)) $$ [Hc Hs Hw]
  · isplitl [Hw]; · iexact Hw
    isplitl [Hs]; · iexact Hs
    iexact Hc
  iintro Hf
  iapply Hk
  isplitr [Hr]
  · iapply (Transfers.Flight_mono (countersEmb (U := UU nD τ)) (c : Thread nD τ) (BIClass.sep_mono (Entails.of_eq (pointsTo_congr
      (ℓ := dst.view.loc (c : Thread nD τ)) (I := dst.view.set) (f := dst.view.write (Elt F) fd ((ReadAs.same : ReadAs (Elt F) s e s e).apply (src.view.read (Elt F) fs)) Finset.univ)
      (g := g) (q := fullShare) hg)) (Entails.of_eq rfl))) $$ Hf
  · iexact Hr

/-- Issuing block `n`'s transfer into its slot. -/
theorem wp_issue (fw : Bf F c main_arg1) (n : Fin 63)
    (o9 : Fin 1 → ℕ) (o10 : Fin 3 → ℕ) (o11 : Fin 2 → ℕ)
    (h9 : ∀ a, o9 a + S1.size a ≤ S4.size a) (h10 : ∀ a, o10 a + S1x7168x512.size a ≤ S4x7168x512.size a) (h11 : ∀ a, o11 a + S7168x512.size a ≤ S7168x32256.size a)
    (e9 : o9 = cellOff n) (e10 : o10 = slotOff n) (e11 : o11 = blkOff n)
    {hsrc : (blkAt o11 h11).view.WordExact} {hdst : (slotAt o10 h10).view.WordExact}
    {hsem : DmaTarget.Typed (nD := nD) (τ := τ) (p := .tc) .hbm (.dma (cellAt o9 h9)) (.here (slotAt o10 h10))}
    {k : PUnit → Prog (TpuEff nD τ sig (Elt F) Λ₀ .tc) α} :
    freeSlot c fw n ⊢ iprop((inFlight c fw n -∗ wp frame (wpE defs 𝒱 (c : Thread nD τ) bd) Set.univ (k ⟨⟩) Q)
      -∗ wp frame (wpE defs 𝒱 (c : Thread nD τ) bd) Set.univ
        (.op (.enqueueDma (blkAt o11 h11) (.here (slotAt o10 h10)) (.dma (cellAt o9 h9)) hsrc hdst hsem) k) Q) := by
  subst e9 e10 e11
  unfold freeSlot inFlight
  iintro ⟨Hc, ⟨%g, Hs⟩, Hw⟩ Hk
  iapply (issue_gen 𝒱 c bd (blkAt (blkOff n) h11) (slotAt (slotOff n) h10) (.dma (cellAt (cellOff n) h9)) _ rfl
    (View.dmaCredit_pos _ (by decide)) (wShare n) fw g (fill c fw n) (fun i hi => ?_)) $$ [Hc Hs Hw]
  · obtain ⟨x, -, rfl⟩ := Finset.mem_map.mp hi
    rw [View.write_emb_of_mem _ _ (Finset.mem_univ _)]
    exact (fill_slot fw n x).symm
  · isplitl [Hc]; · iexact Hc
    isplitl [Hs]; · iexact Hs
    iexact Hw
  · iexact Hk

/-- Waiting for block `n`'s transfer. -/
theorem wp_await (fw : Bf F c main_arg1) (n : Fin 63) (W : Waits sig Unit)
    (o9 : Fin 1 → ℕ) (o10 : Fin 3 → ℕ) (o11 : Fin 2 → ℕ)
    (h9 : ∀ a, o9 a + S1.size a ≤ S4.size a) (h10 : ∀ a, o10 a + S1x7168x512.size a ≤ S4x7168x512.size a) (h11 : ∀ a, o11 a + S7168x512.size a ≤ S7168x32256.size a)
    (e9 : o9 = cellOff n) (e10 : o10 = slotOff n)
    {hsrc : (blkAt o11 h11).view.WordExact} {hdst : (slotAt o10 h10).view.WordExact}
    {k : PUnit → Prog (TpuEff nD τ sig (Elt F) Λ₀ .tc) α} :
    iprop(inFlight c fw n ∗ owes (c : Thread nD τ) 0 W)
      ⊢ iprop(((cell0 c n ∗ slotPt c n (fill c fw n) ∗ (wLoc c ↦{wShare n} fw) ∗ ∃ W', owes (c : Thread nD τ) 0 W')
          -∗ wp frame (wpE defs 𝒱 (c : Thread nD τ) bd) Set.univ (k ⟨⟩) Q)
      -∗ wp frame (wpE defs 𝒱 (c : Thread nD τ) bd) Set.univ
        (.op (.waitDma2 (cellAt o9 h9) (blkAt o11 h11) (slotAt o10 h10) hsrc hdst) k) Q) := by
  subst e9 e10
  unfold inFlight
  iintro ⟨⟨Hf, Hr⟩, HO⟩ Hk
  iapply (Transfers.wp_waitLocal (countersEmb (U := UU nD τ)) 𝒱 (c : Thread nD τ) bd () (N := (slotAt (slotOff n) h10).view.dmaCredit) rfl) $$ [Hf HO]
  · isplitl [Hf]; · iexact Hf
    iexact HO
  iintro ⟨⟨Hs, Hw⟩, Hc, HO⟩
  iapply Hk
  isplitl [Hc]; · iexact Hc
  isplitl [Hs]; · iexact Hs
  isplitl [Hw Hr]
  · iapply (pointsTo_split_subset (Finset.subset_univ (blkAt (blkOff n) (blkInb n n.isLt)).view.set)).2 $$ [Hw Hr]
    isplitl [Hw] <;> iassumption
  iexists _
  iexact HO

/-- A slot that has been read is free for the block four further on. -/
theorem freeSlot_of {fw : Bf F c main_arg1} (n : ℕ) : iprop(cell0 c n ∗ slotPt c n (fill c fw n) ∗ (wLoc c ↦{wShare n} fw))
    ⊢ (freeSlot c fw (n + 4) : sProp 𝕄) := by
  have hs : slotOff (n + 4) = slotOff n := by unfold slotOff; rw [Nat.add_mod_right]
  have hc : cellOff (n + 4) = cellOff n := by unfold cellOff; rw [Nat.add_mod_right]
  have hw : wShare (n + 4) = wShare n := by unfold wShare; rw [Nat.add_mod_right]
  have es : ∀ (o : Fin 3 → ℕ) (_ : o = slotOff n) (h : ∀ a, o a + S1x7168x512.size a ≤ S4x7168x512.size a) (g : Bf F c cc0_scoped0),
      (ringLoc c ↦[(slotAt o h).view.set]{fullShare} g : sProp 𝕄) = slotPt c n g := by rintro _ rfl _ _; rfl
  have ec : ∀ (o : Fin 1 → ℕ) (_ : o = cellOff n) (h : ∀ a, o a + S1.size a ≤ S4.size a),
      (semVal ((c : Thread nD τ), SemLoc.dma (cellAt o h)) 0 : sProp 𝕄) = cell0 c n := by rintro _ rfl _; rfl
  unfold freeSlot
  rw [hw, show (cell0 c (n + 4) : sProp 𝕄) = cell0 c n from ec _ hc _]
  iintro ⟨Hc, Hs, Hw⟩
  isplitl [Hc]; · iexact Hc
  isplitl [Hs]
  · iexists (fill c fw n)
    rw [show (slotPt c (n + 4) (fill c fw n) : sProp 𝕄) = slotPt c n (fill c fw n) from es _ hs _ _]
    iexact Hs
  iexact Hw

end Cert.Proof.Kernel

end
-- ==== Proof.Kernel.Good.lean ====
/-
  What the kernel's buffers hold between the trips of the streaming loop.
-/
module

public import proofs.«01_k».proof.Proof.Kernel.Base

@[expose] public section

set_option maxRecDepth 65536

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-- What is known before trip `k` of the buffers the loop works on. -/
def Good (c : Dev nD) (k : ℕ) (f0 : Bf F c main_v0) (f2 : Bf F c main_arg2) (f3 : Bf F c main_arg3) (fw : Bf F c main_arg1)
    (g16 : Bf F c cc0_scratch4) (g17 : Bf F c cc0_scratch5) (g18 : Bf F c cc0_scratch6)
    (g28 : Bf F c cc0_scratch16) (g29 : Bf F c cc0_scratch17) (g23 : Bf F c cc0_scratch11) : Prop := True

end Cert.Proof.Kernel

end
-- ==== Proof.Kernel.State.lean ====
/-
  The state of a core before each trip of the streaming loop.
-/
module

public import proofs.«01_k».proof.Proof.Kernel.Ring
public import proofs.«01_k».proof.Proof.Kernel.Good

@[expose] public section

set_option maxRecDepth 65536

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-- A transfer of a whole array in flight, `src` into `dst`; `g` is what it leaves there. -/
abbrev sideFlight (c : Dev nD) (j N : ℕ) (hj : j < 15) (dst src : Ref sig .tc) (g : Bf F c dst) (f : Bf F c src) : sProp 𝕄 :=
  iprop(Transfers.Flight (countersEmb (U := UU nD τ)) (c : Thread nD τ) (SemLoc.dma ⟨j, hj⟩) () N
      iprop(pt c dst g ∗ ((Memref.whole src).view.loc (c : Thread nD τ) ↦[(Memref.whole src).view.set]{fullShare} f)))
/-- The same after it was waited for. -/
abbrev sideDown (c : Dev nD) (j : ℕ) (hj : j < 15) (dst src : Ref sig .tc) (g : Bf F c dst) (f : Bf F c src) : sProp 𝕄 :=
  iprop(pt c dst g ∗ ((Memref.whole src).view.loc (c : Thread nD τ) ↦[(Memref.whole src).view.set]{fullShare} f)
    ∗ semVal ((c : Thread nD τ), SemLoc.dma ⟨j, hj⟩) 0)

/-- An input's contents, seen as those of the buffer they are copied to. -/
def inX {c : Dev nD} (f : Bf F c main_v0) : Bf F c cc0_scratch0 := fun i => f i
def inS {c : Dev nD} (f : Bf F c main_arg2) : Bf F c cc0_scratch1 := fun i => f i
def inM {c : Dev nD} (f : Bf F c main_arg3) : Bf F c cc0_scratch2 := fun i => f i
def inC {c : Dev nD} (f : Bf F c main_arg4) : Bf F c cc0_scratch3 := fun i => f i

def sidesFly (c : Dev nD) (f0 : Bf F c main_v0) (f2 : Bf F c main_arg2) (f3 : Bf F c main_arg3) (f4 : Bf F c main_arg4) : sProp 𝕄 :=
  iprop(sideFlight c 0 1344 (by decide) cc0_scratch0 main_v0 (inX f0) f0 ∗ sideFlight c 1 384 (by decide) cc0_scratch2 main_arg3 (inM f3) f3
    ∗ sideFlight c 2 48 (by decide) cc0_scratch3 main_arg4 (inC f4) f4 ∗ sideFlight c 3 4032 (by decide) cc0_scratch1 main_arg2 (inS f2) f2)
def sidesDown (c : Dev nD) (f0 : Bf F c main_v0) (f2 : Bf F c main_arg2) (f3 : Bf F c main_arg3) (f4 : Bf F c main_arg4) : sProp 𝕄 :=
  iprop(sideDown c 0 (by decide) cc0_scratch0 main_v0 (inX f0) f0 ∗ sideDown c 1 (by decide) cc0_scratch2 main_arg3 (inM f3) f3
    ∗ sideDown c 2 (by decide) cc0_scratch3 main_arg4 (inC f4) f4 ∗ sideDown c 3 (by decide) cc0_scratch1 main_arg2 (inS f2) f2)
def sides (c : Dev nD) (k : ℕ) (f0 : Bf F c main_v0) (f2 : Bf F c main_arg2) (f3 : Bf F c main_arg3) (f4 : Bf F c main_arg4) : sProp 𝕄 :=
  match k with
  | 0 => sidesFly c f0 f2 f3 f4
  | _ + 1 => sidesDown c f0 f2 f3 f4

/-- Block `n`'s part of the ring: in flight, or past the last block its slot free. -/
def role (c : Dev nD) (fw : Bf F c main_arg1) (n : ℕ) : sProp 𝕄 :=
  if h : n < 63 then inFlight c fw ⟨n, h⟩ else freeSlot c fw n

/-- The state before trip `k`. -/
def tripSt (c : Dev nD) (f0 : Bf F c main_v0) (f2 : Bf F c main_arg2) (f3 : Bf F c main_arg3) (f4 : Bf F c main_arg4) (fw : Bf F c main_arg1)
    (k : ℕ) : sProp 𝕄 :=
  iprop(∃ (g16 : Bf F c cc0_scratch4) (g17 : Bf F c cc0_scratch5) (g18 : Bf F c cc0_scratch6) (g19 : Bf F c cc0_scratch7) (g20 : Bf F c cc0_scratch8)
      (g21 : Bf F c cc0_scratch9) (g28 : Bf F c cc0_scratch16) (g29 : Bf F c cc0_scratch17) (g23 : Bf F c cc0_scratch11) (W : Waits sig Unit),
    ⌜Good c k f0 f2 f3 fw g16 g17 g18 g28 g29 g23⌝
    ∗ pt c cc0_scratch4 g16 ∗ pt c cc0_scratch5 g17 ∗ pt c cc0_scratch6 g18 ∗ pt c cc0_scratch7 g19 ∗ pt c cc0_scratch8 g20
    ∗ pt c cc0_scratch9 g21 ∗ pt c cc0_scratch16 g28 ∗ pt c cc0_scratch17 g29 ∗ pt c cc0_scratch11 g23
    ∗ pt c cc0_scratch10 (fun _ => wd k) ∗ sides c k f0 f2 f3 f4
    ∗ role c fw k ∗ role c fw (k + 1) ∗ role c fw (k + 2) ∗ freeSlot c fw (k + 3) ∗ owes (c : Thread nD τ) 0 W)

variable (c : Dev nD)

/-- A free slot in the program's spelling. -/
theorem freeSlot_out (fw : Bf F c main_arg1) (n : ℕ)
    (o9 : Fin 1 → ℕ) (o10 : Fin 3 → ℕ) (o11 : Fin 2 → ℕ)
    (h9 : ∀ a, o9 a + S1.size a ≤ S4.size a) (h10 : ∀ a, o10 a + S1x7168x512.size a ≤ S4x7168x512.size a) (h11 : ∀ a, o11 a + S7168x512.size a ≤ S7168x32256.size a)
    (e9 : o9 = cellOff n) (e10 : o10 = slotOff n) :
    (freeSlot c fw n : sProp 𝕄) ⊢ iprop(semVal ((c : Thread nD τ), SemLoc.dma (cellAt o9 h9)) 0
      ∗ (∃ g : Bf F c cc0_scoped0, (slotAt o10 h10).view.loc (c : Thread nD τ) ↦[(slotAt o10 h10).view.set]{fullShare} g)
      ∗ ((blkAt o11 h11).view.loc (c : Thread nD τ) ↦[(blkAt o11 h11).view.set]{wShare n} fw)
      ∗ ((blkAt o11 h11).view.loc (c : Thread nD τ) ↦[Finset.univ \ (blkAt o11 h11).view.set]{wShare n} fw)) := by
  subst e9 e10
  unfold freeSlot
  iintro ⟨Hc, ⟨%g, Hs⟩, Hw⟩
  ihave Hw' := (pointsTo_split_subset (Finset.subset_univ (blkAt o11 h11).view.set)).1 $$ Hw
  icases Hw' with ⟨Hw, Hr⟩
  isplitl [Hc]; · iexact Hc
  isplitl [Hs]; · iexists g; iexact Hs
  isplitl [Hw]; · iexact Hw
  iexact Hr

/-- A transfer that covers a view leaves what it carried. -/
theorem writes_whole_emb {κ : Kind} {sp : Space} {s : Shape} {e : EltTy} (v : View sig κ sp s e) (g : v.ty.Contents (Elt F)) (p : s.Idx → Elt F e)
    (x : s.Idx) : v.writes (Elt F) g [⟨Rect.whole s, p⟩] (v.emb x) = _root_.cast (congrArg (Elt F) v.elt_eq.symm) (p x) := by
  have hx : (Rect.whole s).emb x = x := by
    funext a; apply Fin.ext; show 0 + 1 * (x a).val = (x a).val; omega
  have : v.emb x = (v.slice (Rect.whole s)).emb x := by
    show v.emb x = v.emb ((Rect.whole s).emb x)
    rw [hx]
  rw [this]
  exact View.write_emb_of_mem _ _ (Finset.mem_univ _)

/-- A transfer issued in the program's spelling is block `n` in flight. -/
theorem inFlight_in (fw : Bf F c main_arg1) (n : Fin 63) (gq : Bf F c cc0_scoped0)
    (o9 : Fin 1 → ℕ) (o10 : Fin 3 → ℕ) (o11 : Fin 2 → ℕ)
    (h9 : ∀ a, o9 a + S1.size a ≤ S4.size a) (h10 : ∀ a, o10 a + S1x7168x512.size a ≤ S4x7168x512.size a) (h11 : ∀ a, o11 a + S7168x512.size a ≤ S7168x32256.size a)
    (e9 : o9 = cellOff n) (e10 : o10 = slotOff n) (e11 : o11 = blkOff n)
    (p : S7168x512.Idx → Elt F .fp8e4m3) (hp : p = (ReadAs.same : ReadAs (Elt F) _ _ _ _).apply ((blkAt o11 h11).view.read (Elt F) fw)) :
    iprop(Transfers.Flight (countersEmb (U := UU nD τ)) (c : Thread nD τ) (.dma (cellAt o9 h9)) () 114688
        iprop(((slotAt o10 h10).view.loc (c : Thread nD τ) ↦[(slotAt o10 h10).view.set]{fullShare} (slotAt o10 h10).view.writes (Elt F) gq [⟨Rect.whole S7168x512, p⟩])
          ∗ ((blkAt o11 h11).view.loc (c : Thread nD τ) ↦[(blkAt o11 h11).view.set]{wShare n} fw))
      ∗ ((blkAt o11 h11).view.loc (c : Thread nD τ) ↦[Finset.univ \ (blkAt o11 h11).view.set]{wShare n} fw))
    ⊢ (inFlight c fw n : sProp 𝕄) := by
  subst e9 e10 e11
  unfold inFlight
  iintro ⟨Hf, Hr⟩
  isplitl [Hf]
  · iapply (Transfers.Flight_mono (countersEmb (U := UU nD τ)) (c : Thread nD τ) (BIClass.sep_mono (Entails.of_eq (pointsTo_congr
      (ℓ := ringLoc c) (I := (slotAt (slotOff n) (slotInb n)).view.set) (f := (slotAt (slotOff n) h10).view.writes (Elt F) gq [⟨Rect.whole S7168x512, p⟩])
      (g := fill c fw n) (q := fullShare) (fun i hi => ?_))) (Entails.of_eq rfl))) $$ Hf
    obtain ⟨x, -, rfl⟩ := Finset.mem_map.mp hi
    refine (writes_whole_emb _ _ _ _).trans ?_
    rw [hp, fill_slot fw n x]
    rfl
  · iexact Hr

theorem role_lt (fw : Bf F c main_arg1) (n : ℕ) (h : n < 63) : (role c fw n : sProp 𝕄) = inFlight c fw ⟨n, h⟩ := dif_pos h
theorem role_ge (fw : Bf F c main_arg1) (n : ℕ) (h : ¬ n < 63) : (role c fw n : sProp 𝕄) = freeSlot c fw n := dif_neg h
theorem sides_pos (k : ℕ) (h : k ≠ 0) (f0 : Bf F c main_v0) (f2 : Bf F c main_arg2) (f3 : Bf F c main_arg3) (f4 : Bf F c main_arg4) :
    (sides c k f0 f2 f3 f4 : sProp 𝕄) = sidesDown c f0 f2 f3 f4 := by
  cases k with
  | zero => exact absurd rfl h
  | succ k => rfl

/-- A slot held in the program's spelling. -/
theorem slot_respell (n : ℕ) (o : Fin 3 → ℕ) (h : ∀ a, o a + S1x7168x512.size a ≤ S4x7168x512.size a) (e : o = slotOff n) (g : Bf F c cc0_scoped0) :
    (slotPt c n g : sProp 𝕄) = ((slotAt o h).view.loc (c : Thread nD τ) ↦[(slotAt o h).view.set]{fullShare} g) := by subst e; rfl

end Cert.Proof.Kernel

end
-- ==== Proof.Kernel.Parts.lean ====
/-
  The ring and the weights in four parts.
-/
module

public import proofs.«01_k».proof.Proof.Kernel.State

@[expose] public section

set_option maxRecDepth 65536

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

variable (c : Dev nD)

/-- A slot is the elements of its first coordinate. -/
theorem mem_slot (n : ℕ) (i : S4x7168x512.Idx) : i ∈ (slotAt (slotOff n) (slotInb n)).view.set ↔ (i 0).val = n % 4 := by
  constructor
  · intro h
    obtain ⟨x, -, rfl⟩ := Finset.mem_map.mp h
    have e : Shape.reshapeEquiv (squeezes_S1x7168x512_S7168x512).numel_eq x = Fin.cons ⟨0, Nat.one_pos⟩ x :=
      Shape.reshapeEquiv_cons_one (d := ![7168, 512]) _ x
    show n % 4 + 1 * ((Shape.reshapeEquiv (squeezes_S1x7168x512_S7168x512).numel_eq x) 0).val = _
    rw [e]; show n % 4 + 1 * 0 = _; omega
  · intro h
    refine Finset.mem_map.mpr ⟨(fun | 0 => i 1 | 1 => i 2 : (a : Fin 2) → Fin (S7168x512.size a)), Finset.mem_univ _, ?_⟩
    obtain ⟨h1, h2⟩ := slot_emb n (fun | 0 => i 1 | 1 => i 2 : (a : Fin 2) → Fin (S7168x512.size a))
    funext a
    match a with
    | 0 =>
      apply Fin.ext
      rw [h]
      have e : Shape.reshapeEquiv (squeezes_S1x7168x512_S7168x512).numel_eq (fun | 0 => i 1 | 1 => i 2 : (a : Fin 2) → Fin (S7168x512.size a))
          = Fin.cons ⟨0, Nat.one_pos⟩ (fun | 0 => i 1 | 1 => i 2 : (a : Fin 2) → Fin (S7168x512.size a)) :=
        Shape.reshapeEquiv_cons_one (d := ![7168, 512]) _ _
      show n % 4 + 1 * ((Shape.reshapeEquiv (squeezes_S1x7168x512_S7168x512).numel_eq (fun | 0 => i 1 | 1 => i 2 : (a : Fin 2) → Fin (S7168x512.size a))) 0).val = _
      rw [e]; show n % 4 + 1 * 0 = _; omega
    | 1 => exact Fin.ext h1
    | 2 => exact Fin.ext h2

abbrev slotSet (n : ℕ) : Finset S4x7168x512.Idx := (slotAt (slotOff n) (slotInb n)).view.set

theorem slot_disj (n n' : ℕ) (h : n % 4 ≠ n' % 4) : Disjoint (slotSet n) (slotSet n') :=
  Finset.disjoint_left.mpr fun i hi hi' => h (((mem_slot n i).1 hi).symm.trans ((mem_slot n' i).1 hi'))

theorem slots_univ (n0 n1 n2 n3 : ℕ) (h0 : n0 % 4 = 0) (h1 : n1 % 4 = 1) (h2 : n2 % 4 = 2) (h3 : n3 % 4 = 3) :
    slotSet n0 ∪ (slotSet n1 ∪ (slotSet n2 ∪ slotSet n3)) = Finset.univ := by
  refine Finset.eq_univ_of_forall fun i => ?_
  have hi : (i 0).val < 4 := (i 0).isLt
  by_cases e0 : (i 0).val = 0
  · exact Finset.mem_union_left _ ((mem_slot n0 i).2 (by rw [e0, h0]))
  refine Finset.mem_union_right _ ?_
  by_cases e1 : (i 0).val = 1
  · exact Finset.mem_union_left _ ((mem_slot n1 i).2 (by rw [e1, h1]))
  refine Finset.mem_union_right _ ?_
  by_cases e2 : (i 0).val = 2
  · exact Finset.mem_union_left _ ((mem_slot n2 i).2 (by rw [e2, h2]))
  exact Finset.mem_union_right _ ((mem_slot n3 i).2 (by rw [h3]; omega))

/-- The ring in its four slots. -/
theorem ring_split (g : Bf F c cc0_scoped0) :
    (pt c cc0_scoped0 g : sProp 𝕄) ⊢ iprop(slotPt c 0 g ∗ slotPt c 1 g ∗ slotPt c 2 g ∗ slotPt c 3 g) := by
  have hu := slots_univ 0 1 2 3 rfl rfl rfl rfl
  have d2 : Disjoint (slotSet 2) (slotSet 3) := slot_disj 2 3 (by decide)
  have d1 : Disjoint (slotSet 1) (slotSet 2 ∪ slotSet 3) := Finset.disjoint_union_right.mpr ⟨slot_disj 1 2 (by decide), slot_disj 1 3 (by decide)⟩
  have d0 : Disjoint (slotSet 0) (slotSet 1 ∪ (slotSet 2 ∪ slotSet 3)) :=
    Finset.disjoint_union_right.mpr ⟨slot_disj 0 1 (by decide), Finset.disjoint_union_right.mpr ⟨slot_disj 0 2 (by decide), slot_disj 0 3 (by decide)⟩⟩
  have e : (pt c cc0_scoped0 g : sProp 𝕄) = (ringLoc c ↦[slotSet 0 ∪ (slotSet 1 ∪ (slotSet 2 ∪ slotSet 3))]{fullShare} g) :=
    congrArg (fun S => (ringLoc c ↦[S]{fullShare} g : sProp 𝕄)) hu.symm
  rw [e]
  iintro H
  ihave H0 := (pointsTo_union d0).1 $$ H
  icases H0 with ⟨H0, H⟩
  ihave H1 := (pointsTo_union d1).1 $$ H
  icases H1 with ⟨H1, H⟩
  ihave H2 := (pointsTo_union d2).1 $$ H
  icases H2 with ⟨H2, H3⟩
  isplitl [H0]; · iexact H0
  isplitl [H1]; · iexact H1
  isplitl [H2]; · iexact H2
  iexact H3

/-- The four slots, whatever they hold, are the ring at some contents. -/
theorem ring_join (n0 n1 n2 n3 : ℕ) (h0 : n0 % 4 = 0) (h1 : n1 % 4 = 1) (h2 : n2 % 4 = 2) (h3 : n3 % 4 = 3) :
    iprop((∃ g : Bf F c cc0_scoped0, slotPt c n0 g) ∗ (∃ g : Bf F c cc0_scoped0, slotPt c n1 g) ∗ (∃ g : Bf F c cc0_scoped0, slotPt c n2 g)
      ∗ (∃ g : Bf F c cc0_scoped0, slotPt c n3 g)) ⊢ (iprop(∃ g, pt c cc0_scoped0 g) : sProp 𝕄) := by
  have hu := slots_univ n0 n1 n2 n3 h0 h1 h2 h3
  have d2 : Disjoint (slotSet n2) (slotSet n3) := slot_disj n2 n3 (by omega)
  have d1 : Disjoint (slotSet n1) (slotSet n2 ∪ slotSet n3) := Finset.disjoint_union_right.mpr ⟨slot_disj n1 n2 (by omega), slot_disj n1 n3 (by omega)⟩
  have d0 : Disjoint (slotSet n0) (slotSet n1 ∪ (slotSet n2 ∪ slotSet n3)) :=
    Finset.disjoint_union_right.mpr ⟨slot_disj n0 n1 (by omega), Finset.disjoint_union_right.mpr ⟨slot_disj n0 n2 (by omega), slot_disj n0 n3 (by omega)⟩⟩
  iintro ⟨⟨%g0, H0⟩, ⟨%g1, H1⟩, ⟨%g2, H2⟩, ⟨%g3, H3⟩⟩
  ihave H := (pointsTo_join (ℓ := ringLoc c) d2) $$ [H2 H3]
  · isplitl [H2] <;> iassumption
  ihave H' := (pointsTo_join (ℓ := ringLoc c) d1) $$ [H1 H]
  · isplitl [H1] <;> iassumption
  ihave H'' := (pointsTo_join (ℓ := ringLoc c) d0) $$ [H0 H']
  · isplitl [H0] <;> iassumption
  iexists _
  iapply (Entails.of_eq (congrArg (fun S => (ringLoc c ↦[S]{fullShare} _ : sProp 𝕄)) hu)) $$ H''

/-- The weights' share in its quarters. -/
theorem w_split (fw : Bf F c main_arg1) : (pt c main_arg1 fw : sProp 𝕄)
    ⊢ iprop((wLoc c ↦{wShare 0} fw) ∗ (wLoc c ↦{wShare 1} fw) ∗ (wLoc c ↦{wShare 2} fw) ∗ (wLoc c ↦{wShare 3} fw)) := by
  iintro H
  ihave H' := (pointsTo_share (PosShare.mem_left_op_right fullShare)).1 $$ H
  icases H' with ⟨Hl, Hr⟩
  ihave Hl' := (pointsTo_share (PosShare.mem_left_op_right fullShare.left)).1 $$ Hl
  ihave Hr' := (pointsTo_share (PosShare.mem_left_op_right fullShare.right)).1 $$ Hr
  icases Hl' with ⟨H0, H1⟩
  icases Hr' with ⟨H2, H3⟩
  isplitl [H0]; · iexact H0
  isplitl [H1]; · iexact H1
  isplitl [H2]; · iexact H2
  iexact H3

theorem w_join (fw : Bf F c main_arg1) (n0 n1 n2 n3 : ℕ) (h0 : wShare n0 = fullShare.left.left) (h1 : wShare n1 = fullShare.left.right)
    (h2 : wShare n2 = fullShare.right.left) (h3 : wShare n3 = fullShare.right.right) :
    iprop((wLoc c ↦{wShare n0} fw) ∗ (wLoc c ↦{wShare n1} fw) ∗ (wLoc c ↦{wShare n2} fw) ∗ (wLoc c ↦{wShare n3} fw))
      ⊢ (pt c main_arg1 fw : sProp 𝕄) := by
  rw [h0, h1, h2, h3]
  iintro ⟨H0, H1, H2, H3⟩
  iapply (pointsTo_share (PosShare.mem_left_op_right fullShare)).2 $$ [H0 H1 H2 H3]
  isplitl [H0 H1]
  · iapply (pointsTo_share (PosShare.mem_left_op_right fullShare.left)).2 $$ [H0 H1]
    isplitl [H0] <;> iassumption
  · iapply (pointsTo_share (PosShare.mem_left_op_right fullShare.right)).2 $$ [H2 H3]
    isplitl [H2] <;> iassumption

/-- At the start every slot is free. -/
theorem free_start (fw : Bf F c main_arg1) : iprop((∃ g : Bf F c cc0_scoped0, pt c cc0_scoped0 g) ∗ pt c main_arg1 fw
      ∗ semVal ((c : Thread nD τ), SemLoc.dma 11) 0 ∗ semVal ((c : Thread nD τ), SemLoc.dma 12) 0
      ∗ semVal ((c : Thread nD τ), SemLoc.dma 13) 0 ∗ semVal ((c : Thread nD τ), SemLoc.dma 14) 0)
    ⊢ (iprop(freeSlot c fw 0 ∗ freeSlot c fw 1 ∗ freeSlot c fw 2 ∗ freeSlot c fw 3) : sProp 𝕄) := by
  unfold freeSlot
  iintro ⟨⟨%g, Hr⟩, Hw, C0, C1, C2, C3⟩
  ihave Hr' := (ring_split c g) $$ Hr
  icases Hr' with ⟨R0, R1, R2, R3⟩
  ihave Hw' := (w_split c fw) $$ Hw
  icases Hw' with ⟨W0, W1, W2, W3⟩
  isplitl [C0 R0 W0]
  · isplitl [C0]; · iexact C0
    isplitl [R0]; · iexists g; iexact R0
    iexact W0
  isplitl [C1 R1 W1]
  · isplitl [C1]; · iexact C1
    isplitl [R1]; · iexists g; iexact R1
    iexact W1
  isplitl [C2 R2 W2]
  · isplitl [C2]; · iexact C2
    isplitl [R2]; · iexists g; iexact R2
    iexact W2
  isplitl [C3]; · iexact C3
  isplitl [R3]; · iexists g; iexact R3
  iexact W3

/-- At the end every slot is free again. -/
theorem free_end (fw : Bf F c main_arg1) : iprop(freeSlot c fw 63 ∗ freeSlot c fw 64 ∗ freeSlot c fw 65 ∗ freeSlot c fw 66)
    ⊢ (iprop((∃ g : Bf F c cc0_scoped0, pt c cc0_scoped0 g) ∗ pt c main_arg1 fw
      ∗ semVal ((c : Thread nD τ), SemLoc.dma 11) 0 ∗ semVal ((c : Thread nD τ), SemLoc.dma 12) 0
      ∗ semVal ((c : Thread nD τ), SemLoc.dma 13) 0 ∗ semVal ((c : Thread nD τ), SemLoc.dma 14) 0) : sProp 𝕄) := by
  unfold freeSlot
  iintro ⟨⟨C3, R3, W3⟩, ⟨C0, R0, W0⟩, ⟨C1, R1, W1⟩, ⟨C2, R2, W2⟩⟩
  isplitl [R0 R1 R2 R3]
  · iapply (ring_join c 64 65 66 63 rfl rfl rfl rfl) $$ [R0 R1 R2 R3]
    isplitl [R0]; · iexact R0
    isplitl [R1]; · iexact R1
    isplitl [R2]; · iexact R2
    iexact R3
  isplitl [W0 W1 W2 W3]
  · iapply (w_join c fw 64 65 66 63 rfl rfl rfl rfl) $$ [W0 W1 W2 W3]
    isplitl [W0]; · iexact W0
    isplitl [W1]; · iexact W1
    isplitl [W2]; · iexact W2
    iexact W3
  isplitl [C0]; · iexact C0
  isplitl [C1]; · iexact C1
  isplitl [C2]; · iexact C2
  iexact C3

end Cert.Proof.Kernel

end
-- ==== Proof.Kernel.TripBase.lean ====
/-
  One trip of the streaming loop: common facts.
-/
module

public import proofs.«01_k».proof.Proof.Kernel.State

@[expose] public section

set_option maxRecDepth 65536

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

variable (c : Dev nD)

theorem down_in (f0 : Bf F c main_v0) (f2 : Bf F c main_arg2) (f3 : Bf F c main_arg3) (f4 : Bf F c main_arg4) (k : ℕ) :
    iprop(sideDown c 0 (by decide) cc0_scratch0 main_v0 (inX f0) f0 ∗ sideDown c 1 (by decide) cc0_scratch2 main_arg3 (inM f3) f3
    ∗ sideDown c 2 (by decide) cc0_scratch3 main_arg4 (inC f4) f4 ∗ sideDown c 3 (by decide) cc0_scratch1 main_arg2 (inS f2) f2) ⊢ (sides c (k + 1) f0 f2 f3 f4 : sProp 𝕄) := Entails.of_eq rfl
theorem smem_next (k : ℕ) (g : BitVec 32) : (Memref.whole cc0_scratch10).view.writes (Elt F) (fun _ => g)
    [⟨Rect.unit (s := S1) ![0] S1.size inb_S1_S1_0, fun _ => Scalar.addi (wd k) 1#32⟩] = fun _ => wd (k + 1) := by
  funext i
  have hi : i = ((Memref.whole cc0_scratch10).view.slice (Rect.unit (s := S1) ![0] S1.size inb_S1_S1_0)).emb (fun | ⟨0, _⟩ => (⟨0, Nat.one_pos⟩ : Fin 1)) := by
    funext a; match a with | ⟨0, _⟩ => exact Subsingleton.elim (α := Fin 1) _ _
  refine (congrArg _ hi).trans ((View.write_emb_of_mem _ _ (Finset.mem_univ _)).trans ?_)
  show Scalar.addi (wd k) 1#32 = wd (k + 1)
  show BitVec.ofNat 32 k + BitVec.ofNat 32 1 = _
  exact (BitVec.ofNat_add _ _).symm
theorem by_trip {n : ℕ} (P : Fin n → Prop) (h : ∀ k, P k) (k : Fin n) : P k := h k

theorem isFirst_not : ∀ k : Fin k0_t1_loop.trips, k.val ≠ 0 → ¬ Scalar.cmpi .ne (Scalar.extui (Scalar.cmpi .eq (wd k) 0#32) : BitVec 32) 0#32 = 1#1 := by decide +kernel
theorem sides_first (k : ℕ) (h : k = 0) (f0 : Bf F c main_v0) (f2 : Bf F c main_arg2) (f3 : Bf F c main_arg3) (f4 : Bf F c main_arg4) :
    (sides c k f0 f2 f3 f4 : sProp 𝕄) = sidesFly c f0 f2 f3 f4 := by
  subst h; rfl

end Cert.Proof.Kernel

end
-- ==== Proof.Kernel.TripMid.lean ====
/-
  One trip of the streaming loop.
-/
module

public import proofs.«01_k».proof.Proof.Kernel.TripBase

@[expose] public section

set_option maxRecDepth 65536

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

variable (c : Dev nD)

set_option pp.maxSteps 3000 in
set_option maxHeartbeats 40000000 in
theorem trip_mid (f0 : Bf F c main_v0) (f2 : Bf F c main_arg2) (f3 : Bf F c main_arg3) (f4 : Bf F c main_arg4) (fw : Bf F c main_arg1)
  (k : Fin k0_t1_loop.trips) (hk : k.val ≠ 0) (h63 : k.val + 3 < 63) (v981 v_a v_b v_d : BitVec 32) :
  (tripSt c f0 f2 f3 f4 fw k : sProp 𝕄)
  ⊢ wp frame (wpE (defs₀ (F := F)) Variants.none (c : Thread nD τ) none) Set.univ (k0_t1_body (F := F) (Memref.whole main_v0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole main_v1_6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 (Memref.whole cc0_scoped0) (Memref.isWhole_whole _) cc0_scoped1 (iota .tc S8x128 32 [1] iota_S8x128_d1_w32) v981 v_a v_b 0#32 v_d k (issued k, wd k, index k))
    (fun r => iprop(⌜r = (issued (k + 1), wd (k + 1), index (k + 1))⌝ ∗ tripSt c f0 f2 f3 f4 fw (k + 1))) := by
  have hlt : k.val < 63 := lt_of_lt_of_eq k.isLt trips_eq
  have hw2 : k0_chk2 (wd k) := chk2_of ⟨k, by omega⟩
  have hw1 := chk1_of k
  have h5 : k0_chk3 (wd k) := chk3_of ⟨k, hlt⟩
  have h4 : k0_cond4 k (index k) = 1#1 := cond4_of k
  have h3 : k0_cond3 k (index k) = 1#1 := (cond3_iff k).2 (by omega)
  have h6 : ¬ Scalar.cmpi .ne (Scalar.extui (Scalar.cmpi .eq (wd k) 0#32)) 0#32 = 1#1 := isFirst_not k hk
  unfold tripSt
  rw [role_lt c fw k hlt, sides_pos c k hk]
  unfold sidesDown
  iintro ⟨%g16, %g17, %g18, %g19, %g20, %g21, %g28, %g29, %g23, %W, %hG, H16, H17, H18, H19, H20, H21, H28, H29, H23, H22, ⟨Hs0, Hs1, Hs2, ⟨Hs3, Hs3s, Hs3c⟩⟩, Hr0, Hr1, Hr2, Hfree, HO⟩
  ihave Hf := (freeSlot_out c fw (k + 3) (k0_off9 (issued k)) (k0_off10 (issued k)) (k0_off11 (index k)) (k0_off9_inb k (issued k) (wd k) (index k) hw1 h3)
    (k0_off10_inb k (issued k) (wd k) (index k) hw1 h3) (k0_off11_inb k (issued k) (wd k) (index k) hw1 h3) (off9_eq k (by omega)) (off10_eq k (by omega))) $$ Hfree
  icases Hf with ⟨Hqc, ⟨%gq, Hqs⟩, Hqw, Hqr⟩
  sl_exec_parts
  iapply (wp_await Variants.none c none fw ⟨k, hlt⟩ W _ _ _ _ _ _ (off12_eq k) (off13_eq k)) $$ [Hr0 HO]
  · isplitl [Hr0] <;> iassumption
  iintro ⟨Hc0, Hs, Hw, %W', HO⟩
  ihave Hsl := (Entails.of_eq (slot_respell c k (k0_off15 (wd k)) (k0_off15_inb (wd k) hw2) (off15_eq k) (fill c fw k))) $$ Hs
  sl_exec_parts
  sl_step
  ihave Hs' := (Entails.of_eq (slot_respell c k (k0_off15 (wd k)) (k0_off15_inb (wd k) hw2) (off15_eq k) (fill c fw k)).symm) $$ Hsl
  ihave Hfree' := (freeSlot_of c (fw := fw) k) $$ [Hc0 Hs' Hw]
  · isplitl [Hc0]; · iexact Hc0
    isplitl [Hs']; · iexact Hs'
    iexact Hw
  ihave Hfl := (inFlight_in c fw ⟨k + 3, h63⟩ gq _ _ _ (k0_off9_inb k (issued k) (wd k) (index k) hw1 h3)
    (k0_off10_inb k (issued k) (wd k) (index k) hw1 h3) (k0_off11_inb k (issued k) (wd k) (index k) hw1 h3) (off9_eq k (by omega)) (off10_eq k (by omega)) (off11_eq k (by omega)) _ rfl) $$ [Hqc Hqr]
  · isplitl [Hqc]; · iexact Hqc
    iexact Hqr
  ihave Hnew := (Entails.of_eq (role_lt c fw (k + 3) h63).symm) $$ Hfl
  ihave Hsides := (down_in c f0 f2 f3 f4 k) $$ [Hs0 Hs1 Hs2 Hs3 Hs3s Hs3c]
  · isplitl [Hs0]; · iexact Hs0
    isplitl [Hs1]; · iexact Hs1
    isplitl [Hs2]; · iexact Hs2
    isplitl [Hs3]; · iexact Hs3
    isplitl [Hs3s]; · iexact Hs3s
    iexact Hs3c

  isplitr [H16 H17 H18 H19 H20 H21 H28 H29 H23 H22 Hsides Hr1 Hr2 Hnew Hfree' HO]
  · ipureintro
    have key : ∀ k : Fin k0_t1_loop.trips, (trip_mid.sl.v1051_r0 k, Scalar.select (Scalar.ori (Scalar.cmpi .ne (trip_mid.sl.v1016_r0 k) (trip_mid.sl.v1026_r0 k)) (trip_mid.sl.v1015_r0 k))
          (Scalar.addi (wd k) 1#32) (wd k), Scalar.select (Scalar.cmpi .eq (Scalar.select (1#1) (Scalar.addi (index k) 1#32) (index k)) 63#32) (0#32)
          (Scalar.select (1#1) (Scalar.addi (index k) 1#32) (index k))) = (issued (k + 1), wd (k + 1), index (k + 1)) := by decide +kernel
    exact key k
  iexists _, _, _, _, _, _, _, _, _, _
  isplitr
  rotate_left
  · isplitl [H16]; · iexact H16
    isplitl [H17]; · iexact H17
    isplitl [H18]; · iexact H18
    isplitl [H19]; · iexact H19
    isplitl [H20]; · iexact H20
    isplitl [H21]; · iexact H21
    isplitl [H28]; · iexact H28
    isplitl [H29]; · iexact H29
    isplitl [H23]; · iexact H23
    isplitl [H22]
    · iapply (Entails.of_eq (congrArg (pt c cc0_scratch10) (show (Memref.whole cc0_scratch10).view.writes (Elt F) (fun _ => wd k) (trip_mid.sl.H22_1 c k) = fun _ => wd (k + 1) from smem_next k (wd k)))) $$ H22
    isplitl [Hsides]; · iexact Hsides
    isplitl [Hr1]; · iexact Hr1
    isplitl [Hr2]; · iexact Hr2
    isplitl [Hnew]; · iexact Hnew
    isplitl [Hfree']; · iexact Hfree'
    iexact HO
  · ipureintro
    trivial

end Cert.Proof.Kernel

end
-- ==== Proof.Kernel.TripFirst.lean ====
/-
  One trip of the streaming loop.
-/
module

public import proofs.«01_k».proof.Proof.Kernel.TripBase

@[expose] public section

set_option maxRecDepth 65536

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

variable (c : Dev nD)

set_option pp.maxSteps 3000 in
set_option maxHeartbeats 40000000 in
theorem trip_first (f0 : Bf F c main_v0) (f2 : Bf F c main_arg2) (f3 : Bf F c main_arg3) (f4 : Bf F c main_arg4) (fw : Bf F c main_arg1)
  (k : Fin k0_t1_loop.trips) (hk : k.val = 0) (h63 : k.val + 3 < 63) (v981 v_a v_b v_d : BitVec 32) :
  (tripSt c f0 f2 f3 f4 fw k : sProp 𝕄)
  ⊢ wp frame (wpE (defs₀ (F := F)) Variants.none (c : Thread nD τ) none) Set.univ (k0_t1_body (F := F) (Memref.whole main_v0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole main_v1_6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 (Memref.whole cc0_scoped0) (Memref.isWhole_whole _) cc0_scoped1 (iota .tc S8x128 32 [1] iota_S8x128_d1_w32) v981 v_a v_b 0#32 v_d k (issued k, wd k, index k))
    (fun r => iprop(⌜r = (issued (k + 1), wd (k + 1), index (k + 1))⌝ ∗ tripSt c f0 f2 f3 f4 fw (k + 1))) := by
  have hlt : k.val < 63 := lt_of_lt_of_eq k.isLt trips_eq
  have hw2 : k0_chk2 (wd k) := chk2_of ⟨k, by omega⟩
  have hw1 := chk1_of k
  have h5 : k0_chk3 (wd k) := chk3_of ⟨k, hlt⟩
  have h4 : k0_cond4 k (index k) = 1#1 := cond4_of k
  have h3 : k0_cond3 k (index k) = 1#1 := (cond3_iff k).2 (by omega)
  have h6 : Scalar.cmpi .ne (Scalar.extui (Scalar.cmpi .eq (wd k) 0#32)) 0#32 = 1#1 := by rw [hk]; decide
  unfold tripSt
  rw [role_lt c fw k hlt, sides_first c k hk]
  unfold sidesFly
  iintro ⟨%g16, %g17, %g18, %g19, %g20, %g21, %g28, %g29, %g23, %W, %hG, H16, H17, H18, H19, H20, H21, H28, H29, H23, H22, ⟨Hs0, Hs1, Hs2, Hs3⟩, Hr0, Hr1, Hr2, Hfree, HO⟩
  ihave Hf := (freeSlot_out c fw (k + 3) (k0_off9 (issued k)) (k0_off10 (issued k)) (k0_off11 (index k)) (k0_off9_inb k (issued k) (wd k) (index k) hw1 h3)
    (k0_off10_inb k (issued k) (wd k) (index k) hw1 h3) (k0_off11_inb k (issued k) (wd k) (index k) hw1 h3) (off9_eq k (by omega)) (off10_eq k (by omega))) $$ Hfree
  icases Hf with ⟨Hqc, ⟨%gq, Hqs⟩, Hqw, Hqr⟩
  sl_exec_parts
  iapply (wp_await Variants.none c none fw ⟨k, hlt⟩ W _ _ _ _ _ _ (off12_eq k) (off13_eq k)) $$ [Hr0 HO]
  · isplitl [Hr0] <;> iassumption
  iintro ⟨Hc0, Hs, Hw, %W', HO⟩
  ihave Hsl := (Entails.of_eq (slot_respell c k (k0_off15 (wd k)) (k0_off15_inb (wd k) hw2) (off15_eq k) (fill c fw k))) $$ Hs
  sl_exec_parts
  sl_step
  ihave Hs' := (Entails.of_eq (slot_respell c k (k0_off15 (wd k)) (k0_off15_inb (wd k) hw2) (off15_eq k) (fill c fw k)).symm) $$ Hsl
  ihave Hfree' := (freeSlot_of c (fw := fw) k) $$ [Hc0 Hs' Hw]
  · isplitl [Hc0]; · iexact Hc0
    isplitl [Hs']; · iexact Hs'
    iexact Hw
  ihave Hfl := (inFlight_in c fw ⟨k + 3, h63⟩ gq _ _ _ (k0_off9_inb k (issued k) (wd k) (index k) hw1 h3)
    (k0_off10_inb k (issued k) (wd k) (index k) hw1 h3) (k0_off11_inb k (issued k) (wd k) (index k) hw1 h3) (off9_eq k (by omega)) (off10_eq k (by omega)) (off11_eq k (by omega)) _ rfl) $$ [Hqc Hqr]
  · isplitl [Hqc]; · iexact Hqc
    iexact Hqr
  ihave Hnew := (Entails.of_eq (role_lt c fw (k + 3) h63).symm) $$ Hfl
  ihave Hsides := (down_in c f0 f2 f3 f4 k) $$ [Hs0 Hs0_src Hs0_dst Hs1 Hs1_src Hs1_dst Hs2 Hs2_src Hs2_dst Hs3 Hs3_src Hs3_dst]
  · isplitl [Hs0 Hs0_src Hs0_dst]
    · isplitl [Hs0_dst]; · iexact Hs0_dst
      isplitl [Hs0_src]; · iexact Hs0_src
      iexact Hs0
    isplitl [Hs1 Hs1_src Hs1_dst]
    · isplitl [Hs1_dst]; · iexact Hs1_dst
      isplitl [Hs1_src]; · iexact Hs1_src
      iexact Hs1
    isplitl [Hs2 Hs2_src Hs2_dst]
    · isplitl [Hs2_dst]; · iexact Hs2_dst
      isplitl [Hs2_src]; · iexact Hs2_src
      iexact Hs2
    isplitl [Hs3_dst]; · iexact Hs3_dst
    isplitl [Hs3_src]; · iexact Hs3_src
    iexact Hs3

  isplitr [H16 H17 H18 H19 H20 H21 H28 H29 H23 H22 Hsides Hr1 Hr2 Hnew Hfree' HO]
  · ipureintro
    have key : ∀ k : Fin k0_t1_loop.trips, (trip_first.sl.v1051_r0 k, Scalar.select (Scalar.ori (Scalar.cmpi .ne (trip_first.sl.v1016_r0 k) (trip_first.sl.v1026_r0 k)) (trip_first.sl.v1015_r0 k))
          (Scalar.addi (wd k) 1#32) (wd k), Scalar.select (Scalar.cmpi .eq (Scalar.select (1#1) (Scalar.addi (index k) 1#32) (index k)) 63#32) (0#32)
          (Scalar.select (1#1) (Scalar.addi (index k) 1#32) (index k))) = (issued (k + 1), wd (k + 1), index (k + 1)) := by decide +kernel
    exact key k
  iexists _, _, _, _, _, _, _, _, _, _
  isplitr
  rotate_left
  · isplitl [H16]; · iexact H16
    isplitl [H17]; · iexact H17
    isplitl [H18]; · iexact H18
    isplitl [H19]; · iexact H19
    isplitl [H20]; · iexact H20
    isplitl [H21]; · iexact H21
    isplitl [H28]; · iexact H28
    isplitl [H29]; · iexact H29
    isplitl [H23]; · iexact H23
    isplitl [H22]
    · iapply (Entails.of_eq (congrArg (pt c cc0_scratch10) (show (Memref.whole cc0_scratch10).view.writes (Elt F) (fun _ => wd k) (trip_first.sl.H22_1 c k) = fun _ => wd (k + 1) from smem_next k (wd k)))) $$ H22
    isplitl [Hsides]; · iexact Hsides
    isplitl [Hr1]; · iexact Hr1
    isplitl [Hr2]; · iexact Hr2
    isplitl [Hnew]; · iexact Hnew
    isplitl [Hfree']; · iexact Hfree'
    iexact HO
  · ipureintro
    trivial

end Cert.Proof.Kernel

end
-- ==== Proof.Kernel.TripLast.lean ====
/-
  One trip of the streaming loop.
-/
module

public import proofs.«01_k».proof.Proof.Kernel.TripBase

@[expose] public section

set_option maxRecDepth 65536

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

variable (c : Dev nD)

set_option pp.maxSteps 3000 in
set_option maxHeartbeats 40000000 in
theorem trip_last (f0 : Bf F c main_v0) (f2 : Bf F c main_arg2) (f3 : Bf F c main_arg3) (f4 : Bf F c main_arg4) (fw : Bf F c main_arg1)
  (k : Fin k0_t1_loop.trips) (hk : k.val ≠ 0) (h63 : ¬ k.val + 3 < 63) (v981 v_a v_b v_d : BitVec 32) :
  (tripSt c f0 f2 f3 f4 fw k : sProp 𝕄)
  ⊢ wp frame (wpE (defs₀ (F := F)) Variants.none (c : Thread nD τ) none) Set.univ (k0_t1_body (F := F) (Memref.whole main_v0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole main_v1_6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 (Memref.whole cc0_scoped0) (Memref.isWhole_whole _) cc0_scoped1 (iota .tc S8x128 32 [1] iota_S8x128_d1_w32) v981 v_a v_b 0#32 v_d k (issued k, wd k, index k))
    (fun r => iprop(⌜r = (issued (k + 1), wd (k + 1), index (k + 1))⌝ ∗ tripSt c f0 f2 f3 f4 fw (k + 1))) := by
  have hlt : k.val < 63 := lt_of_lt_of_eq k.isLt trips_eq
  have hw2 : k0_chk2 (wd k) := chk2_of ⟨k, by omega⟩
  have hw1 := chk1_of k
  have h5 : k0_chk3 (wd k) := chk3_of ⟨k, hlt⟩
  have h4 : k0_cond4 k (index k) = 1#1 := cond4_of k
  have h3 : ¬ k0_cond3 k (index k) = 1#1 := fun h => by have := (cond3_iff k).1 h; omega
  have h6 : ¬ Scalar.cmpi .ne (Scalar.extui (Scalar.cmpi .eq (wd k) 0#32)) 0#32 = 1#1 := isFirst_not k hk
  unfold tripSt
  rw [role_lt c fw k hlt, sides_pos c k hk]
  unfold sidesDown
  iintro ⟨%g16, %g17, %g18, %g19, %g20, %g21, %g28, %g29, %g23, %W, %hG, H16, H17, H18, H19, H20, H21, H28, H29, H23, H22, ⟨Hs0, Hs1, Hs2, ⟨Hs3, Hs3s, Hs3c⟩⟩, Hr0, Hr1, Hr2, Hfree, HO⟩
  sl_exec_parts
  iapply (wp_await Variants.none c none fw ⟨k, hlt⟩ W _ _ _ _ _ _ (off12_eq k) (off13_eq k)) $$ [Hr0 HO]
  · isplitl [Hr0] <;> iassumption
  iintro ⟨Hc0, Hs, Hw, %W', HO⟩
  ihave Hsl := (Entails.of_eq (slot_respell c k (k0_off15 (wd k)) (k0_off15_inb (wd k) hw2) (off15_eq k) (fill c fw k))) $$ Hs
  sl_exec_parts
  sl_step
  ihave Hs' := (Entails.of_eq (slot_respell c k (k0_off15 (wd k)) (k0_off15_inb (wd k) hw2) (off15_eq k) (fill c fw k)).symm) $$ Hsl
  ihave Hfree' := (freeSlot_of c (fw := fw) k) $$ [Hc0 Hs' Hw]
  · isplitl [Hc0]; · iexact Hc0
    isplitl [Hs']; · iexact Hs'
    iexact Hw
  ihave Hnew := (Entails.of_eq (role_ge c fw (k + 3) (by omega)).symm) $$ Hfree
  ihave Hsides := (down_in c f0 f2 f3 f4 k) $$ [Hs0 Hs1 Hs2 Hs3 Hs3s Hs3c]
  · isplitl [Hs0]; · iexact Hs0
    isplitl [Hs1]; · iexact Hs1
    isplitl [Hs2]; · iexact Hs2
    isplitl [Hs3]; · iexact Hs3
    isplitl [Hs3s]; · iexact Hs3s
    iexact Hs3c

  isplitr [H16 H17 H18 H19 H20 H21 H28 H29 H23 H22 Hsides Hr1 Hr2 Hnew Hfree' HO]
  · ipureintro
    have key : ∀ k : Fin k0_t1_loop.trips, (trip_last.sl.v1051_r0 k, Scalar.select (Scalar.ori (Scalar.cmpi .ne (trip_last.sl.v1016_r0 k) (trip_last.sl.v1026_r0 k)) (trip_last.sl.v1015_r0 k))
          (Scalar.addi (wd k) 1#32) (wd k), Scalar.select (Scalar.cmpi .eq (Scalar.select (1#1) (Scalar.addi (index k) 1#32) (index k)) 63#32) (0#32)
          (Scalar.select (1#1) (Scalar.addi (index k) 1#32) (index k))) = (issued (k + 1), wd (k + 1), index (k + 1)) := by decide +kernel
    exact key k
  iexists _, _, _, _, _, _, _, _, _, _
  isplitr
  rotate_left
  · isplitl [H16]; · iexact H16
    isplitl [H17]; · iexact H17
    isplitl [H18]; · iexact H18
    isplitl [H19]; · iexact H19
    isplitl [H20]; · iexact H20
    isplitl [H21]; · iexact H21
    isplitl [H28]; · iexact H28
    isplitl [H29]; · iexact H29
    isplitl [H23]; · iexact H23
    isplitl [H22]
    · iapply (Entails.of_eq (congrArg (pt c cc0_scratch10) (show (Memref.whole cc0_scratch10).view.writes (Elt F) (fun _ => wd k) (trip_last.sl.H22_1 c k) = fun _ => wd (k + 1) from smem_next k (wd k)))) $$ H22
    isplitl [Hsides]; · iexact Hsides
    isplitl [Hr1]; · iexact Hr1
    isplitl [Hr2]; · iexact Hr2
    isplitl [Hnew]; · iexact Hnew
    isplitl [Hfree']; · iexact Hfree'
    iexact HO
  · ipureintro
    trivial

end Cert.Proof.Kernel

end
-- ==== Proof.Kernel.Run.lean ====
/-
  The whole kernel.
-/
module

public import proofs.«01_k».proof.Proof.Kernel.Parts
public import proofs.«01_k».proof.Proof.Kernel.TripMid
public import proofs.«01_k».proof.Proof.Kernel.TripFirst
public import proofs.«01_k».proof.Proof.Kernel.TripLast

@[expose] public section

set_option maxRecDepth 65536

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

variable (c : Dev nD)

/-- The contents of a whole transfer's destination are those of its source. -/
theorem fly_in (j N : ℕ) (hj : j < 15) (dst src : Ref sig .tc) (g h : Bf F c dst) (f : Bf F c src) (e : ∀ i, h i = g i) :
    (Transfers.Flight (countersEmb (U := UU nD τ)) (c : Thread nD τ) (SemLoc.dma ⟨j, hj⟩) () N
      iprop(pt c dst h ∗ ((Memref.whole src).view.loc (c : Thread nD τ) ↦[(Memref.whole src).view.set]{fullShare} f)) : sProp 𝕄) ⊢ sideFlight c j N hj dst src g f := by
  rw [show h = g from funext e]

/-- What the claimed results hold at the end. -/
def Res (c : Dev nD) (f0 : Bf F c main_v0) (f2 : Bf F c main_arg2) (f3 : Bf F c main_arg3) (fw : Bf F c main_arg1)
    (r5 : Bf F c main_v1_0) (r10 : Bf F c main_v1_5) (r11 : Bf F c main_v1_6) : Prop :=
  ∃ (g16 : Bf F c cc0_scratch4) (g17 : Bf F c cc0_scratch5) (g18 : Bf F c cc0_scratch6) (g28 : Bf F c cc0_scratch16) (g29 : Bf F c cc0_scratch17)
    (g23 : Bf F c cc0_scratch11), Good c 63 f0 f2 f3 fw g16 g17 g18 g28 g29 g23 ∧ (r5 = fun i => g23 i) ∧ (r10 = fun i => g28 i) ∧ (r11 = fun i => g29 i)

/-- The state after the kernel. -/
def Post (c : Dev nD) (f0 : Bf F c main_v0) (f2 : Bf F c main_arg2) (f3 : Bf F c main_arg3) (f4 : Bf F c main_arg4) (fw : Bf F c main_arg1) : sProp 𝕄 :=
  iprop((pt c main_v0 f0 ∗ pt c main_arg1 fw ∗ pt c main_arg2 f2 ∗ pt c main_arg3 f3 ∗ pt c main_arg4 f4) ∗ (∃ (r5 : Bf F c main_v1_0) (r6 : Bf F c main_v1_1) (r7 : Bf F c main_v1_2) (r8 : Bf F c main_v1_3) (r9 : Bf F c main_v1_4) (r10 : Bf F c main_v1_5) (r11 : Bf F c main_v1_6),
      ⌜Res c f0 f2 f3 fw r5 r10 r11⌝ ∗ pt c main_v1_0 r5 ∗ pt c main_v1_1 r6 ∗ pt c main_v1_2 r7 ∗ pt c main_v1_3 r8 ∗ pt c main_v1_4 r9 ∗ pt c main_v1_5 r10 ∗ pt c main_v1_6 r11)
    ∗ ((∃ f, pt c cc0_scratch0 f) ∗ (∃ f, pt c cc0_scratch1 f) ∗ (∃ f, pt c cc0_scratch2 f) ∗ (∃ f, pt c cc0_scratch3 f) ∗ (∃ f, pt c cc0_scratch4 f) ∗ (∃ f, pt c cc0_scratch5 f) ∗ (∃ f, pt c cc0_scratch6 f) ∗ (∃ f, pt c cc0_scratch7 f) ∗ (∃ f, pt c cc0_scratch8 f) ∗ (∃ f, pt c cc0_scratch9 f) ∗ (∃ f, pt c cc0_scratch10 f) ∗ (∃ f, pt c cc0_scratch11 f) ∗ (∃ f, pt c cc0_scratch12 f) ∗ (∃ f, pt c cc0_scratch13 f) ∗ (∃ f, pt c cc0_scratch14 f) ∗ (∃ f, pt c cc0_scratch15 f) ∗ (∃ f, pt c cc0_scratch16 f) ∗ (∃ f, pt c cc0_scratch17 f)) ∗ (∃ g, pt c cc0_scoped0 g) ∗ (semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0) ∗ (∃ W', owes (c : Thread nD τ) 0 W'))

/-- An array read by a whole transfer, whole again. -/
theorem side_back (j : ℕ) (hj : j < 15) (dst src : Ref sig .tc) (g : Bf F c dst) (f : Bf F c src) :
    iprop(sideDown c j hj dst src g f ∗ ((Memref.whole src).view.loc (c : Thread nD τ) ↦[Finset.univ \ (Memref.whole src).view.set]{fullShare} f))
      ⊢ (iprop(pt c dst g ∗ pt c src f ∗ semVal ((c : Thread nD τ), SemLoc.dma ⟨j, hj⟩) 0) : sProp 𝕄) := by
  iintro ⟨⟨Hd, Hs, Hc⟩, Hr⟩
  isplitl [Hd]; · iexact Hd
  isplitl [Hs Hr]
  · iapply (pointsTo_split_subset (Finset.subset_univ (Memref.whole src).view.set)).2 $$ [Hs Hr]
    isplitl [Hs] <;> iassumption
  iexact Hc

theorem smem_zero {c : Dev nD} (g : Bf F c cc0_scratch10) : (Memref.whole cc0_scratch10).view.writes (Elt F) g
    [⟨Rect.unit (s := S1) ![0] S1.size inb_S1_S1_0, fun _ => (0#32 : BitVec 32)⟩] = fun _ => wd 0 := by
  funext i
  have hi : i = ((Memref.whole cc0_scratch10).view.slice (Rect.unit (s := S1) ![0] S1.size inb_S1_S1_0)).emb (fun | ⟨0, _⟩ => (⟨0, Nat.one_pos⟩ : Fin 1)) := by
    funext a; match a with | ⟨0, _⟩ => exact Subsingleton.elim (α := Fin 1) _ _
  exact (congrArg _ hi).trans (View.write_emb_of_mem _ _ (Finset.mem_univ _))

/-- One trip, whichever it is. -/
theorem trip (f0 : Bf F c main_v0) (f2 : Bf F c main_arg2) (f3 : Bf F c main_arg3) (f4 : Bf F c main_arg4) (fw : Bf F c main_arg1)
  (k : Fin k0_t1_loop.trips) (v981 v_a v_b v_d : BitVec 32) :
  (tripSt c f0 f2 f3 f4 fw k : sProp 𝕄)
  ⊢ wp frame (wpE (defs₀ (F := F)) Variants.none (c : Thread nD τ) none) Set.univ (k0_t1_body (F := F) (Memref.whole main_v0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole main_v1_6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 (Memref.whole cc0_scoped0) (Memref.isWhole_whole _) cc0_scoped1 (iota .tc S8x128 32 [1] iota_S8x128_d1_w32) v981 v_a v_b 0#32 v_d k (issued k, wd k, index k))
    (fun r => iprop(⌜r = (issued (k + 1), wd (k + 1), index (k + 1))⌝ ∗ tripSt c f0 f2 f3 f4 fw (k + 1))) := by
  by_cases hk : k.val = 0
  · exact trip_first c f0 f2 f3 f4 fw k hk (by omega) v981 v_a v_b v_d
  by_cases h63 : k.val + 3 < 63
  · exact trip_mid c f0 f2 f3 f4 fw k hk h63 v981 v_a v_b v_d
  · exact trip_last c f0 f2 f3 f4 fw k hk h63 v981 v_a v_b v_d

def inv (f0 : Bf F c main_v0) (f2 : Bf F c main_arg2) (f3 : Bf F c main_arg3) (f4 : Bf F c main_arg4) (fw : Bf F c main_arg1)
    (k : ℕ) (a : BitVec 32 × BitVec 32 × BitVec 32) : sProp 𝕄 :=
  iprop(⌜a = (issued k, wd k, index k)⌝ ∗ tripSt c f0 f2 f3 f4 fw k)

theorem trips63 : k0_t1_loop.trips = 63 := trips_eq
theorem inv_end (f0 : Bf F c main_v0) (f2 : Bf F c main_arg2) (f3 : Bf F c main_arg3) (f4 : Bf F c main_arg4) (fw : Bf F c main_arg1)
    (a : BitVec 32 × BitVec 32 × BitVec 32) : inv c f0 f2 f3 f4 fw k0_t1_loop.trips a ⊢ (tripSt c f0 f2 f3 f4 fw 63 : sProp 𝕄) := by
  unfold inv
  rw [trips63]
  iintro ⟨-, H⟩
  iexact H

set_option pp.maxSteps 3000 in
set_option maxHeartbeats 2000000 in
theorem kernel_run (f0 : Bf F c main_v0) (f2 : Bf F c main_arg2) (f3 : Bf F c main_arg3) (f4 : Bf F c main_arg4) (fw : Bf F c main_arg1)
  (W : Waits sig Unit) (K : PUnit → sProp (MT nD τ sig Unit (Elt F) ℕ (UU nD τ) ℕ)) :
  iprop((pt c main_v0 f0 ∗ pt c main_arg1 fw ∗ pt c main_arg2 f2 ∗ pt c main_arg3 f3 ∗ pt c main_arg4 f4) ∗ ((∃ f, pt c main_v1_0 f) ∗ (∃ f, pt c main_v1_1 f) ∗ (∃ f, pt c main_v1_2 f) ∗ (∃ f, pt c main_v1_3 f) ∗ (∃ f, pt c main_v1_4 f) ∗ (∃ f, pt c main_v1_5 f) ∗ (∃ f, pt c main_v1_6 f)) ∗ ((∃ f, pt c cc0_scratch0 f) ∗ (∃ f, pt c cc0_scratch1 f) ∗ (∃ f, pt c cc0_scratch2 f) ∗ (∃ f, pt c cc0_scratch3 f) ∗ (∃ f, pt c cc0_scratch4 f) ∗ (∃ f, pt c cc0_scratch5 f) ∗ (∃ f, pt c cc0_scratch6 f) ∗ (∃ f, pt c cc0_scratch7 f) ∗ (∃ f, pt c cc0_scratch8 f) ∗ (∃ f, pt c cc0_scratch9 f) ∗ (∃ f, pt c cc0_scratch10 f) ∗ (∃ f, pt c cc0_scratch11 f) ∗ (∃ f, pt c cc0_scratch12 f) ∗ (∃ f, pt c cc0_scratch13 f) ∗ (∃ f, pt c cc0_scratch14 f) ∗ (∃ f, pt c cc0_scratch15 f) ∗ (∃ f, pt c cc0_scratch16 f) ∗ (∃ f, pt c cc0_scratch17 f)) ∗ (∃ g, pt c cc0_scoped0 g) ∗ (semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0) ∗ owes (c : Thread nD τ) 0 W ∗ (Post c f0 f2 f3 f4 fw -∗ K ⟨⟩))
  ⊢ wp frame (wpE (defs₀ (F := F)) Variants.none (c : Thread nD τ) none) Set.univ (cc0_lm_head (F := F) (Memref.whole main_v0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole main_v1_6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 (Memref.whole cc0_scoped0) (Memref.isWhole_whole _) cc0_scoped1) K := by
  have k0_h1 : k0_cond1 = 1#1 := by decide +kernel
  have k0_h2 : k0_cond2 = 1#1 := by decide +kernel
  rw [cc0_lm_head_eq_skeleton]
  unfold cc0_lm_head_skel
  iintro ⟨⟨H0, Hw, H2, H3, H4⟩, ⟨⟨%r5, R5⟩, ⟨%r6, R6⟩, ⟨%r7, R7⟩, ⟨%r8, R8⟩, ⟨%r9, R9⟩, ⟨%r10, R10⟩, ⟨%r11, R11⟩⟩, ⟨⟨%g12, S12⟩, ⟨%g13, S13⟩, ⟨%g14, S14⟩, ⟨%g15, S15⟩, ⟨%g16, S16⟩, ⟨%g17, S17⟩, ⟨%g18, S18⟩, ⟨%g19, S19⟩, ⟨%g20, S20⟩, ⟨%g21, S21⟩, ⟨%g22, S22⟩, ⟨%g23, S23⟩, ⟨%g24, S24⟩, ⟨%g25, S25⟩, ⟨%g26, S26⟩, ⟨%g27, S27⟩, ⟨%g28, S28⟩, ⟨%g29, S29⟩⟩, Hring, ⟨C0, C1, C2, C3, C4, C5, C6, C7, C8, C9, C10, C11, C12, C13, C14⟩, HO, HK⟩
  ihave Hfr := (free_start c fw) $$ [Hring Hw C11 C12 C13 C14]
  · isplitl [Hring]; · iexact Hring
    isplitl [Hw]; · iexact Hw
    isplitl [C11]; · iexact C11
    isplitl [C12]; · iexact C12
    isplitl [C13]; · iexact C13
    iexact C14
  icases Hfr with ⟨F0, F1, F2, F3⟩
  sl_exec_parts
  iapply (wp_issue Variants.none c none fw ⟨0, by decide⟩ k0_off1 k0_off2 ![0, 0] k0_off1_inb k0_off2_inb inb_S7168x32256_S7168x512_0_0 k0_off1_eq k0_off2_eq rfl) $$ F0
  iintro N0
  sl_exec_parts
  iapply (wp_issue Variants.none c none fw ⟨1, by decide⟩ k0_off3 k0_off4 k0_off5 (k0_off3_inb k0_h1) (k0_off4_inb k0_h1) (k0_off5_inb k0_h1) k0_off3_eq k0_off4_eq k0_off5_eq) $$ F1
  iintro N1
  sl_exec_parts
  iapply (wp_issue Variants.none c none fw ⟨2, by decide⟩ k0_off6 k0_off7 k0_off8 (k0_off6_inb k0_h2) (k0_off7_inb k0_h2) (k0_off8_inb k0_h2) k0_off6_eq k0_off7_eq k0_off8_eq) $$ F2
  iintro N2
  sl_exec_parts
  ihave X0 := (fly_in c 0 1344 _ cc0_scratch0 main_v0 (inX f0) _ f0 (fun i => View.write_emb_of_mem _ _ (Finset.mem_univ (α := S3x7168.Idx) i))) $$ C0
  ihave X1 := (fly_in c 1 384 _ cc0_scratch2 main_arg3 (inM f3) _ f3 (fun i => View.write_emb_of_mem _ _ (Finset.mem_univ (α := S3x1008.Idx) i))) $$ C1
  ihave X2 := (fly_in c 2 48 _ cc0_scratch3 main_arg4 (inC f4) _ f4 (fun i => View.write_emb_of_mem _ _ (Finset.mem_univ (α := S3x1x40.Idx) i))) $$ C2
  ihave X3 := (fly_in c 3 4032 _ cc0_scratch1 main_arg2 (inS f2) _ f2 (fun i => View.write_emb_of_mem _ _ (Finset.mem_univ (α := S32256.Idx) i))) $$ C3
  sl_for (inv c f0 f2 f3 f4 fw) $$ [S16 S17 S18 S19 S20 S21 S28 S29 S23 S22 X0 X1 X2 X3 N0 N1 N2 F3 HO]
  case region =>
    intro k a
    unfold inv
    iintro ⟨%ha, H⟩
    subst ha
    iapply (trip c f0 f2 f3 f4 fw k _ _ _ _) $$ H
  · unfold inv tripSt sides sidesFly
    isplitr
    · ipureintro; decide
    iexists g16, g17, g18, g19, g20, g21, g28, g29, g23, W
    isplitr; · ipureintro; trivial
    isplitl [S16]; · iexact S16
    isplitl [S17]; · iexact S17
    isplitl [S18]; · iexact S18
    isplitl [S19]; · iexact S19
    isplitl [S20]; · iexact S20
    isplitl [S21]; · iexact S21
    isplitl [S28]; · iexact S28
    isplitl [S29]; · iexact S29
    isplitl [S23]; · iexact S23
    isplitl [S22]
    · iapply (Entails.of_eq (congrArg (pt c cc0_scratch10) (show (Memref.whole cc0_scratch10).view.writes (Elt F) (Memref.whole cc0_scratch10).view.junk kernel_run.sl.S22_1 = fun _ => wd 0 from smem_zero (c := c) _))) $$ S22
    isplitl [X0 X1 X2 X3]
    · isplitl [X0]; · iexact X0
      isplitl [X1]; · iexact X1
      isplitl [X2]; · iexact X2
      iexact X3
    isplitl [N0]; · iapply (Entails.of_eq (role_lt c fw 0 _).symm) $$ N0
    isplitl [N1]; · iapply (Entails.of_eq (role_lt c fw 1 _).symm) $$ N1
    isplitl [N2]; · iapply (Entails.of_eq (role_lt c fw 2 _).symm) $$ N2
    isplitl [F3]; · iexact F3
    iexact HO
  iintro %a HI
  ihave HT := (inv_end c f0 f2 f3 f4 fw a) $$ HI
  unfold tripSt
  icases HT with ⟨%k16, %k17, %k18, %k19, %k20, %k21, %k28, %k29, %k23, %WW, %hG, S16, S17, S18, S19, S20, S21, S28, S29, S23, S22, Hsides, N0, N1, N2, F3, HO⟩
  sl_exec_parts
  sl_step
  ihave M0 := (Entails.of_eq (role_ge c fw 63 (by decide))) $$ N0
  ihave M1 := (Entails.of_eq (role_ge c fw 64 (by decide))) $$ N1
  ihave M2 := (Entails.of_eq (role_ge c fw 65 (by decide))) $$ N2
  ihave HE := (free_end c fw) $$ [M0 M1 M2 F3]
  · isplitl [M0]; · iexact M0
    isplitl [M1]; · iexact M1
    isplitl [M2]; · iexact M2
    iexact F3
  icases HE with ⟨Hring, Hw, C11, C12, C13, C14⟩
  ihave HD := (Entails.of_eq (sides_pos c 63 (by decide) f0 f2 f3 f4)) $$ Hsides
  unfold sidesDown
  icases HD with ⟨D0, D1, D2, D3⟩
  ihave E0 := (side_back c 0 (by decide) cc0_scratch0 main_v0 (inX f0) f0) $$ [D0 H0]
  · isplitl [D0]; · iexact D0
    iexact H0
  ihave E1 := (side_back c 1 (by decide) cc0_scratch2 main_arg3 (inM f3) f3) $$ [D1 H3]
  · isplitl [D1]; · iexact D1
    iexact H3
  ihave E2 := (side_back c 2 (by decide) cc0_scratch3 main_arg4 (inC f4) f4) $$ [D2 H4]
  · isplitl [D2]; · iexact D2
    iexact H4
  ihave E3 := (side_back c 3 (by decide) cc0_scratch1 main_arg2 (inS f2) f2) $$ [D3 H2]
  · isplitl [D3]; · iexact D3
    iexact H2
  icases E0 with ⟨S12, H0, C0⟩
  icases E1 with ⟨S14, H3, C1⟩
  icases E2 with ⟨S15, H4, C2⟩
  icases E3 with ⟨S13, H2, C3⟩
  iapply HK
  unfold Post
  isplitl [H0 Hw H2 H3 H4]
  · isplitl [H0]; · iexact H0
    isplitl [Hw]; · iexact Hw
    isplitl [H2]; · iexact H2
    isplitl [H3]; · iexact H3
    iexact H4
  isplitl [R5 R6 R7 R8 R9 R10 R11]
  · iexists _, _, _, _, _, _, _
    isplitr
    rotate_left
    · isplitl [R5]; · iexact R5
      isplitl [R6]; · iexact R6
      isplitl [R7]; · iexact R7
      isplitl [R8]; · iexact R8
      isplitl [R9]; · iexact R9
      isplitl [R10]; · iexact R10
      iexact R11
    · ipureintro
      exact ⟨k16, k17, k18, k28, k29, k23, hG, funext fun i => View.write_emb_of_mem _ _ (Finset.mem_univ (α := S3x1x32256.Idx) i),
        funext fun i => View.write_emb_of_mem _ _ (Finset.mem_univ (α := S3x7168.Idx) i), funext fun i => View.write_emb_of_mem _ _ (Finset.mem_univ (α := S1x3.Idx) i)⟩
  isplitl [S12 S13 S14 S15 S16 S17 S18 S19 S20 S21 S22 S23 S24 S25 S26 S27 S28 S29]
  · isplitl [S12]; · iexists _; iexact S12
    isplitl [S13]; · iexists _; iexact S13
    isplitl [S14]; · iexists _; iexact S14
    isplitl [S15]; · iexists _; iexact S15
    isplitl [S16]; · iexists _; iexact S16
    isplitl [S17]; · iexists _; iexact S17
    isplitl [S18]; · iexists _; iexact S18
    isplitl [S19]; · iexists _; iexact S19
    isplitl [S20]; · iexists _; iexact S20
    isplitl [S21]; · iexists _; iexact S21
    isplitl [S22]; · iexists _; iexact S22
    isplitl [S23]; · iexists _; iexact S23
    isplitl [S24]; · iexists _; iexact S24
    isplitl [S25]; · iexists _; iexact S25
    isplitl [S26]; · iexists _; iexact S26
    isplitl [S27]; · iexists _; iexact S27
    isplitl [S28]; · iexists _; iexact S28
    iexists _; iexact S29
  isplitl [Hring]; · iexact Hring
  isplitl [C0 C1 C2 C3 C4 C5 C6 C7 C8 C9 C10 C11 C12 C13 C14]
  · isplitl [C0]; · iexact C0
    isplitl [C1]; · iexact C1
    isplitl [C2]; · iexact C2
    isplitl [C3]; · iexact C3
    isplitl [C4]; · iexact C4
    isplitl [C5]; · iexact C5
    isplitl [C6]; · iexact C6
    isplitl [C7]; · iexact C7
    isplitl [C8]; · iexact C8
    isplitl [C9]; · iexact C9
    isplitl [C10]; · iexact C10
    isplitl [C11]; · iexact C11
    isplitl [C12]; · iexact C12
    isplitl [C13]; · iexact C13
    iexact C14
  iexists _
  iexact HO

end Cert.Proof.Kernel

end
-- ==== Proof.Kernel.Launch.lean ====
/-
  The launch: what a run of the whole program leaves.
-/
module

public import proofs.«01_k».proof.Proof.Kernel.Run
public import proofs.«01_k».proof.Proof.Gen.Kernel.Launch
public import proofs.«01_k».proof.Proof.Gen.Kernel.Frame
public import proofs.«01_k».proof.Proof.Gen.Kernel.Points
public import Idealize.ShloMosaic.Lib.Pipeline.FrameValue

@[expose] public section

set_option maxRecDepth 65536

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

variable (m : (ℓ : Loc nD τ sig) → Buf (Elt F) ℓ) (ρ : Dev nD → PrngReg)

/-- The results, which the body writes itself by transfers. -/
def R0 : Finset (Ref sig .tc) := {main_v1_0, main_v1_1, main_v1_2, main_v1_3, main_v1_4, main_v1_5, main_v1_6}
/-- The operands left in place that its transfers read. -/
def H0 : Finset (Ref sig .tc) := {main_v0, main_arg1, main_arg2, main_arg3, main_arg4}

theorem hmain (𝒱₀ : Variants) : Pipeline.HMain (Ix := Unit) (Name := ℕ) (U := UU nD τ) (Lvl := ℕ) cfgs 0 defs₀ 𝒱₀ m (main (F := F)) (V m) :=
  Pipeline.hmain_prefix cfgs 0 defs₀ 𝒱₀ m main hostOps0 hostOps0_sub hostOps0_fresh main_chain

/-- The body's fifteen cells. -/
abbrev osem0 : Fin 15 → SemLoc sig := fun j => (![SemLoc.dma 0, SemLoc.dma 1, SemLoc.dma 2, SemLoc.dma 3, SemLoc.dma 4, SemLoc.dma 5, SemLoc.dma 6, SemLoc.dma 7, SemLoc.dma 8, SemLoc.dma 9, SemLoc.dma 10, SemLoc.dma 11, SemLoc.dma 12, SemLoc.dma 13, SemLoc.dma 14] : Fin 15 → SemLoc sig) j
theorem ownSemFacts0 : Pipeline.OwnSemFacts (cfg0.spec) osem0 := by decide
theorem ownSems00_eq (c : Dev nD) :
    (Pipeline.ownSems0 (Ix := Unit) (Name := ℕ) (U := UU nD τ) (Lvl := ℕ) (Val := Elt F) (τ := τ) osem0 c : sProp 𝕄)
      = iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0) := by
  rw [Pipeline.ownSems0_eq_of_list c osem0 [0, 1, 2, 3, 4, 5, 6, 7, 8, 9, 10, 11, 12, 13, 14] (by decide) (by decide)]; rfl
theorem H0_sub : H0 ⊆ Pipeline.restRefs sig (cfg0.spec) := by decide
theorem hbmPts0_eq (c : Dev nD) :
    (bigSep H0 (fun b => ((c : Thread nD τ).loc b) ↦{fullShare} V m c b) : sProp 𝕄) = iprop(pt c main_v0 (V m c main_v0) ∗ pt c main_arg1 (V m c main_arg1) ∗ pt c main_arg2 (V m c main_arg2) ∗ pt c main_arg3 (V m c main_arg3) ∗ pt c main_arg4 (V m c main_arg4)) := by
  rw [BI.bigSep_eq_bigSepL_of_eq [main_v0, main_arg1, main_arg2, main_arg3, main_arg4] (by decide) (by decide)]; rfl
theorem R0_sub : R0 ⊆ Pipeline.restRefs sig (cfg0.spec) \ H0 := by decide
theorem ownedPts0_eq (c : Dev nD) : (Pipeline.owned R0 c : sProp 𝕄) = iprop((∃ f, pt c main_v1_0 f) ∗ (∃ f, pt c main_v1_1 f) ∗ (∃ f, pt c main_v1_2 f) ∗ (∃ f, pt c main_v1_3 f) ∗ (∃ f, pt c main_v1_4 f) ∗ (∃ f, pt c main_v1_5 f) ∗ (∃ f, pt c main_v1_6 f)) := by
  unfold Pipeline.owned; rw [BI.bigSep_eq_bigSepL_of_eq [main_v1_0, main_v1_1, main_v1_2, main_v1_3, main_v1_4, main_v1_5, main_v1_6] (by decide) (by decide)]; rfl
theorem routedPts0_eq (c : Dev nD) (W : (b : Ref sig .tc) → Buf (Elt F) ((c.tc : Thread nD τ).loc b)) :
    (Pipeline.routed R0 c W : sProp 𝕄) = iprop(pt c main_v1_0 (W main_v1_0) ∗ pt c main_v1_1 (W main_v1_1) ∗ pt c main_v1_2 (W main_v1_2) ∗ pt c main_v1_3 (W main_v1_3) ∗ pt c main_v1_4 (W main_v1_4) ∗ pt c main_v1_5 (W main_v1_5) ∗ pt c main_v1_6 (W main_v1_6)) := by
  unfold Pipeline.routed; rw [BI.bigSep_eq_bigSepL_of_eq [main_v1_0, main_v1_1, main_v1_2, main_v1_3, main_v1_4, main_v1_5, main_v1_6] (by decide) (by decide)]; rfl

/-- What the returned results satisfy. -/
def PG (c : Dev nD) (W : (b : Ref sig .tc) → Buf (Elt F) ((c.tc : Thread nD τ).loc b)) : Prop :=
  Res c (V m c main_v0) (V m c main_arg2) (V m c main_arg3) (V m c main_arg1) (W main_v1_0) (W main_v1_5) (W main_v1_6)

/-- Contents of the seven results, as one assignment. -/
def W7 (c : Dev nD) (r5 : Bf F c main_v1_0) (r6 : Bf F c main_v1_1) (r7 : Bf F c main_v1_2) (r8 : Bf F c main_v1_3) (r9 : Bf F c main_v1_4)
    (r10 : Bf F c main_v1_5) (r11 : Bf F c main_v1_6) : (b : Ref sig .tc) → Buf (Elt F) ((c.tc : Thread nD τ).loc b) :=
  Function.update (Function.update (Function.update (Function.update (Function.update (Function.update (Function.update (V m c) main_v1_0 r5) main_v1_1 r6) main_v1_2 r7) main_v1_3 r8) main_v1_4 r9) main_v1_5 r10) main_v1_6 r11

theorem sep5 {a a' p b b' d d' e e' : sProp (MT nD τ sig Unit (Elt F) ℕ (UU nD τ) ℕ)} (h1 : a = a') (h2 : b = b') (h3 : d = d') (h4 : e = e') :
    iprop(a ∗ p ∗ b ∗ d ∗ e) = iprop(a' ∗ p ∗ b' ∗ d' ∗ e') := by subst h1 h2 h3 h4; rfl
theorem sep4 {a a' p b b' d d' e e' : sProp (MT nD τ sig Unit (Elt F) ℕ (UU nD τ) ℕ)} (h1 : a = a') (h2 : b = b') (h3 : d = d') (h4 : e = e') :
    iprop((a ∗ p ∗ b ∗ d) ∗ e) = iprop((a' ∗ p ∗ b' ∗ d') ∗ e') := by subst h1 h2 h3 h4; rfl
theorem routedSat_eq (c : Dev nD) (Q : ((b : Ref sig .tc) → Buf (Elt F) ((c.tc : Thread nD τ).loc b)) → Prop) :
    (Pipeline.routedSat R0 c Q : sProp 𝕄) = iprop(∃ W, ⌜Q W⌝ ∗ (pt c main_v1_0 (W main_v1_0) ∗ pt c main_v1_1 (W main_v1_1) ∗ pt c main_v1_2 (W main_v1_2) ∗ pt c main_v1_3 (W main_v1_3) ∗ pt c main_v1_4 (W main_v1_4) ∗ pt c main_v1_5 (W main_v1_5) ∗ pt c main_v1_6 (W main_v1_6))) := by
  unfold Pipeline.routedSat
  simp only [routedPts0_eq]

set_option maxHeartbeats 2000000 in
theorem PhiR_eq (c : Dev nD) :
    (Pipeline.ΦDR osem0 (cfg0.spec) H0 R0 (V m) c : sProp 𝕄)
      = iprop(((∃ f, pt c cc0_scratch0 f) ∗ (∃ f, pt c cc0_scratch1 f) ∗ (∃ f, pt c cc0_scratch2 f) ∗ (∃ f, pt c cc0_scratch3 f) ∗ (∃ f, pt c cc0_scratch4 f) ∗ (∃ f, pt c cc0_scratch5 f) ∗ (∃ f, pt c cc0_scratch6 f) ∗ (∃ f, pt c cc0_scratch7 f) ∗ (∃ f, pt c cc0_scratch8 f) ∗ (∃ f, pt c cc0_scratch9 f) ∗ (∃ f, pt c cc0_scratch11 f) ∗ (∃ f, pt c cc0_scratch12 f) ∗ (∃ f, pt c cc0_scratch13 f) ∗ (∃ f, pt c cc0_scratch14 f) ∗ (∃ f, pt c cc0_scratch15 f) ∗ (∃ f, pt c cc0_scratch16 f) ∗ (∃ f, pt c cc0_scratch17 f) ∗ (∃ f, pt c cc0_scoped0 f) ∗ (∃ f, pt c cc0_scratch10 f)) ∗ (∃ r, prngReg c r) ∗ (semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0) ∗ (pt c main_v0 (V m c main_v0) ∗ pt c main_arg1 (V m c main_arg1) ∗ pt c main_arg2 (V m c main_arg2) ∗ pt c main_arg3 (V m c main_arg3) ∗ pt c main_arg4 (V m c main_arg4)) ∗ ((∃ f, pt c main_v1_0 f) ∗ (∃ f, pt c main_v1_1 f) ∗ (∃ f, pt c main_v1_2 f) ∗ (∃ f, pt c main_v1_3 f) ∗ (∃ f, pt c main_v1_4 f) ∗ (∃ f, pt c main_v1_5 f) ∗ (∃ f, pt c main_v1_6 f))) := by
  exact (Pipeline.ΦDR_eq osem0 (cfg0.spec) H0 R0 (V m) c).trans (sep5 (scopedRest0_eq c) (ownSems00_eq c) (hbmPts0_eq m c) (ownedPts0_eq c))

set_option maxHeartbeats 2000000 in
theorem PhiS_eq (c : Dev nD) :
    (iprop(Pipeline.ΦD osem0 (cfg0.spec) H0 (V m) c ∗ Pipeline.routedSat R0 c (PG m c)) : sProp 𝕄)
      = iprop((((∃ f, pt c cc0_scratch0 f) ∗ (∃ f, pt c cc0_scratch1 f) ∗ (∃ f, pt c cc0_scratch2 f) ∗ (∃ f, pt c cc0_scratch3 f) ∗ (∃ f, pt c cc0_scratch4 f) ∗ (∃ f, pt c cc0_scratch5 f) ∗ (∃ f, pt c cc0_scratch6 f) ∗ (∃ f, pt c cc0_scratch7 f) ∗ (∃ f, pt c cc0_scratch8 f) ∗ (∃ f, pt c cc0_scratch9 f) ∗ (∃ f, pt c cc0_scratch11 f) ∗ (∃ f, pt c cc0_scratch12 f) ∗ (∃ f, pt c cc0_scratch13 f) ∗ (∃ f, pt c cc0_scratch14 f) ∗ (∃ f, pt c cc0_scratch15 f) ∗ (∃ f, pt c cc0_scratch16 f) ∗ (∃ f, pt c cc0_scratch17 f) ∗ (∃ f, pt c cc0_scoped0 f) ∗ (∃ f, pt c cc0_scratch10 f)) ∗ (∃ r, prngReg c r) ∗ (semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0) ∗ (pt c main_v0 (V m c main_v0) ∗ pt c main_arg1 (V m c main_arg1) ∗ pt c main_arg2 (V m c main_arg2) ∗ pt c main_arg3 (V m c main_arg3) ∗ pt c main_arg4 (V m c main_arg4))) ∗ (∃ W, ⌜PG m c W⌝ ∗ (pt c main_v1_0 (W main_v1_0) ∗ pt c main_v1_1 (W main_v1_1) ∗ pt c main_v1_2 (W main_v1_2) ∗ pt c main_v1_3 (W main_v1_3) ∗ pt c main_v1_4 (W main_v1_4) ∗ pt c main_v1_5 (W main_v1_5) ∗ pt c main_v1_6 (W main_v1_6)))) := by
  rw [Pipeline.ΦD_eq]
  exact sep4 (scopedRest0_eq c) (ownSems00_eq c) (hbmPts0_eq m c) (routedSat_eq c _)

/-- The invariant before the one point and after it. -/
def Phi (c : Dev nD) : ℕ → sProp 𝕄
  | 0 => Pipeline.ΦDR osem0 (cfg0.spec) H0 R0 (V m) c
  | _ + 1 => iprop(Pipeline.ΦD osem0 (cfg0.spec) H0 (V m) c ∗ Pipeline.routedSat R0 c (PG m c))

def dats (_ : Fin 1) (c : Dev nD) : Pipeline.Dat τ (Elt F) Unit ℕ (UU nD τ) ℕ cfg0 c where
  A w := V m c (Pipeline.arrRef (cfg0.spec) w)
  after w t := w.elim0
  Φ t := Phi m c t.val
  q _ := fullShare
  owed _ := 0

def bodyPre (c : Dev nD) (t : Fin cfg0.N) : sProp 𝕄 :=
  iprop((dats m 0 c).Φ t.castSucc ∗ (dats m 0 c).owesAt () t.castSucc)
def bodyPost (c : Dev nD) (t : Fin cfg0.N) : sProp 𝕄 :=
  iprop((dats m 0 c).Φ t.succ ∗ (dats m 0 c).owesAt () t.succ)

theorem W7_sep (c : Dev nD) (r5 : Bf F c main_v1_0) (r6 : Bf F c main_v1_1) (r7 : Bf F c main_v1_2) (r8 : Bf F c main_v1_3) (r9 : Bf F c main_v1_4)
    (r10 : Bf F c main_v1_5) (r11 : Bf F c main_v1_6)
    (h : Res c (V m c main_v0) (V m c main_arg2) (V m c main_arg3) (V m c main_arg1) r5 r10 r11) :
    iprop(pt c main_v1_0 r5 ∗ pt c main_v1_1 r6 ∗ pt c main_v1_2 r7 ∗ pt c main_v1_3 r8 ∗ pt c main_v1_4 r9 ∗ pt c main_v1_5 r10 ∗ pt c main_v1_6 r11)
      ⊢ (iprop(∃ W, ⌜PG m c W⌝ ∗ (pt c main_v1_0 (W main_v1_0) ∗ pt c main_v1_1 (W main_v1_1) ∗ pt c main_v1_2 (W main_v1_2) ∗ pt c main_v1_3 (W main_v1_3) ∗ pt c main_v1_4 (W main_v1_4) ∗ pt c main_v1_5 (W main_v1_5) ∗ pt c main_v1_6 (W main_v1_6))) : sProp 𝕄) := by
  have e0 : W7 m c r5 r6 r7 r8 r9 r10 r11 main_v1_0 = r5 := by unfold W7; rw [Function.update_of_ne (by decide), Function.update_of_ne (by decide), Function.update_of_ne (by decide), Function.update_of_ne (by decide), Function.update_of_ne (by decide), Function.update_of_ne (by decide), Function.update_self]
  have e1 : W7 m c r5 r6 r7 r8 r9 r10 r11 main_v1_1 = r6 := by unfold W7; rw [Function.update_of_ne (by decide), Function.update_of_ne (by decide), Function.update_of_ne (by decide), Function.update_of_ne (by decide), Function.update_of_ne (by decide), Function.update_self]
  have e2 : W7 m c r5 r6 r7 r8 r9 r10 r11 main_v1_2 = r7 := by unfold W7; rw [Function.update_of_ne (by decide), Function.update_of_ne (by decide), Function.update_of_ne (by decide), Function.update_of_ne (by decide), Function.update_self]
  have e3 : W7 m c r5 r6 r7 r8 r9 r10 r11 main_v1_3 = r8 := by unfold W7; rw [Function.update_of_ne (by decide), Function.update_of_ne (by decide), Function.update_of_ne (by decide), Function.update_self]
  have e4 : W7 m c r5 r6 r7 r8 r9 r10 r11 main_v1_4 = r9 := by unfold W7; rw [Function.update_of_ne (by decide), Function.update_of_ne (by decide), Function.update_self]
  have e5 : W7 m c r5 r6 r7 r8 r9 r10 r11 main_v1_5 = r10 := by unfold W7; rw [Function.update_of_ne (by decide), Function.update_self]
  have e6 : W7 m c r5 r6 r7 r8 r9 r10 r11 main_v1_6 = r11 := by unfold W7; rw [Function.update_self]
  iintro H
  iexists (W7 m c r5 r6 r7 r8 r9 r10 r11)
  isplitr
  · ipureintro
    unfold PG
    rw [e0, e5, e6]
    exact h
  iapply (Entails.of_eq (by rw [e0, e1, e2, e3, e4, e5, e6])) $$ H

theorem sound_body (c : Dev nD) (t : Fin cfg0.N) :
    bodyPre m c t ⊢ wp frame (wpE (defs₀ (F := F)) Variants.none c none) Set.univ (bodyAt0 t) (fun _ => bodyPost m c t) := by
  have ht := fin_N0 t
  subst ht
  unfold bodyPre bodyPost bodyAt0
  rw [show (dats m 0 c).Φ (Fin.succ t0_0) = iprop(Pipeline.ΦD osem0 (cfg0.spec) H0 (V m) c ∗ Pipeline.routedSat R0 c (PG m c)) from rfl,
    show (dats m 0 c).Φ (Fin.castSucc t0_0) = Pipeline.ΦDR osem0 (cfg0.spec) H0 R0 (V m) c from rfl, PhiR_eq, PhiS_eq]
  unfold Pipeline.Dat.owesAt Pipeline.owesWithin
  rw [show (dats m 0 c).owed (Fin.castSucc t0_0) = 0 from rfl, show (dats m 0 c).owed (Fin.succ t0_0) = 0 from rfl]
  iintro ⟨⟨⟨S0, S1, S2, S3, S4, S5, S6, S7, S8, S9, S11, S12, S13, S14, S15, S16, S17, SR, S10⟩, Hg, HCELLS, HH, HR⟩, ⟨%W, -, HW⟩⟩
  iapply (kernel_run c (V m c main_v0) (V m c main_arg2) (V m c main_arg3) (V m c main_arg4) (V m c main_arg1) W _)
  isplitl [HH]; · iexact HH
  isplitl [HR]; · iexact HR
  isplitl [S0 S1 S2 S3 S4 S5 S6 S7 S8 S9 S10 S11 S12 S13 S14 S15 S16 S17]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [S16]; · iexact S16
    iexact S17
  isplitl [SR]; · iexact SR
  isplitl [HCELLS]; · iexact HCELLS
  isplitl [HW]; · iexact HW
  unfold Post
  iintro ⟨HH, ⟨%r5, %r6, %r7, %r8, %r9, %r10, %r11, %hr, HR⟩, ⟨S0, S1, S2, S3, S4, S5, S6, S7, S8, S9, S10, S11, S12, S13, S14, S15, S16, S17⟩, SR, HCELLS, ⟨%W', HW'⟩⟩
  isplitr [HW']
  · isplitr [HR]
    · isplitl [S0 S1 S2 S3 S4 S5 S6 S7 S8 S9 S10 S11 S12 S13 S14 S15 S16 S17 SR]
      · isplitl [S0]; · iexact S0
        isplitl [S1]; · iexact S1
        isplitl [S2]; · iexact S2
        isplitl [S3]; · iexact S3
        isplitl [S4]; · iexact S4
        isplitl [S5]; · iexact S5
        isplitl [S6]; · iexact S6
        isplitl [S7]; · iexact S7
        isplitl [S8]; · iexact S8
        isplitl [S9]; · iexact S9
        isplitl [S11]; · iexact S11
        isplitl [S12]; · iexact S12
        isplitl [S13]; · iexact S13
        isplitl [S14]; · iexact S14
        isplitl [S15]; · iexact S15
        isplitl [S16]; · iexact S16
        isplitl [S17]; · iexact S17
        isplitl [SR]; · iexact SR
        iexact S10
      isplitl [Hg]; · iexact Hg
      isplitl [HCELLS]; · iexact HCELLS
      iexact HH
    iapply (W7_sep m c r5 r6 r7 r8 r9 r10 r11 hr) $$ HR
  iexists W'; isplitr; · ipureintro; exact fun _ _ => Or.inl trivial
  iexact HW'

theorem defs₀_row (t : Fin cfg0.N) : defs₀ (F := F) .tc cfg0.body (cfg0.bodyArgs t (cfg0.slots t)) = bodyAt0 t := by
  unfold defs₀; rw [Defs.onTc_tc]

theorem body_obligation (c : Dev nD) : Pipeline.BodyObligation (dats (F := F) m 0 c) (defs₀ (F := F)) Variants.none () Set.univ := fun t => by
  rw [defs₀_row]
  refine triple_restated (sound_body m c t) rfl ?_ fun _ => ?_
  · unfold bodyPre; iintro ⟨H1, H2, -⟩; isplitl [H1] <;> iassumption
  · unfold bodyPost; iintro ⟨H1, H2⟩
    isplitl [H1]; · iexact H1
    isplitl [H2]; · iexact H2
    iapply (show (BI.emp : sProp 𝕄) ⊢ _ from Entails.of_eq (by rfl))
    iempintro

set_option backward.isDefEq.respectTransparency.types false in
set_option maxHeartbeats 1600000 in
/-- The launch: the arguments end as launched, the results satisfy `PG`, every counter is zero. -/
theorem run_main : θ_run defs (onTc (τ := τ) (main (F := F))) (s₀ m ρ) (fun r => ((∀ c : Dev nD, ∀ b ∈ Pipeline.restRefs sig (cfg0.spec) \ R0, r.2.mem ((c.tc : Thread nD τ).loc b) = V m c b)
    ∧ ∀ c : Dev nD, ∃ W : (b : Ref sig .tc) → Buf (Elt F) ((c.tc : Thread nD τ).loc b), PG m c W ∧ ∀ b ∈ R0, r.2.mem ((c.tc : Thread nD τ).loc b) = W b) ∧ r.2.sem = fun _ => 0) := by
  have hrest : Pipeline.restRefs sig (cfg0.spec) ⊆ Pipeline.restRefsP sig Pipeline.Prefetch.none (cfg0.spec) :=
    fun b hb => Finset.mem_sdiff.mpr ⟨hb, fun h => ((Finset.mem_image.mp h).elim fun k _ => k.elim0)⟩
  refine Pipeline.RDat.θ_run_frameP_dmaRSat_shared (Q' := _) (fun q => (cfgs q).toPCfg (Val := Elt F)) (fun q => (cfgs q).toPCfg_adm) (0 : Fin 1) launch0.to₀.toP osem0 defs₀ Variants.none
    (fun c => (dats m 0 c).toR) ownSemFacts0 H0 R0 (H0_sub.trans hrest) (R0_sub.trans (Finset.sdiff_subset_sdiff hrest subset_rfl)) m ρ main
    (fun c => (body_obligation m c).loose.toR) (fun c w => w.elim0) (fun _ _ => rfl) (V m) (hmain m Variants.none) (fun c w => w.elim0) (fun _ k => k.elim0)
    (PG m) (fun c => ?_) (fun c => ?_) (fun r h => ?_)
  · exact (show _ ⊢ Pipeline.ΦDRG osem0 (cfg0.spec) H0 R0 (V m) (V m) c from by iintro ⟨H, -⟩; iexact H).trans (Pipeline.ΦDRG_ΦDR osem0 (cfg0.spec) H0 R0 (V m) (V m) c)
  · exact Entails.of_eq rfl
  · exact ⟨⟨fun c => (h.1.1 c).2, h.1.2⟩, h.2⟩

/-- The frame: the argument arrays end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨
      (h.1.1 c main_arg0 (Finset.mem_sdiff.mpr ⟨Pipeline.mem_restRefs_of main_arg0 (by decide) (by decide), by decide⟩)).trans (V_main_arg0 m c),
      (h.1.1 c main_arg1 (Finset.mem_sdiff.mpr ⟨Pipeline.mem_restRefs_of main_arg1 (by decide) (by decide), by decide⟩)).trans (V_main_arg1 m c),
      (h.1.1 c main_arg2 (Finset.mem_sdiff.mpr ⟨Pipeline.mem_restRefs_of main_arg2 (by decide) (by decide), by decide⟩)).trans (V_main_arg2 m c),
      (h.1.1 c main_arg3 (Finset.mem_sdiff.mpr ⟨Pipeline.mem_restRefs_of main_arg3 (by decide) (by decide), by decide⟩)).trans (V_main_arg3 m c),
      (h.1.1 c main_arg4 (Finset.mem_sdiff.mpr ⟨Pipeline.mem_restRefs_of main_arg4 (by decide) (by decide), by decide⟩)).trans (V_main_arg4 m c)⟩, h.2⟩) (run_main m ρ)

end Cert.Proof.Kernel

end
-- ==== Proof.KernelIdeal.Words.lean ====
/-
  The integer side of one trip of the streaming loop: with the carried counters at `(min (k + 3) 63, k, k)` every
  check the body assumes holds, the issue's guard is `k + 3 < 63`, the wait's guard holds, and the offsets of the
  ring's slots, cells and blocks are the closed forms below.
-/
module

public import proofs.«01_k».proof.Proof.Gen.KernelIdeal
public import Idealize.ShloMosaic.Lib.WordCmp
public import Idealize.ShloMosaic.Lib.Tactic

@[expose] public section

noncomputable section

namespace Cert.Proof.KernelIdeal

open Cert.KernelIdeal Cert.KernelIdeal.Gen
open Idealize.ShloMosaic Idealize.ShloMosaic.TcCoe
open Idealize.SL.Sem

/-- A number as a word. -/
abbrev wd (n : ℕ) : BitVec 32 := BitVec.ofNat 32 n
/-- The three counters before trip `k`: blocks issued, blocks awaited, the block's index (which wraps at the end). -/
abbrev issued (k : ℕ) : BitVec 32 := wd (min (k + 3) 63)
abbrev index (k : ℕ) : BitVec 32 := wd (k % 63)

theorem trips_eq : k0_t1_loop.trips = 63 := by decide

/-- A slot of the ring, its cell, and a block of the weights, by the block's number. -/
abbrev slotOff (n : ℕ) : Fin 3 → ℕ := ![n % 4, 0, 0]
abbrev cellOff (n : ℕ) : Fin 1 → ℕ := ![n % 4]
abbrev blkOff (n : ℕ) : Fin 2 → ℕ := ![0, 512 * n]

theorem chk2_of : ∀ k : Fin 64, k0_chk2 (wd k) := by decide +kernel
theorem chk3_of : ∀ k : Fin 63, k0_chk3 (wd k) := by decide +kernel
theorem chk1_of : ∀ k : Fin k0_t1_loop.trips, k0_chk1 k (issued k) (wd k) (index k) := by decide +kernel
theorem cond3_iff : ∀ k : Fin k0_t1_loop.trips, k0_cond3 k (index k) = 1#1 ↔ k.val + 3 < 63 := by decide +kernel
theorem cond4_of : ∀ k : Fin k0_t1_loop.trips, k0_cond4 k (index k) = 1#1 := by decide +kernel
theorem off9_eq : ∀ k : Fin k0_t1_loop.trips, k.val + 3 < 63 → k0_off9 (issued k) = cellOff (k.val + 3) := by decide +kernel
theorem off10_eq : ∀ k : Fin k0_t1_loop.trips, k.val + 3 < 63 → k0_off10 (issued k) = slotOff (k.val + 3) := by decide +kernel
theorem off11_eq : ∀ k : Fin k0_t1_loop.trips, k.val + 3 < 63 → k0_off11 (index k) = blkOff (k.val + 3) := by decide +kernel
theorem off12_eq : ∀ k : Fin k0_t1_loop.trips, k0_off12 (wd k) = cellOff k.val := by decide +kernel
theorem off13_eq : ∀ k : Fin k0_t1_loop.trips, k0_off13 (wd k) = slotOff k.val := by decide +kernel
theorem off14_eq : ∀ k : Fin k0_t1_loop.trips, k0_off14 (index k) = blkOff k.val := by decide +kernel
theorem off15_eq : ∀ k : Fin k0_t1_loop.trips, k0_off15 (wd k) = slotOff k.val := by decide +kernel

theorem slotInb (n : ℕ) : ∀ a, slotOff n a + S1x7168x512.size a ≤ S4x7168x512.size a := by
  have := Nat.mod_lt n (show 0 < 4 by decide)
  intro a; fin_cases a
  · show n % 4 + 1 ≤ 4; omega
  · show 0 + 7168 ≤ 7168; omega
  · show 0 + 512 ≤ 512; omega
theorem cellInb (n : ℕ) : ∀ a, cellOff n a + S1.size a ≤ S4.size a := by
  have := Nat.mod_lt n (show 0 < 4 by decide)
  intro a; fin_cases a
  show n % 4 + 1 ≤ 4; omega
theorem blkInb (n : ℕ) (h : n < 63) : ∀ a, blkOff n a + S7168x512.size a ≤ S7168x32256.size a := by
  intro a; fin_cases a
  · show 0 + 7168 ≤ 7168; omega
  · show 512 * n + 512 ≤ 32256; omega

end Cert.Proof.KernelIdeal

end
-- ==== Proof.KernelIdeal.Base.lean ====
/-
  What a core holds around the streaming loop: the ring's slots, their cells, the weights lent a share per slot, and
  the transfers in flight between them.
-/
module

public import proofs.«01_k».proof.Proof.KernelIdeal.Words
public import proofs.«01_k».proof.Proof.Gen.KernelIdeal.Skeleton
public import Idealize.ShloMosaic.Lib.Pipeline.FrameBody
public import Idealize.ShloMosaic.Lib.Ring
public import Idealize.ShloMosaic.Lib.Ring.Trips
public import Idealize.ShloMosaic.Lib.Tactic

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The algebra: the pipeline library's beside the counters of the transfers. -/
abbrev UU (nD : ℕ) (τ : Topo) : Type := Pipeline.UD sig nD τ

local notation "𝕄" => MT nD τ sig Unit (Elt F) ℕ (UU nD τ) ℕ

/-- A buffer's contents, and a buffer held whole. -/
abbrev Bf (F : FTy → Type) (c : Dev nD) (b : Ref sig .tc) : Type := Buf (Elt F) ((Memref.whole b).view.loc (c : Thread nD τ))
abbrev pt (c : Dev nD) (b : Ref sig .tc) (f : Bf F c b) : sProp 𝕄 := (Memref.whole b).view.loc (c : Thread nD τ) ↦{fullShare} f

/-- The slot of the ring at offsets `o`, the block of the weights at offsets `o`, the cell at offset `o`. -/
abbrev slotAt (o : Fin 3 → ℕ) (h : ∀ a, o a + S1x7168x512.size a ≤ S4x7168x512.size a) : Memref sig .tc .vmem S7168x512 .fp8e4m3 :=
  ((Memref.whole cc0_scoped0).slice (Rect.unit (s := S4x7168x512) o S1x7168x512.size h) (fun _ => rfl)).squeeze S7168x512 squeezes_S1x7168x512_S7168x512
abbrev blkAt (o : Fin 2 → ℕ) (h : ∀ a, o a + S7168x512.size a ≤ S7168x32256.size a) : Memref sig .tc .hbm S7168x512 .fp8e4m3 :=
  (Memref.whole main_arg1).slice (Rect.unit (s := S7168x32256) o S7168x512.size h) (fun _ => rfl)
abbrev cellAt (o : Fin 1 → ℕ) (h : ∀ a, o a + S1.size a ≤ S4.size a) : DmaSem sig :=
  ((cc0_scoped1.slice (Rect.unit (s := S4) o S1.size h)).squeeze S_ squeezes_S1_S_).sem

abbrev ringLoc (c : Dev nD) := (Memref.whole cc0_scoped0).view.loc (c : Thread nD τ)
abbrev wLoc (c : Dev nD) := (Memref.whole main_arg1).view.loc (c : Thread nD τ)

/-- The share of the weights slot `n % 4` reads by: a quarter. -/
def wShare (n : ℕ) : PosShare TreeShare :=
  match n % 4 with
  | 0 => fullShare.left.left
  | 1 => fullShare.left.right
  | 2 => fullShare.right.left
  | _ => fullShare.right.right

/-- The weights' block `n`, laid over every slot. -/
def fill (c : Dev nD) (fw : Bf F c main_arg1) (n : ℕ) : Bf F c cc0_scoped0 :=
  fun i => fw ((fun | 0 => i 1 | 1 => ⟨(512 * n + (i 2).val) % 32256, Nat.mod_lt _ (by decide)⟩ : (a : Fin 2) → Fin (S7168x32256.size a)))

/-- A slot of the ring held at contents `g`. -/
abbrev slotPt (c : Dev nD) (n : ℕ) (g : Bf F c cc0_scoped0) : sProp 𝕄 :=
  ringLoc c ↦[(slotAt (slotOff n) (slotInb n)).view.set]{fullShare} g

/-- A cell at zero, with its slot at any contents and its share of the weights: nothing in flight. -/
abbrev cell0 (c : Dev nD) (n : ℕ) : sProp 𝕄 := semVal ((c : Thread nD τ), SemLoc.dma (cellAt (cellOff n) (cellInb n))) 0
def freeSlot (c : Dev nD) (fw : Bf F c main_arg1) (n : ℕ) : sProp 𝕄 :=
  iprop(cell0 c n ∗ (∃ g, slotPt c n g) ∗ (wLoc c ↦{wShare n} fw))

/-- Block `n` in flight into its slot: the transfer, and what of the share it does not read. -/
def inFlight (c : Dev nD) (fw : Bf F c main_arg1) (n : Fin 63) : sProp 𝕄 :=
  iprop(Transfers.Flight (countersEmb (U := UU nD τ)) (c : Thread nD τ) (.dma (cellAt (cellOff n) (cellInb n))) ()
      ((slotAt (slotOff n) (slotInb n)).view.dmaCredit)
      iprop(slotPt c n (fill c fw n) ∗ (wLoc c ↦[(blkAt (blkOff n) (blkInb n n.isLt)).view.set]{wShare n} fw))
    ∗ (wLoc c ↦[Finset.univ \ (blkAt (blkOff n) (blkInb n n.isLt)).view.set]{wShare n} fw))

end Cert.Proof.KernelIdeal

end
-- ==== Proof.KernelIdeal.Ring.lean ====
/-
  The steps of the ring: a block's transfer is issued into a free slot, and waited for.
-/
module

public import proofs.«01_k».proof.Proof.KernelIdeal.Base

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-- Where a slot's element lies in the ring. -/
theorem slot_emb (n : ℕ) (x : S7168x512.Idx) : ((slotAt (slotOff n) (slotInb n)).view.emb x 1).val = (x 0).val
    ∧ ((slotAt (slotOff n) (slotInb n)).view.emb x 2).val = (x 1).val := by
  have e : Shape.reshapeEquiv (squeezes_S1x7168x512_S7168x512).numel_eq x = Fin.cons ⟨0, Nat.one_pos⟩ x :=
    Shape.reshapeEquiv_cons_one (d := ![7168, 512]) _ x
  constructor
  · show 0 + 1 * ((Shape.reshapeEquiv (squeezes_S1x7168x512_S7168x512).numel_eq x) 1).val = _
    rw [e]; show 0 + 1 * (x 0).val = _; omega
  · show 0 + 1 * ((Shape.reshapeEquiv (squeezes_S1x7168x512_S7168x512).numel_eq x) 2).val = _
    rw [e]; show 0 + 1 * (x 1).val = _; omega

/-- What a block's transfer leaves in its slot. -/
theorem fill_slot {c : Dev nD} (fw : Bf F c main_arg1) (n : Fin 63) (x : S7168x512.Idx) :
    fill c fw n ((slotAt (slotOff n) (slotInb n)).view.emb x) = fw ((blkAt (blkOff n) (blkInb n n.isLt)).view.emb x) := by
  obtain ⟨h1, h2⟩ := slot_emb n x
  have hx := (x 1).isLt
  change (x 1).val < 512 at hx
  have hn := n.isLt
  unfold fill
  congr 1
  funext a
  match a with
  | ⟨0, _⟩ =>
    apply Fin.ext
    show ((slotAt (slotOff n) (slotInb n)).view.emb x 1).val = 0 + 1 * (x 0).val
    omega
  | ⟨1, _⟩ =>
    apply Fin.ext
    show (512 * n.val + ((slotAt (slotOff n) (slotInb n)).view.emb x 2).val) % 32256 = 512 * n.val + 1 * (x 1).val
    rw [h2]
    omega

variable {defs : Defs nD τ sig (Elt F) Λ₀} (𝒱 : Variants) (c : Dev nD) (bd : Option 𝒱.V)
variable {α : Type} {Q : α → sProp (MT nD τ sig Unit (Elt F) ℕ (UU nD τ) ℕ)}

/-- Issuing a transfer out of an array held whole at some share: what is left of it stays behind. -/
theorem issue_gen {sp sp' : Space} {s : Shape} {e : EltTy} (src : Memref sig .tc sp s e) (dst : Memref sig .tc sp' s e) (sm : SemLoc sig)
    (N : ℕ) (hN : dst.view.amount sm = N) (hN0 : 0 < N) (q : PosShare TreeShare)
    (fs : Buf (Elt F) (src.view.loc (c : Thread nD τ))) (fd g : Buf (Elt F) (dst.view.loc (c : Thread nD τ)))
    (hg : ∀ i ∈ dst.view.set, dst.view.write (Elt F) fd ((ReadAs.same : ReadAs (Elt F) s e s e).apply (src.view.read (Elt F) fs)) Finset.univ i = g i)
    {hsrc : src.view.WordExact} {hdst : dst.view.WordExact}
    {hsem : DmaTarget.Typed (nD := nD) (τ := τ) (p := .tc) sp sm (.here dst)}
    {k : PUnit → Prog (TpuEff nD τ sig (Elt F) Λ₀ .tc) α} :
    iprop(semVal ((c : Thread nD τ), sm) 0 ∗ (dst.view.loc (c : Thread nD τ) ↦[dst.view.set]{fullShare} fd) ∗ (src.view.loc (c : Thread nD τ) ↦{q} fs))
      ⊢ iprop((iprop((Transfers.Flight (countersEmb (U := UU nD τ)) (c : Thread nD τ) sm () N
            iprop((dst.view.loc (c : Thread nD τ) ↦[dst.view.set]{fullShare} g) ∗ (src.view.loc (c : Thread nD τ) ↦[src.view.set]{q} fs)) : sProp 𝕄)
          ∗ (src.view.loc (c : Thread nD τ) ↦[Finset.univ \ src.view.set]{q} fs)) -∗ wp frame (wpE defs 𝒱 (c : Thread nD τ) bd) Set.univ (k ⟨⟩) Q)
      -∗ wp frame (wpE defs 𝒱 (c : Thread nD τ) bd) Set.univ (.op (.enqueueDma src (.here dst) sm hsrc hdst hsem) k) Q) := by
  iintro ⟨Hc, Hs, Hw⟩ Hk
  ihave Hw' := (pointsTo_split_subset (Finset.subset_univ src.view.set)).1 $$ Hw
  icases Hw' with ⟨Hw, Hr⟩
  iapply (Transfers.wp_dmaLocal (countersEmb (U := UU nD τ)) 𝒱 (c : Thread nD τ) bd () N hN hN0 (Finset.Subset.refl _)) $$ [Hc Hs Hw]
  · isplitl [Hw]; · iexact Hw
    isplitl [Hs]; · iexact Hs
    iexact Hc
  iintro Hf
  iapply Hk
  isplitr [Hr]
  · iapply (Transfers.Flight_mono (countersEmb (U := UU nD τ)) (c : Thread nD τ) (BIClass.sep_mono (Entails.of_eq (pointsTo_congr
      (ℓ := dst.view.loc (c : Thread nD τ)) (I := dst.view.set) (f := dst.view.write (Elt F) fd ((ReadAs.same : ReadAs (Elt F) s e s e).apply (src.view.read (Elt F) fs)) Finset.univ)
      (g := g) (q := fullShare) hg)) (Entails.of_eq rfl))) $$ Hf
  · iexact Hr

/-- Issuing block `n`'s transfer into its slot. -/
theorem wp_issue (fw : Bf F c main_arg1) (n : Fin 63)
    (o9 : Fin 1 → ℕ) (o10 : Fin 3 → ℕ) (o11 : Fin 2 → ℕ)
    (h9 : ∀ a, o9 a + S1.size a ≤ S4.size a) (h10 : ∀ a, o10 a + S1x7168x512.size a ≤ S4x7168x512.size a) (h11 : ∀ a, o11 a + S7168x512.size a ≤ S7168x32256.size a)
    (e9 : o9 = cellOff n) (e10 : o10 = slotOff n) (e11 : o11 = blkOff n)
    {hsrc : (blkAt o11 h11).view.WordExact} {hdst : (slotAt o10 h10).view.WordExact}
    {hsem : DmaTarget.Typed (nD := nD) (τ := τ) (p := .tc) .hbm (.dma (cellAt o9 h9)) (.here (slotAt o10 h10))}
    {k : PUnit → Prog (TpuEff nD τ sig (Elt F) Λ₀ .tc) α} :
    freeSlot c fw n ⊢ iprop((inFlight c fw n -∗ wp frame (wpE defs 𝒱 (c : Thread nD τ) bd) Set.univ (k ⟨⟩) Q)
      -∗ wp frame (wpE defs 𝒱 (c : Thread nD τ) bd) Set.univ
        (.op (.enqueueDma (blkAt o11 h11) (.here (slotAt o10 h10)) (.dma (cellAt o9 h9)) hsrc hdst hsem) k) Q) := by
  subst e9 e10 e11
  unfold freeSlot inFlight
  iintro ⟨Hc, ⟨%g, Hs⟩, Hw⟩ Hk
  iapply (issue_gen 𝒱 c bd (blkAt (blkOff n) h11) (slotAt (slotOff n) h10) (.dma (cellAt (cellOff n) h9)) _ rfl
    (View.dmaCredit_pos _ (by decide)) (wShare n) fw g (fill c fw n) (fun i hi => ?_)) $$ [Hc Hs Hw]
  · obtain ⟨x, -, rfl⟩ := Finset.mem_map.mp hi
    rw [View.write_emb_of_mem _ _ (Finset.mem_univ _)]
    exact (fill_slot fw n x).symm
  · isplitl [Hc]; · iexact Hc
    isplitl [Hs]; · iexact Hs
    iexact Hw
  · iexact Hk

/-- Waiting for block `n`'s transfer. -/
theorem wp_await (fw : Bf F c main_arg1) (n : Fin 63) (W : Waits sig Unit)
    (o9 : Fin 1 → ℕ) (o10 : Fin 3 → ℕ) (o11 : Fin 2 → ℕ)
    (h9 : ∀ a, o9 a + S1.size a ≤ S4.size a) (h10 : ∀ a, o10 a + S1x7168x512.size a ≤ S4x7168x512.size a) (h11 : ∀ a, o11 a + S7168x512.size a ≤ S7168x32256.size a)
    (e9 : o9 = cellOff n) (e10 : o10 = slotOff n)
    {hsrc : (blkAt o11 h11).view.WordExact} {hdst : (slotAt o10 h10).view.WordExact}
    {k : PUnit → Prog (TpuEff nD τ sig (Elt F) Λ₀ .tc) α} :
    iprop(inFlight c fw n ∗ owes (c : Thread nD τ) 0 W)
      ⊢ iprop(((cell0 c n ∗ slotPt c n (fill c fw n) ∗ (wLoc c ↦{wShare n} fw) ∗ ∃ W', owes (c : Thread nD τ) 0 W')
          -∗ wp frame (wpE defs 𝒱 (c : Thread nD τ) bd) Set.univ (k ⟨⟩) Q)
      -∗ wp frame (wpE defs 𝒱 (c : Thread nD τ) bd) Set.univ
        (.op (.waitDma2 (cellAt o9 h9) (blkAt o11 h11) (slotAt o10 h10) hsrc hdst) k) Q) := by
  subst e9 e10
  unfold inFlight
  iintro ⟨⟨Hf, Hr⟩, HO⟩ Hk
  iapply (Transfers.wp_waitLocal (countersEmb (U := UU nD τ)) 𝒱 (c : Thread nD τ) bd () (N := (slotAt (slotOff n) h10).view.dmaCredit) rfl) $$ [Hf HO]
  · isplitl [Hf]; · iexact Hf
    iexact HO
  iintro ⟨⟨Hs, Hw⟩, Hc, HO⟩
  iapply Hk
  isplitl [Hc]; · iexact Hc
  isplitl [Hs]; · iexact Hs
  isplitl [Hw Hr]
  · iapply (pointsTo_split_subset (Finset.subset_univ (blkAt (blkOff n) (blkInb n n.isLt)).view.set)).2 $$ [Hw Hr]
    isplitl [Hw] <;> iassumption
  iexists _
  iexact HO

/-- A slot that has been read is free for the block four further on. -/
theorem freeSlot_of {fw : Bf F c main_arg1} (n : ℕ) : iprop(cell0 c n ∗ slotPt c n (fill c fw n) ∗ (wLoc c ↦{wShare n} fw))
    ⊢ (freeSlot c fw (n + 4) : sProp 𝕄) := by
  have hs : slotOff (n + 4) = slotOff n := by unfold slotOff; rw [Nat.add_mod_right]
  have hc : cellOff (n + 4) = cellOff n := by unfold cellOff; rw [Nat.add_mod_right]
  have hw : wShare (n + 4) = wShare n := by unfold wShare; rw [Nat.add_mod_right]
  have es : ∀ (o : Fin 3 → ℕ) (_ : o = slotOff n) (h : ∀ a, o a + S1x7168x512.size a ≤ S4x7168x512.size a) (g : Bf F c cc0_scoped0),
      (ringLoc c ↦[(slotAt o h).view.set]{fullShare} g : sProp 𝕄) = slotPt c n g := by rintro _ rfl _ _; rfl
  have ec : ∀ (o : Fin 1 → ℕ) (_ : o = cellOff n) (h : ∀ a, o a + S1.size a ≤ S4.size a),
      (semVal ((c : Thread nD τ), SemLoc.dma (cellAt o h)) 0 : sProp 𝕄) = cell0 c n := by rintro _ rfl _; rfl
  unfold freeSlot
  rw [hw, show (cell0 c (n + 4) : sProp 𝕄) = cell0 c n from ec _ hc _]
  iintro ⟨Hc, Hs, Hw⟩
  isplitl [Hc]; · iexact Hc
  isplitl [Hs]
  · iexists (fill c fw n)
    rw [show (slotPt c (n + 4) (fill c fw n) : sProp 𝕄) = slotPt c n (fill c fw n) from es _ hs _ _]
    iexact Hs
  iexact Hw

end Cert.Proof.KernelIdeal

end
-- ==== Proof.KernelIdeal.Tile.lean ====
/-
  One tile of the streamed product: the kernel's own terms for it, and each piece's value at an index.
-/
module

public import proofs.«01_k».proof.Proof.KernelIdeal.Base
public import Idealize.ShloMosaic.Lib.ValueIdxCore
public import Idealize.ShloMosaic.Lib.ValueLayout
public import Idealize.ShloMosaic.Lib.Writes
public import Idealize.ShloMosaic.Lib.WritesUnit

@[expose] public section

set_option maxRecDepth 65536

noncomputable section

namespace Cert.Proof.KernelIdeal

open Cert.KernelIdeal Cert.KernelIdeal.Gen
open Idealize.ShloMosaic Idealize.ShloMosaic.TcCoe Idealize.ShloMosaic.Tactic Idealize.ShloMosaic.ValueIdx

variable {F : FTy → Type} [FloatOps F]

/-- A coordinate of the contracted axis. -/
abbrev dd (o : ℕ) : Fin 7168 := ⟨o % 7168, Nat.mod_lt _ (by decide)⟩

/-- One pass of the product: 256 (or 128) positions of the contracted axis from `o`. -/
def passA (xq : S32x7168.Idx → F .fp8e4m3) (w : S7168x512.Idx → F .fp8e4m3) (o : ℕ) : FVec F S8x512 .f32 :=
  extractStridedSlice S8x512 ![0, 0] (matmul (φ₁ := .fp8e4m3) (φ₂ := .fp8e4m3) dot_S32x256_S256x512_S32x512_1_0_0_1_n_n none
    (fun i : S32x256.Idx => xq (ix2 (i 0) (dd (o + (i 1).val)))) (fun i : S256x512.Idx => w (ix2 (dd (o + (i 0).val)) (i 1)))
    (constant S32x512 .f32 0x00000000#32)) slices_S32x512_o0_0_S8x512
def passB (xq : S32x7168.Idx → F .fp8e4m3) (w : S7168x512.Idx → F .fp8e4m3) (o : ℕ) : FVec F S8x512 .f32 :=
  extractStridedSlice S8x512 ![0, 0] (matmul (φ₁ := .fp8e4m3) (φ₂ := .fp8e4m3) dot_S32x128_S128x512_S32x512_1_0_0_1_n_n none
    (fun i : S32x128.Idx => xq (ix2 (i 0) (dd (o + (i 1).val)))) (fun i : S128x512.Idx => w (ix2 (dd (o + (i 0).val)) (i 1)))
    (constant S32x512 .f32 0x00000000#32)) slices_S32x512_o0_0_S8x512

/-- The product's eight rows over one block of the weights, pass by pass. -/
def rawT (xq : S32x7168.Idx → F .fp8e4m3) (w : S7168x512.Idx → F .fp8e4m3) : FVec F S8x512 .f32 :=
  addf (addf (addf (addf (addf (addf (addf (addf (addf (addf (addf (addf (addf (addf (addf (addf (addf (addf (addf (addf (addf (addf (addf (addf (addf (addf (addf (addf (addf (broadcast S8x512 (Scalar.ofBits .f32 0x00000000#32)) (passA xq w 0)) (passA xq w 256)) (passA xq w 512)) (passA xq w 768)) (passA xq w 1024)) (passA xq w 1280)) (passA xq w 1536)) (passA xq w 1792)) (passA xq w 2048)) (passB xq w 2304)) (passA xq w 2432)) (passA xq w 2688)) (passA xq w 2944)) (passA xq w 3200)) (passA xq w 3456)) (passA xq w 3712)) (passA xq w 3968)) (passA xq w 4224)) (passA xq w 4480)) (passB xq w 4736)) (passA xq w 4864)) (passA xq w 5120)) (passA xq w 5376)) (passA xq w 5632)) (passA xq w 5888)) (passA xq w 6144)) (passA xq w 6400)) (passA xq w 6656)) (passA xq w 6912)

/-- Block `k` of the weights. -/
def wBlk {c : Dev nD} (fw : Bf F c main_arg1) (k : ℕ) : S7168x512.Idx → F .fp8e4m3 :=
  fun i => fw (ix2 (n0 := 7168) (n1 := 32256) (i 0) ⟨(512 * k + (i 1).val) % 32256, Nat.mod_lt _ (by decide)⟩)

theorem readXA {c : Dev nD} (g : Bf F c cc0_scratch4) (o : ℕ) (h : ∀ a, (![0, o] : Fin 2 → ℕ) a + S32x256.size a ≤ S32x7168.size a) :
    View.readAt (Elt F) (Memref.whole cc0_scratch4).view (Rect.unit (s := S32x7168) ![0, o] S32x256.size h).toLoadRect g
      = fun i : S32x256.Idx => g (ix2 (n0 := 32) (n1 := 7168) (i 0) (dd (o + (i 1).val))) := by
  funext i
  refine congrArg g ?_
  have h1 : o + 256 ≤ 7168 := h 1
  have hi : (i 1).val < 256 := (i 1).isLt
  funext a
  match a with
  | ⟨0, _⟩ => apply Fin.ext; show 0 + 1 * (i 0).val = (i 0).val; omega
  | ⟨1, _⟩ => apply Fin.ext; show o + 1 * (i 1).val = (o + (i 1).val) % 7168; omega
theorem readXB {c : Dev nD} (g : Bf F c cc0_scratch4) (o : ℕ) (h : ∀ a, (![0, o] : Fin 2 → ℕ) a + S32x128.size a ≤ S32x7168.size a) :
    View.readAt (Elt F) (Memref.whole cc0_scratch4).view (Rect.unit (s := S32x7168) ![0, o] S32x128.size h).toLoadRect g
      = fun i : S32x128.Idx => g (ix2 (n0 := 32) (n1 := 7168) (i 0) (dd (o + (i 1).val))) := by
  funext i
  refine congrArg g ?_
  have h1 : o + 128 ≤ 7168 := h 1
  have hi : (i 1).val < 128 := (i 1).isLt
  funext a
  match a with
  | ⟨0, _⟩ => apply Fin.ext; show 0 + 1 * (i 0).val = (i 0).val; omega
  | ⟨1, _⟩ => apply Fin.ext; show o + 1 * (i 1).val = (o + (i 1).val) % 7168; omega

/-- A slot read at an element. -/
theorem fill_at {c : Dev nD} (fw : Bf F c main_arg1) (n : ℕ) (o : Fin 3 → ℕ) (h : ∀ a, o a + S1x7168x512.size a ≤ S4x7168x512.size a) (e : o = slotOff n)
    (x : S7168x512.Idx) : fill c fw n ((slotAt o h).view.emb x) = wBlk fw n x := by
  subst e
  have e : Shape.reshapeEquiv (squeezes_S1x7168x512_S7168x512).numel_eq x = Fin.cons ⟨0, Nat.one_pos⟩ x :=
    Shape.reshapeEquiv_cons_one (d := ![7168, 512]) _ x
  have h1 : ((slotAt (slotOff n) h).view.emb x 1).val = (x 0).val := by
    show 0 + 1 * ((Shape.reshapeEquiv (squeezes_S1x7168x512_S7168x512).numel_eq x) 1).val = _
    rw [e]; show 0 + 1 * (x 0).val = _; omega
  have h2 : ((slotAt (slotOff n) h).view.emb x 2).val = (x 1).val := by
    show 0 + 1 * ((Shape.reshapeEquiv (squeezes_S1x7168x512_S7168x512).numel_eq x) 2).val = _
    rw [e]; show 0 + 1 * (x 1).val = _; omega
  unfold fill wBlk
  congr 1
  funext a
  match a with
  | ⟨0, _⟩ => apply Fin.ext; exact h1
  | ⟨1, _⟩ =>
    apply Fin.ext
    show (512 * n + ((slotAt (slotOff n) h).view.emb x 2).val) % 32256 = (512 * n + (x 1).val) % 32256
    rw [h2]

theorem readWA {c : Dev nD} (fw : Bf F c main_arg1) (k : Fin k0_t1_loop.trips) (o : ℕ)
    (hs : ∀ a, k0_off15 (wd k) a + S1x7168x512.size a ≤ S4x7168x512.size a) (h : ∀ a, (![o, 0] : Fin 2 → ℕ) a + S256x512.size a ≤ S7168x512.size a) :
    View.readAt (Elt F) (slotAt (k0_off15 (wd k)) hs).view (Rect.unit (s := S7168x512) ![o, 0] S256x512.size h).toLoadRect (fill c fw k)
      = fun i : S256x512.Idx => wBlk fw k (ix2 (n0 := 7168) (n1 := 512) (dd (o + (i 0).val)) (i 1)) := by
  funext i
  have h1 : o + 256 ≤ 7168 := h 0
  have hi : (i 0).val < 256 := (i 0).isLt
  refine (fill_at fw k _ hs (off15_eq k) _).trans (congrArg _ ?_)
  funext a
  match a with
  | ⟨0, _⟩ => apply Fin.ext; show o + 1 * (i 0).val = (o + (i 0).val) % 7168; omega
  | ⟨1, _⟩ => apply Fin.ext; show 0 + 1 * (i 1).val = (i 1).val; omega
theorem readWB {c : Dev nD} (fw : Bf F c main_arg1) (k : Fin k0_t1_loop.trips) (o : ℕ)
    (hs : ∀ a, k0_off15 (wd k) a + S1x7168x512.size a ≤ S4x7168x512.size a) (h : ∀ a, (![o, 0] : Fin 2 → ℕ) a + S128x512.size a ≤ S7168x512.size a) :
    View.readAt (Elt F) (slotAt (k0_off15 (wd k)) hs).view (Rect.unit (s := S7168x512) ![o, 0] S128x512.size h).toLoadRect (fill c fw k)
      = fun i : S128x512.Idx => wBlk fw k (ix2 (n0 := 7168) (n1 := 512) (dd (o + (i 0).val)) (i 1)) := by
  funext i
  have h1 : o + 128 ≤ 7168 := h 0
  have hi : (i 0).val < 128 := (i 0).isLt
  refine (fill_at fw k _ hs (off15_eq k) _).trans (congrArg _ ?_)
  funext a
  match a with
  | ⟨0, _⟩ => apply Fin.ext; show o + 1 * (i 0).val = (o + (i 0).val) % 7168; omega
  | ⟨1, _⟩ => apply Fin.ext; show 0 + 1 * (i 1).val = (i 1).val; omega

/-- The scale read back. -/
theorem readSc {c : Dev nD} (g : Bf F c cc0_scratch5) (h : ∀ a, (![0, 0] : Fin 2 → ℕ) a + S8x128.size a ≤ S8x128.size a) :
    View.readAt (Elt F) (Memref.whole cc0_scratch5).view (Rect.unit (s := S8x128) ![0, 0] S8x128.size h).toLoadRect g = fun i : S8x128.Idx => g i := by
  funext i
  refine congrArg g ?_
  funext a
  match a with
  | ⟨0, _⟩ => apply Fin.ext; show 0 + 1 * (i 0).val = (i 0).val; omega
  | ⟨1, _⟩ => apply Fin.ext; show 0 + 1 * (i 1).val = (i 1).val; omega

theorem passA_eq {c : Dev nD} (g : Bf F c cc0_scratch4) (fw : Bf F c main_arg1) (k : Fin k0_t1_loop.trips) (o : ℕ)
    (hs : ∀ a, k0_off15 (wd k) a + S1x7168x512.size a ≤ S4x7168x512.size a) (hx : ∀ a, (![0, o] : Fin 2 → ℕ) a + S32x256.size a ≤ S32x7168.size a)
    (h : ∀ a, (![o, 0] : Fin 2 → ℕ) a + S256x512.size a ≤ S7168x512.size a) :
    extractStridedSlice S8x512 ![0, 0] (matmul (φ₁ := .fp8e4m3) (φ₂ := .fp8e4m3) dot_S32x256_S256x512_S32x512_1_0_0_1_n_n none
      (View.readAt (Elt F) (Memref.whole cc0_scratch4).view (Rect.unit (s := S32x7168) ![0, o] S32x256.size hx).toLoadRect g)
      (View.readAt (Elt F) (slotAt (k0_off15 (wd k)) hs).view (Rect.unit (s := S7168x512) ![o, 0] S256x512.size h).toLoadRect (fill c fw k))
      (constant S32x512 .f32 0x00000000#32)) slices_S32x512_o0_0_S8x512 = passA (fun i => g i) (wBlk fw k) o := by
  rw [readXA g o hx, readWA fw k o hs h]; rfl
theorem passB_eq {c : Dev nD} (g : Bf F c cc0_scratch4) (fw : Bf F c main_arg1) (k : Fin k0_t1_loop.trips) (o : ℕ)
    (hs : ∀ a, k0_off15 (wd k) a + S1x7168x512.size a ≤ S4x7168x512.size a) (hx : ∀ a, (![0, o] : Fin 2 → ℕ) a + S32x128.size a ≤ S32x7168.size a)
    (h : ∀ a, (![o, 0] : Fin 2 → ℕ) a + S128x512.size a ≤ S7168x512.size a) :
    extractStridedSlice S8x512 ![0, 0] (matmul (φ₁ := .fp8e4m3) (φ₂ := .fp8e4m3) dot_S32x128_S128x512_S32x512_1_0_0_1_n_n none
      (View.readAt (Elt F) (Memref.whole cc0_scratch4).view (Rect.unit (s := S32x7168) ![0, o] S32x128.size hx).toLoadRect g)
      (View.readAt (Elt F) (slotAt (k0_off15 (wd k)) hs).view (Rect.unit (s := S7168x512) ![o, 0] S128x512.size h).toLoadRect (fill c fw k))
      (constant S32x512 .f32 0x00000000#32)) slices_S32x512_o0_0_S8x512 = passB (fun i => g i) (wBlk fw k) o := by
  rw [readXB g o hx, readWB fw k o hs h]; rfl

/-- The kernel's chain of passes over its own reads is the product's. -/
theorem rawT_eq {c : Dev nD} (g : Bf F c cc0_scratch4) (fw : Bf F c main_arg1) (k : Fin k0_t1_loop.trips)
    (hs : ∀ a, k0_off15 (wd k) a + S1x7168x512.size a ≤ S4x7168x512.size a) :
    (addf (addf (addf (addf (addf (addf (addf (addf (addf (addf (addf (addf (addf (addf (addf (addf (addf (addf (addf (addf (addf (addf (addf (addf (addf (addf (addf (addf (addf (broadcast S8x512 (Scalar.ofBits .f32 0x00000000#32))
    (extractStridedSlice S8x512 ![0, 0] (matmul (φ₁ := .fp8e4m3) (φ₂ := .fp8e4m3) dot_S32x256_S256x512_S32x512_1_0_0_1_n_n none (View.readAt (Elt F) (Memref.whole cc0_scratch4).view (Rect.unit (s := S32x7168) ![0, 0] S32x256.size inb_S32x7168_S32x256_0_0).toLoadRect g) (View.readAt (Elt F) (slotAt (k0_off15 (wd k)) hs).view (Rect.unit (s := S7168x512) ![0, 0] S256x512.size inb_S7168x512_S256x512_0_0).toLoadRect (fill c fw k)) (constant S32x512 .f32 0x00000000#32)) slices_S32x512_o0_0_S8x512))
    (extractStridedSlice S8x512 ![0, 0] (matmul (φ₁ := .fp8e4m3) (φ₂ := .fp8e4m3) dot_S32x256_S256x512_S32x512_1_0_0_1_n_n none (View.readAt (Elt F) (Memref.whole cc0_scratch4).view (Rect.unit (s := S32x7168) ![0, 256] S32x256.size inb_S32x7168_S32x256_0_256).toLoadRect g) (View.readAt (Elt F) (slotAt (k0_off15 (wd k)) hs).view (Rect.unit (s := S7168x512) ![256, 0] S256x512.size inb_S7168x512_S256x512_256_0).toLoadRect (fill c fw k)) (constant S32x512 .f32 0x00000000#32)) slices_S32x512_o0_0_S8x512))
    (extractStridedSlice S8x512 ![0, 0] (matmul (φ₁ := .fp8e4m3) (φ₂ := .fp8e4m3) dot_S32x256_S256x512_S32x512_1_0_0_1_n_n none (View.readAt (Elt F) (Memref.whole cc0_scratch4).view (Rect.unit (s := S32x7168) ![0, 512] S32x256.size inb_S32x7168_S32x256_0_512).toLoadRect g) (View.readAt (Elt F) (slotAt (k0_off15 (wd k)) hs).view (Rect.unit (s := S7168x512) ![512, 0] S256x512.size inb_S7168x512_S256x512_512_0).toLoadRect (fill c fw k)) (constant S32x512 .f32 0x00000000#32)) slices_S32x512_o0_0_S8x512))
    (extractStridedSlice S8x512 ![0, 0] (matmul (φ₁ := .fp8e4m3) (φ₂ := .fp8e4m3) dot_S32x256_S256x512_S32x512_1_0_0_1_n_n none (View.readAt (Elt F) (Memref.whole cc0_scratch4).view (Rect.unit (s := S32x7168) ![0, 768] S32x256.size inb_S32x7168_S32x256_0_768).toLoadRect g) (View.readAt (Elt F) (slotAt (k0_off15 (wd k)) hs).view (Rect.unit (s := S7168x512) ![768, 0] S256x512.size inb_S7168x512_S256x512_768_0).toLoadRect (fill c fw k)) (constant S32x512 .f32 0x00000000#32)) slices_S32x512_o0_0_S8x512))
    (extractStridedSlice S8x512 ![0, 0] (matmul (φ₁ := .fp8e4m3) (φ₂ := .fp8e4m3) dot_S32x256_S256x512_S32x512_1_0_0_1_n_n none (View.readAt (Elt F) (Memref.whole cc0_scratch4).view (Rect.unit (s := S32x7168) ![0, 1024] S32x256.size inb_S32x7168_S32x256_0_1024).toLoadRect g) (View.readAt (Elt F) (slotAt (k0_off15 (wd k)) hs).view (Rect.unit (s := S7168x512) ![1024, 0] S256x512.size inb_S7168x512_S256x512_1024_0).toLoadRect (fill c fw k)) (constant S32x512 .f32 0x00000000#32)) slices_S32x512_o0_0_S8x512))
    (extractStridedSlice S8x512 ![0, 0] (matmul (φ₁ := .fp8e4m3) (φ₂ := .fp8e4m3) dot_S32x256_S256x512_S32x512_1_0_0_1_n_n none (View.readAt (Elt F) (Memref.whole cc0_scratch4).view (Rect.unit (s := S32x7168) ![0, 1280] S32x256.size inb_S32x7168_S32x256_0_1280).toLoadRect g) (View.readAt (Elt F) (slotAt (k0_off15 (wd k)) hs).view (Rect.unit (s := S7168x512) ![1280, 0] S256x512.size inb_S7168x512_S256x512_1280_0).toLoadRect (fill c fw k)) (constant S32x512 .f32 0x00000000#32)) slices_S32x512_o0_0_S8x512))
    (extractStridedSlice S8x512 ![0, 0] (matmul (φ₁ := .fp8e4m3) (φ₂ := .fp8e4m3) dot_S32x256_S256x512_S32x512_1_0_0_1_n_n none (View.readAt (Elt F) (Memref.whole cc0_scratch4).view (Rect.unit (s := S32x7168) ![0, 1536] S32x256.size inb_S32x7168_S32x256_0_1536).toLoadRect g) (View.readAt (Elt F) (slotAt (k0_off15 (wd k)) hs).view (Rect.unit (s := S7168x512) ![1536, 0] S256x512.size inb_S7168x512_S256x512_1536_0).toLoadRect (fill c fw k)) (constant S32x512 .f32 0x00000000#32)) slices_S32x512_o0_0_S8x512))
    (extractStridedSlice S8x512 ![0, 0] (matmul (φ₁ := .fp8e4m3) (φ₂ := .fp8e4m3) dot_S32x256_S256x512_S32x512_1_0_0_1_n_n none (View.readAt (Elt F) (Memref.whole cc0_scratch4).view (Rect.unit (s := S32x7168) ![0, 1792] S32x256.size inb_S32x7168_S32x256_0_1792).toLoadRect g) (View.readAt (Elt F) (slotAt (k0_off15 (wd k)) hs).view (Rect.unit (s := S7168x512) ![1792, 0] S256x512.size inb_S7168x512_S256x512_1792_0).toLoadRect (fill c fw k)) (constant S32x512 .f32 0x00000000#32)) slices_S32x512_o0_0_S8x512))
    (extractStridedSlice S8x512 ![0, 0] (matmul (φ₁ := .fp8e4m3) (φ₂ := .fp8e4m3) dot_S32x256_S256x512_S32x512_1_0_0_1_n_n none (View.readAt (Elt F) (Memref.whole cc0_scratch4).view (Rect.unit (s := S32x7168) ![0, 2048] S32x256.size inb_S32x7168_S32x256_0_2048).toLoadRect g) (View.readAt (Elt F) (slotAt (k0_off15 (wd k)) hs).view (Rect.unit (s := S7168x512) ![2048, 0] S256x512.size inb_S7168x512_S256x512_2048_0).toLoadRect (fill c fw k)) (constant S32x512 .f32 0x00000000#32)) slices_S32x512_o0_0_S8x512))
    (extractStridedSlice S8x512 ![0, 0] (matmul (φ₁ := .fp8e4m3) (φ₂ := .fp8e4m3) dot_S32x128_S128x512_S32x512_1_0_0_1_n_n none (View.readAt (Elt F) (Memref.whole cc0_scratch4).view (Rect.unit (s := S32x7168) ![0, 2304] S32x128.size inb_S32x7168_S32x128_0_2304).toLoadRect g) (View.readAt (Elt F) (slotAt (k0_off15 (wd k)) hs).view (Rect.unit (s := S7168x512) ![2304, 0] S128x512.size inb_S7168x512_S128x512_2304_0).toLoadRect (fill c fw k)) (constant S32x512 .f32 0x00000000#32)) slices_S32x512_o0_0_S8x512))
    (extractStridedSlice S8x512 ![0, 0] (matmul (φ₁ := .fp8e4m3) (φ₂ := .fp8e4m3) dot_S32x256_S256x512_S32x512_1_0_0_1_n_n none (View.readAt (Elt F) (Memref.whole cc0_scratch4).view (Rect.unit (s := S32x7168) ![0, 2432] S32x256.size inb_S32x7168_S32x256_0_2432).toLoadRect g) (View.readAt (Elt F) (slotAt (k0_off15 (wd k)) hs).view (Rect.unit (s := S7168x512) ![2432, 0] S256x512.size inb_S7168x512_S256x512_2432_0).toLoadRect (fill c fw k)) (constant S32x512 .f32 0x00000000#32)) slices_S32x512_o0_0_S8x512))
    (extractStridedSlice S8x512 ![0, 0] (matmul (φ₁ := .fp8e4m3) (φ₂ := .fp8e4m3) dot_S32x256_S256x512_S32x512_1_0_0_1_n_n none (View.readAt (Elt F) (Memref.whole cc0_scratch4).view (Rect.unit (s := S32x7168) ![0, 2688] S32x256.size inb_S32x7168_S32x256_0_2688).toLoadRect g) (View.readAt (Elt F) (slotAt (k0_off15 (wd k)) hs).view (Rect.unit (s := S7168x512) ![2688, 0] S256x512.size inb_S7168x512_S256x512_2688_0).toLoadRect (fill c fw k)) (constant S32x512 .f32 0x00000000#32)) slices_S32x512_o0_0_S8x512))
    (extractStridedSlice S8x512 ![0, 0] (matmul (φ₁ := .fp8e4m3) (φ₂ := .fp8e4m3) dot_S32x256_S256x512_S32x512_1_0_0_1_n_n none (View.readAt (Elt F) (Memref.whole cc0_scratch4).view (Rect.unit (s := S32x7168) ![0, 2944] S32x256.size inb_S32x7168_S32x256_0_2944).toLoadRect g) (View.readAt (Elt F) (slotAt (k0_off15 (wd k)) hs).view (Rect.unit (s := S7168x512) ![2944, 0] S256x512.size inb_S7168x512_S256x512_2944_0).toLoadRect (fill c fw k)) (constant S32x512 .f32 0x00000000#32)) slices_S32x512_o0_0_S8x512))
    (extractStridedSlice S8x512 ![0, 0] (matmul (φ₁ := .fp8e4m3) (φ₂ := .fp8e4m3) dot_S32x256_S256x512_S32x512_1_0_0_1_n_n none (View.readAt (Elt F) (Memref.whole cc0_scratch4).view (Rect.unit (s := S32x7168) ![0, 3200] S32x256.size inb_S32x7168_S32x256_0_3200).toLoadRect g) (View.readAt (Elt F) (slotAt (k0_off15 (wd k)) hs).view (Rect.unit (s := S7168x512) ![3200, 0] S256x512.size inb_S7168x512_S256x512_3200_0).toLoadRect (fill c fw k)) (constant S32x512 .f32 0x00000000#32)) slices_S32x512_o0_0_S8x512))
    (extractStridedSlice S8x512 ![0, 0] (matmul (φ₁ := .fp8e4m3) (φ₂ := .fp8e4m3) dot_S32x256_S256x512_S32x512_1_0_0_1_n_n none (View.readAt (Elt F) (Memref.whole cc0_scratch4).view (Rect.unit (s := S32x7168) ![0, 3456] S32x256.size inb_S32x7168_S32x256_0_3456).toLoadRect g) (View.readAt (Elt F) (slotAt (k0_off15 (wd k)) hs).view (Rect.unit (s := S7168x512) ![3456, 0] S256x512.size inb_S7168x512_S256x512_3456_0).toLoadRect (fill c fw k)) (constant S32x512 .f32 0x00000000#32)) slices_S32x512_o0_0_S8x512))
    (extractStridedSlice S8x512 ![0, 0] (matmul (φ₁ := .fp8e4m3) (φ₂ := .fp8e4m3) dot_S32x256_S256x512_S32x512_1_0_0_1_n_n none (View.readAt (Elt F) (Memref.whole cc0_scratch4).view (Rect.unit (s := S32x7168) ![0, 3712] S32x256.size inb_S32x7168_S32x256_0_3712).toLoadRect g) (View.readAt (Elt F) (slotAt (k0_off15 (wd k)) hs).view (Rect.unit (s := S7168x512) ![3712, 0] S256x512.size inb_S7168x512_S256x512_3712_0).toLoadRect (fill c fw k)) (constant S32x512 .f32 0x00000000#32)) slices_S32x512_o0_0_S8x512))
    (extractStridedSlice S8x512 ![0, 0] (matmul (φ₁ := .fp8e4m3) (φ₂ := .fp8e4m3) dot_S32x256_S256x512_S32x512_1_0_0_1_n_n none (View.readAt (Elt F) (Memref.whole cc0_scratch4).view (Rect.unit (s := S32x7168) ![0, 3968] S32x256.size inb_S32x7168_S32x256_0_3968).toLoadRect g) (View.readAt (Elt F) (slotAt (k0_off15 (wd k)) hs).view (Rect.unit (s := S7168x512) ![3968, 0] S256x512.size inb_S7168x512_S256x512_3968_0).toLoadRect (fill c fw k)) (constant S32x512 .f32 0x00000000#32)) slices_S32x512_o0_0_S8x512))
    (extractStridedSlice S8x512 ![0, 0] (matmul (φ₁ := .fp8e4m3) (φ₂ := .fp8e4m3) dot_S32x256_S256x512_S32x512_1_0_0_1_n_n none (View.readAt (Elt F) (Memref.whole cc0_scratch4).view (Rect.unit (s := S32x7168) ![0, 4224] S32x256.size inb_S32x7168_S32x256_0_4224).toLoadRect g) (View.readAt (Elt F) (slotAt (k0_off15 (wd k)) hs).view (Rect.unit (s := S7168x512) ![4224, 0] S256x512.size inb_S7168x512_S256x512_4224_0).toLoadRect (fill c fw k)) (constant S32x512 .f32 0x00000000#32)) slices_S32x512_o0_0_S8x512))
    (extractStridedSlice S8x512 ![0, 0] (matmul (φ₁ := .fp8e4m3) (φ₂ := .fp8e4m3) dot_S32x256_S256x512_S32x512_1_0_0_1_n_n none (View.readAt (Elt F) (Memref.whole cc0_scratch4).view (Rect.unit (s := S32x7168) ![0, 4480] S32x256.size inb_S32x7168_S32x256_0_4480).toLoadRect g) (View.readAt (Elt F) (slotAt (k0_off15 (wd k)) hs).view (Rect.unit (s := S7168x512) ![4480, 0] S256x512.size inb_S7168x512_S256x512_4480_0).toLoadRect (fill c fw k)) (constant S32x512 .f32 0x00000000#32)) slices_S32x512_o0_0_S8x512))
    (extractStridedSlice S8x512 ![0, 0] (matmul (φ₁ := .fp8e4m3) (φ₂ := .fp8e4m3) dot_S32x128_S128x512_S32x512_1_0_0_1_n_n none (View.readAt (Elt F) (Memref.whole cc0_scratch4).view (Rect.unit (s := S32x7168) ![0, 4736] S32x128.size inb_S32x7168_S32x128_0_4736).toLoadRect g) (View.readAt (Elt F) (slotAt (k0_off15 (wd k)) hs).view (Rect.unit (s := S7168x512) ![4736, 0] S128x512.size inb_S7168x512_S128x512_4736_0).toLoadRect (fill c fw k)) (constant S32x512 .f32 0x00000000#32)) slices_S32x512_o0_0_S8x512))
    (extractStridedSlice S8x512 ![0, 0] (matmul (φ₁ := .fp8e4m3) (φ₂ := .fp8e4m3) dot_S32x256_S256x512_S32x512_1_0_0_1_n_n none (View.readAt (Elt F) (Memref.whole cc0_scratch4).view (Rect.unit (s := S32x7168) ![0, 4864] S32x256.size inb_S32x7168_S32x256_0_4864).toLoadRect g) (View.readAt (Elt F) (slotAt (k0_off15 (wd k)) hs).view (Rect.unit (s := S7168x512) ![4864, 0] S256x512.size inb_S7168x512_S256x512_4864_0).toLoadRect (fill c fw k)) (constant S32x512 .f32 0x00000000#32)) slices_S32x512_o0_0_S8x512))
    (extractStridedSlice S8x512 ![0, 0] (matmul (φ₁ := .fp8e4m3) (φ₂ := .fp8e4m3) dot_S32x256_S256x512_S32x512_1_0_0_1_n_n none (View.readAt (Elt F) (Memref.whole cc0_scratch4).view (Rect.unit (s := S32x7168) ![0, 5120] S32x256.size inb_S32x7168_S32x256_0_5120).toLoadRect g) (View.readAt (Elt F) (slotAt (k0_off15 (wd k)) hs).view (Rect.unit (s := S7168x512) ![5120, 0] S256x512.size inb_S7168x512_S256x512_5120_0).toLoadRect (fill c fw k)) (constant S32x512 .f32 0x00000000#32)) slices_S32x512_o0_0_S8x512))
    (extractStridedSlice S8x512 ![0, 0] (matmul (φ₁ := .fp8e4m3) (φ₂ := .fp8e4m3) dot_S32x256_S256x512_S32x512_1_0_0_1_n_n none (View.readAt (Elt F) (Memref.whole cc0_scratch4).view (Rect.unit (s := S32x7168) ![0, 5376] S32x256.size inb_S32x7168_S32x256_0_5376).toLoadRect g) (View.readAt (Elt F) (slotAt (k0_off15 (wd k)) hs).view (Rect.unit (s := S7168x512) ![5376, 0] S256x512.size inb_S7168x512_S256x512_5376_0).toLoadRect (fill c fw k)) (constant S32x512 .f32 0x00000000#32)) slices_S32x512_o0_0_S8x512))
    (extractStridedSlice S8x512 ![0, 0] (matmul (φ₁ := .fp8e4m3) (φ₂ := .fp8e4m3) dot_S32x256_S256x512_S32x512_1_0_0_1_n_n none (View.readAt (Elt F) (Memref.whole cc0_scratch4).view (Rect.unit (s := S32x7168) ![0, 5632] S32x256.size inb_S32x7168_S32x256_0_5632).toLoadRect g) (View.readAt (Elt F) (slotAt (k0_off15 (wd k)) hs).view (Rect.unit (s := S7168x512) ![5632, 0] S256x512.size inb_S7168x512_S256x512_5632_0).toLoadRect (fill c fw k)) (constant S32x512 .f32 0x00000000#32)) slices_S32x512_o0_0_S8x512))
    (extractStridedSlice S8x512 ![0, 0] (matmul (φ₁ := .fp8e4m3) (φ₂ := .fp8e4m3) dot_S32x256_S256x512_S32x512_1_0_0_1_n_n none (View.readAt (Elt F) (Memref.whole cc0_scratch4).view (Rect.unit (s := S32x7168) ![0, 5888] S32x256.size inb_S32x7168_S32x256_0_5888).toLoadRect g) (View.readAt (Elt F) (slotAt (k0_off15 (wd k)) hs).view (Rect.unit (s := S7168x512) ![5888, 0] S256x512.size inb_S7168x512_S256x512_5888_0).toLoadRect (fill c fw k)) (constant S32x512 .f32 0x00000000#32)) slices_S32x512_o0_0_S8x512))
    (extractStridedSlice S8x512 ![0, 0] (matmul (φ₁ := .fp8e4m3) (φ₂ := .fp8e4m3) dot_S32x256_S256x512_S32x512_1_0_0_1_n_n none (View.readAt (Elt F) (Memref.whole cc0_scratch4).view (Rect.unit (s := S32x7168) ![0, 6144] S32x256.size inb_S32x7168_S32x256_0_6144).toLoadRect g) (View.readAt (Elt F) (slotAt (k0_off15 (wd k)) hs).view (Rect.unit (s := S7168x512) ![6144, 0] S256x512.size inb_S7168x512_S256x512_6144_0).toLoadRect (fill c fw k)) (constant S32x512 .f32 0x00000000#32)) slices_S32x512_o0_0_S8x512))
    (extractStridedSlice S8x512 ![0, 0] (matmul (φ₁ := .fp8e4m3) (φ₂ := .fp8e4m3) dot_S32x256_S256x512_S32x512_1_0_0_1_n_n none (View.readAt (Elt F) (Memref.whole cc0_scratch4).view (Rect.unit (s := S32x7168) ![0, 6400] S32x256.size inb_S32x7168_S32x256_0_6400).toLoadRect g) (View.readAt (Elt F) (slotAt (k0_off15 (wd k)) hs).view (Rect.unit (s := S7168x512) ![6400, 0] S256x512.size inb_S7168x512_S256x512_6400_0).toLoadRect (fill c fw k)) (constant S32x512 .f32 0x00000000#32)) slices_S32x512_o0_0_S8x512))
    (extractStridedSlice S8x512 ![0, 0] (matmul (φ₁ := .fp8e4m3) (φ₂ := .fp8e4m3) dot_S32x256_S256x512_S32x512_1_0_0_1_n_n none (View.readAt (Elt F) (Memref.whole cc0_scratch4).view (Rect.unit (s := S32x7168) ![0, 6656] S32x256.size inb_S32x7168_S32x256_0_6656).toLoadRect g) (View.readAt (Elt F) (slotAt (k0_off15 (wd k)) hs).view (Rect.unit (s := S7168x512) ![6656, 0] S256x512.size inb_S7168x512_S256x512_6656_0).toLoadRect (fill c fw k)) (constant S32x512 .f32 0x00000000#32)) slices_S32x512_o0_0_S8x512))
    (extractStridedSlice S8x512 ![0, 0] (matmul (φ₁ := .fp8e4m3) (φ₂ := .fp8e4m3) dot_S32x256_S256x512_S32x512_1_0_0_1_n_n none (View.readAt (Elt F) (Memref.whole cc0_scratch4).view (Rect.unit (s := S32x7168) ![0, 6912] S32x256.size inb_S32x7168_S32x256_0_6912).toLoadRect g) (View.readAt (Elt F) (slotAt (k0_off15 (wd k)) hs).view (Rect.unit (s := S7168x512) ![6912, 0] S256x512.size inb_S7168x512_S256x512_6912_0).toLoadRect (fill c fw k)) (constant S32x512 .f32 0x00000000#32)) slices_S32x512_o0_0_S8x512))
      = rawT (fun i => g i) (wBlk fw k) := by
  unfold rawT
  exact (congrArg₂ addf (congrArg₂ addf (congrArg₂ addf (congrArg₂ addf (congrArg₂ addf (congrArg₂ addf (congrArg₂ addf (congrArg₂ addf (congrArg₂ addf (congrArg₂ addf (congrArg₂ addf (congrArg₂ addf (congrArg₂ addf (congrArg₂ addf (congrArg₂ addf (congrArg₂ addf (congrArg₂ addf (congrArg₂ addf (congrArg₂ addf (congrArg₂ addf (congrArg₂ addf (congrArg₂ addf (congrArg₂ addf (congrArg₂ addf (congrArg₂ addf (congrArg₂ addf (congrArg₂ addf (congrArg₂ addf (congrArg₂ addf rfl (passA_eq g fw k 0 hs _ _)) (passA_eq g fw k 256 hs _ _)) (passA_eq g fw k 512 hs _ _)) (passA_eq g fw k 768 hs _ _)) (passA_eq g fw k 1024 hs _ _)) (passA_eq g fw k 1280 hs _ _)) (passA_eq g fw k 1536 hs _ _)) (passA_eq g fw k 1792 hs _ _)) (passA_eq g fw k 2048 hs _ _)) (passB_eq g fw k 2304 hs _ _)) (passA_eq g fw k 2432 hs _ _)) (passA_eq g fw k 2688 hs _ _)) (passA_eq g fw k 2944 hs _ _)) (passA_eq g fw k 3200 hs _ _)) (passA_eq g fw k 3456 hs _ _)) (passA_eq g fw k 3712 hs _ _)) (passA_eq g fw k 3968 hs _ _)) (passA_eq g fw k 4224 hs _ _)) (passA_eq g fw k 4480 hs _ _)) (passB_eq g fw k 4736 hs _ _)) (passA_eq g fw k 4864 hs _ _)) (passA_eq g fw k 5120 hs _ _)) (passA_eq g fw k 5376 hs _ _)) (passA_eq g fw k 5632 hs _ _)) (passA_eq g fw k 5888 hs _ _)) (passA_eq g fw k 6144 hs _ _)) (passA_eq g fw k 6400 hs _ _)) (passA_eq g fw k 6656 hs _ _)) (passA_eq g fw k 6912 hs _ _))

/-- A tile's four words a lane, and the lane's bit of its word. -/
def maskT (words : S8x128.Idx → BitVec 32) (s t : BitVec 32) : IVec S8x128 1 :=
  let v9 : IVec S8x128 32 := iota .tc S8x128 32 [1] iota_S8x128_d1_w32
  let v1512 : IVec S8x128 32 := broadcast S8x128 0#32
  let v1518 : IVec S8x128 32 := subi (extui 32 (cmpi .sgt v9 v1512) natLt_1_32) (extui 32 (cmpi .slt v9 v1512) natLt_1_32)
  let v1523 : BitVec 32 := Scalar.subi (Scalar.extui (Scalar.cmpi .sgt 32#32 0#32)) (Scalar.extui (Scalar.cmpi .slt 32#32 0#32))
  let v1511 : IVec S8x128 32 := divsi v9 (broadcast S8x128 32#32)
  let v1530 : IVec S8x128 1 := andi (cmpi .ne v1518 (broadcast S8x128 v1523)) (cmpi .ne (remsi v9 (broadcast S8x128 32#32)) (broadcast S8x128 0#32))
  let v1533 : IVec S8x128 32 := select v1530 (subi v1511 (broadcast S8x128 1#32)) v1511
  let v1537 : IVec S8x128 32 := addi v1533 (broadcast S8x128 (Scalar.muli (Scalar.addi s t) 4#32))
  let v1542 : IVec S8x128 32 := select (cmpi .slt v1537 (broadcast S8x128 0#32)) (addi v1537 (broadcast S8x128 128#32)) v1537
  let v1544 : IVec S8x128 32 := shapeCast S8x128 (shapeCast S8x128x1 v1542 shapeCasts_S8x128_S8x128x1) shapeCasts_S8x128x1_S8x128
  cmpi .eq (andi (shrsi (dynamicGather (s := S8x128) 1 words v1544) (andi v9 (broadcast S8x128 31#32))) (broadcast S8x128 1#32)) (broadcast S8x128 1#32)

/-- A tile of the masked logits. -/
def tileT (m : IVec S8x128 1) (rt : FVec F S8x128 .f32) (sc : S8x128.Idx → F .f32) (ws : S128.Idx → F .f32) : FVec F S8x128 .f32 :=
  select m (mulf (mulf rt sc) (broadcastTo S8x128 (shapeCast S1x128 ws shapeCasts_S128_S1x128) broadcasts_S1x128_S8x128)) (broadcast S8x128 (Scalar.ofBits .f32 0x00000000#32))

/-- A row of a tile as it is stored. -/
def rowT (b : ℕ) (h : S8x128.Slices ![b, 0] S1x128) (v : FVec F S8x128 .f32) : FVec F S1x1x128 .f32 :=
  shapeCast S1x1x128 (extractStridedSlice S1x128 ![b, 0] v h) shapeCasts_S1x128_S1x1x128

theorem rowT_apply (b : ℕ) (h : S8x128.Slices ![b, 0] S1x128) (hb : b < 8) (v : FVec F S8x128 .f32) (j : S1x1x128.Idx) :
    rowT b h v j = v (ix2 (n0 := 8) (n1 := 128) ⟨b, hb⟩ (j 2)) := by
  have hj : j = ix3 (n0 := 1) (n1 := 1) (n2 := 128) (j 0) (j 1) (j 2) := eq_ix3 j
  rw [hj]
  refine (shapeCast_ab_1ab_apply (a := 1) (b := 128) _ _ (j 0) (j 1) (j 2)).trans (congrArg v ?_)
  have h1 : (j 1).val < 1 := (j 1).isLt
  funext a
  match a with
  | ⟨0, _⟩ => apply Fin.ext; show b + (j 1).val = b; omega
  | ⟨1, _⟩ => apply Fin.ext; show 0 + (j 2).val = (j 2).val; omega

theorem tileT_apply (m : IVec S8x128 1) (rt : FVec F S8x128 .f32) (sc : S8x128.Idx → F .f32) (ws : S128.Idx → F .f32) (r : Fin 8) (l : Fin 128) :
    tileT m rt sc ws (ix2 r l) = Scalar.select (m (ix2 r l)) (FloatOps.mulf (FloatOps.mulf (rt (ix2 r l)) (sc (ix2 r l))) (ws (ix1 l))) (FloatOps.ofBits .f32 0x00000000#32) := by
  show Scalar.select _ (FloatOps.mulf (FloatOps.mulf _ _) (broadcastTo _ _ _ (ix2 r l))) _ = _
  refine congrArg (fun z => Scalar.select (m (ix2 r l)) (FloatOps.mulf (FloatOps.mulf (rt (ix2 r l)) (sc (ix2 r l))) z) (FloatOps.ofBits .f32 0x00000000#32)) ?_
  refine (broadcastTo_1b_ab_apply (a := 8) (b := 128) _ _ r l).trans ?_
  exact shapeCast_a_1a_apply (a := 128) _ _ 0 l

/-- The tile's slice of the product. -/
theorem slice_raw (o : ℕ) (h : S8x512.Slices ![0, o] S8x128) (ho : o + 128 ≤ 512) (v : FVec F S8x512 .f32) (r : Fin 8) (l : Fin 128) :
    extractStridedSlice S8x128 ![0, o] v h (ix2 r l) = v (ix2 (n0 := 8) (n1 := 512) r ⟨o + l.val, by omega⟩) := by
  refine congrArg v ?_
  funext a
  match a with
  | ⟨0, _⟩ => apply Fin.ext; show 0 + r.val = r.val; omega
  | ⟨1, _⟩ => rfl

end Cert.Proof.KernelIdeal

end
-- ==== Proof.KernelIdeal.Good.lean ====
/-
  What the kernel's buffers hold between the trips of the streaming loop: after the first trip the codes, the scales, the
  mask words and the two small results are as quantised; and the logits of the blocks already streamed are final.
-/
module

public import proofs.«01_k».proof.Proof.KernelIdeal.Tile
public import Idealize.ShloMosaic.Lib.Pipeline.Value
public import Idealize.ShloMosaic.Lib.VecWindow
public import Idealize.ShloMosaic.Lib.Pipeline.ReadBack

@[expose] public section

set_option maxRecDepth 65536

noncomputable section

namespace Cert.Proof.KernelIdeal

open Cert.KernelIdeal Cert.KernelIdeal.Gen
open Idealize.ShloMosaic Idealize.ShloMosaic.TcCoe Idealize.ShloMosaic.Tactic Idealize.ShloMosaic.ValueIdx

variable {F : FTy → Type} [FloatOps F]

/-! ## The mask of a tile -/

/-- Bit `p` of a word, as a mask. -/
def bit (w : BitVec 32) (p : ℕ) : BitVec 1 :=
  IntOp.cmpi .eq (IntOp.andi (IntOp.shrsi .vector w (BitVec.ofNat 32 p)) 1#32) 1#32

/-- The gather's index at a lane, from the tile's first word. -/
def laneG (m : BitVec 32) (l : ℕ) : BitVec 32 :=
  let x : BitVec 32 := BitVec.ofNat 32 l
  let q := Scalar.select (IntOp.andi (IntOp.cmpi .ne (IntOp.subi ((IntOp.cmpi .sgt x 0#32).setWidth 32) ((IntOp.cmpi .slt x 0#32).setWidth 32))
      (Scalar.subi (Scalar.extui (Scalar.cmpi .sgt (32#32 : BitVec 32) 0#32)) (Scalar.extui (Scalar.cmpi .slt (32#32 : BitVec 32) 0#32)) : BitVec 32))
      (IntOp.cmpi .ne (IntOp.remsi .vector x 32#32) 0#32)) (IntOp.subi (IntOp.divsi .vector x 32#32) 1#32) (IntOp.divsi .vector x 32#32)
  let a := IntOp.addi q m
  Scalar.select (IntOp.cmpi .slt a 0#32) (IntOp.addi a 128#32) a

theorem laneG_eq : ∀ u : Fin 32, ∀ l : Fin 128, (laneG (Scalar.muli (wd u) 4#32) l).toNat % 128 = 4 * u.val + l.val / 32 := by decide +kernel
theorem lane_bit : ∀ l : Fin 128, IntOp.andi (BitVec.ofNat 32 l.val) 31#32 = BitVec.ofNat 32 (l.val % 32) := by decide +kernel

theorem maskT_apply (words : S8x128.Idx → BitVec 32) (s t : BitVec 32) (u : ℕ) (hu : u < 32) (h : Scalar.addi s t = wd u) (r : Fin 8) (l : Fin 128) :
    maskT words s t (ix2 r l) = bit (words (ix2 (n0 := 8) (n1 := 128) r ⟨4 * u + l.val / 32, by omega⟩)) (l.val % 32) := by
  have hio : iota .tc S8x128 32 [1] iota_S8x128_d1_w32 (ix2 (n0 := 8) (n1 := 128) r l) = BitVec.ofNat 32 l.val := iota_single_apply _ _ _ _ _ _
  unfold maskT
  simp only [shapeCast_shapeCast]
  unfold bit
  rw [← lane_bit l]
  show IntOp.cmpi .eq (IntOp.andi (IntOp.shrsi .vector (words _) (IntOp.andi (iota .tc S8x128 32 [1] iota_S8x128_d1_w32 (ix2 (n0 := 8) (n1 := 128) r l)) 31#32)) 1#32) 1#32 = _
  rw [hio]
  refine congrArg (fun z => IntOp.cmpi .eq (IntOp.andi (IntOp.shrsi .vector (words z) (IntOp.andi (BitVec.ofNat 32 l.val) 31#32)) 1#32) 1#32) ?_
  funext a
  match a with
  | ⟨0, _⟩ => rfl
  | ⟨1, _⟩ =>
    apply Fin.ext
    refine Eq.trans ?_ (laneG_eq ⟨u, hu⟩ l)
    rw [← h]
    show (laneG (Scalar.muli (Scalar.addi s t) 4#32) (0 * 128 + l.val)).toNat % 128 = _
    rw [Nat.zero_mul, Nat.zero_add]

/-! ## The results -/

section
variable {c : Dev nD}

/-- The activations as the kernel loads them. -/
def xin (f0 : Bf F c main_v0) : S3x7168.Idx → F .bf16 := fun i => f0 i
def xqOf (f0 : Bf F c main_v0) : S32x7168.Idx → F .fp8e4m3 := k0_pay5 (k0_pay1 (xin f0)) (k0_pay3 (xin f0)) k0_pay4
def scOf (f0 : Bf F c main_v0) : S8x128.Idx → F .f32 := k0_pay7 (k0_pay2 (xin f0))
def cdOf (f0 : Bf F c main_v0) : S3x7168.Idx → F .fp8e4m3 := fun i => xqOf f0 (ix2 (n0 := 32) (n1 := 7168) ⟨(i 0).val, lt_trans (i 0).isLt (by decide)⟩ (i 1))
def xsOf (f0 : Bf F c main_v0) : S1x3.Idx → F .f32 := k0_pay10 k0_pay8 (FloatOps.ofBits .f32 0x00000000#32) (k0_pay9 (k0_pay2 (xin f0)))
/-- A logit, masked. -/
def outOf (f0 : Bf F c main_v0) (f2 : Bf F c main_arg2) (f3 : Bf F c main_arg3) (fw : Bf F c main_arg1) (b : Fin 3) (n : Fin 32256) : F .f32 :=
  Scalar.select (bit (f3 (ix2 (n0 := 3) (n1 := 1008) b ⟨n.val / 32, by omega⟩)) (n.val % 32))
    (FloatOps.mulf (FloatOps.mulf (rawT (xqOf f0) (wBlk fw (n.val / 512)) (ix2 (n0 := 8) (n1 := 512) ⟨b.val, by omega⟩ ⟨n.val % 512, by omega⟩))
      (scOf f0 (ix2 (n0 := 8) (n1 := 128) ⟨b.val, by omega⟩ ⟨n.val % 128, by omega⟩))) (f2 (ix1 (n := 32256) n)))
    (FloatOps.ofBits .f32 0x00000000#32)
end

/-- The mask words the kernel keeps: the three real rows. -/
def wordsOk {c : Dev nD} (f3 : Bf F c main_arg3) (g18 : Bf F c cc0_scratch6) : Prop :=
  ∀ (b : Fin 3) (j : Fin 1008), g18 (ix2 (n0 := 8) (n1 := 1024) ⟨b.val, by omega⟩ ⟨j.val, by omega⟩) = f3 (ix2 (n0 := 3) (n1 := 1008) b j)

/-- What is known before trip `k` of the buffers the loop works on. -/
def Good (c : Dev nD) (k : ℕ) (f0 : Bf F c main_v0) (f2 : Bf F c main_arg2) (f3 : Bf F c main_arg3) (fw : Bf F c main_arg1)
    (g16 : Bf F c cc0_scratch4) (g17 : Bf F c cc0_scratch5) (g18 : Bf F c cc0_scratch6)
    (g28 : Bf F c cc0_scratch16) (g29 : Bf F c cc0_scratch17) (g23 : Bf F c cc0_scratch11) : Prop :=
  (k ≠ 0 → g16 = xqOf f0 ∧ g17 = scOf f0 ∧ wordsOk f3 g18 ∧ g28 = cdOf f0 ∧ g29 = xsOf f0)
    ∧ ∀ (b : Fin 3) (n : Fin 32256), n.val < 512 * k → g23 (ix3 (n0 := 3) (n1 := 1) (n2 := 32256) b 0 n) = outOf f0 f2 f3 fw b n

theorem good_zero (c : Dev nD) (f0 : Bf F c main_v0) (f2 : Bf F c main_arg2) (f3 : Bf F c main_arg3) (fw : Bf F c main_arg1)
    (g16 : Bf F c cc0_scratch4) (g17 : Bf F c cc0_scratch5) (g18 : Bf F c cc0_scratch6)
    (g28 : Bf F c cc0_scratch16) (g29 : Bf F c cc0_scratch17) (g23 : Bf F c cc0_scratch11) : Good c 0 f0 f2 f3 fw g16 g17 g18 g28 g29 g23 :=
  ⟨fun h => absurd rfl h, fun _ _ h => absurd h (by omega)⟩

/-! ## A trip's twelve stores -/

theorem off16_eq : ∀ k : Fin k0_t1_loop.trips, k0_off16 (wd k) = ![0, 128 * (k.val / 8)] := by decide +kernel
theorem off18_eq : ∀ (k : Fin k0_t1_loop.trips) (t : Fin 4), k0_off18 (wd k) (wd t) = ![512 * k.val + 128 * t.val] := by decide +kernel
theorem off19_eq : ∀ (k : Fin k0_t1_loop.trips) (t : Fin 4), k0_off19 (wd k) (wd t) = ![0, 0, 512 * k.val + 128 * t.val] := by decide +kernel
theorem off20_eq : ∀ (k : Fin k0_t1_loop.trips) (t : Fin 4), k0_off20 (wd k) (wd t) = ![1, 0, 512 * k.val + 128 * t.val] := by decide +kernel
theorem off21_eq : ∀ (k : Fin k0_t1_loop.trips) (t : Fin 4), k0_off21 (wd k) (wd t) = ![2, 0, 512 * k.val + 128 * t.val] := by decide +kernel
theorem inb19 : ∀ (k : Fin k0_t1_loop.trips) (t : Fin 4), ∀ a, k0_off19 (wd k) (wd t) a + S1x1x128.size a ≤ S3x1x32256.size a := by decide +kernel
theorem inb20 : ∀ (k : Fin k0_t1_loop.trips) (t : Fin 4), ∀ a, k0_off20 (wd k) (wd t) a + S1x1x128.size a ≤ S3x1x32256.size a := by decide +kernel
theorem inb21 : ∀ (k : Fin k0_t1_loop.trips) (t : Fin 4), ∀ a, k0_off21 (wd k) (wd t) a + S1x1x128.size a ≤ S3x1x32256.size a := by decide +kernel
theorem inb18 : ∀ (k : Fin k0_t1_loop.trips) (t : Fin 4), ∀ a, k0_off18 (wd k) (wd t) a + S128.size a ≤ S32256.size a := by decide +kernel
theorem lane0 : ∀ (k : Fin k0_t1_loop.trips) (t : Fin 4), Scalar.addi (wd (4 * (k.val % 8))) (wd t) = wd (4 * (k.val % 8) + t) := by decide +kernel

/-- The twelve row pieces a trip stores, the last first. -/
def pieces (k : Fin k0_t1_loop.trips) (raw : FVec F S8x512 .f32) (words : S8x128.Idx → BitVec 32) (s : BitVec 32) (sc : S8x128.Idx → F .f32)
    (ws : Fin 4 → S128.Idx → F .f32) : List (View.Piece (Elt F) S3x1x32256 .f32) :=
  [⟨Rect.unit (s := S3x1x32256) (k0_off21 (wd k) 3#32) S1x1x128.size (inb21 k 3), rowT 2 slices_S8x128_o2_0_S1x128 (tileT (maskT words s 3#32) (extractStridedSlice S8x128 ![0, 384] raw slices_S8x512_o0_384_S8x128) sc (ws 3))⟩,
    ⟨Rect.unit (s := S3x1x32256) (k0_off20 (wd k) 3#32) S1x1x128.size (inb20 k 3), rowT 1 slices_S8x128_o1_0_S1x128 (tileT (maskT words s 3#32) (extractStridedSlice S8x128 ![0, 384] raw slices_S8x512_o0_384_S8x128) sc (ws 3))⟩,
    ⟨Rect.unit (s := S3x1x32256) (k0_off19 (wd k) 3#32) S1x1x128.size (inb19 k 3), rowT 0 slices_S8x128_o0_0_S1x128 (tileT (maskT words s 3#32) (extractStridedSlice S8x128 ![0, 384] raw slices_S8x512_o0_384_S8x128) sc (ws 3))⟩,
    ⟨Rect.unit (s := S3x1x32256) (k0_off21 (wd k) 2#32) S1x1x128.size (inb21 k 2), rowT 2 slices_S8x128_o2_0_S1x128 (tileT (maskT words s 2#32) (extractStridedSlice S8x128 ![0, 256] raw slices_S8x512_o0_256_S8x128) sc (ws 2))⟩,
    ⟨Rect.unit (s := S3x1x32256) (k0_off20 (wd k) 2#32) S1x1x128.size (inb20 k 2), rowT 1 slices_S8x128_o1_0_S1x128 (tileT (maskT words s 2#32) (extractStridedSlice S8x128 ![0, 256] raw slices_S8x512_o0_256_S8x128) sc (ws 2))⟩,
    ⟨Rect.unit (s := S3x1x32256) (k0_off19 (wd k) 2#32) S1x1x128.size (inb19 k 2), rowT 0 slices_S8x128_o0_0_S1x128 (tileT (maskT words s 2#32) (extractStridedSlice S8x128 ![0, 256] raw slices_S8x512_o0_256_S8x128) sc (ws 2))⟩,
    ⟨Rect.unit (s := S3x1x32256) (k0_off21 (wd k) 1#32) S1x1x128.size (inb21 k 1), rowT 2 slices_S8x128_o2_0_S1x128 (tileT (maskT words s 1#32) (extractStridedSlice S8x128 ![0, 128] raw slices_S8x512_o0_128_S8x128) sc (ws 1))⟩,
    ⟨Rect.unit (s := S3x1x32256) (k0_off20 (wd k) 1#32) S1x1x128.size (inb20 k 1), rowT 1 slices_S8x128_o1_0_S1x128 (tileT (maskT words s 1#32) (extractStridedSlice S8x128 ![0, 128] raw slices_S8x512_o0_128_S8x128) sc (ws 1))⟩,
    ⟨Rect.unit (s := S3x1x32256) (k0_off19 (wd k) 1#32) S1x1x128.size (inb19 k 1), rowT 0 slices_S8x128_o0_0_S1x128 (tileT (maskT words s 1#32) (extractStridedSlice S8x128 ![0, 128] raw slices_S8x512_o0_128_S8x128) sc (ws 1))⟩,
    ⟨Rect.unit (s := S3x1x32256) (k0_off21 (wd k) 0#32) S1x1x128.size (inb21 k 0), rowT 2 slices_S8x128_o2_0_S1x128 (tileT (maskT words s 0#32) (extractStridedSlice S8x128 ![0, 0] raw slices_S8x512_o0_0_S8x128) sc (ws 0))⟩,
    ⟨Rect.unit (s := S3x1x32256) (k0_off20 (wd k) 0#32) S1x1x128.size (inb20 k 0), rowT 1 slices_S8x128_o1_0_S1x128 (tileT (maskT words s 0#32) (extractStridedSlice S8x128 ![0, 0] raw slices_S8x512_o0_0_S8x128) sc (ws 0))⟩,
    ⟨Rect.unit (s := S3x1x32256) (k0_off19 (wd k) 0#32) S1x1x128.size (inb19 k 0), rowT 0 slices_S8x128_o0_0_S1x128 (tileT (maskT words s 0#32) (extractStridedSlice S8x128 ![0, 0] raw slices_S8x512_o0_0_S8x128) sc (ws 0))⟩]

/-- The words a trip looks at. -/
theorem readWords {c : Dev nD} (k : Fin k0_t1_loop.trips) (g : Bf F c cc0_scratch6) (h : ∀ a, k0_off16 (wd k) a + S8x128.size a ≤ S8x1024.size a) (r : Fin 8) (l : Fin 128) :
    View.readAt (Elt F) (Memref.whole cc0_scratch6).view (Rect.unit (s := S8x1024) (k0_off16 (wd k)) S8x128.size h).toLoadRect g (ix2 (n0 := 8) (n1 := 128) r l)
      = g (ix2 (n0 := 8) (n1 := 1024) r ⟨128 * (k.val / 8) + l.val, by have := k.isLt; have := l.isLt; have := trips_eq; omega⟩) := by
  refine congrArg g ?_
  have e0 : k0_off16 (wd k) 0 = 0 := congrFun (off16_eq k) 0
  have e1 : k0_off16 (wd k) 1 = 128 * (k.val / 8) := congrFun (off16_eq k) 1
  funext a
  match a with
  | ⟨0, _⟩ => apply Fin.ext; show k0_off16 (wd k) 0 + 1 * r.val = r.val; omega
  | ⟨1, _⟩ => apply Fin.ext; show k0_off16 (wd k) 1 + 1 * l.val = 128 * (k.val / 8) + l.val; omega

/-- The weight scales a tile looks at. -/
theorem readWs {c : Dev nD} (k : Fin k0_t1_loop.trips) (t : Fin 4) (f2 : Bf F c main_arg2) (h : ∀ a, k0_off18 (wd k) (wd t) a + S128.size a ≤ S32256.size a) (l : Fin 128) :
    View.readAt (Elt F) (Memref.whole cc0_scratch1).view (Rect.unit (s := S32256) (k0_off18 (wd k) (wd t)) S128.size h).toLoadRect (fun i => f2 i : Bf F c cc0_scratch1) (ix1 (n := 128) l)
      = f2 (ix1 (n := 32256) ⟨512 * k.val + 128 * t.val + l.val, by have := k.isLt; have := t.isLt; have := l.isLt; have := trips_eq; omega⟩) := by
  refine congrArg f2 ?_
  have e0 : k0_off18 (wd k) (wd t) 0 = 512 * k.val + 128 * t.val := congrFun (off18_eq k t) 0
  funext a
  match a with
  | ⟨0, _⟩ => apply Fin.ext; show k0_off18 (wd k) (wd t) 0 + 1 * l.val = 512 * k.val + 128 * t.val + l.val; omega

/-- The codes' three real rows. -/
theorem readCd {c : Dev nD} (f0 : Bf F c main_v0) (g : Bf F c cc0_scratch4) (e : g = xqOf f0) (h : ∀ a, (![0, 0] : Fin 2 → ℕ) a + S3x7168.size a ≤ S32x7168.size a) :
    View.readAt (Elt F) (Memref.whole cc0_scratch4).view (Rect.unit (s := S32x7168) ![0, 0] S3x7168.size h).toLoadRect g = cdOf f0 := by
  subst e
  funext i
  refine congrArg (xqOf f0) ?_
  funext a
  match a with
  | ⟨0, _⟩ => apply Fin.ext; show 0 + 1 * (i 0).val = (i 0).val; omega
  | ⟨1, _⟩ => apply Fin.ext; show 0 + 1 * (i 1).val = (i 1).val; omega

theorem rd16 {c : Dev nD} (g : Bf F c cc0_scratch4) : (Memref.whole cc0_scratch4).view.read (Elt F) g = g := rfl
theorem rd28 {c : Dev nD} (g : Bf F c cc0_scratch16) : (Memref.whole cc0_scratch16).view.read (Elt F) g = g := rfl
theorem rd18 {c : Dev nD} (g : Bf F c cc0_scratch6) : (Memref.whole cc0_scratch6).view.read (Elt F) g = g := rfl
theorem rd23 {c : Dev nD} (g : Bf F c cc0_scratch11) : (Memref.whole cc0_scratch11).view.read (Elt F) g = g := rfl
/-- A store of a whole buffer leaves the payload. -/
theorem whole16 {c : Dev nD} (B : Bf F c cc0_scratch4) (w : S32x7168.Idx → F .fp8e4m3) (h : ∀ a, (![0, 0] : Fin 2 → ℕ) a + S32x7168.size a ≤ S32x7168.size a) :
    (Memref.whole cc0_scratch4).view.writes (Elt F) B [⟨Rect.unit (s := S32x7168) ![0, 0] S32x7168.size h, w⟩] = w :=
  (rd16 (c := c) _).symm.trans <| View.read_writes_full (Memref.whole cc0_scratch4).view B h w []
theorem whole28 {c : Dev nD} (B : Bf F c cc0_scratch16) (w : S3x7168.Idx → F .fp8e4m3) (h : ∀ a, (![0, 0] : Fin 2 → ℕ) a + S3x7168.size a ≤ S3x7168.size a) :
    (Memref.whole cc0_scratch16).view.writes (Elt F) B [⟨Rect.unit (s := S3x7168) ![0, 0] S3x7168.size h, w⟩] = w :=
  (rd28 (c := c) _).symm.trans <| View.read_writes_full (Memref.whole cc0_scratch16).view B h w []
/-- The mask words after the two stores. -/
theorem words18 {c : Dev nD} (B : Bf F c cc0_scratch6) (f3 : Bf F c main_arg3) (w : S3x1008.Idx → BitVec 32) (z : S8x1024.Idx → BitVec 32) (hw : w = fun i => f3 i)
    (h : ∀ a, (![0, 0] : Fin 2 → ℕ) a + S3x1008.size a ≤ S8x1024.size a) (h' : ∀ a, (![0, 0] : Fin 2 → ℕ) a + S8x1024.size a ≤ S8x1024.size a) :
    wordsOk f3 ((Memref.whole cc0_scratch6).view.writes (Elt F) B [⟨Rect.unit (s := S8x1024) ![0, 0] S3x1008.size h, w⟩, ⟨Rect.unit (s := S8x1024) ![0, 0] S8x1024.size h', z⟩]) := by
  intro b j
  rw [← rd18 (c := c) ((Memref.whole cc0_scratch6).view.writes (Elt F) B [⟨Rect.unit (s := S8x1024) ![0, 0] S3x1008.size h, w⟩, ⟨Rect.unit (s := S8x1024) ![0, 0] S8x1024.size h', z⟩])]
  refine (View.read_writes_cons_unit_of_mem (Memref.whole cc0_scratch6).view B h w [⟨Rect.unit (s := S8x1024) ![0, 0] S8x1024.size h', z⟩]
    (ix2 (n0 := 8) (n1 := 1024) ⟨b.val, by omega⟩ ⟨j.val, by omega⟩) (ix2 (n0 := 3) (n1 := 1008) b j) rfl ?_).trans ?_
  · intro a
    match a with
    | ⟨0, _⟩ => show b.val = 0 + b.val; omega
    | ⟨1, _⟩ => show j.val = 0 + j.val; omega
  · rw [hw]

theorem piece_ok (c : Dev nD) (k : Fin k0_t1_loop.trips) (t : Fin 4) (b : Fin 3) (off : Fin 3 → ℕ) (e : off = ![b.val, 0, 512 * k.val + 128 * t.val])
    (inb : ∀ a, off a + S1x1x128.size a ≤ S3x1x32256.size a) (hr : S8x128.Slices ![b.val, 0] S1x128) (hs8 : S8x512.Slices ![0, 128 * t.val] S8x128)
    (f0 : Bf F c main_v0) (f2 : Bf F c main_arg2) (f3 : Bf F c main_arg3) (fw : Bf F c main_arg1)
    (raw : FVec F S8x512 .f32) (words : S8x128.Idx → BitVec 32) (sc : S8x128.Idx → F .f32) (s : BitVec 32) (ws : S128.Idx → F .f32)
    (hraw : raw = rawT (xqOf f0) (wBlk fw k))
    (hwords : ∀ (b : Fin 3) (l : Fin 128) (hl : 128 * (k.val / 8) + l.val < 1008), words (ix2 (n0 := 8) (n1 := 128) ⟨b.val, by omega⟩ l) = f3 (ix2 (n0 := 3) (n1 := 1008) b ⟨128 * (k.val / 8) + l.val, hl⟩))
    (hsc : sc = scOf f0) (hs : s = wd (4 * (k.val % 8)))
    (hws : ∀ (l : Fin 128) (hl : 512 * k.val + 128 * t.val + l.val < 32256), ws (ix1 (n := 128) l) = f2 (ix1 (n := 32256) ⟨512 * k.val + 128 * t.val + l.val, hl⟩))
    (x : (Rect.unit (s := S3x1x32256) off S1x1x128.size inb).shape.Idx) :
    rowT b.val hr (tileT (maskT words s (wd t)) (extractStridedSlice S8x128 ![0, 128 * t.val] raw hs8) sc ws) x
      = outOf f0 f2 f3 fw ((Rect.unit (s := S3x1x32256) off S1x1x128.size inb).emb x 0) ((Rect.unit (s := S3x1x32256) off S1x1x128.size inb).emb x 2) := by
  subst e
  have hk : k.val < 63 := lt_of_lt_of_eq k.isLt trips_eq
  have ht := t.isLt
  have hb : b.val < 3 := b.isLt
  have hx0 : (x 0).val < 1 := (x 0).isLt
  have hx2 : (x 2).val < 128 := (x 2).isLt
  refine (rowT_apply b.val hr (by omega) _ x).trans ?_
  refine (tileT_apply _ _ _ _ _ _).trans ?_
  have hw : 128 * (k.val / 8) + (4 * (4 * (k.val % 8) + t.val) + (x 2).val / 32) < 1008 := by omega
  have E0 : ((Rect.unit (s := S3x1x32256) ![b.val, 0, 512 * k.val + 128 * t.val] S1x1x128.size inb).emb x 0) = b := by
    apply Fin.ext; show b.val + 1 * (x 0).val = b.val; omega
  have E2 : ((Rect.unit (s := S3x1x32256) ![b.val, 0, 512 * k.val + 128 * t.val] S1x1x128.size inb).emb x 2) = (⟨512 * k.val + 128 * t.val + (x 2).val, by omega⟩ : Fin 32256) := by
    apply Fin.ext; show (512 * k.val + 128 * t.val) + 1 * (x 2).val = 512 * k.val + 128 * t.val + (x 2).val; omega
  rw [E0, E2]
  rw [maskT_apply words s (wd t) (4 * (k.val % 8) + t.val) (by omega) (by rw [hs]; exact lane0 k t) ⟨b.val, by omega⟩ (x 2)]
  rw [slice_raw (128 * t.val) hs8 (by omega) raw ⟨b.val, by omega⟩ (x 2), hsc, hraw]
  unfold outOf
  have n1 : (512 * k.val + 128 * t.val + (x 2).val) / 512 = k.val := by omega
  have n2 : (512 * k.val + 128 * t.val + (x 2).val) % 512 = 128 * t.val + (x 2).val := by omega
  have n3 : (512 * k.val + 128 * t.val + (x 2).val) % 128 = (x 2).val := by omega
  have n4 : (512 * k.val + 128 * t.val + (x 2).val) / 32 = 128 * (k.val / 8) + (4 * (4 * (k.val % 8) + t.val) + (x 2).val / 32) := by omega
  have n5 : (512 * k.val + 128 * t.val + (x 2).val) % 32 = (x 2).val % 32 := by omega
  simp only [n1, n2, n3, n4, n5]
  exact congr (congrArg₂ Scalar.select (congrArg (fun w => bit w ((x 2).val % 32)) (hwords b ⟨4 * (4 * (k.val % 8) + t.val) + (x 2).val / 32, by omega⟩ hw))
    (congrArg _ (hws (x 2) (by omega)))) rfl

theorem mem_piece (k : Fin k0_t1_loop.trips) (t : Fin 4) (b : Fin 3) (off : Fin 3 → ℕ) (e : off = ![b.val, 0, 512 * k.val + 128 * t.val])
    (inb : ∀ a, off a + S1x1x128.size a ≤ S3x1x32256.size a) (y : S3x1x32256.Idx) (hb : (y 0).val = b.val)
    (hn : 512 * k.val + 128 * t.val ≤ (y 2).val ∧ (y 2).val < 512 * k.val + 128 * t.val + 128) :
    y ∈ (Rect.unit (s := S3x1x32256) off S1x1x128.size inb).set := by
  subst e
  have hy1 : (y 1).val < 1 := (y 1).isLt
  refine (Rect.unit (s := S3x1x32256) ![b.val, 0, 512 * k.val + 128 * t.val] S1x1x128.size inb).mem_set.2 ?_
  intro a
  match a with
  | ⟨0, _⟩ => exact ⟨0, Nat.one_pos, by show (y 0).val = b.val + 1 * 0; omega⟩
  | ⟨1, _⟩ => exact ⟨0, Nat.one_pos, by show (y 1).val = 0 + 1 * 0; omega⟩
  | ⟨2, _⟩ => exact ⟨(y 2).val - (512 * k.val + 128 * t.val), by show _ < 128; omega, by show (y 2).val = (512 * k.val + 128 * t.val) + 1 * _; omega⟩

theorem not_mem_piece (k : Fin k0_t1_loop.trips) (t : Fin 4) (b : ℕ) (off : Fin 3 → ℕ) (e : off = ![b, 0, 512 * k.val + 128 * t.val])
    (inb : ∀ a, off a + S1x1x128.size a ≤ S3x1x32256.size a) (y : S3x1x32256.Idx) (hn : (y 2).val < 512 * k.val) :
    y ∉ (Rect.unit (s := S3x1x32256) off S1x1x128.size inb).set := by
  subst e
  exact Rect.not_mem_set_of_axis _ y 2 (512 * k.val + 128 * t.val) 128 rfl rfl rfl (Or.inl (by omega))

set_option maxHeartbeats 4000000 in
/-- One trip adds its block to the finished logits. -/
theorem good_step (c : Dev nD) (k : Fin k0_t1_loop.trips) (f0 : Bf F c main_v0) (f2 : Bf F c main_arg2) (f3 : Bf F c main_arg3) (fw : Bf F c main_arg1)
    (g16 : Bf F c cc0_scratch4) (g17 : Bf F c cc0_scratch5) (g18 : Bf F c cc0_scratch6)
    (g28 : Bf F c cc0_scratch16) (g29 : Bf F c cc0_scratch17) (g23 g23' : Bf F c cc0_scratch11)
    (raw : FVec F S8x512 .f32) (words : S8x128.Idx → BitVec 32) (s : BitVec 32) (sc : S8x128.Idx → F .f32) (ws : Fin 4 → S128.Idx → F .f32)
    (h16 : g16 = xqOf f0) (h17 : g17 = scOf f0) (h18 : wordsOk f3 g18) (h28 : g28 = cdOf f0) (h29 : g29 = xsOf f0)
    (hprev : ∀ (b : Fin 3) (n : Fin 32256), n.val < 512 * k.val → g23 (ix3 (n0 := 3) (n1 := 1) (n2 := 32256) b 0 n) = outOf f0 f2 f3 fw b n)
    (hraw : raw = rawT g16 (wBlk fw k))
    (hwords : ∀ (r : Fin 8) (l : Fin 128) (hl : 128 * (k.val / 8) + l.val < 1024), words (ix2 (n0 := 8) (n1 := 128) r l) = g18 (ix2 (n0 := 8) (n1 := 1024) r ⟨128 * (k.val / 8) + l.val, hl⟩))
    (hsc : sc = fun i => g17 i) (hs : s = wd (4 * (k.val % 8)))
    (hws : ∀ (t : Fin 4) (l : Fin 128) (hl : 512 * k.val + 128 * t.val + l.val < 32256), ws t (ix1 (n := 128) l) = f2 (ix1 (n := 32256) ⟨512 * k.val + 128 * t.val + l.val, hl⟩))
    (h23 : g23' = (Memref.whole cc0_scratch11).view.writes (Elt F) g23 (pieces k raw words s sc ws)) :
    Good c (k.val + 1) f0 f2 f3 fw g16 g17 g18 g28 g29 g23' := by
  refine ⟨fun _ => ⟨h16, h17, h18, h28, h29⟩, fun b n hn => ?_⟩
  have hraw' : raw = rawT (xqOf f0) (wBlk fw k) := by rw [hraw, h16]
  have hsc' : sc = scOf f0 := by rw [hsc, h17]
  have hwords' : ∀ (b : Fin 3) (l : Fin 128) (hl : 128 * (k.val / 8) + l.val < 1008), words (ix2 (n0 := 8) (n1 := 128) ⟨b.val, by omega⟩ l) = f3 (ix2 (n0 := 3) (n1 := 1008) b ⟨128 * (k.val / 8) + l.val, hl⟩) :=
    fun b l hl => (hwords _ l (by omega)).trans (h18 b ⟨_, hl⟩)
  subst h23
  rw [← rd23 (c := c) ((Memref.whole cc0_scratch11).view.writes (Elt F) g23 (pieces k raw words s sc ws))]
  by_cases h : n.val < 512 * k.val
  · refine Eq.trans ?_ (hprev b n h)
    refine View.read_writes_apply_of_forall_not_mem (Memref.whole cc0_scratch11).view g23 (ix3 (n0 := 3) (n1 := 1) (n2 := 32256) b 0 n) (pieces k raw words s sc ws) ?_
    refine List.forall_mem_cons.2 ⟨(not_mem_piece k 3 2 (k0_off21 (wd k) 3#32) (off21_eq k 3) (inb21 k 3) (ix3 (n0 := 3) (n1 := 1) (n2 := 32256) b 0 n) h), List.forall_mem_cons.2 ⟨(not_mem_piece k 3 1 (k0_off20 (wd k) 3#32) (off20_eq k 3) (inb20 k 3) (ix3 (n0 := 3) (n1 := 1) (n2 := 32256) b 0 n) h), List.forall_mem_cons.2 ⟨(not_mem_piece k 3 0 (k0_off19 (wd k) 3#32) (off19_eq k 3) (inb19 k 3) (ix3 (n0 := 3) (n1 := 1) (n2 := 32256) b 0 n) h), List.forall_mem_cons.2 ⟨(not_mem_piece k 2 2 (k0_off21 (wd k) 2#32) (off21_eq k 2) (inb21 k 2) (ix3 (n0 := 3) (n1 := 1) (n2 := 32256) b 0 n) h), List.forall_mem_cons.2 ⟨(not_mem_piece k 2 1 (k0_off20 (wd k) 2#32) (off20_eq k 2) (inb20 k 2) (ix3 (n0 := 3) (n1 := 1) (n2 := 32256) b 0 n) h), List.forall_mem_cons.2 ⟨(not_mem_piece k 2 0 (k0_off19 (wd k) 2#32) (off19_eq k 2) (inb19 k 2) (ix3 (n0 := 3) (n1 := 1) (n2 := 32256) b 0 n) h), List.forall_mem_cons.2 ⟨(not_mem_piece k 1 2 (k0_off21 (wd k) 1#32) (off21_eq k 1) (inb21 k 1) (ix3 (n0 := 3) (n1 := 1) (n2 := 32256) b 0 n) h), List.forall_mem_cons.2 ⟨(not_mem_piece k 1 1 (k0_off20 (wd k) 1#32) (off20_eq k 1) (inb20 k 1) (ix3 (n0 := 3) (n1 := 1) (n2 := 32256) b 0 n) h), List.forall_mem_cons.2 ⟨(not_mem_piece k 1 0 (k0_off19 (wd k) 1#32) (off19_eq k 1) (inb19 k 1) (ix3 (n0 := 3) (n1 := 1) (n2 := 32256) b 0 n) h), List.forall_mem_cons.2 ⟨(not_mem_piece k 0 2 (k0_off21 (wd k) 0#32) (off21_eq k 0) (inb21 k 0) (ix3 (n0 := 3) (n1 := 1) (n2 := 32256) b 0 n) h), List.forall_mem_cons.2 ⟨(not_mem_piece k 0 1 (k0_off20 (wd k) 0#32) (off20_eq k 0) (inb20 k 0) (ix3 (n0 := 3) (n1 := 1) (n2 := 32256) b 0 n) h), List.forall_mem_cons.2 ⟨(not_mem_piece k 0 0 (k0_off19 (wd k) 0#32) (off19_eq k 0) (inb19 k 0) (ix3 (n0 := 3) (n1 := 1) (n2 := 32256) b 0 n) h), List.forall_mem_nil _⟩⟩⟩⟩⟩⟩⟩⟩⟩⟩⟩⟩
  · refine View.read_writes_apply_of_pieces (Memref.whole cc0_scratch11).view g23 (fun y => outOf f0 f2 f3 fw (y 0) (y 2)) (pieces k raw words s sc ws) ?_ (ix3 (n0 := 3) (n1 := 1) (n2 := 32256) b 0 n) ?_
    · refine List.forall_mem_cons.2 ⟨(fun x => piece_ok c k 3 2 (k0_off21 (wd k) 3#32) (off21_eq k 3) (inb21 k 3) slices_S8x128_o2_0_S1x128 slices_S8x512_o0_384_S8x128 f0 f2 f3 fw raw words sc s (ws 3) hraw' hwords' hsc' hs (hws 3) x), List.forall_mem_cons.2 ⟨(fun x => piece_ok c k 3 1 (k0_off20 (wd k) 3#32) (off20_eq k 3) (inb20 k 3) slices_S8x128_o1_0_S1x128 slices_S8x512_o0_384_S8x128 f0 f2 f3 fw raw words sc s (ws 3) hraw' hwords' hsc' hs (hws 3) x), List.forall_mem_cons.2 ⟨(fun x => piece_ok c k 3 0 (k0_off19 (wd k) 3#32) (off19_eq k 3) (inb19 k 3) slices_S8x128_o0_0_S1x128 slices_S8x512_o0_384_S8x128 f0 f2 f3 fw raw words sc s (ws 3) hraw' hwords' hsc' hs (hws 3) x), List.forall_mem_cons.2 ⟨(fun x => piece_ok c k 2 2 (k0_off21 (wd k) 2#32) (off21_eq k 2) (inb21 k 2) slices_S8x128_o2_0_S1x128 slices_S8x512_o0_256_S8x128 f0 f2 f3 fw raw words sc s (ws 2) hraw' hwords' hsc' hs (hws 2) x), List.forall_mem_cons.2 ⟨(fun x => piece_ok c k 2 1 (k0_off20 (wd k) 2#32) (off20_eq k 2) (inb20 k 2) slices_S8x128_o1_0_S1x128 slices_S8x512_o0_256_S8x128 f0 f2 f3 fw raw words sc s (ws 2) hraw' hwords' hsc' hs (hws 2) x), List.forall_mem_cons.2 ⟨(fun x => piece_ok c k 2 0 (k0_off19 (wd k) 2#32) (off19_eq k 2) (inb19 k 2) slices_S8x128_o0_0_S1x128 slices_S8x512_o0_256_S8x128 f0 f2 f3 fw raw words sc s (ws 2) hraw' hwords' hsc' hs (hws 2) x), List.forall_mem_cons.2 ⟨(fun x => piece_ok c k 1 2 (k0_off21 (wd k) 1#32) (off21_eq k 1) (inb21 k 1) slices_S8x128_o2_0_S1x128 slices_S8x512_o0_128_S8x128 f0 f2 f3 fw raw words sc s (ws 1) hraw' hwords' hsc' hs (hws 1) x), List.forall_mem_cons.2 ⟨(fun x => piece_ok c k 1 1 (k0_off20 (wd k) 1#32) (off20_eq k 1) (inb20 k 1) slices_S8x128_o1_0_S1x128 slices_S8x512_o0_128_S8x128 f0 f2 f3 fw raw words sc s (ws 1) hraw' hwords' hsc' hs (hws 1) x), List.forall_mem_cons.2 ⟨(fun x => piece_ok c k 1 0 (k0_off19 (wd k) 1#32) (off19_eq k 1) (inb19 k 1) slices_S8x128_o0_0_S1x128 slices_S8x512_o0_128_S8x128 f0 f2 f3 fw raw words sc s (ws 1) hraw' hwords' hsc' hs (hws 1) x), List.forall_mem_cons.2 ⟨(fun x => piece_ok c k 0 2 (k0_off21 (wd k) 0#32) (off21_eq k 0) (inb21 k 0) slices_S8x128_o2_0_S1x128 slices_S8x512_o0_0_S8x128 f0 f2 f3 fw raw words sc s (ws 0) hraw' hwords' hsc' hs (hws 0) x), List.forall_mem_cons.2 ⟨(fun x => piece_ok c k 0 1 (k0_off20 (wd k) 0#32) (off20_eq k 0) (inb20 k 0) slices_S8x128_o1_0_S1x128 slices_S8x512_o0_0_S8x128 f0 f2 f3 fw raw words sc s (ws 0) hraw' hwords' hsc' hs (hws 0) x), List.forall_mem_cons.2 ⟨(fun x => piece_ok c k 0 0 (k0_off19 (wd k) 0#32) (off19_eq k 0) (inb19 k 0) slices_S8x128_o0_0_S1x128 slices_S8x512_o0_0_S8x128 f0 f2 f3 fw raw words sc s (ws 0) hraw' hwords' hsc' hs (hws 0) x), List.forall_mem_nil _⟩⟩⟩⟩⟩⟩⟩⟩⟩⟩⟩⟩
    · have hd : (n.val - 512 * k.val) / 128 < 4 := by omega
      generalize hy : ix3 (n0 := 3) (n1 := 1) (n2 := 32256) b 0 n = y
      have hyb : (y 0).val = b.val := by rw [← hy]
      have hyn : (y 2).val = n.val := by rw [← hy]
      have hn : 512 * k.val + 128 * ((n.val - 512 * k.val) / 128) ≤ (y 2).val ∧ (y 2).val < 512 * k.val + 128 * ((n.val - 512 * k.val) / 128) + 128 := by omega
      revert hn
      generalize ht : (⟨(n.val - 512 * k.val) / 128, hd⟩ : Fin 4) = t
      rw [show (n.val - 512 * k.val) / 128 = t.val from congrArg Fin.val ht]
      intro hn
      clear hd ht
      have hb := hyb
      match t, b with
      | 0, 0 => exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), mem_piece k 0 0 _ (off19_eq k 0) (inb19 k 0) y hb hn⟩
      | 0, 1 => exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), mem_piece k 0 1 _ (off20_eq k 0) (inb20 k 0) y hb hn⟩
      | 0, 2 => exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), mem_piece k 0 2 _ (off21_eq k 0) (inb21 k 0) y hb hn⟩
      | 1, 0 => exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), mem_piece k 1 0 _ (off19_eq k 1) (inb19 k 1) y hb hn⟩
      | 1, 1 => exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), mem_piece k 1 1 _ (off20_eq k 1) (inb20 k 1) y hb hn⟩
      | 1, 2 => exact ⟨_, (List.mem_cons_of_mem _ (List.mem_cons_of_mem _ (List.mem_cons_of_mem _ (List.mem_cons_of_mem _ (List.mem_cons_of_mem _ (List.mem_cons_of_mem _ List.mem_cons_self)))))), mem_piece k 1 2 _ (off21_eq k 1) (inb21 k 1) y hb hn⟩
      | 2, 0 => exact ⟨_, (List.mem_cons_of_mem _ (List.mem_cons_of_mem _ (List.mem_cons_of_mem _ (List.mem_cons_of_mem _ (List.mem_cons_of_mem _ List.mem_cons_self))))), mem_piece k 2 0 _ (off19_eq k 2) (inb19 k 2) y hb hn⟩
      | 2, 1 => exact ⟨_, (List.mem_cons_of_mem _ (List.mem_cons_of_mem _ (List.mem_cons_of_mem _ (List.mem_cons_of_mem _ List.mem_cons_self)))), mem_piece k 2 1 _ (off20_eq k 2) (inb20 k 2) y hb hn⟩
      | 2, 2 => exact ⟨_, (List.mem_cons_of_mem _ (List.mem_cons_of_mem _ (List.mem_cons_of_mem _ List.mem_cons_self))), mem_piece k 2 2 _ (off21_eq k 2) (inb21 k 2) y hb hn⟩
      | 3, 0 => exact ⟨_, (List.mem_cons_of_mem _ (List.mem_cons_of_mem _ List.mem_cons_self)), mem_piece k 3 0 _ (off19_eq k 3) (inb19 k 3) y hb hn⟩
      | 3, 1 => exact ⟨_, (List.mem_cons_of_mem _ List.mem_cons_self), mem_piece k 3 1 _ (off20_eq k 3) (inb20 k 3) y hb hn⟩
      | 3, 2 => exact ⟨_, List.mem_cons_self, mem_piece k 3 2 _ (off21_eq k 3) (inb21 k 3) y hb hn⟩

end Cert.Proof.KernelIdeal

end
-- ==== Proof.KernelIdeal.Stat.lean ====
/-
  The running maximum of each chunk, lane by lane: what it is before every trip, and one trip's step of it.
-/
module

public import proofs.«01_k».proof.Proof.KernelIdeal.Good

@[expose] public section

set_option maxRecDepth 65536

noncomputable section

namespace Cert.Proof.KernelIdeal

open Cert.KernelIdeal Cert.KernelIdeal.Gen
open Idealize.ShloMosaic Idealize.ShloMosaic.TcCoe Idealize.ShloMosaic.Tactic Idealize.ShloMosaic.ValueIdx

variable {F : FTy → Type} [FloatOps F]

/-- A tile of the logits, minus infinity where the mask forbids. -/
def negT (m : IVec S8x128 1) (rt : FVec F S8x128 .f32) (sc : S8x128.Idx → F .f32) (ws : S128.Idx → F .f32) : FVec F S8x128 .f32 :=
  select m (mulf (mulf rt sc) (broadcastTo S8x128 (shapeCast S1x128 ws shapeCasts_S128_S1x128) broadcasts_S1x128_S8x128)) (broadcast S8x128 (Scalar.ofBits .f32 0xFF800000#32))

theorem negT_apply (m : IVec S8x128 1) (rt : FVec F S8x128 .f32) (sc : S8x128.Idx → F .f32) (ws : S128.Idx → F .f32) (r : Fin 8) (l : Fin 128) :
    negT m rt sc ws (ix2 r l) = Scalar.select (m (ix2 r l)) (FloatOps.mulf (FloatOps.mulf (rt (ix2 r l)) (sc (ix2 r l))) (ws (ix1 l))) (FloatOps.ofBits .f32 0xFF800000#32) := by
  show Scalar.select _ (FloatOps.mulf (FloatOps.mulf _ _) (broadcastTo _ _ _ (ix2 r l))) _ = _
  refine congrArg (fun z => Scalar.select (m (ix2 r l)) (FloatOps.mulf (FloatOps.mulf (rt (ix2 r l)) (sc (ix2 r l))) z) (FloatOps.ofBits .f32 0xFF800000#32)) ?_
  refine (broadcastTo_1b_ab_apply (a := 8) (b := 128) _ _ r l).trans ?_
  exact shapeCast_a_1a_apply (a := 128) _ _ 0 l

section
variable {c : Dev nD}

/-- A logit, minus infinity where the mask forbids. -/
def negOf (f0 : Bf F c main_v0) (f2 : Bf F c main_arg2) (f3 : Bf F c main_arg3) (fw : Bf F c main_arg1) (b : Fin 3) (n : Fin 32256) : F .f32 :=
  Scalar.select (bit (f3 (ix2 (n0 := 3) (n1 := 1008) b ⟨n.val / 32, by omega⟩)) (n.val % 32))
    (FloatOps.mulf (FloatOps.mulf (rawT (xqOf f0) (wBlk fw (n.val / 512)) (ix2 (n0 := 8) (n1 := 512) ⟨b.val, by omega⟩ ⟨n.val % 512, by omega⟩))
      (scOf f0 (ix2 (n0 := 8) (n1 := 128) ⟨b.val, by omega⟩ ⟨n.val % 128, by omega⟩))) (f2 (ix1 (n := 32256) n)))
    (FloatOps.ofBits .f32 0xFF800000#32)

/-- The column of lane `l` of tile `t` of step `k`. -/
abbrev colOf (k t : ℕ) (l : Fin 128) : Fin 32256 := ⟨(512 * k + 128 * t + l.val) % 32256, Nat.mod_lt _ (by decide)⟩

/-- The running maximum of chunk `ch` at lane `l` before trip `k`. -/
def topOf (f0 : Bf F c main_v0) (f2 : Bf F c main_arg2) (f3 : Bf F c main_arg3) (fw : Bf F c main_arg1) : ℕ → Fin 8 → Fin 3 → Fin 128 → F .f32
  | 0, _, _, _ => FloatOps.ofBits .f32 0xFF800000#32
  | k + 1, ch, b, l =>
    if k / 8 = ch.val then
      FloatOps.maximumf (FloatOps.maximumf (FloatOps.maximumf (FloatOps.maximumf (topOf f0 f2 f3 fw k ch b l)
        (negOf f0 f2 f3 fw b (colOf k 0 l))) (negOf f0 f2 f3 fw b (colOf k 1 l))) (negOf f0 f2 f3 fw b (colOf k 2 l))) (negOf f0 f2 f3 fw b (colOf k 3 l))
    else topOf f0 f2 f3 fw k ch b l
end

/-- The running maxima before trip `k`. -/
def Tops (c : Dev nD) (k : ℕ) (f0 : Bf F c main_v0) (f2 : Bf F c main_arg2) (f3 : Bf F c main_arg3) (fw : Bf F c main_arg1) (g20 : Bf F c cc0_scratch8) : Prop :=
  ∀ (ch : Fin 8) (b : Fin 3) (l : Fin 128), g20 (ix4 (n0 := 8) (n1 := 2) (n2 := 8) (n3 := 128) ch 0 ⟨b.val, by omega⟩ l) = topOf f0 f2 f3 fw k ch b l
def Stat (c : Dev nD) (k : ℕ) (f0 : Bf F c main_v0) (f2 : Bf F c main_arg2) (f3 : Bf F c main_arg3) (fw : Bf F c main_arg1) (g20 : Bf F c cc0_scratch8) : Prop :=
  k ≠ 0 → Tops c k f0 f2 f3 fw g20

theorem off17_eq : ∀ k : Fin k0_t1_loop.trips, k0_off17 (wd k) = ![k.val / 8, 0, 0, 0] := by decide +kernel
theorem off22_eq : ∀ k : Fin k0_t1_loop.trips, k0_off22 (wd k) = ![k.val / 8, 1, 0, 0] := by decide +kernel

theorem rd20 {c : Dev nD} (g : Bf F c cc0_scratch8) : (Memref.whole cc0_scratch8).view.read (Elt F) g = g := rfl

theorem cast_in (v : FVec F S8x128 .f32) (r : Fin 8) (l : Fin 128) :
    shapeCast S1x1x8x128 v shapeCasts_S8x128_S1x1x8x128 (ix4 (n0 := 1) (n1 := 1) (n2 := 8) (n3 := 128) 0 0 r l) = v (ix2 (n0 := 8) (n1 := 128) r l) := by
  refine congrArg v ?_
  refine Shape.reshapeEquiv_eq_of_rowMajor _ ?_
  rw [Shape.rowMajor_val_four, Shape.rowMajor_val_two]
  show r.val * 128 + l.val = ((0 * 1 + 0) * 8 + r.val) * 128 + l.val
  omega
theorem cast_out (v : FVec F S1x1x8x128 .f32) (r : Fin 8) (l : Fin 128) :
    shapeCast S8x128 v shapeCasts_S1x1x8x128_S8x128 (ix2 (n0 := 8) (n1 := 128) r l) = v (ix4 (n0 := 1) (n1 := 1) (n2 := 8) (n3 := 128) 0 0 r l) :=
  congrArg v (reshapeEquiv_ix2_11ab (a := 8) (b := 128) _ r l)

/-- A plane of the statistics read. -/
theorem readStat {c : Dev nD} (o : Fin 4 → ℕ) (j : Fin 8) (e : o = ![j.val, 0, 0, 0]) (g : Bf F c cc0_scratch8) (h : ∀ a, o a + S1x1x8x128.size a ≤ S8x2x8x128.size a) (r : Fin 8) (l : Fin 128) :
    View.readAt (Elt F) (Memref.whole cc0_scratch8).view (Rect.unit (s := S8x2x8x128) o S1x1x8x128.size h).toLoadRect g (ix4 (n0 := 1) (n1 := 1) (n2 := 8) (n3 := 128) 0 0 r l)
      = g (ix4 (n0 := 8) (n1 := 2) (n2 := 8) (n3 := 128) j 0 r l) := by
  subst e
  refine congrArg g ?_
  funext a
  match a with
  | ⟨0, _⟩ => apply Fin.ext; show j.val + 1 * 0 = j.val; omega
  | ⟨1, _⟩ => apply Fin.ext; show 0 + 1 * 0 = 0; omega
  | ⟨2, _⟩ => apply Fin.ext; show 0 + 1 * r.val = r.val; omega
  | ⟨3, _⟩ => apply Fin.ext; show 0 + 1 * l.val = l.val; omega

theorem neg_ok (c : Dev nD) (k : Fin k0_t1_loop.trips) (t : Fin 4) (b : Fin 3) (hs8 : S8x512.Slices ![0, 128 * t.val] S8x128)
    (f0 : Bf F c main_v0) (f2 : Bf F c main_arg2) (f3 : Bf F c main_arg3) (fw : Bf F c main_arg1)
    (raw : FVec F S8x512 .f32) (words : S8x128.Idx → BitVec 32) (sc : S8x128.Idx → F .f32) (s : BitVec 32) (ws : S128.Idx → F .f32)
    (hraw : raw = rawT (xqOf f0) (wBlk fw k))
    (hwords : ∀ (b : Fin 3) (l : Fin 128) (hl : 128 * (k.val / 8) + l.val < 1008), words (ix2 (n0 := 8) (n1 := 128) ⟨b.val, by omega⟩ l) = f3 (ix2 (n0 := 3) (n1 := 1008) b ⟨128 * (k.val / 8) + l.val, hl⟩))
    (hsc : sc = scOf f0) (hs : s = wd (4 * (k.val % 8)))
    (hws : ∀ (l : Fin 128) (hl : 512 * k.val + 128 * t.val + l.val < 32256), ws (ix1 (n := 128) l) = f2 (ix1 (n := 32256) ⟨512 * k.val + 128 * t.val + l.val, hl⟩))
    (l : Fin 128) :
    negT (maskT words s (wd t)) (extractStridedSlice S8x128 ![0, 128 * t.val] raw hs8) sc ws (ix2 (n0 := 8) (n1 := 128) ⟨b.val, by omega⟩ l)
      = negOf f0 f2 f3 fw b (colOf k t l) := by
  have hk : k.val < 63 := lt_of_lt_of_eq k.isLt trips_eq
  have ht := t.isLt
  have hb : b.val < 3 := b.isLt
  have hl := l.isLt
  refine (negT_apply _ _ _ _ _ _).trans ?_
  have hw : 128 * (k.val / 8) + (4 * (4 * (k.val % 8) + t.val) + l.val / 32) < 1008 := by omega
  rw [show colOf k t l = (⟨512 * k.val + 128 * t.val + l.val, by omega⟩ : Fin 32256) from Fin.ext (Nat.mod_eq_of_lt (by omega))]
  rw [maskT_apply words s (wd t) (4 * (k.val % 8) + t.val) (by omega) (by rw [hs]; exact lane0 k t) ⟨b.val, by omega⟩ l]
  rw [slice_raw (128 * t.val) hs8 (by omega) raw ⟨b.val, by omega⟩ l, hsc, hraw]
  unfold negOf
  have n1 : (512 * k.val + 128 * t.val + l.val) / 512 = k.val := by omega
  have n2 : (512 * k.val + 128 * t.val + l.val) % 512 = 128 * t.val + l.val := by omega
  have n3 : (512 * k.val + 128 * t.val + l.val) % 128 = l.val := by omega
  have n4 : (512 * k.val + 128 * t.val + l.val) / 32 = 128 * (k.val / 8) + (4 * (4 * (k.val % 8) + t.val) + l.val / 32) := by omega
  have n5 : (512 * k.val + 128 * t.val + l.val) % 32 = l.val % 32 := by omega
  simp only [n1, n2, n3, n4, n5]
  exact congr (congrArg₂ Scalar.select (congrArg (fun w => bit w (l.val % 32)) (hwords b ⟨4 * (4 * (k.val % 8) + t.val) + l.val / 32, by omega⟩ hw))
    (congrArg _ (hws l (by omega)))) rfl

/-- The maxima a trip stores. -/
def topT (raw : FVec F S8x512 .f32) (words : S8x128.Idx → BitVec 32) (s : BitVec 32) (sc : S8x128.Idx → F .f32) (ws : Fin 4 → S128.Idx → F .f32)
    (old : FVec F S1x1x8x128 .f32) : FVec F S8x128 .f32 :=
  maximumf (maximumf (maximumf (maximumf (shapeCast S8x128 old shapeCasts_S1x1x8x128_S8x128)
    (negT (maskT words s 0#32) (extractStridedSlice S8x128 ![0, 0] raw slices_S8x512_o0_0_S8x128) sc (ws 0)))
    (negT (maskT words s 1#32) (extractStridedSlice S8x128 ![0, 128] raw slices_S8x512_o0_128_S8x128) sc (ws 1)))
    (negT (maskT words s 2#32) (extractStridedSlice S8x128 ![0, 256] raw slices_S8x512_o0_256_S8x128) sc (ws 2)))
    (negT (maskT words s 3#32) (extractStridedSlice S8x128 ![0, 384] raw slices_S8x512_o0_384_S8x128) sc (ws 3))

set_option maxHeartbeats 4000000 in
/-- One trip's step of the running maxima. -/
theorem stat_step (c : Dev nD) (k : Fin k0_t1_loop.trips) (f0 : Bf F c main_v0) (f2 : Bf F c main_arg2) (f3 : Bf F c main_arg3) (fw : Bf F c main_arg1)
    (g16 : Bf F c cc0_scratch4) (g17 : Bf F c cc0_scratch5) (g18 : Bf F c cc0_scratch6) (g20 g20' : Bf F c cc0_scratch8)
    (raw : FVec F S8x512 .f32) (words : S8x128.Idx → BitVec 32) (s : BitVec 32) (sc : S8x128.Idx → F .f32) (ws : Fin 4 → S128.Idx → F .f32)
    (i17 : ∀ a, k0_off17 (wd k) a + S1x1x8x128.size a ≤ S8x2x8x128.size a) (i22 : ∀ a, k0_off22 (wd k) a + S1x1x8x128.size a ≤ S8x2x8x128.size a)
    (h16 : g16 = xqOf f0) (h17 : g17 = scOf f0) (h18 : wordsOk f3 g18)
    (hprev : Tops c k f0 f2 f3 fw g20)
    (hraw : raw = rawT g16 (wBlk fw k))
    (hwords : ∀ (r : Fin 8) (l : Fin 128) (hl : 128 * (k.val / 8) + l.val < 1024), words (ix2 (n0 := 8) (n1 := 128) r l) = g18 (ix2 (n0 := 8) (n1 := 1024) r ⟨128 * (k.val / 8) + l.val, hl⟩))
    (hsc : sc = fun i => g17 i) (hs : s = wd (4 * (k.val % 8)))
    (hws : ∀ (t : Fin 4) (l : Fin 128) (hl : 512 * k.val + 128 * t.val + l.val < 32256), ws t (ix1 (n := 128) l) = f2 (ix1 (n := 32256) ⟨512 * k.val + 128 * t.val + l.val, hl⟩))
    (h20 : ∃ w : FVec F S1x1x8x128 .f32, g20' = (Memref.whole cc0_scratch8).view.writes (Elt F) g20
      [⟨Rect.unit (s := S8x2x8x128) (k0_off22 (wd k)) S1x1x8x128.size i22, w⟩,
        ⟨Rect.unit (s := S8x2x8x128) (k0_off17 (wd k)) S1x1x8x128.size i17, shapeCast S1x1x8x128 (topT raw words s sc ws
          (View.readAt (Elt F) (Memref.whole cc0_scratch8).view (Rect.unit (s := S8x2x8x128) (k0_off17 (wd k)) S1x1x8x128.size i17).toLoadRect g20)) shapeCasts_S8x128_S1x1x8x128⟩]) :
    Stat c (k.val + 1) f0 f2 f3 fw g20' := by
  intro _ ch b l
  have hk : k.val < 63 := lt_of_lt_of_eq k.isLt trips_eq
  have hraw' : raw = rawT (xqOf f0) (wBlk fw k) := by rw [hraw, h16]
  have hsc' : sc = scOf f0 := by rw [hsc, h17]
  have hwords' : ∀ (b : Fin 3) (l : Fin 128) (hl : 128 * (k.val / 8) + l.val < 1008), words (ix2 (n0 := 8) (n1 := 128) ⟨b.val, by omega⟩ l) = f3 (ix2 (n0 := 3) (n1 := 1008) b ⟨128 * (k.val / 8) + l.val, hl⟩) :=
    fun b l hl => (hwords _ l (by omega)).trans (h18 b ⟨_, hl⟩)
  obtain ⟨w, rfl⟩ := h20
  refine (View.read_writes_cons_unit_of_not_mem (Memref.whole cc0_scratch8).view g20 i22 w _
    (ix4 (n0 := 8) (n1 := 2) (n2 := 8) (n3 := 128) ch 0 ⟨b.val, by omega⟩ l) (off22_eq k) 1 (Or.inl Nat.one_pos)).trans ?_
  by_cases h : k.val / 8 = ch.val
  · refine (View.read_writes_cons_unit_of_mem (Memref.whole cc0_scratch8).view g20 i17 _ []
      (ix4 (n0 := 8) (n1 := 2) (n2 := 8) (n3 := 128) ch 0 ⟨b.val, by omega⟩ l) (ix4 (n0 := 1) (n1 := 1) (n2 := 8) (n3 := 128) 0 0 ⟨b.val, by omega⟩ l) (off17_eq k) ?_).trans ?_
    · intro a
      match a with
      | ⟨0, _⟩ => show ch.val = k.val / 8 + 0; omega
      | ⟨1, _⟩ => rfl
      | ⟨2, _⟩ => show b.val = 0 + b.val; omega
      | ⟨3, _⟩ => show l.val = 0 + l.val; omega
    · refine (cast_in _ _ _).trans ?_
      rw [topOf, if_pos h]
      refine congrArg₂ FloatOps.maximumf (congrArg₂ FloatOps.maximumf (congrArg₂ FloatOps.maximumf (congrArg₂ FloatOps.maximumf ?_
        (neg_ok c k 0 b slices_S8x512_o0_0_S8x128 f0 f2 f3 fw raw words sc s (ws 0) hraw' hwords' hsc' hs (hws 0) l))
        (neg_ok c k 1 b slices_S8x512_o0_128_S8x128 f0 f2 f3 fw raw words sc s (ws 1) hraw' hwords' hsc' hs (hws 1) l))
        (neg_ok c k 2 b slices_S8x512_o0_256_S8x128 f0 f2 f3 fw raw words sc s (ws 2) hraw' hwords' hsc' hs (hws 2) l))
        (neg_ok c k 3 b slices_S8x512_o0_384_S8x128 f0 f2 f3 fw raw words sc s (ws 3) hraw' hwords' hsc' hs (hws 3) l)
      refine (cast_out _ _ _).trans ?_
      refine (readStat (k0_off17 (wd k)) ch ?_ g20 i17 _ l).trans (hprev ch b l)
      rw [off17_eq k, h]
  · refine (View.read_writes_cons_unit_of_not_mem (Memref.whole cc0_scratch8).view g20 i17 _ []
      (ix4 (n0 := 8) (n1 := 2) (n2 := 8) (n3 := 128) ch 0 ⟨b.val, by omega⟩ l) (off17_eq k) 0 ?_).trans ?_
    · show ch.val < k.val / 8 ∨ k.val / 8 + 1 ≤ ch.val
      omega
    · rw [topOf, if_neg h]
      exact hprev ch b l

/-! ## The first trip's stores -/

def zeroI : FVec F S1x1x8x128 .f32 := fun _ => FloatOps.ofBits .f32 0x00000000#32
def ninfI : FVec F S1x1x8x128 .f32 := fun _ => FloatOps.ofBits .f32 0xFF800000#32
/-- What the first trip's stores leave. -/
def initG : S8x2x8x128.Idx → F .f32 := fun y => if (y 1).val = 0 then FloatOps.ofBits .f32 0xFF800000#32 else FloatOps.ofBits .f32 0x00000000#32

theorem init_zero (ch : ℕ) (h : ∀ a, (![ch, 0, 0, 0] : Fin 4 → ℕ) a + S1x1x8x128.size a ≤ S8x2x8x128.size a) (x : (Rect.unit (s := S8x2x8x128) ![ch, 0, 0, 0] S1x1x8x128.size h).shape.Idx) :
    (ninfI (F := F)) x = initG (F := F) ((Rect.unit (s := S8x2x8x128) ![ch, 0, 0, 0] S1x1x8x128.size h).emb x) := by
  have h1 : (x 1).val < 1 := (x 1).isLt
  exact (if_pos (show 0 + 1 * (x 1).val = 0 by omega)).symm
theorem init_one (ch : ℕ) (h : ∀ a, (![ch, 1, 0, 0] : Fin 4 → ℕ) a + S1x1x8x128.size a ≤ S8x2x8x128.size a) (x : (Rect.unit (s := S8x2x8x128) ![ch, 1, 0, 0] S1x1x8x128.size h).shape.Idx) :
    (zeroI (F := F)) x = initG (F := F) ((Rect.unit (s := S8x2x8x128) ![ch, 1, 0, 0] S1x1x8x128.size h).emb x) :=
  (if_neg (show ¬ 1 + 1 * (x 1).val = 0 by omega)).symm
theorem init_mem (ch : Fin 8) (h : ∀ a, (![ch.val, 0, 0, 0] : Fin 4 → ℕ) a + S1x1x8x128.size a ≤ S8x2x8x128.size a) (b : Fin 3) (l : Fin 128) :
    ix4 (n0 := 8) (n1 := 2) (n2 := 8) (n3 := 128) ch 0 ⟨b.val, by omega⟩ l ∈ (Rect.unit (s := S8x2x8x128) ![ch.val, 0, 0, 0] S1x1x8x128.size h).set := by
  have hb := b.isLt
  have hl := l.isLt
  refine (Rect.unit (s := S8x2x8x128) ![ch.val, 0, 0, 0] S1x1x8x128.size h).mem_set.2 ?_
  intro a
  match a with
  | ⟨0, _⟩ => exact ⟨0, Nat.one_pos, by show ch.val = ch.val + 1 * 0; omega⟩
  | ⟨1, _⟩ => exact ⟨0, Nat.one_pos, by show 0 = 0 + 1 * 0; omega⟩
  | ⟨2, _⟩ => exact ⟨b.val, by show b.val < 8; omega, by show b.val = 0 + 1 * b.val; omega⟩
  | ⟨3, _⟩ => exact ⟨l.val, by show l.val < 128; omega, by show l.val = 0 + 1 * l.val; omega⟩

/-- The sixteen stores, the last first. -/
def inits : List (View.Piece (Elt F) S8x2x8x128 .f32) :=
  [⟨Rect.unit (s := S8x2x8x128) ![7, 1, 0, 0] S1x1x8x128.size inb_S8x2x8x128_S1x1x8x128_7_1_0_0, zeroI⟩,
    ⟨Rect.unit (s := S8x2x8x128) ![7, 0, 0, 0] S1x1x8x128.size inb_S8x2x8x128_S1x1x8x128_7_0_0_0, ninfI⟩,
    ⟨Rect.unit (s := S8x2x8x128) ![6, 1, 0, 0] S1x1x8x128.size inb_S8x2x8x128_S1x1x8x128_6_1_0_0, zeroI⟩,
    ⟨Rect.unit (s := S8x2x8x128) ![6, 0, 0, 0] S1x1x8x128.size inb_S8x2x8x128_S1x1x8x128_6_0_0_0, ninfI⟩,
    ⟨Rect.unit (s := S8x2x8x128) ![5, 1, 0, 0] S1x1x8x128.size inb_S8x2x8x128_S1x1x8x128_5_1_0_0, zeroI⟩,
    ⟨Rect.unit (s := S8x2x8x128) ![5, 0, 0, 0] S1x1x8x128.size inb_S8x2x8x128_S1x1x8x128_5_0_0_0, ninfI⟩,
    ⟨Rect.unit (s := S8x2x8x128) ![4, 1, 0, 0] S1x1x8x128.size inb_S8x2x8x128_S1x1x8x128_4_1_0_0, zeroI⟩,
    ⟨Rect.unit (s := S8x2x8x128) ![4, 0, 0, 0] S1x1x8x128.size inb_S8x2x8x128_S1x1x8x128_4_0_0_0, ninfI⟩,
    ⟨Rect.unit (s := S8x2x8x128) ![3, 1, 0, 0] S1x1x8x128.size inb_S8x2x8x128_S1x1x8x128_3_1_0_0, zeroI⟩,
    ⟨Rect.unit (s := S8x2x8x128) ![3, 0, 0, 0] S1x1x8x128.size inb_S8x2x8x128_S1x1x8x128_3_0_0_0, ninfI⟩,
    ⟨Rect.unit (s := S8x2x8x128) ![2, 1, 0, 0] S1x1x8x128.size inb_S8x2x8x128_S1x1x8x128_2_1_0_0, zeroI⟩,
    ⟨Rect.unit (s := S8x2x8x128) ![2, 0, 0, 0] S1x1x8x128.size inb_S8x2x8x128_S1x1x8x128_2_0_0_0, ninfI⟩,
    ⟨Rect.unit (s := S8x2x8x128) ![1, 1, 0, 0] S1x1x8x128.size inb_S8x2x8x128_S1x1x8x128_1_1_0_0, zeroI⟩,
    ⟨Rect.unit (s := S8x2x8x128) ![1, 0, 0, 0] S1x1x8x128.size inb_S8x2x8x128_S1x1x8x128_1_0_0_0, ninfI⟩,
    ⟨Rect.unit (s := S8x2x8x128) ![0, 1, 0, 0] S1x1x8x128.size inb_S8x2x8x128_S1x1x8x128_0_1_0_0, zeroI⟩,
    ⟨Rect.unit (s := S8x2x8x128) ![0, 0, 0, 0] S1x1x8x128.size inb_S8x2x8x128_S1x1x8x128_0_0_0_0, ninfI⟩]

set_option maxHeartbeats 4000000 in
theorem stat_init (c : Dev nD) (f0 : Bf F c main_v0) (f2 : Bf F c main_arg2) (f3 : Bf F c main_arg3) (fw : Bf F c main_arg1) (B : Bf F c cc0_scratch8) :
    Tops c 0 f0 f2 f3 fw ((Memref.whole cc0_scratch8).view.writes (Elt F) B inits) := by
  intro ch b l
  rw [← rd20 (c := c) ((Memref.whole cc0_scratch8).view.writes (Elt F) B inits)]
  refine (View.read_writes_apply_of_pieces (Memref.whole cc0_scratch8).view B initG inits ?_ (ix4 (n0 := 8) (n1 := 2) (n2 := 8) (n3 := 128) ch 0 ⟨b.val, by omega⟩ l) ?_).trans ?_
  · exact List.forall_mem_cons.2 ⟨(fun x => init_one 7 inb_S8x2x8x128_S1x1x8x128_7_1_0_0 x), List.forall_mem_cons.2 ⟨(fun x => init_zero 7 inb_S8x2x8x128_S1x1x8x128_7_0_0_0 x), List.forall_mem_cons.2 ⟨(fun x => init_one 6 inb_S8x2x8x128_S1x1x8x128_6_1_0_0 x), List.forall_mem_cons.2 ⟨(fun x => init_zero 6 inb_S8x2x8x128_S1x1x8x128_6_0_0_0 x), List.forall_mem_cons.2 ⟨(fun x => init_one 5 inb_S8x2x8x128_S1x1x8x128_5_1_0_0 x), List.forall_mem_cons.2 ⟨(fun x => init_zero 5 inb_S8x2x8x128_S1x1x8x128_5_0_0_0 x), List.forall_mem_cons.2 ⟨(fun x => init_one 4 inb_S8x2x8x128_S1x1x8x128_4_1_0_0 x), List.forall_mem_cons.2 ⟨(fun x => init_zero 4 inb_S8x2x8x128_S1x1x8x128_4_0_0_0 x), List.forall_mem_cons.2 ⟨(fun x => init_one 3 inb_S8x2x8x128_S1x1x8x128_3_1_0_0 x), List.forall_mem_cons.2 ⟨(fun x => init_zero 3 inb_S8x2x8x128_S1x1x8x128_3_0_0_0 x), List.forall_mem_cons.2 ⟨(fun x => init_one 2 inb_S8x2x8x128_S1x1x8x128_2_1_0_0 x), List.forall_mem_cons.2 ⟨(fun x => init_zero 2 inb_S8x2x8x128_S1x1x8x128_2_0_0_0 x), List.forall_mem_cons.2 ⟨(fun x => init_one 1 inb_S8x2x8x128_S1x1x8x128_1_1_0_0 x), List.forall_mem_cons.2 ⟨(fun x => init_zero 1 inb_S8x2x8x128_S1x1x8x128_1_0_0_0 x), List.forall_mem_cons.2 ⟨(fun x => init_one 0 inb_S8x2x8x128_S1x1x8x128_0_1_0_0 x), List.forall_mem_cons.2 ⟨(fun x => init_zero 0 inb_S8x2x8x128_S1x1x8x128_0_0_0_0 x), List.forall_mem_nil _⟩⟩⟩⟩⟩⟩⟩⟩⟩⟩⟩⟩⟩⟩⟩⟩
  · match ch with
    | 0 => exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))), init_mem 0 inb_S8x2x8x128_S1x1x8x128_0_0_0_0 b l⟩
    | 1 => exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))), init_mem 1 inb_S8x2x8x128_S1x1x8x128_1_0_0_0 b l⟩
    | 2 => exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), init_mem 2 inb_S8x2x8x128_S1x1x8x128_2_0_0_0 b l⟩
    | 3 => exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), init_mem 3 inb_S8x2x8x128_S1x1x8x128_3_0_0_0 b l⟩
    | 4 => exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), init_mem 4 inb_S8x2x8x128_S1x1x8x128_4_0_0_0 b l⟩
    | 5 => exact ⟨_, (List.mem_cons_of_mem _ (List.mem_cons_of_mem _ (List.mem_cons_of_mem _ (List.mem_cons_of_mem _ (List.mem_cons_of_mem _ List.mem_cons_self))))), init_mem 5 inb_S8x2x8x128_S1x1x8x128_5_0_0_0 b l⟩
    | 6 => exact ⟨_, (List.mem_cons_of_mem _ (List.mem_cons_of_mem _ (List.mem_cons_of_mem _ List.mem_cons_self))), init_mem 6 inb_S8x2x8x128_S1x1x8x128_6_0_0_0 b l⟩
    | 7 => exact ⟨_, (List.mem_cons_of_mem _ List.mem_cons_self), init_mem 7 inb_S8x2x8x128_S1x1x8x128_7_0_0_0 b l⟩
  · exact if_pos rfl

end Cert.Proof.KernelIdeal

end
-- ==== Proof.KernelIdeal.State.lean ====
/-
  The state of a core before each trip of the streaming loop.
-/
module

public import proofs.«01_k».proof.Proof.KernelIdeal.Ring
public import proofs.«01_k».proof.Proof.KernelIdeal.Stat

@[expose] public section

set_option maxRecDepth 65536

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-- A transfer of a whole array in flight, `src` into `dst`; `g` is what it leaves there. -/
abbrev sideFlight (c : Dev nD) (j N : ℕ) (hj : j < 15) (dst src : Ref sig .tc) (g : Bf F c dst) (f : Bf F c src) : sProp 𝕄 :=
  iprop(Transfers.Flight (countersEmb (U := UU nD τ)) (c : Thread nD τ) (SemLoc.dma ⟨j, hj⟩) () N
      iprop(pt c dst g ∗ ((Memref.whole src).view.loc (c : Thread nD τ) ↦[(Memref.whole src).view.set]{fullShare} f)))
/-- The same after it was waited for. -/
abbrev sideDown (c : Dev nD) (j : ℕ) (hj : j < 15) (dst src : Ref sig .tc) (g : Bf F c dst) (f : Bf F c src) : sProp 𝕄 :=
  iprop(pt c dst g ∗ ((Memref.whole src).view.loc (c : Thread nD τ) ↦[(Memref.whole src).view.set]{fullShare} f)
    ∗ semVal ((c : Thread nD τ), SemLoc.dma ⟨j, hj⟩) 0)

/-- An input's contents, seen as those of the buffer they are copied to. -/
def inX {c : Dev nD} (f : Bf F c main_v0) : Bf F c cc0_scratch0 := fun i => f i
def inS {c : Dev nD} (f : Bf F c main_arg2) : Bf F c cc0_scratch1 := fun i => f i
def inM {c : Dev nD} (f : Bf F c main_arg3) : Bf F c cc0_scratch2 := fun i => f i
def inC {c : Dev nD} (f : Bf F c main_arg4) : Bf F c cc0_scratch3 := fun i => f i

def sidesFly (c : Dev nD) (f0 : Bf F c main_v0) (f2 : Bf F c main_arg2) (f3 : Bf F c main_arg3) (f4 : Bf F c main_arg4) : sProp 𝕄 :=
  iprop(sideFlight c 0 1344 (by decide) cc0_scratch0 main_v0 (inX f0) f0 ∗ sideFlight c 1 384 (by decide) cc0_scratch2 main_arg3 (inM f3) f3
    ∗ sideFlight c 2 48 (by decide) cc0_scratch3 main_arg4 (inC f4) f4 ∗ sideFlight c 3 4032 (by decide) cc0_scratch1 main_arg2 (inS f2) f2)
def sidesDown (c : Dev nD) (f0 : Bf F c main_v0) (f2 : Bf F c main_arg2) (f3 : Bf F c main_arg3) (f4 : Bf F c main_arg4) : sProp 𝕄 :=
  iprop(sideDown c 0 (by decide) cc0_scratch0 main_v0 (inX f0) f0 ∗ sideDown c 1 (by decide) cc0_scratch2 main_arg3 (inM f3) f3
    ∗ sideDown c 2 (by decide) cc0_scratch3 main_arg4 (inC f4) f4 ∗ sideDown c 3 (by decide) cc0_scratch1 main_arg2 (inS f2) f2)
def sides (c : Dev nD) (k : ℕ) (f0 : Bf F c main_v0) (f2 : Bf F c main_arg2) (f3 : Bf F c main_arg3) (f4 : Bf F c main_arg4) : sProp 𝕄 :=
  match k with
  | 0 => sidesFly c f0 f2 f3 f4
  | _ + 1 => sidesDown c f0 f2 f3 f4

/-- Block `n`'s part of the ring: in flight, or past the last block its slot free. -/
def role (c : Dev nD) (fw : Bf F c main_arg1) (n : ℕ) : sProp 𝕄 :=
  if h : n < 63 then inFlight c fw ⟨n, h⟩ else freeSlot c fw n

/-- The state before trip `k`. -/
def tripSt (c : Dev nD) (f0 : Bf F c main_v0) (f2 : Bf F c main_arg2) (f3 : Bf F c main_arg3) (f4 : Bf F c main_arg4) (fw : Bf F c main_arg1)
    (k : ℕ) : sProp 𝕄 :=
  iprop(∃ (g16 : Bf F c cc0_scratch4) (g17 : Bf F c cc0_scratch5) (g18 : Bf F c cc0_scratch6) (g19 : Bf F c cc0_scratch7) (g20 : Bf F c cc0_scratch8)
      (g21 : Bf F c cc0_scratch9) (g28 : Bf F c cc0_scratch16) (g29 : Bf F c cc0_scratch17) (g23 : Bf F c cc0_scratch11) (W : Waits sig Unit),
    ⌜Good c k f0 f2 f3 fw g16 g17 g18 g28 g29 g23 ∧ Stat c k f0 f2 f3 fw g20⌝
    ∗ pt c cc0_scratch4 g16 ∗ pt c cc0_scratch5 g17 ∗ pt c cc0_scratch6 g18 ∗ pt c cc0_scratch7 g19 ∗ pt c cc0_scratch8 g20
    ∗ pt c cc0_scratch9 g21 ∗ pt c cc0_scratch16 g28 ∗ pt c cc0_scratch17 g29 ∗ pt c cc0_scratch11 g23
    ∗ pt c cc0_scratch10 (fun _ => wd k) ∗ sides c k f0 f2 f3 f4
    ∗ role c fw k ∗ role c fw (k + 1) ∗ role c fw (k + 2) ∗ freeSlot c fw (k + 3) ∗ owes (c : Thread nD τ) 0 W)

variable (c : Dev nD)

/-- A free slot in the program's spelling. -/
theorem freeSlot_out (fw : Bf F c main_arg1) (n : ℕ)
    (o9 : Fin 1 → ℕ) (o10 : Fin 3 → ℕ) (o11 : Fin 2 → ℕ)
    (h9 : ∀ a, o9 a + S1.size a ≤ S4.size a) (h10 : ∀ a, o10 a + S1x7168x512.size a ≤ S4x7168x512.size a) (h11 : ∀ a, o11 a + S7168x512.size a ≤ S7168x32256.size a)
    (e9 : o9 = cellOff n) (e10 : o10 = slotOff n) :
    (freeSlot c fw n : sProp 𝕄) ⊢ iprop(semVal ((c : Thread nD τ), SemLoc.dma (cellAt o9 h9)) 0
      ∗ (∃ g : Bf F c cc0_scoped0, (slotAt o10 h10).view.loc (c : Thread nD τ) ↦[(slotAt o10 h10).view.set]{fullShare} g)
      ∗ ((blkAt o11 h11).view.loc (c : Thread nD τ) ↦[(blkAt o11 h11).view.set]{wShare n} fw)
      ∗ ((blkAt o11 h11).view.loc (c : Thread nD τ) ↦[Finset.univ \ (blkAt o11 h11).view.set]{wShare n} fw)) := by
  subst e9 e10
  unfold freeSlot
  iintro ⟨Hc, ⟨%g, Hs⟩, Hw⟩
  ihave Hw' := (pointsTo_split_subset (Finset.subset_univ (blkAt o11 h11).view.set)).1 $$ Hw
  icases Hw' with ⟨Hw, Hr⟩
  isplitl [Hc]; · iexact Hc
  isplitl [Hs]; · iexists g; iexact Hs
  isplitl [Hw]; · iexact Hw
  iexact Hr

/-- A transfer that covers a view leaves what it carried. -/
theorem writes_whole_emb {κ : Kind} {sp : Space} {s : Shape} {e : EltTy} (v : View sig κ sp s e) (g : v.ty.Contents (Elt F)) (p : s.Idx → Elt F e)
    (x : s.Idx) : v.writes (Elt F) g [⟨Rect.whole s, p⟩] (v.emb x) = _root_.cast (congrArg (Elt F) v.elt_eq.symm) (p x) := by
  have hx : (Rect.whole s).emb x = x := by
    funext a; apply Fin.ext; show 0 + 1 * (x a).val = (x a).val; omega
  have : v.emb x = (v.slice (Rect.whole s)).emb x := by
    show v.emb x = v.emb ((Rect.whole s).emb x)
    rw [hx]
  rw [this]
  exact View.write_emb_of_mem _ _ (Finset.mem_univ _)

/-- A transfer issued in the program's spelling is block `n` in flight. -/
theorem inFlight_in (fw : Bf F c main_arg1) (n : Fin 63) (gq : Bf F c cc0_scoped0)
    (o9 : Fin 1 → ℕ) (o10 : Fin 3 → ℕ) (o11 : Fin 2 → ℕ)
    (h9 : ∀ a, o9 a + S1.size a ≤ S4.size a) (h10 : ∀ a, o10 a + S1x7168x512.size a ≤ S4x7168x512.size a) (h11 : ∀ a, o11 a + S7168x512.size a ≤ S7168x32256.size a)
    (e9 : o9 = cellOff n) (e10 : o10 = slotOff n) (e11 : o11 = blkOff n)
    (p : S7168x512.Idx → Elt F .fp8e4m3) (hp : p = (ReadAs.same : ReadAs (Elt F) _ _ _ _).apply ((blkAt o11 h11).view.read (Elt F) fw)) :
    iprop(Transfers.Flight (countersEmb (U := UU nD τ)) (c : Thread nD τ) (.dma (cellAt o9 h9)) () 114688
        iprop(((slotAt o10 h10).view.loc (c : Thread nD τ) ↦[(slotAt o10 h10).view.set]{fullShare} (slotAt o10 h10).view.writes (Elt F) gq [⟨Rect.whole S7168x512, p⟩])
          ∗ ((blkAt o11 h11).view.loc (c : Thread nD τ) ↦[(blkAt o11 h11).view.set]{wShare n} fw))
      ∗ ((blkAt o11 h11).view.loc (c : Thread nD τ) ↦[Finset.univ \ (blkAt o11 h11).view.set]{wShare n} fw))
    ⊢ (inFlight c fw n : sProp 𝕄) := by
  subst e9 e10 e11
  unfold inFlight
  iintro ⟨Hf, Hr⟩
  isplitl [Hf]
  · iapply (Transfers.Flight_mono (countersEmb (U := UU nD τ)) (c : Thread nD τ) (BIClass.sep_mono (Entails.of_eq (pointsTo_congr
      (ℓ := ringLoc c) (I := (slotAt (slotOff n) (slotInb n)).view.set) (f := (slotAt (slotOff n) h10).view.writes (Elt F) gq [⟨Rect.whole S7168x512, p⟩])
      (g := fill c fw n) (q := fullShare) (fun i hi => ?_))) (Entails.of_eq rfl))) $$ Hf
    obtain ⟨x, -, rfl⟩ := Finset.mem_map.mp hi
    refine (writes_whole_emb _ _ _ _).trans ?_
    rw [hp, fill_slot fw n x]
    rfl
  · iexact Hr

theorem role_lt (fw : Bf F c main_arg1) (n : ℕ) (h : n < 63) : (role c fw n : sProp 𝕄) = inFlight c fw ⟨n, h⟩ := dif_pos h
theorem role_ge (fw : Bf F c main_arg1) (n : ℕ) (h : ¬ n < 63) : (role c fw n : sProp 𝕄) = freeSlot c fw n := dif_neg h
theorem sides_pos (k : ℕ) (h : k ≠ 0) (f0 : Bf F c main_v0) (f2 : Bf F c main_arg2) (f3 : Bf F c main_arg3) (f4 : Bf F c main_arg4) :
    (sides c k f0 f2 f3 f4 : sProp 𝕄) = sidesDown c f0 f2 f3 f4 := by
  cases k with
  | zero => exact absurd rfl h
  | succ k => rfl

/-- A slot held in the program's spelling. -/
theorem slot_respell (n : ℕ) (o : Fin 3 → ℕ) (h : ∀ a, o a + S1x7168x512.size a ≤ S4x7168x512.size a) (e : o = slotOff n) (g : Bf F c cc0_scoped0) :
    (slotPt c n g : sProp 𝕄) = ((slotAt o h).view.loc (c : Thread nD τ) ↦[(slotAt o h).view.set]{fullShare} g) := by subst e; rfl

end Cert.Proof.KernelIdeal

end
-- ==== Proof.KernelIdeal.Parts.lean ====
/-
  The ring and the weights in four parts.
-/
module

public import proofs.«01_k».proof.Proof.KernelIdeal.State

@[expose] public section

set_option maxRecDepth 65536

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

variable (c : Dev nD)

/-- A slot is the elements of its first coordinate. -/
theorem mem_slot (n : ℕ) (i : S4x7168x512.Idx) : i ∈ (slotAt (slotOff n) (slotInb n)).view.set ↔ (i 0).val = n % 4 := by
  constructor
  · intro h
    obtain ⟨x, -, rfl⟩ := Finset.mem_map.mp h
    have e : Shape.reshapeEquiv (squeezes_S1x7168x512_S7168x512).numel_eq x = Fin.cons ⟨0, Nat.one_pos⟩ x :=
      Shape.reshapeEquiv_cons_one (d := ![7168, 512]) _ x
    show n % 4 + 1 * ((Shape.reshapeEquiv (squeezes_S1x7168x512_S7168x512).numel_eq x) 0).val = _
    rw [e]; show n % 4 + 1 * 0 = _; omega
  · intro h
    refine Finset.mem_map.mpr ⟨(fun | 0 => i 1 | 1 => i 2 : (a : Fin 2) → Fin (S7168x512.size a)), Finset.mem_univ _, ?_⟩
    obtain ⟨h1, h2⟩ := slot_emb n (fun | 0 => i 1 | 1 => i 2 : (a : Fin 2) → Fin (S7168x512.size a))
    funext a
    match a with
    | 0 =>
      apply Fin.ext
      rw [h]
      have e : Shape.reshapeEquiv (squeezes_S1x7168x512_S7168x512).numel_eq (fun | 0 => i 1 | 1 => i 2 : (a : Fin 2) → Fin (S7168x512.size a))
          = Fin.cons ⟨0, Nat.one_pos⟩ (fun | 0 => i 1 | 1 => i 2 : (a : Fin 2) → Fin (S7168x512.size a)) :=
        Shape.reshapeEquiv_cons_one (d := ![7168, 512]) _ _
      show n % 4 + 1 * ((Shape.reshapeEquiv (squeezes_S1x7168x512_S7168x512).numel_eq (fun | 0 => i 1 | 1 => i 2 : (a : Fin 2) → Fin (S7168x512.size a))) 0).val = _
      rw [e]; show n % 4 + 1 * 0 = _; omega
    | 1 => exact Fin.ext h1
    | 2 => exact Fin.ext h2

abbrev slotSet (n : ℕ) : Finset S4x7168x512.Idx := (slotAt (slotOff n) (slotInb n)).view.set

theorem slot_disj (n n' : ℕ) (h : n % 4 ≠ n' % 4) : Disjoint (slotSet n) (slotSet n') :=
  Finset.disjoint_left.mpr fun i hi hi' => h (((mem_slot n i).1 hi).symm.trans ((mem_slot n' i).1 hi'))

theorem slots_univ (n0 n1 n2 n3 : ℕ) (h0 : n0 % 4 = 0) (h1 : n1 % 4 = 1) (h2 : n2 % 4 = 2) (h3 : n3 % 4 = 3) :
    slotSet n0 ∪ (slotSet n1 ∪ (slotSet n2 ∪ slotSet n3)) = Finset.univ := by
  refine Finset.eq_univ_of_forall fun i => ?_
  have hi : (i 0).val < 4 := (i 0).isLt
  by_cases e0 : (i 0).val = 0
  · exact Finset.mem_union_left _ ((mem_slot n0 i).2 (by rw [e0, h0]))
  refine Finset.mem_union_right _ ?_
  by_cases e1 : (i 0).val = 1
  · exact Finset.mem_union_left _ ((mem_slot n1 i).2 (by rw [e1, h1]))
  refine Finset.mem_union_right _ ?_
  by_cases e2 : (i 0).val = 2
  · exact Finset.mem_union_left _ ((mem_slot n2 i).2 (by rw [e2, h2]))
  exact Finset.mem_union_right _ ((mem_slot n3 i).2 (by rw [h3]; omega))

/-- The ring in its four slots. -/
theorem ring_split (g : Bf F c cc0_scoped0) :
    (pt c cc0_scoped0 g : sProp 𝕄) ⊢ iprop(slotPt c 0 g ∗ slotPt c 1 g ∗ slotPt c 2 g ∗ slotPt c 3 g) := by
  have hu := slots_univ 0 1 2 3 rfl rfl rfl rfl
  have d2 : Disjoint (slotSet 2) (slotSet 3) := slot_disj 2 3 (by decide)
  have d1 : Disjoint (slotSet 1) (slotSet 2 ∪ slotSet 3) := Finset.disjoint_union_right.mpr ⟨slot_disj 1 2 (by decide), slot_disj 1 3 (by decide)⟩
  have d0 : Disjoint (slotSet 0) (slotSet 1 ∪ (slotSet 2 ∪ slotSet 3)) :=
    Finset.disjoint_union_right.mpr ⟨slot_disj 0 1 (by decide), Finset.disjoint_union_right.mpr ⟨slot_disj 0 2 (by decide), slot_disj 0 3 (by decide)⟩⟩
  have e : (pt c cc0_scoped0 g : sProp 𝕄) = (ringLoc c ↦[slotSet 0 ∪ (slotSet 1 ∪ (slotSet 2 ∪ slotSet 3))]{fullShare} g) :=
    congrArg (fun S => (ringLoc c ↦[S]{fullShare} g : sProp 𝕄)) hu.symm
  rw [e]
  iintro H
  ihave H0 := (pointsTo_union d0).1 $$ H
  icases H0 with ⟨H0, H⟩
  ihave H1 := (pointsTo_union d1).1 $$ H
  icases H1 with ⟨H1, H⟩
  ihave H2 := (pointsTo_union d2).1 $$ H
  icases H2 with ⟨H2, H3⟩
  isplitl [H0]; · iexact H0
  isplitl [H1]; · iexact H1
  isplitl [H2]; · iexact H2
  iexact H3

/-- The four slots, whatever they hold, are the ring at some contents. -/
theorem ring_join (n0 n1 n2 n3 : ℕ) (h0 : n0 % 4 = 0) (h1 : n1 % 4 = 1) (h2 : n2 % 4 = 2) (h3 : n3 % 4 = 3) :
    iprop((∃ g : Bf F c cc0_scoped0, slotPt c n0 g) ∗ (∃ g : Bf F c cc0_scoped0, slotPt c n1 g) ∗ (∃ g : Bf F c cc0_scoped0, slotPt c n2 g)
      ∗ (∃ g : Bf F c cc0_scoped0, slotPt c n3 g)) ⊢ (iprop(∃ g, pt c cc0_scoped0 g) : sProp 𝕄) := by
  have hu := slots_univ n0 n1 n2 n3 h0 h1 h2 h3
  have d2 : Disjoint (slotSet n2) (slotSet n3) := slot_disj n2 n3 (by omega)
  have d1 : Disjoint (slotSet n1) (slotSet n2 ∪ slotSet n3) := Finset.disjoint_union_right.mpr ⟨slot_disj n1 n2 (by omega), slot_disj n1 n3 (by omega)⟩
  have d0 : Disjoint (slotSet n0) (slotSet n1 ∪ (slotSet n2 ∪ slotSet n3)) :=
    Finset.disjoint_union_right.mpr ⟨slot_disj n0 n1 (by omega), Finset.disjoint_union_right.mpr ⟨slot_disj n0 n2 (by omega), slot_disj n0 n3 (by omega)⟩⟩
  iintro ⟨⟨%g0, H0⟩, ⟨%g1, H1⟩, ⟨%g2, H2⟩, ⟨%g3, H3⟩⟩
  ihave H := (pointsTo_join (ℓ := ringLoc c) d2) $$ [H2 H3]
  · isplitl [H2] <;> iassumption
  ihave H' := (pointsTo_join (ℓ := ringLoc c) d1) $$ [H1 H]
  · isplitl [H1] <;> iassumption
  ihave H'' := (pointsTo_join (ℓ := ringLoc c) d0) $$ [H0 H']
  · isplitl [H0] <;> iassumption
  iexists _
  iapply (Entails.of_eq (congrArg (fun S => (ringLoc c ↦[S]{fullShare} _ : sProp 𝕄)) hu)) $$ H''

/-- The weights' share in its quarters. -/
theorem w_split (fw : Bf F c main_arg1) : (pt c main_arg1 fw : sProp 𝕄)
    ⊢ iprop((wLoc c ↦{wShare 0} fw) ∗ (wLoc c ↦{wShare 1} fw) ∗ (wLoc c ↦{wShare 2} fw) ∗ (wLoc c ↦{wShare 3} fw)) := by
  iintro H
  ihave H' := (pointsTo_share (PosShare.mem_left_op_right fullShare)).1 $$ H
  icases H' with ⟨Hl, Hr⟩
  ihave Hl' := (pointsTo_share (PosShare.mem_left_op_right fullShare.left)).1 $$ Hl
  ihave Hr' := (pointsTo_share (PosShare.mem_left_op_right fullShare.right)).1 $$ Hr
  icases Hl' with ⟨H0, H1⟩
  icases Hr' with ⟨H2, H3⟩
  isplitl [H0]; · iexact H0
  isplitl [H1]; · iexact H1
  isplitl [H2]; · iexact H2
  iexact H3

theorem w_join (fw : Bf F c main_arg1) (n0 n1 n2 n3 : ℕ) (h0 : wShare n0 = fullShare.left.left) (h1 : wShare n1 = fullShare.left.right)
    (h2 : wShare n2 = fullShare.right.left) (h3 : wShare n3 = fullShare.right.right) :
    iprop((wLoc c ↦{wShare n0} fw) ∗ (wLoc c ↦{wShare n1} fw) ∗ (wLoc c ↦{wShare n2} fw) ∗ (wLoc c ↦{wShare n3} fw))
      ⊢ (pt c main_arg1 fw : sProp 𝕄) := by
  rw [h0, h1, h2, h3]
  iintro ⟨H0, H1, H2, H3⟩
  iapply (pointsTo_share (PosShare.mem_left_op_right fullShare)).2 $$ [H0 H1 H2 H3]
  isplitl [H0 H1]
  · iapply (pointsTo_share (PosShare.mem_left_op_right fullShare.left)).2 $$ [H0 H1]
    isplitl [H0] <;> iassumption
  · iapply (pointsTo_share (PosShare.mem_left_op_right fullShare.right)).2 $$ [H2 H3]
    isplitl [H2] <;> iassumption

/-- At the start every slot is free. -/
theorem free_start (fw : Bf F c main_arg1) : iprop((∃ g : Bf F c cc0_scoped0, pt c cc0_scoped0 g) ∗ pt c main_arg1 fw
      ∗ semVal ((c : Thread nD τ), SemLoc.dma 11) 0 ∗ semVal ((c : Thread nD τ), SemLoc.dma 12) 0
      ∗ semVal ((c : Thread nD τ), SemLoc.dma 13) 0 ∗ semVal ((c : Thread nD τ), SemLoc.dma 14) 0)
    ⊢ (iprop(freeSlot c fw 0 ∗ freeSlot c fw 1 ∗ freeSlot c fw 2 ∗ freeSlot c fw 3) : sProp 𝕄) := by
  unfold freeSlot
  iintro ⟨⟨%g, Hr⟩, Hw, C0, C1, C2, C3⟩
  ihave Hr' := (ring_split c g) $$ Hr
  icases Hr' with ⟨R0, R1, R2, R3⟩
  ihave Hw' := (w_split c fw) $$ Hw
  icases Hw' with ⟨W0, W1, W2, W3⟩
  isplitl [C0 R0 W0]
  · isplitl [C0]; · iexact C0
    isplitl [R0]; · iexists g; iexact R0
    iexact W0
  isplitl [C1 R1 W1]
  · isplitl [C1]; · iexact C1
    isplitl [R1]; · iexists g; iexact R1
    iexact W1
  isplitl [C2 R2 W2]
  · isplitl [C2]; · iexact C2
    isplitl [R2]; · iexists g; iexact R2
    iexact W2
  isplitl [C3]; · iexact C3
  isplitl [R3]; · iexists g; iexact R3
  iexact W3

/-- At the end every slot is free again. -/
theorem free_end (fw : Bf F c main_arg1) : iprop(freeSlot c fw 63 ∗ freeSlot c fw 64 ∗ freeSlot c fw 65 ∗ freeSlot c fw 66)
    ⊢ (iprop((∃ g : Bf F c cc0_scoped0, pt c cc0_scoped0 g) ∗ pt c main_arg1 fw
      ∗ semVal ((c : Thread nD τ), SemLoc.dma 11) 0 ∗ semVal ((c : Thread nD τ), SemLoc.dma 12) 0
      ∗ semVal ((c : Thread nD τ), SemLoc.dma 13) 0 ∗ semVal ((c : Thread nD τ), SemLoc.dma 14) 0) : sProp 𝕄) := by
  unfold freeSlot
  iintro ⟨⟨C3, R3, W3⟩, ⟨C0, R0, W0⟩, ⟨C1, R1, W1⟩, ⟨C2, R2, W2⟩⟩
  isplitl [R0 R1 R2 R3]
  · iapply (ring_join c 64 65 66 63 rfl rfl rfl rfl) $$ [R0 R1 R2 R3]
    isplitl [R0]; · iexact R0
    isplitl [R1]; · iexact R1
    isplitl [R2]; · iexact R2
    iexact R3
  isplitl [W0 W1 W2 W3]
  · iapply (w_join c fw 64 65 66 63 rfl rfl rfl rfl) $$ [W0 W1 W2 W3]
    isplitl [W0]; · iexact W0
    isplitl [W1]; · iexact W1
    isplitl [W2]; · iexact W2
    iexact W3
  isplitl [C0]; · iexact C0
  isplitl [C1]; · iexact C1
  isplitl [C2]; · iexact C2
  iexact C3

end Cert.Proof.KernelIdeal

end
-- ==== Proof.KernelIdeal.TripBase.lean ====
/-
  One trip of the streaming loop: common facts.
-/
module

public import proofs.«01_k».proof.Proof.KernelIdeal.State

@[expose] public section

set_option maxRecDepth 65536

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

variable (c : Dev nD)

theorem down_in (f0 : Bf F c main_v0) (f2 : Bf F c main_arg2) (f3 : Bf F c main_arg3) (f4 : Bf F c main_arg4) (k : ℕ) :
    iprop(sideDown c 0 (by decide) cc0_scratch0 main_v0 (inX f0) f0 ∗ sideDown c 1 (by decide) cc0_scratch2 main_arg3 (inM f3) f3
    ∗ sideDown c 2 (by decide) cc0_scratch3 main_arg4 (inC f4) f4 ∗ sideDown c 3 (by decide) cc0_scratch1 main_arg2 (inS f2) f2) ⊢ (sides c (k + 1) f0 f2 f3 f4 : sProp 𝕄) := Entails.of_eq rfl
theorem smem_next (k : ℕ) (g : BitVec 32) : (Memref.whole cc0_scratch10).view.writes (Elt F) (fun _ => g)
    [⟨Rect.unit (s := S1) ![0] S1.size inb_S1_S1_0, fun _ => Scalar.addi (wd k) 1#32⟩] = fun _ => wd (k + 1) := by
  funext i
  have hi : i = ((Memref.whole cc0_scratch10).view.slice (Rect.unit (s := S1) ![0] S1.size inb_S1_S1_0)).emb (fun | ⟨0, _⟩ => (⟨0, Nat.one_pos⟩ : Fin 1)) := by
    funext a; match a with | ⟨0, _⟩ => exact Subsingleton.elim (α := Fin 1) _ _
  refine (congrArg _ hi).trans ((View.write_emb_of_mem _ _ (Finset.mem_univ _)).trans ?_)
  show Scalar.addi (wd k) 1#32 = wd (k + 1)
  show BitVec.ofNat 32 k + BitVec.ofNat 32 1 = _
  exact (BitVec.ofNat_add _ _).symm
theorem by_trip {n : ℕ} (P : Fin n → Prop) (h : ∀ k, P k) (k : Fin n) : P k := h k

theorem isFirst_not : ∀ k : Fin k0_t1_loop.trips, k.val ≠ 0 → ¬ Scalar.cmpi .ne (Scalar.extui (Scalar.cmpi .eq (wd k) 0#32) : BitVec 32) 0#32 = 1#1 := by decide +kernel
theorem sides_first (k : ℕ) (h : k = 0) (f0 : Bf F c main_v0) (f2 : Bf F c main_arg2) (f3 : Bf F c main_arg3) (f4 : Bf F c main_arg4) :
    (sides c k f0 f2 f3 f4 : sProp 𝕄) = sidesFly c f0 f2 f3 f4 := by
  subst h; rfl

end Cert.Proof.KernelIdeal

end
-- ==== Proof.KernelIdeal.TripMid.lean ====
/-
  One trip of the streaming loop.
-/
module

public import proofs.«01_k».proof.Proof.KernelIdeal.TripBase

@[expose] public section

set_option maxRecDepth 65536

noncomputable section

namespace Cert.Proof.KernelIdeal

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

variable (c : Dev nD)

set_option pp.maxSteps 3000 in
set_option maxHeartbeats 40000000 in
theorem trip_mid (f0 : Bf F c main_v0) (f2 : Bf F c main_arg2) (f3 : Bf F c main_arg3) (f4 : Bf F c main_arg4) (fw : Bf F c main_arg1)
  (k : Fin k0_t1_loop.trips) (hk : k.val ≠ 0) (h63 : k.val + 3 < 63) (v981 v_a v_b v_d : BitVec 32) :
  (tripSt c f0 f2 f3 f4 fw k : sProp 𝕄)
  ⊢ wp frame (wpE (defs₀ (F := F)) Variants.none (c : Thread nD τ) none) Set.univ (k0_t1_body (F := F) (Memref.whole main_v0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole main_v1_6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 (Memref.whole cc0_scoped0) (Memref.isWhole_whole _) cc0_scoped1 (iota .tc S8x128 32 [1] iota_S8x128_d1_w32) v981 v_a v_b 0#32 v_d k (issued k, wd k, index k))
    (fun r => iprop(⌜r = (issued (k + 1), wd (k + 1), index (k + 1))⌝ ∗ tripSt c f0 f2 f3 f4 fw (k + 1))) := by
  have hlt : k.val < 63 := lt_of_lt_of_eq k.isLt trips_eq
  have hw2 : k0_chk2 (wd k) := chk2_of ⟨k, by omega⟩
  have hw1 := chk1_of k
  have h5 : k0_chk3 (wd k) := chk3_of ⟨k, hlt⟩
  have h4 : k0_cond4 k (index k) = 1#1 := cond4_of k
  have h3 : k0_cond3 k (index k) = 1#1 := (cond3_iff k).2 (by omega)
  have h6 : ¬ Scalar.cmpi .ne (Scalar.extui (Scalar.cmpi .eq (wd k) 0#32)) 0#32 = 1#1 := isFirst_not k hk
  unfold tripSt
  rw [role_lt c fw k hlt, sides_pos c k hk]
  unfold sidesDown
  iintro ⟨%g16, %g17, %g18, %g19, %g20, %g21, %g28, %g29, %g23, %W, %hG, H16, H17, H18, H19, H20, H21, H28, H29, H23, H22, ⟨Hs0, Hs1, Hs2, ⟨Hs3, Hs3s, Hs3c⟩⟩, Hr0, Hr1, Hr2, Hfree, HO⟩
  ihave Hf := (freeSlot_out c fw (k + 3) (k0_off9 (issued k)) (k0_off10 (issued k)) (k0_off11 (index k)) (k0_off9_inb k (issued k) (wd k) (index k) hw1 h3)
    (k0_off10_inb k (issued k) (wd k) (index k) hw1 h3) (k0_off11_inb k (issued k) (wd k) (index k) hw1 h3) (off9_eq k (by omega)) (off10_eq k (by omega))) $$ Hfree
  icases Hf with ⟨Hqc, ⟨%gq, Hqs⟩, Hqw, Hqr⟩
  sl_exec_parts
  iapply (wp_await Variants.none c none fw ⟨k, hlt⟩ W _ _ _ _ _ _ (off12_eq k) (off13_eq k)) $$ [Hr0 HO]
  · isplitl [Hr0] <;> iassumption
  iintro ⟨Hc0, Hs, Hw, %W', HO⟩
  ihave Hsl := (Entails.of_eq (slot_respell c k (k0_off15 (wd k)) (k0_off15_inb (wd k) hw2) (off15_eq k) (fill c fw k))) $$ Hs
  sl_exec_parts
  sl_step
  ihave Hs' := (Entails.of_eq (slot_respell c k (k0_off15 (wd k)) (k0_off15_inb (wd k) hw2) (off15_eq k) (fill c fw k)).symm) $$ Hsl
  ihave Hfree' := (freeSlot_of c (fw := fw) k) $$ [Hc0 Hs' Hw]
  · isplitl [Hc0]; · iexact Hc0
    isplitl [Hs']; · iexact Hs'
    iexact Hw
  ihave Hfl := (inFlight_in c fw ⟨k + 3, h63⟩ gq _ _ _ (k0_off9_inb k (issued k) (wd k) (index k) hw1 h3)
    (k0_off10_inb k (issued k) (wd k) (index k) hw1 h3) (k0_off11_inb k (issued k) (wd k) (index k) hw1 h3) (off9_eq k (by omega)) (off10_eq k (by omega)) (off11_eq k (by omega)) _ rfl) $$ [Hqc Hqr]
  · isplitl [Hqc]; · iexact Hqc
    iexact Hqr
  ihave Hnew := (Entails.of_eq (role_lt c fw (k + 3) h63).symm) $$ Hfl
  ihave Hsides := (down_in c f0 f2 f3 f4 k) $$ [Hs0 Hs1 Hs2 Hs3 Hs3s Hs3c]
  · isplitl [Hs0]; · iexact Hs0
    isplitl [Hs1]; · iexact Hs1
    isplitl [Hs2]; · iexact Hs2
    isplitl [Hs3]; · iexact Hs3
    isplitl [Hs3s]; · iexact Hs3s
    iexact Hs3c

  isplitr [H16 H17 H18 H19 H20 H21 H28 H29 H23 H22 Hsides Hr1 Hr2 Hnew Hfree' HO]
  · ipureintro
    have key : ∀ k : Fin k0_t1_loop.trips, (trip_mid.sl.v1051_r0 k, Scalar.select (Scalar.ori (Scalar.cmpi .ne (trip_mid.sl.v1016_r0 k) (trip_mid.sl.v1026_r0 k)) (trip_mid.sl.v1015_r0 k))
          (Scalar.addi (wd k) 1#32) (wd k), Scalar.select (Scalar.cmpi .eq (Scalar.select (1#1) (Scalar.addi (index k) 1#32) (index k)) 63#32) (0#32)
          (Scalar.select (1#1) (Scalar.addi (index k) 1#32) (index k))) = (issued (k + 1), wd (k + 1), index (k + 1)) := by decide +kernel
    exact key k
  iexists _, _, _, _, _, _, _, _, _, _
  isplitr
  rotate_left
  · isplitl [H16]; · iexact H16
    isplitl [H17]; · iexact H17
    isplitl [H18]; · iexact H18
    isplitl [H19]; · iexact H19
    isplitl [H20]; · iexact H20
    isplitl [H21]; · iexact H21
    isplitl [H28]; · iexact H28
    isplitl [H29]; · iexact H29
    isplitl [H23]; · iexact H23
    isplitl [H22]
    · iapply (Entails.of_eq (congrArg (pt c cc0_scratch10) (show (Memref.whole cc0_scratch10).view.writes (Elt F) (fun _ => wd k) (trip_mid.sl.H22_1 c k) = fun _ => wd (k + 1) from smem_next k (wd k)))) $$ H22
    isplitl [Hsides]; · iexact Hsides
    isplitl [Hr1]; · iexact Hr1
    isplitl [Hr2]; · iexact Hr2
    isplitl [Hnew]; · iexact Hnew
    isplitl [Hfree']; · iexact Hfree'
    iexact HO
  · ipureintro
    obtain ⟨hG, hS⟩ := hG
    obtain ⟨e16, e17, e18, e28, e29⟩ := hG.1 hk
    have hraw : trip_mid.sl.r_15 c fw k hw2 g16 = rawT g16 (wBlk fw k) := rawT_eq g16 fw k (k0_off15_inb (wd k) hw2)
    have hwords : ∀ (r : Fin 8) (l : Fin 128) (hl : 128 * (k.val / 8) + l.val < 1024), trip_mid.sl.r_16 c k h5 g18 (ix2 (n0 := 8) (n1 := 128) r l) = g18 (ix2 (n0 := 8) (n1 := 1024) r ⟨128 * (k.val / 8) + l.val, hl⟩) :=
      fun r l hl => readWords k g18 _ r l
    have hsc := readSc g17 inb_S8x128_S8x128_0_0
    have hs : trip_mid.sl.v1276_r0 (F := F) c k = wd (4 * (k.val % 8)) := by
      have key : ∀ k : Fin k0_t1_loop.trips, Scalar.muli (Scalar.subi (wd k) (Scalar.muli (Scalar.divsi (wd k) 8#32) 8#32)) 4#32 = wd (4 * (k.val % 8)) := by decide +kernel
      exact key k
    have hws : ∀ (t : Fin 4) (l : Fin 128) (hl : 512 * k.val + 128 * t.val + l.val < 32256),
        View.readAt (Elt F) (Memref.whole cc0_scratch1).view (Rect.unit (s := S32256) (k0_off18 (wd k) (wd t)) S128.size (inb18 k t)).toLoadRect (inS f2) (ix1 (n := 128) l)
          = f2 (ix1 (n := 32256) ⟨512 * k.val + 128 * t.val + l.val, hl⟩) := fun t l hl => readWs k t f2 _ l
    refine ⟨good_step c k f0 f2 f3 fw _ _ _ _ _ g23 _ (trip_mid.sl.r_15 c fw k hw2 g16) (trip_mid.sl.r_16 c k h5 g18) (trip_mid.sl.v1276_r0 (F := F) c k)
      (View.readAt (Elt F) (Memref.whole cc0_scratch5).view (Rect.unit (s := S8x128) ![0, 0] S8x128.size inb_S8x128_S8x128_0_0).toLoadRect g17)
      (fun t => View.readAt (Elt F) (Memref.whole cc0_scratch1).view (Rect.unit (s := S32256) (k0_off18 (wd k) (wd t)) S128.size (inb18 k t)).toLoadRect (inS f2))
      e16 e17 e18 e28 e29 hG.2 hraw hwords hsc hs hws ?_, ?_⟩
    · rfl
    · refine stat_step c k f0 f2 f3 fw _ _ _ g20 _ (trip_mid.sl.r_15 c fw k hw2 g16) (trip_mid.sl.r_16 c k h5 g18) (trip_mid.sl.v1276_r0 (F := F) c k)
        (View.readAt (Elt F) (Memref.whole cc0_scratch5).view (Rect.unit (s := S8x128) ![0, 0] S8x128.size inb_S8x128_S8x128_0_0).toLoadRect g17)
        (fun t => View.readAt (Elt F) (Memref.whole cc0_scratch1).view (Rect.unit (s := S32256) (k0_off18 (wd k) (wd t)) S128.size (inb18 k t)).toLoadRect (inS f2))
        (k0_off17_inb (wd k) h5) (k0_off22_inb (wd k) h5) e16 e17 e18 (hS hk) hraw hwords hsc hs hws ?_
      exact ⟨_, rfl⟩

end Cert.Proof.KernelIdeal

end
-- ==== Proof.KernelIdeal.TripFirst.lean ====
/-
  One trip of the streaming loop.
-/
module

public import proofs.«01_k».proof.Proof.KernelIdeal.TripBase

@[expose] public section

set_option maxRecDepth 65536

noncomputable section

namespace Cert.Proof.KernelIdeal

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

variable (c : Dev nD)

set_option pp.maxSteps 3000 in
set_option maxHeartbeats 40000000 in
theorem trip_first (f0 : Bf F c main_v0) (f2 : Bf F c main_arg2) (f3 : Bf F c main_arg3) (f4 : Bf F c main_arg4) (fw : Bf F c main_arg1)
  (k : Fin k0_t1_loop.trips) (hk : k.val = 0) (h63 : k.val + 3 < 63) (v981 v_a v_b v_d : BitVec 32) :
  (tripSt c f0 f2 f3 f4 fw k : sProp 𝕄)
  ⊢ wp frame (wpE (defs₀ (F := F)) Variants.none (c : Thread nD τ) none) Set.univ (k0_t1_body (F := F) (Memref.whole main_v0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole main_v1_6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 (Memref.whole cc0_scoped0) (Memref.isWhole_whole _) cc0_scoped1 (iota .tc S8x128 32 [1] iota_S8x128_d1_w32) v981 v_a v_b 0#32 v_d k (issued k, wd k, index k))
    (fun r => iprop(⌜r = (issued (k + 1), wd (k + 1), index (k + 1))⌝ ∗ tripSt c f0 f2 f3 f4 fw (k + 1))) := by
  have hlt : k.val < 63 := lt_of_lt_of_eq k.isLt trips_eq
  have hw2 : k0_chk2 (wd k) := chk2_of ⟨k, by omega⟩
  have hw1 := chk1_of k
  have h5 : k0_chk3 (wd k) := chk3_of ⟨k, hlt⟩
  have h4 : k0_cond4 k (index k) = 1#1 := cond4_of k
  have h3 : k0_cond3 k (index k) = 1#1 := (cond3_iff k).2 (by omega)
  have h6 : Scalar.cmpi .ne (Scalar.extui (Scalar.cmpi .eq (wd k) 0#32)) 0#32 = 1#1 := by rw [hk]; decide
  unfold tripSt
  rw [role_lt c fw k hlt, sides_first c k hk]
  unfold sidesFly
  iintro ⟨%g16, %g17, %g18, %g19, %g20, %g21, %g28, %g29, %g23, %W, %hG, H16, H17, H18, H19, H20, H21, H28, H29, H23, H22, ⟨Hs0, Hs1, Hs2, Hs3⟩, Hr0, Hr1, Hr2, Hfree, HO⟩
  ihave Hf := (freeSlot_out c fw (k + 3) (k0_off9 (issued k)) (k0_off10 (issued k)) (k0_off11 (index k)) (k0_off9_inb k (issued k) (wd k) (index k) hw1 h3)
    (k0_off10_inb k (issued k) (wd k) (index k) hw1 h3) (k0_off11_inb k (issued k) (wd k) (index k) hw1 h3) (off9_eq k (by omega)) (off10_eq k (by omega))) $$ Hfree
  icases Hf with ⟨Hqc, ⟨%gq, Hqs⟩, Hqw, Hqr⟩
  sl_exec_parts
  iapply (wp_await Variants.none c none fw ⟨k, hlt⟩ W _ _ _ _ _ _ (off12_eq k) (off13_eq k)) $$ [Hr0 HO]
  · isplitl [Hr0] <;> iassumption
  iintro ⟨Hc0, Hs, Hw, %W', HO⟩
  ihave Hsl := (Entails.of_eq (slot_respell c k (k0_off15 (wd k)) (k0_off15_inb (wd k) hw2) (off15_eq k) (fill c fw k))) $$ Hs
  sl_exec_parts
  sl_step
  ihave Hs' := (Entails.of_eq (slot_respell c k (k0_off15 (wd k)) (k0_off15_inb (wd k) hw2) (off15_eq k) (fill c fw k)).symm) $$ Hsl
  ihave Hfree' := (freeSlot_of c (fw := fw) k) $$ [Hc0 Hs' Hw]
  · isplitl [Hc0]; · iexact Hc0
    isplitl [Hs']; · iexact Hs'
    iexact Hw
  ihave Hfl := (inFlight_in c fw ⟨k + 3, h63⟩ gq _ _ _ (k0_off9_inb k (issued k) (wd k) (index k) hw1 h3)
    (k0_off10_inb k (issued k) (wd k) (index k) hw1 h3) (k0_off11_inb k (issued k) (wd k) (index k) hw1 h3) (off9_eq k (by omega)) (off10_eq k (by omega)) (off11_eq k (by omega)) _ rfl) $$ [Hqc Hqr]
  · isplitl [Hqc]; · iexact Hqc
    iexact Hqr
  ihave Hnew := (Entails.of_eq (role_lt c fw (k + 3) h63).symm) $$ Hfl
  ihave Hsides := (down_in c f0 f2 f3 f4 k) $$ [Hs0 Hs0_src Hs0_dst Hs1 Hs1_src Hs1_dst Hs2 Hs2_src Hs2_dst Hs3 Hs3_src Hs3_dst]
  · isplitl [Hs0 Hs0_src Hs0_dst]
    · isplitl [Hs0_dst]; · iexact Hs0_dst
      isplitl [Hs0_src]; · iexact Hs0_src
      iexact Hs0
    isplitl [Hs1 Hs1_src Hs1_dst]
    · isplitl [Hs1_dst]; · iexact Hs1_dst
      isplitl [Hs1_src]; · iexact Hs1_src
      iexact Hs1
    isplitl [Hs2 Hs2_src Hs2_dst]
    · isplitl [Hs2_dst]; · iexact Hs2_dst
      isplitl [Hs2_src]; · iexact Hs2_src
      iexact Hs2
    isplitl [Hs3_dst]; · iexact Hs3_dst
    isplitl [Hs3_src]; · iexact Hs3_src
    iexact Hs3

  isplitr [H16 H17 H18 H19 H20 H21 H28 H29 H23 H22 Hsides Hr1 Hr2 Hnew Hfree' HO]
  · ipureintro
    have key : ∀ k : Fin k0_t1_loop.trips, (trip_first.sl.v1051_r0 k, Scalar.select (Scalar.ori (Scalar.cmpi .ne (trip_first.sl.v1016_r0 k) (trip_first.sl.v1026_r0 k)) (trip_first.sl.v1015_r0 k))
          (Scalar.addi (wd k) 1#32) (wd k), Scalar.select (Scalar.cmpi .eq (Scalar.select (1#1) (Scalar.addi (index k) 1#32) (index k)) 63#32) (0#32)
          (Scalar.select (1#1) (Scalar.addi (index k) 1#32) (index k))) = (issued (k + 1), wd (k + 1), index (k + 1)) := by decide +kernel
    exact key k
  iexists _, _, _, _, _, _, _, _, _, _
  isplitr
  rotate_left
  · isplitl [H16]; · iexact H16
    isplitl [H17]; · iexact H17
    isplitl [H18]; · iexact H18
    isplitl [H19]; · iexact H19
    isplitl [H20]; · iexact H20
    isplitl [H21]; · iexact H21
    isplitl [H28]; · iexact H28
    isplitl [H29]; · iexact H29
    isplitl [H23]; · iexact H23
    isplitl [H22]
    · iapply (Entails.of_eq (congrArg (pt c cc0_scratch10) (show (Memref.whole cc0_scratch10).view.writes (Elt F) (fun _ => wd k) (trip_first.sl.H22_1 c k) = fun _ => wd (k + 1) from smem_next k (wd k)))) $$ H22
    isplitl [Hsides]; · iexact Hsides
    isplitl [Hr1]; · iexact Hr1
    isplitl [Hr2]; · iexact Hr2
    isplitl [Hnew]; · iexact Hnew
    isplitl [Hfree']; · iexact Hfree'
    iexact HO
  · ipureintro
    obtain ⟨⟨-, hprev⟩, -⟩ := hG
    have hX : View.readAt (Elt F) (Memref.whole cc0_scratch0).view (Rect.unit (s := S3x7168) ![0, 0] S3x7168.size inb_S3x7168_S3x7168_0_0).toLoadRect (inX f0) = xin f0 := View.readAt_full _ _ _
    have e16 : ∀ B, (Memref.whole cc0_scratch4).view.writes (Elt F) B (trip_first.sl.H16_1 c f0) = xqOf f0 := fun B => by
      refine Eq.trans (whole16 (c := c) B _ inb_S32x7168_S32x7168_0_0) ?_
      show k0_pay5 (k0_pay1 (View.readAt (Elt F) (Memref.whole cc0_scratch0).view (Rect.unit (s := S3x7168) ![0, 0] S3x7168.size inb_S3x7168_S3x7168_0_0).toLoadRect (inX f0)))
        (k0_pay3 (View.readAt (Elt F) (Memref.whole cc0_scratch0).view (Rect.unit (s := S3x7168) ![0, 0] S3x7168.size inb_S3x7168_S3x7168_0_0).toLoadRect (inX f0))) k0_pay4 = xqOf f0
      rw [hX]; rfl
    have e17 : ∀ B, (Memref.whole cc0_scratch5).view.writes (Elt F) B (trip_first.sl.H17_1 c f0) = scOf f0 := fun B =>
      (View.read_writes_full (Memref.whole cc0_scratch5).view B inb_S8x128_S8x128_0_0 _ []).trans (congrArg (fun X => k0_pay7 (k0_pay2 X)) hX)
    have e29 : ∀ B, (Memref.whole cc0_scratch17).view.writes (Elt F) B (trip_first.sl.H29_1 c f0) = xsOf f0 := fun B =>
      (View.read_writes_full (Memref.whole cc0_scratch17).view B inb_S1x3_S1x3_0_0 _ []).trans (congrArg (fun X => k0_pay10 k0_pay8 (FloatOps.ofBits .f32 0x00000000#32) (k0_pay9 (k0_pay2 X))) hX)
    have e28 : ∀ B, (Memref.whole cc0_scratch16).view.writes (Elt F) B (trip_first.sl.H28_1 c f0) = cdOf f0 := fun B => by
      refine Eq.trans (whole28 (c := c) B _ inb_S3x7168_S3x7168_0_0) ?_
      refine Eq.trans (shapeCast_self _ _) ?_
      exact readCd (c := c) f0 ((Memref.whole cc0_scratch4).view.writes (Elt F) (Memref.whole cc0_scratch4).view.junk (trip_first.sl.H16_1 c f0)) (e16 _) inb_S32x7168_S3x7168_0_0
    have e18 : ∀ B, wordsOk f3 ((Memref.whole cc0_scratch6).view.writes (Elt F) B (trip_first.sl.H18_2 c f3)) := fun B => by
      refine words18 (c := c) B f3 _ _ ?_ inb_S8x1024_S3x1008_0_0 inb_S8x1024_S8x1024_0_0
      refine Eq.trans (shapeCast_self _ _) ?_
      exact View.readAt_full (Memref.whole cc0_scratch2).view _ _
    have hraw : trip_first.sl.r_14 c f0 fw k hw2 = rawT ((Memref.whole cc0_scratch4).view.writes (Elt F) (Memref.whole cc0_scratch4).view.junk (trip_first.sl.H16_1 c f0)) (wBlk fw k) :=
      rawT_eq (c := c) ((Memref.whole cc0_scratch4).view.writes (Elt F) (Memref.whole cc0_scratch4).view.junk (trip_first.sl.H16_1 c f0)) fw k (k0_off15_inb (wd k) hw2)
    have hwords : ∀ (r : Fin 8) (l : Fin 128) (hl : 128 * (k.val / 8) + l.val < 1024), trip_first.sl.v1273_r0 c f3 k h5 (ix2 (n0 := 8) (n1 := 128) r l)
        = ((Memref.whole cc0_scratch6).view.writes (Elt F) (Memref.whole cc0_scratch6).view.junk (trip_first.sl.H18_2 c f3)) (ix2 (n0 := 8) (n1 := 1024) r ⟨128 * (k.val / 8) + l.val, hl⟩) :=
      fun r l hl => readWords (c := c) k ((Memref.whole cc0_scratch6).view.writes (Elt F) (Memref.whole cc0_scratch6).view.junk (trip_first.sl.H18_2 c f3)) _ r l
    have hsc := readSc (c := c) ((Memref.whole cc0_scratch5).view.writes (Elt F) (Memref.whole cc0_scratch5).view.junk (trip_first.sl.H17_1 c f0)) inb_S8x128_S8x128_0_0
    have hs : trip_first.sl.v1276_r0 (F := F) c k = wd (4 * (k.val % 8)) := by
      have key : ∀ k : Fin k0_t1_loop.trips, Scalar.muli (Scalar.subi (wd k) (Scalar.muli (Scalar.divsi (wd k) 8#32) 8#32)) 4#32 = wd (4 * (k.val % 8)) := by decide +kernel
      exact key k
    have hws : ∀ (t : Fin 4) (l : Fin 128) (hl : 512 * k.val + 128 * t.val + l.val < 32256),
        View.readAt (Elt F) (Memref.whole cc0_scratch1).view (Rect.unit (s := S32256) (k0_off18 (wd k) (wd t)) S128.size (inb18 k t)).toLoadRect (inS f2) (ix1 (n := 128) l)
          = f2 (ix1 (n := 32256) ⟨512 * k.val + 128 * t.val + l.val, hl⟩) := fun t l hl => readWs k t f2 _ l
    refine ⟨good_step c k f0 f2 f3 fw _ _ _ _ _ g23 _ (trip_first.sl.r_14 c f0 fw k hw2) (trip_first.sl.v1273_r0 c f3 k h5) (trip_first.sl.v1276_r0 (F := F) c k)
      (trip_first.sl.v1330_r0 c f0)
      (fun t => View.readAt (Elt F) (Memref.whole cc0_scratch1).view (Rect.unit (s := S32256) (k0_off18 (wd k) (wd t)) S128.size (inb18 k t)).toLoadRect (inS f2))
      (e16 _) (e17 _) (e18 _) (e28 _) (e29 _) hprev ?_ ?_ ?_ ?_ ?_ ?_, ?_⟩
    · exact hraw.trans (congrArg (fun X => rawT X (wBlk fw k)) (Eq.trans (e16 _) (e16 _).symm))
    · exact hwords
    · exact hsc.trans (Eq.trans (e17 _) (e17 _).symm)
    · exact hs
    · exact hws
    · rfl
    · refine stat_step c k f0 f2 f3 fw ((Memref.whole cc0_scratch4).view.writes (Elt F) (Memref.whole cc0_scratch4).view.junk (trip_first.sl.H16_1 c f0))
        ((Memref.whole cc0_scratch5).view.writes (Elt F) (Memref.whole cc0_scratch5).view.junk (trip_first.sl.H17_1 c f0))
        ((Memref.whole cc0_scratch6).view.writes (Elt F) (Memref.whole cc0_scratch6).view.junk (trip_first.sl.H18_2 c f3))
        ((Memref.whole cc0_scratch8).view.writes (Elt F) (Memref.whole cc0_scratch8).view.junk inits) _
        (trip_first.sl.r_14 c f0 fw k hw2) (trip_first.sl.v1273_r0 c f3 k h5) (trip_first.sl.v1276_r0 (F := F) c k)
        (trip_first.sl.v1330_r0 c f0)
        (fun t => View.readAt (Elt F) (Memref.whole cc0_scratch1).view (Rect.unit (s := S32256) (k0_off18 (wd k) (wd t)) S128.size (inb18 k t)).toLoadRect (inS f2))
        (k0_off17_inb (wd k) h5) (k0_off22_inb (wd k) h5) (e16 _) (e17 _) (e18 _) ?_ hraw hwords hsc hs hws ?_
      · rw [hk]; exact stat_init c f0 f2 f3 fw _
      · exact ⟨_, rfl⟩

end Cert.Proof.KernelIdeal

end
-- ==== Proof.KernelIdeal.TripLast.lean ====
/-
  One trip of the streaming loop.
-/
module

public import proofs.«01_k».proof.Proof.KernelIdeal.TripBase

@[expose] public section

set_option maxRecDepth 65536

noncomputable section

namespace Cert.Proof.KernelIdeal

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

variable (c : Dev nD)

set_option pp.maxSteps 3000 in
set_option maxHeartbeats 40000000 in
theorem trip_last (f0 : Bf F c main_v0) (f2 : Bf F c main_arg2) (f3 : Bf F c main_arg3) (f4 : Bf F c main_arg4) (fw : Bf F c main_arg1)
  (k : Fin k0_t1_loop.trips) (hk : k.val ≠ 0) (h63 : ¬ k.val + 3 < 63) (v981 v_a v_b v_d : BitVec 32) :
  (tripSt c f0 f2 f3 f4 fw k : sProp 𝕄)
  ⊢ wp frame (wpE (defs₀ (F := F)) Variants.none (c : Thread nD τ) none) Set.univ (k0_t1_body (F := F) (Memref.whole main_v0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole main_v1_6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 (Memref.whole cc0_scoped0) (Memref.isWhole_whole _) cc0_scoped1 (iota .tc S8x128 32 [1] iota_S8x128_d1_w32) v981 v_a v_b 0#32 v_d k (issued k, wd k, index k))
    (fun r => iprop(⌜r = (issued (k + 1), wd (k + 1), index (k + 1))⌝ ∗ tripSt c f0 f2 f3 f4 fw (k + 1))) := by
  have hlt : k.val < 63 := lt_of_lt_of_eq k.isLt trips_eq
  have hw2 : k0_chk2 (wd k) := chk2_of ⟨k, by omega⟩
  have hw1 := chk1_of k
  have h5 : k0_chk3 (wd k) := chk3_of ⟨k, hlt⟩
  have h4 : k0_cond4 k (index k) = 1#1 := cond4_of k
  have h3 : ¬ k0_cond3 k (index k) = 1#1 := fun h => by have := (cond3_iff k).1 h; omega
  have h6 : ¬ Scalar.cmpi .ne (Scalar.extui (Scalar.cmpi .eq (wd k) 0#32)) 0#32 = 1#1 := isFirst_not k hk
  unfold tripSt
  rw [role_lt c fw k hlt, sides_pos c k hk]
  unfold sidesDown
  iintro ⟨%g16, %g17, %g18, %g19, %g20, %g21, %g28, %g29, %g23, %W, %hG, H16, H17, H18, H19, H20, H21, H28, H29, H23, H22, ⟨Hs0, Hs1, Hs2, ⟨Hs3, Hs3s, Hs3c⟩⟩, Hr0, Hr1, Hr2, Hfree, HO⟩
  sl_exec_parts
  iapply (wp_await Variants.none c none fw ⟨k, hlt⟩ W _ _ _ _ _ _ (off12_eq k) (off13_eq k)) $$ [Hr0 HO]
  · isplitl [Hr0] <;> iassumption
  iintro ⟨Hc0, Hs, Hw, %W', HO⟩
  ihave Hsl := (Entails.of_eq (slot_respell c k (k0_off15 (wd k)) (k0_off15_inb (wd k) hw2) (off15_eq k) (fill c fw k))) $$ Hs
  sl_exec_parts
  sl_step
  ihave Hs' := (Entails.of_eq (slot_respell c k (k0_off15 (wd k)) (k0_off15_inb (wd k) hw2) (off15_eq k) (fill c fw k)).symm) $$ Hsl
  ihave Hfree' := (freeSlot_of c (fw := fw) k) $$ [Hc0 Hs' Hw]
  · isplitl [Hc0]; · iexact Hc0
    isplitl [Hs']; · iexact Hs'
    iexact Hw
  ihave Hnew := (Entails.of_eq (role_ge c fw (k + 3) (by omega)).symm) $$ Hfree
  ihave Hsides := (down_in c f0 f2 f3 f4 k) $$ [Hs0 Hs1 Hs2 Hs3 Hs3s Hs3c]
  · isplitl [Hs0]; · iexact Hs0
    isplitl [Hs1]; · iexact Hs1
    isplitl [Hs2]; · iexact Hs2
    isplitl [Hs3]; · iexact Hs3
    isplitl [Hs3s]; · iexact Hs3s
    iexact Hs3c

  isplitr [H16 H17 H18 H19 H20 H21 H28 H29 H23 H22 Hsides Hr1 Hr2 Hnew Hfree' HO]
  · ipureintro
    have key : ∀ k : Fin k0_t1_loop.trips, (trip_last.sl.v1051_r0 k, Scalar.select (Scalar.ori (Scalar.cmpi .ne (trip_last.sl.v1016_r0 k) (trip_last.sl.v1026_r0 k)) (trip_last.sl.v1015_r0 k))
          (Scalar.addi (wd k) 1#32) (wd k), Scalar.select (Scalar.cmpi .eq (Scalar.select (1#1) (Scalar.addi (index k) 1#32) (index k)) 63#32) (0#32)
          (Scalar.select (1#1) (Scalar.addi (index k) 1#32) (index k))) = (issued (k + 1), wd (k + 1), index (k + 1)) := by decide +kernel
    exact key k
  iexists _, _, _, _, _, _, _, _, _, _
  isplitr
  rotate_left
  · isplitl [H16]; · iexact H16
    isplitl [H17]; · iexact H17
    isplitl [H18]; · iexact H18
    isplitl [H19]; · iexact H19
    isplitl [H20]; · iexact H20
    isplitl [H21]; · iexact H21
    isplitl [H28]; · iexact H28
    isplitl [H29]; · iexact H29
    isplitl [H23]; · iexact H23
    isplitl [H22]
    · iapply (Entails.of_eq (congrArg (pt c cc0_scratch10) (show (Memref.whole cc0_scratch10).view.writes (Elt F) (fun _ => wd k) (trip_last.sl.H22_1 c k) = fun _ => wd (k + 1) from smem_next k (wd k)))) $$ H22
    isplitl [Hsides]; · iexact Hsides
    isplitl [Hr1]; · iexact Hr1
    isplitl [Hr2]; · iexact Hr2
    isplitl [Hnew]; · iexact Hnew
    isplitl [Hfree']; · iexact Hfree'
    iexact HO
  · ipureintro
    obtain ⟨hG, hS⟩ := hG
    obtain ⟨e16, e17, e18, e28, e29⟩ := hG.1 hk
    have hraw : trip_last.sl.r_15 c fw k hw2 g16 = rawT g16 (wBlk fw k) := rawT_eq g16 fw k (k0_off15_inb (wd k) hw2)
    have hwords : ∀ (r : Fin 8) (l : Fin 128) (hl : 128 * (k.val / 8) + l.val < 1024), trip_last.sl.r_16 c k h5 g18 (ix2 (n0 := 8) (n1 := 128) r l) = g18 (ix2 (n0 := 8) (n1 := 1024) r ⟨128 * (k.val / 8) + l.val, hl⟩) :=
      fun r l hl => readWords k g18 _ r l
    have hsc := readSc g17 inb_S8x128_S8x128_0_0
    have hs : trip_last.sl.v1276_r0 (F := F) c k = wd (4 * (k.val % 8)) := by
      have key : ∀ k : Fin k0_t1_loop.trips, Scalar.muli (Scalar.subi (wd k) (Scalar.muli (Scalar.divsi (wd k) 8#32) 8#32)) 4#32 = wd (4 * (k.val % 8)) := by decide +kernel
      exact key k
    have hws : ∀ (t : Fin 4) (l : Fin 128) (hl : 512 * k.val + 128 * t.val + l.val < 32256),
        View.readAt (Elt F) (Memref.whole cc0_scratch1).view (Rect.unit (s := S32256) (k0_off18 (wd k) (wd t)) S128.size (inb18 k t)).toLoadRect (inS f2) (ix1 (n := 128) l)
          = f2 (ix1 (n := 32256) ⟨512 * k.val + 128 * t.val + l.val, hl⟩) := fun t l hl => readWs k t f2 _ l
    refine ⟨good_step c k f0 f2 f3 fw _ _ _ _ _ g23 _ (trip_last.sl.r_15 c fw k hw2 g16) (trip_last.sl.r_16 c k h5 g18) (trip_last.sl.v1276_r0 (F := F) c k)
      (View.readAt (Elt F) (Memref.whole cc0_scratch5).view (Rect.unit (s := S8x128) ![0, 0] S8x128.size inb_S8x128_S8x128_0_0).toLoadRect g17)
      (fun t => View.readAt (Elt F) (Memref.whole cc0_scratch1).view (Rect.unit (s := S32256) (k0_off18 (wd k) (wd t)) S128.size (inb18 k t)).toLoadRect (inS f2))
      e16 e17 e18 e28 e29 hG.2 hraw hwords hsc hs hws ?_, ?_⟩
    · rfl
    · refine stat_step c k f0 f2 f3 fw _ _ _ g20 _ (trip_last.sl.r_15 c fw k hw2 g16) (trip_last.sl.r_16 c k h5 g18) (trip_last.sl.v1276_r0 (F := F) c k)
        (View.readAt (Elt F) (Memref.whole cc0_scratch5).view (Rect.unit (s := S8x128) ![0, 0] S8x128.size inb_S8x128_S8x128_0_0).toLoadRect g17)
        (fun t => View.readAt (Elt F) (Memref.whole cc0_scratch1).view (Rect.unit (s := S32256) (k0_off18 (wd k) (wd t)) S128.size (inb18 k t)).toLoadRect (inS f2))
        (k0_off17_inb (wd k) h5) (k0_off22_inb (wd k) h5) e16 e17 e18 (hS hk) hraw hwords hsc hs hws ?_
      exact ⟨_, rfl⟩

end Cert.Proof.KernelIdeal

end
-- ==== Proof.KernelIdeal.Tail.lean ====
/-
  The chunk maxima the kernel stores after the streaming loop, as functions of the running maxima.
-/
module

public import proofs.«01_k».proof.Proof.KernelIdeal.Stat

@[expose] public section

set_option maxRecDepth 65536

noncomputable section

namespace Cert.Proof.KernelIdeal

open Cert.KernelIdeal Cert.KernelIdeal.Gen
open Idealize.ShloMosaic Idealize.ShloMosaic.TcCoe Idealize.ShloMosaic.Tactic Idealize.ShloMosaic.ValueIdx

variable {F : FTy → Type} [FloatOps F]

/-- The maximum over the lanes of a chunk's running maxima. -/
def rowMax (x : FVec F S1x1x8x128 .f32) : FVec F S8x1 .f32 :=
  shapeCast S8x1 (multiReduction .maximumf [1] S8 (shapeCast S8x128 x shapeCasts_S1x1x8x128_S8x128) 0xFF800000#32 reduces_S8x128_S8 (.inl rfl) rfl) shapeCasts_S8_S8x1
/-- Minus infinity replaced by zero. -/
def finT (m : FVec F S8x1 .f32) : FVec F S8x1 .f32 :=
  select (cmpf .oeq m (broadcast S8x1 (Scalar.ofBits .f32 0xFF800000#32))) (broadcast S8x1 (Scalar.ofBits .f32 0x00000000#32)) m
/-- A chunk's maximum set at the chunk's lane. -/
def layer (j : BitVec 32) (x : FVec F S1x1x8x128 .f32) (prev : FVec F S8x128 .f32) : FVec F S8x128 .f32 :=
  select (cmpi .eq (iota .tc S8x128 32 [1] iota_S8x128_d1_w32) (broadcast S8x128 j))
    (broadcastTo S8x128 (shapeCast S8x1 (finT (rowMax x)) shapeCasts_S8x1_S8x1) broadcasts_S8x1_S8x128) prev
def allMaxT (x : Fin 8 → FVec F S1x1x8x128 .f32) : FVec F S8x128 .f32 :=
  layer 7#32 (x 7) (layer 6#32 (x 6) (layer 5#32 (x 5) (layer 4#32 (x 4) (layer 3#32 (x 3) (layer 2#32 (x 2) (layer 1#32 (x 1) (layer 0#32 (x 0)
    (broadcast S8x128 (Scalar.ofBits .f32 0x00000000#32)))))))))

theorem inbStat : ∀ (j : Fin 8), ∀ a, (![j.val, 0, 0, 0] : Fin 4 → ℕ) a + S1x1x8x128.size a ≤ S8x2x8x128.size a := by decide +kernel
/-- A chunk's running maxima read. -/
def rdStat {c : Dev nD} (g : Bf F c cc0_scratch8) (j : Fin 8) : FVec F S1x1x8x128 .f32 :=
  View.readAt (Elt F) (Memref.whole cc0_scratch8).view (Rect.unit (s := S8x2x8x128) ![j.val, 0, 0, 0] S1x1x8x128.size (inbStat j)).toLoadRect g

theorem layer_apply (j : BitVec 32) (x : FVec F S1x1x8x128 .f32) (prev : FVec F S8x128 .f32) (r : Fin 8) (l : Fin 128) :
    layer j x prev (ix2 (n0 := 8) (n1 := 128) r l) = Scalar.select (IntOp.cmpi .eq (BitVec.ofNat 32 l.val) j) (finT (rowMax x) (ix2 (n0 := 8) (n1 := 1) r 0)) (prev (ix2 (n0 := 8) (n1 := 128) r l)) := by
  have hio : iota .tc S8x128 32 [1] iota_S8x128_d1_w32 (ix2 (n0 := 8) (n1 := 128) r l) = BitVec.ofNat 32 l.val := iota_single_apply _ _ _ _ _ _
  show Scalar.select (IntOp.cmpi .eq (iota .tc S8x128 32 [1] iota_S8x128_d1_w32 (ix2 (n0 := 8) (n1 := 128) r l)) j) (broadcastTo _ _ _ (ix2 r l)) _ = _
  rw [hio, shapeCast_self]
  exact congrArg (fun z => Scalar.select (IntOp.cmpi .eq (BitVec.ofNat 32 l.val) j) z (prev (ix2 (n0 := 8) (n1 := 128) r l))) (broadcastTo_apply _ _ _ (ix2 (n0 := 8) (n1 := 1) r 0) (fun a => match a with | ⟨0, _⟩ => rfl | ⟨1, _⟩ => rfl))

theorem lane_eq : ∀ (l j : Fin 8), IntOp.cmpi .eq (BitVec.ofNat 32 l.val) (BitVec.ofNat 32 j.val) = if l = j then 1#1 else 0#1 := by decide +kernel

theorem layer_hit (j : Fin 8) (x : FVec F S1x1x8x128 .f32) (prev : FVec F S8x128 .f32) (r : Fin 8) :
    layer (BitVec.ofNat 32 j.val) x prev (ix2 (n0 := 8) (n1 := 128) r ⟨j.val, by omega⟩) = finT (rowMax x) (ix2 (n0 := 8) (n1 := 1) r 0) := by
  rw [layer_apply]
  show Scalar.select (IntOp.cmpi .eq (BitVec.ofNat 32 j.val) (BitVec.ofNat 32 j.val)) _ _ = _
  rw [lane_eq j j, if_pos rfl]; rfl
theorem layer_miss (j l : Fin 8) (hne : l ≠ j) (x : FVec F S1x1x8x128 .f32) (prev : FVec F S8x128 .f32) (r : Fin 8) :
    layer (BitVec.ofNat 32 j.val) x prev (ix2 (n0 := 8) (n1 := 128) r ⟨l.val, by omega⟩) = prev (ix2 (n0 := 8) (n1 := 128) r ⟨l.val, by omega⟩) := by
  rw [layer_apply]
  show Scalar.select (IntOp.cmpi .eq (BitVec.ofNat 32 l.val) (BitVec.ofNat 32 j.val)) _ _ = _
  rw [lane_eq l j, if_neg hne]; rfl

theorem allMaxT_apply (x : Fin 8 → FVec F S1x1x8x128 .f32) (r ch : Fin 8) :
    allMaxT x (ix2 (n0 := 8) (n1 := 128) r ⟨ch.val, by omega⟩) = finT (rowMax (x ch)) (ix2 (n0 := 8) (n1 := 1) r 0) := by
  unfold allMaxT
  match ch with
  | 7 => exact layer_hit 7 _ _ r
  | 6 => exact (layer_miss 7 6 (by decide) _ _ r).trans (layer_hit 6 _ _ r)
  | 5 => exact (layer_miss 7 5 (by decide) _ _ r).trans ((layer_miss 6 5 (by decide) _ _ r).trans (layer_hit 5 _ _ r))
  | 4 => exact (layer_miss 7 4 (by decide) _ _ r).trans ((layer_miss 6 4 (by decide) _ _ r).trans ((layer_miss 5 4 (by decide) _ _ r).trans (layer_hit 4 _ _ r)))
  | 3 => exact (layer_miss 7 3 (by decide) _ _ r).trans ((layer_miss 6 3 (by decide) _ _ r).trans ((layer_miss 5 3 (by decide) _ _ r).trans ((layer_miss 4 3 (by decide) _ _ r).trans (layer_hit 3 _ _ r))))
  | 2 => exact (layer_miss 7 2 (by decide) _ _ r).trans ((layer_miss 6 2 (by decide) _ _ r).trans ((layer_miss 5 2 (by decide) _ _ r).trans ((layer_miss 4 2 (by decide) _ _ r).trans ((layer_miss 3 2 (by decide) _ _ r).trans (layer_hit 2 _ _ r)))))
  | 1 => exact (layer_miss 7 1 (by decide) _ _ r).trans ((layer_miss 6 1 (by decide) _ _ r).trans ((layer_miss 5 1 (by decide) _ _ r).trans ((layer_miss 4 1 (by decide) _ _ r).trans ((layer_miss 3 1 (by decide) _ _ r).trans ((layer_miss 2 1 (by decide) _ _ r).trans (layer_hit 1 _ _ r))))))
  | 0 => exact (layer_miss 7 0 (by decide) _ _ r).trans ((layer_miss 6 0 (by decide) _ _ r).trans ((layer_miss 5 0 (by decide) _ _ r).trans ((layer_miss 4 0 (by decide) _ _ r).trans ((layer_miss 3 0 (by decide) _ _ r).trans ((layer_miss 2 0 (by decide) _ _ r).trans ((layer_miss 1 0 (by decide) _ _ r).trans (layer_hit 0 _ _ r)))))))

/-- The three rows stored. -/
def rowC (b : ℕ) (h : S8x128.Slices ![b, 0] S1x8) (v : FVec F S8x128 .f32) : FVec F S1x1x8 .f32 :=
  shapeCast S1x1x8 (extractStridedSlice S1x8 ![b, 0] v h) shapeCasts_S1x8_S1x1x8
def cmG (v : FVec F S8x128 .f32) : S3x1x8.Idx → F .f32 := fun y => v (ix2 (n0 := 8) (n1 := 128) ⟨(y 0).val, lt_trans (y 0).isLt (by decide)⟩ ⟨(y 2).val, lt_trans (y 2).isLt (by decide)⟩)
def rowsC (v : FVec F S8x128 .f32) : List (View.Piece (Elt F) S3x1x8 .f32) :=
  [⟨Rect.unit (s := S3x1x8) ![2, 0, 0] S1x1x8.size inb_S3x1x8_S1x1x8_2_0_0, rowC 2 slices_S8x128_o2_0_S1x8 v⟩,
    ⟨Rect.unit (s := S3x1x8) ![1, 0, 0] S1x1x8.size inb_S3x1x8_S1x1x8_1_0_0, rowC 1 slices_S8x128_o1_0_S1x8 v⟩,
    ⟨Rect.unit (s := S3x1x8) ![0, 0, 0] S1x1x8.size inb_S3x1x8_S1x1x8_0_0_0, rowC 0 slices_S8x128_o0_0_S1x8 v⟩]

theorem rowC_ok (b : Fin 3) (h : S8x128.Slices ![b.val, 0] S1x8) (v : FVec F S8x128 .f32) (hi : ∀ a, (![b.val, 0, 0] : Fin 3 → ℕ) a + S1x1x8.size a ≤ S3x1x8.size a)
    (x : (Rect.unit (s := S3x1x8) ![b.val, 0, 0] S1x1x8.size hi).shape.Idx) : rowC b.val h v x = cmG v ((Rect.unit (s := S3x1x8) ![b.val, 0, 0] S1x1x8.size hi).emb x) := by
  have h0 : (x 0).val < 1 := (x 0).isLt
  have h1 : (x 1).val < 1 := (x 1).isLt
  have hj : x = ix3 (n0 := 1) (n1 := 1) (n2 := 8) (x 0) (x 1) (x 2) := eq_ix3 x
  refine (congrArg (rowC b.val h v) hj).trans ?_
  refine (shapeCast_ab_1ab_apply (a := 1) (b := 8) _ _ (x 0) (x 1) (x 2)).trans (congrArg v ?_)
  funext a
  match a with
  | ⟨0, _⟩ => apply Fin.ext; show b.val + (x 1).val = b.val + 1 * (x 0).val; omega
  | ⟨1, _⟩ => apply Fin.ext; show 0 + (x 2).val = 0 + 1 * (x 2).val; omega
theorem rowC_mem (b : Fin 3) (hi : ∀ a, (![b.val, 0, 0] : Fin 3 → ℕ) a + S1x1x8.size a ≤ S3x1x8.size a) (y : S3x1x8.Idx) (hy : (y 0).val = b.val) :
    y ∈ (Rect.unit (s := S3x1x8) ![b.val, 0, 0] S1x1x8.size hi).set := by
  have hy1 : (y 1).val < 1 := (y 1).isLt
  have hy2 : (y 2).val < 8 := (y 2).isLt
  refine (Rect.unit (s := S3x1x8) ![b.val, 0, 0] S1x1x8.size hi).mem_set.2 ?_
  intro a
  match a with
  | ⟨0, _⟩ => exact ⟨0, Nat.one_pos, by show (y 0).val = b.val + 1 * 0; omega⟩
  | ⟨1, _⟩ => exact ⟨0, Nat.one_pos, by show (y 1).val = 0 + 1 * 0; omega⟩
  | ⟨2, _⟩ => exact ⟨(y 2).val, hy2, by show (y 2).val = 0 + 1 * (y 2).val; omega⟩

theorem rd26 {c : Dev nD} (g : Bf F c cc0_scratch14) : (Memref.whole cc0_scratch14).view.read (Elt F) g = g := rfl
theorem cm_store {c : Dev nD} (B : Bf F c cc0_scratch14) (v : FVec F S8x128 .f32) (y : S3x1x8.Idx) :
    (Memref.whole cc0_scratch14).view.writes (Elt F) B (rowsC v) y = cmG v y := by
  rw [← rd26 (c := c) ((Memref.whole cc0_scratch14).view.writes (Elt F) B (rowsC v))]
  refine View.read_writes_apply_of_pieces (Memref.whole cc0_scratch14).view B (cmG v) (rowsC v) ?_ y ?_
  · exact List.forall_mem_cons.2 ⟨fun x => rowC_ok 2 slices_S8x128_o2_0_S1x8 v inb_S3x1x8_S1x1x8_2_0_0 x, List.forall_mem_cons.2 ⟨fun x => rowC_ok 1 slices_S8x128_o1_0_S1x8 v inb_S3x1x8_S1x1x8_1_0_0 x, List.forall_mem_cons.2 ⟨fun x => rowC_ok 0 slices_S8x128_o0_0_S1x8 v inb_S3x1x8_S1x1x8_0_0_0 x, List.forall_mem_nil _⟩⟩⟩
  · have h3 : (y 0).val < 3 := (y 0).isLt
    generalize hb : (⟨(y 0).val, h3⟩ : Fin 3) = b
    have hb' : (y 0).val = b.val := congrArg Fin.val hb
    clear hb
    match b with
    | 2 => exact ⟨_, List.mem_cons_self, rowC_mem 2 inb_S3x1x8_S1x1x8_2_0_0 y hb'⟩
    | 1 => exact ⟨_, List.mem_cons_of_mem _ List.mem_cons_self, rowC_mem 1 inb_S3x1x8_S1x1x8_1_0_0 y hb'⟩
    | 0 => exact ⟨_, List.mem_cons_of_mem _ (List.mem_cons_of_mem _ List.mem_cons_self), rowC_mem 0 inb_S3x1x8_S1x1x8_0_0_0 y hb'⟩

/-- The chunk maxima the kernel returns. -/
def cmOf {c : Dev nD} (g : Bf F c cc0_scratch8) : S3x1x8.Idx → F .f32 := cmG (allMaxT (rdStat g))

/-! ## The stored values are these -/

/-- The lane of each position. -/
abbrev P9 : IVec S8x128 32 := iota .tc S8x128 32 [1] iota_S8x128_d1_w32

theorem lay0 (x : FVec F S1x1x8x128 .f32) (p : FVec F S8x128 .f32) : k0_pay109 P9 p (k0_pay106 x) = layer 0#32 x p := rfl
theorem lay1 (x : FVec F S1x1x8x128 .f32) (p : FVec F S8x128 .f32) : k0_pay124 p (k0_pay122 P9) (k0_pay123 x) = layer 1#32 x p := rfl
theorem lay2 (x : FVec F S1x1x8x128 .f32) (p : FVec F S8x128 .f32) : k0_pay134 P9 p (k0_pay130 x) = layer 2#32 x p := rfl
theorem lay3 (x : FVec F S1x1x8x128 .f32) (p : FVec F S8x128 .f32) : k0_pay143 P9 p x = layer 3#32 x p := rfl
theorem lay4 (x : FVec F S1x1x8x128 .f32) (p : FVec F S8x128 .f32) : k0_pay155 p (k0_pay152 x) (k0_pay154 P9) (Scalar.ofBits .f32 0xFF800000#32) = layer 4#32 x p := rfl
theorem lay5 (x : FVec F S1x1x8x128 .f32) (p : FVec F S8x128 .f32) : k0_pay163 P9 p (k0_pay160 x) = layer 5#32 x p := rfl
theorem lay6 (x : FVec F S1x1x8x128 .f32) (p : FVec F S8x128 .f32) : k0_pay175 P9 p x = layer 6#32 x p := rfl
theorem lay7 (x : FVec F S1x1x8x128 .f32) (p : FVec F S8x128 .f32) : k0_pay185 P9 p (k0_pay182 x) = layer 7#32 x p := rfl
/-- The chunk maxima as the kernel's own values. -/
def maxP (x0 x1 x2 x3 x4 x5 x6 x7 : FVec F S1x1x8x128 .f32) : FVec F S8x128 .f32 :=
  k0_pay185 P9 (k0_pay175 P9 (k0_pay163 P9 (k0_pay155 (k0_pay143 P9 (k0_pay134 P9 (k0_pay124 (k0_pay109 P9 k0_pay102 (k0_pay106 x0)) (k0_pay122 P9) (k0_pay123 x1)) (k0_pay130 x2)) x3)
    (k0_pay152 x4) (k0_pay154 P9) (Scalar.ofBits .f32 0xFF800000#32)) (k0_pay160 x5)) x6) (k0_pay182 x7)
theorem maxP_eq (x : Fin 8 → FVec F S1x1x8x128 .f32) : maxP (x 0) (x 1) (x 2) (x 3) (x 4) (x 5) (x 6) (x 7) = allMaxT x := by
  unfold maxP allMaxT
  rw [lay0, lay1, lay2, lay3, lay4, lay5, lay6, lay7]
  rfl
def rowsP (v : FVec F S8x128 .f32) : List (View.Piece (Elt F) S3x1x8 .f32) :=
  [⟨Rect.unit (s := S3x1x8) ![2, 0, 0] S1x1x8.size inb_S3x1x8_S1x1x8_2_0_0, k0_pay200 v⟩,
    ⟨Rect.unit (s := S3x1x8) ![1, 0, 0] S1x1x8.size inb_S3x1x8_S1x1x8_1_0_0, k0_pay197 (k0_pay196 v)⟩,
    ⟨Rect.unit (s := S3x1x8) ![0, 0, 0] S1x1x8.size inb_S3x1x8_S1x1x8_0_0_0, k0_pay193 v⟩]
theorem rowsP_eq (v : FVec F S8x128 .f32) : rowsP v = rowsC v := rfl

theorem cm_final {c : Dev nD} (B : Bf F c cc0_scratch14) (g : Bf F c cc0_scratch8) (y : S3x1x8.Idx) :
    (Memref.whole cc0_scratch14).view.writes (Elt F) B (rowsP (maxP (rdStat g 0) (rdStat g 1) (rdStat g 2) (rdStat g 3) (rdStat g 4) (rdStat g 5) (rdStat g 6) (rdStat g 7))) y = cmOf g y := by
  rw [rowsP_eq, maxP_eq (rdStat g)]
  exact cm_store (c := c) B (allMaxT (rdStat g)) y

end Cert.Proof.KernelIdeal

end
-- ==== Proof.KernelIdeal.Run.lean ====
/-
  The whole kernel.
-/
module

public import proofs.«01_k».proof.Proof.KernelIdeal.Parts
public import proofs.«01_k».proof.Proof.KernelIdeal.TripMid
public import proofs.«01_k».proof.Proof.KernelIdeal.TripFirst
public import proofs.«01_k».proof.Proof.KernelIdeal.TripLast
public import proofs.«01_k».proof.Proof.KernelIdeal.Tail

@[expose] public section

set_option maxRecDepth 65536

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

variable (c : Dev nD)

/-- The contents of a whole transfer's destination are those of its source. -/
theorem fly_in (j N : ℕ) (hj : j < 15) (dst src : Ref sig .tc) (g h : Bf F c dst) (f : Bf F c src) (e : ∀ i, h i = g i) :
    (Transfers.Flight (countersEmb (U := UU nD τ)) (c : Thread nD τ) (SemLoc.dma ⟨j, hj⟩) () N
      iprop(pt c dst h ∗ ((Memref.whole src).view.loc (c : Thread nD τ) ↦[(Memref.whole src).view.set]{fullShare} f)) : sProp 𝕄) ⊢ sideFlight c j N hj dst src g f := by
  rw [show h = g from funext e]

/-- What the claimed results hold at the end. -/
def Res (c : Dev nD) (f0 : Bf F c main_v0) (f2 : Bf F c main_arg2) (f3 : Bf F c main_arg3) (fw : Bf F c main_arg1)
    (r5 : Bf F c main_v1_0) (r8 : Bf F c main_v1_3) (r10 : Bf F c main_v1_5) (r11 : Bf F c main_v1_6) : Prop :=
  ∃ (g16 : Bf F c cc0_scratch4) (g17 : Bf F c cc0_scratch5) (g18 : Bf F c cc0_scratch6) (g28 : Bf F c cc0_scratch16) (g29 : Bf F c cc0_scratch17)
    (g23 : Bf F c cc0_scratch11) (g20 : Bf F c cc0_scratch8), Good c 63 f0 f2 f3 fw g16 g17 g18 g28 g29 g23 ∧ (r5 = fun i => g23 i) ∧ (r10 = fun i => g28 i) ∧ (r11 = fun i => g29 i)
      ∧ Stat c 63 f0 f2 f3 fw g20 ∧ (r8 = fun i => cmOf g20 i)

/-- The state after the kernel. -/
def Post (c : Dev nD) (f0 : Bf F c main_v0) (f2 : Bf F c main_arg2) (f3 : Bf F c main_arg3) (f4 : Bf F c main_arg4) (fw : Bf F c main_arg1) : sProp 𝕄 :=
  iprop((pt c main_v0 f0 ∗ pt c main_arg1 fw ∗ pt c main_arg2 f2 ∗ pt c main_arg3 f3 ∗ pt c main_arg4 f4) ∗ (∃ (r5 : Bf F c main_v1_0) (r6 : Bf F c main_v1_1) (r7 : Bf F c main_v1_2) (r8 : Bf F c main_v1_3) (r9 : Bf F c main_v1_4) (r10 : Bf F c main_v1_5) (r11 : Bf F c main_v1_6),
      ⌜Res c f0 f2 f3 fw r5 r8 r10 r11⌝ ∗ pt c main_v1_0 r5 ∗ pt c main_v1_1 r6 ∗ pt c main_v1_2 r7 ∗ pt c main_v1_3 r8 ∗ pt c main_v1_4 r9 ∗ pt c main_v1_5 r10 ∗ pt c main_v1_6 r11)
    ∗ ((∃ f, pt c cc0_scratch0 f) ∗ (∃ f, pt c cc0_scratch1 f) ∗ (∃ f, pt c cc0_scratch2 f) ∗ (∃ f, pt c cc0_scratch3 f) ∗ (∃ f, pt c cc0_scratch4 f) ∗ (∃ f, pt c cc0_scratch5 f) ∗ (∃ f, pt c cc0_scratch6 f) ∗ (∃ f, pt c cc0_scratch7 f) ∗ (∃ f, pt c cc0_scratch8 f) ∗ (∃ f, pt c cc0_scratch9 f) ∗ (∃ f, pt c cc0_scratch10 f) ∗ (∃ f, pt c cc0_scratch11 f) ∗ (∃ f, pt c cc0_scratch12 f) ∗ (∃ f, pt c cc0_scratch13 f) ∗ (∃ f, pt c cc0_scratch14 f) ∗ (∃ f, pt c cc0_scratch15 f) ∗ (∃ f, pt c cc0_scratch16 f) ∗ (∃ f, pt c cc0_scratch17 f)) ∗ (∃ g, pt c cc0_scoped0 g) ∗ (semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0) ∗ (∃ W', owes (c : Thread nD τ) 0 W'))

/-- An array read by a whole transfer, whole again. -/
theorem side_back (j : ℕ) (hj : j < 15) (dst src : Ref sig .tc) (g : Bf F c dst) (f : Bf F c src) :
    iprop(sideDown c j hj dst src g f ∗ ((Memref.whole src).view.loc (c : Thread nD τ) ↦[Finset.univ \ (Memref.whole src).view.set]{fullShare} f))
      ⊢ (iprop(pt c dst g ∗ pt c src f ∗ semVal ((c : Thread nD τ), SemLoc.dma ⟨j, hj⟩) 0) : sProp 𝕄) := by
  iintro ⟨⟨Hd, Hs, Hc⟩, Hr⟩
  isplitl [Hd]; · iexact Hd
  isplitl [Hs Hr]
  · iapply (pointsTo_split_subset (Finset.subset_univ (Memref.whole src).view.set)).2 $$ [Hs Hr]
    isplitl [Hs] <;> iassumption
  iexact Hc

theorem smem_zero {c : Dev nD} (g : Bf F c cc0_scratch10) : (Memref.whole cc0_scratch10).view.writes (Elt F) g
    [⟨Rect.unit (s := S1) ![0] S1.size inb_S1_S1_0, fun _ => (0#32 : BitVec 32)⟩] = fun _ => wd 0 := by
  funext i
  have hi : i = ((Memref.whole cc0_scratch10).view.slice (Rect.unit (s := S1) ![0] S1.size inb_S1_S1_0)).emb (fun | ⟨0, _⟩ => (⟨0, Nat.one_pos⟩ : Fin 1)) := by
    funext a; match a with | ⟨0, _⟩ => exact Subsingleton.elim (α := Fin 1) _ _
  exact (congrArg _ hi).trans (View.write_emb_of_mem _ _ (Finset.mem_univ _))

/-- One trip, whichever it is. -/
theorem trip (f0 : Bf F c main_v0) (f2 : Bf F c main_arg2) (f3 : Bf F c main_arg3) (f4 : Bf F c main_arg4) (fw : Bf F c main_arg1)
  (k : Fin k0_t1_loop.trips) (v981 v_a v_b v_d : BitVec 32) :
  (tripSt c f0 f2 f3 f4 fw k : sProp 𝕄)
  ⊢ wp frame (wpE (defs₀ (F := F)) Variants.none (c : Thread nD τ) none) Set.univ (k0_t1_body (F := F) (Memref.whole main_v0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole main_v1_6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 (Memref.whole cc0_scoped0) (Memref.isWhole_whole _) cc0_scoped1 (iota .tc S8x128 32 [1] iota_S8x128_d1_w32) v981 v_a v_b 0#32 v_d k (issued k, wd k, index k))
    (fun r => iprop(⌜r = (issued (k + 1), wd (k + 1), index (k + 1))⌝ ∗ tripSt c f0 f2 f3 f4 fw (k + 1))) := by
  by_cases hk : k.val = 0
  · exact trip_first c f0 f2 f3 f4 fw k hk (by omega) v981 v_a v_b v_d
  by_cases h63 : k.val + 3 < 63
  · exact trip_mid c f0 f2 f3 f4 fw k hk h63 v981 v_a v_b v_d
  · exact trip_last c f0 f2 f3 f4 fw k hk h63 v981 v_a v_b v_d

def inv (f0 : Bf F c main_v0) (f2 : Bf F c main_arg2) (f3 : Bf F c main_arg3) (f4 : Bf F c main_arg4) (fw : Bf F c main_arg1)
    (k : ℕ) (a : BitVec 32 × BitVec 32 × BitVec 32) : sProp 𝕄 :=
  iprop(⌜a = (issued k, wd k, index k)⌝ ∗ tripSt c f0 f2 f3 f4 fw k)

theorem trips63 : k0_t1_loop.trips = 63 := trips_eq
theorem inv_end (f0 : Bf F c main_v0) (f2 : Bf F c main_arg2) (f3 : Bf F c main_arg3) (f4 : Bf F c main_arg4) (fw : Bf F c main_arg1)
    (a : BitVec 32 × BitVec 32 × BitVec 32) : inv c f0 f2 f3 f4 fw k0_t1_loop.trips a ⊢ (tripSt c f0 f2 f3 f4 fw 63 : sProp 𝕄) := by
  unfold inv
  rw [trips63]
  iintro ⟨-, H⟩
  iexact H

set_option pp.maxSteps 3000 in
set_option maxHeartbeats 2000000 in
theorem kernel_run (f0 : Bf F c main_v0) (f2 : Bf F c main_arg2) (f3 : Bf F c main_arg3) (f4 : Bf F c main_arg4) (fw : Bf F c main_arg1)
  (W : Waits sig Unit) (K : PUnit → sProp (MT nD τ sig Unit (Elt F) ℕ (UU nD τ) ℕ)) :
  iprop((pt c main_v0 f0 ∗ pt c main_arg1 fw ∗ pt c main_arg2 f2 ∗ pt c main_arg3 f3 ∗ pt c main_arg4 f4) ∗ ((∃ f, pt c main_v1_0 f) ∗ (∃ f, pt c main_v1_1 f) ∗ (∃ f, pt c main_v1_2 f) ∗ (∃ f, pt c main_v1_3 f) ∗ (∃ f, pt c main_v1_4 f) ∗ (∃ f, pt c main_v1_5 f) ∗ (∃ f, pt c main_v1_6 f)) ∗ ((∃ f, pt c cc0_scratch0 f) ∗ (∃ f, pt c cc0_scratch1 f) ∗ (∃ f, pt c cc0_scratch2 f) ∗ (∃ f, pt c cc0_scratch3 f) ∗ (∃ f, pt c cc0_scratch4 f) ∗ (∃ f, pt c cc0_scratch5 f) ∗ (∃ f, pt c cc0_scratch6 f) ∗ (∃ f, pt c cc0_scratch7 f) ∗ (∃ f, pt c cc0_scratch8 f) ∗ (∃ f, pt c cc0_scratch9 f) ∗ (∃ f, pt c cc0_scratch10 f) ∗ (∃ f, pt c cc0_scratch11 f) ∗ (∃ f, pt c cc0_scratch12 f) ∗ (∃ f, pt c cc0_scratch13 f) ∗ (∃ f, pt c cc0_scratch14 f) ∗ (∃ f, pt c cc0_scratch15 f) ∗ (∃ f, pt c cc0_scratch16 f) ∗ (∃ f, pt c cc0_scratch17 f)) ∗ (∃ g, pt c cc0_scoped0 g) ∗ (semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0) ∗ owes (c : Thread nD τ) 0 W ∗ (Post c f0 f2 f3 f4 fw -∗ K ⟨⟩))
  ⊢ wp frame (wpE (defs₀ (F := F)) Variants.none (c : Thread nD τ) none) Set.univ (cc0_lm_head (F := F) (Memref.whole main_v0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole main_v1_6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 (Memref.whole cc0_scoped0) (Memref.isWhole_whole _) cc0_scoped1) K := by
  have k0_h1 : k0_cond1 = 1#1 := by decide +kernel
  have k0_h2 : k0_cond2 = 1#1 := by decide +kernel
  rw [cc0_lm_head_eq_skeleton]
  unfold cc0_lm_head_skel
  iintro ⟨⟨H0, Hw, H2, H3, H4⟩, ⟨⟨%r5, R5⟩, ⟨%r6, R6⟩, ⟨%r7, R7⟩, ⟨%r8, R8⟩, ⟨%r9, R9⟩, ⟨%r10, R10⟩, ⟨%r11, R11⟩⟩, ⟨⟨%g12, S12⟩, ⟨%g13, S13⟩, ⟨%g14, S14⟩, ⟨%g15, S15⟩, ⟨%g16, S16⟩, ⟨%g17, S17⟩, ⟨%g18, S18⟩, ⟨%g19, S19⟩, ⟨%g20, S20⟩, ⟨%g21, S21⟩, ⟨%g22, S22⟩, ⟨%g23, S23⟩, ⟨%g24, S24⟩, ⟨%g25, S25⟩, ⟨%g26, S26⟩, ⟨%g27, S27⟩, ⟨%g28, S28⟩, ⟨%g29, S29⟩⟩, Hring, ⟨C0, C1, C2, C3, C4, C5, C6, C7, C8, C9, C10, C11, C12, C13, C14⟩, HO, HK⟩
  ihave Hfr := (free_start c fw) $$ [Hring Hw C11 C12 C13 C14]
  · isplitl [Hring]; · iexact Hring
    isplitl [Hw]; · iexact Hw
    isplitl [C11]; · iexact C11
    isplitl [C12]; · iexact C12
    isplitl [C13]; · iexact C13
    iexact C14
  icases Hfr with ⟨F0, F1, F2, F3⟩
  sl_exec_parts
  iapply (wp_issue Variants.none c none fw ⟨0, by decide⟩ k0_off1 k0_off2 ![0, 0] k0_off1_inb k0_off2_inb inb_S7168x32256_S7168x512_0_0 k0_off1_eq k0_off2_eq rfl) $$ F0
  iintro N0
  sl_exec_parts
  iapply (wp_issue Variants.none c none fw ⟨1, by decide⟩ k0_off3 k0_off4 k0_off5 (k0_off3_inb k0_h1) (k0_off4_inb k0_h1) (k0_off5_inb k0_h1) k0_off3_eq k0_off4_eq k0_off5_eq) $$ F1
  iintro N1
  sl_exec_parts
  iapply (wp_issue Variants.none c none fw ⟨2, by decide⟩ k0_off6 k0_off7 k0_off8 (k0_off6_inb k0_h2) (k0_off7_inb k0_h2) (k0_off8_inb k0_h2) k0_off6_eq k0_off7_eq k0_off8_eq) $$ F2
  iintro N2
  sl_exec_parts
  ihave X0 := (fly_in c 0 1344 _ cc0_scratch0 main_v0 (inX f0) _ f0 (fun i => View.write_emb_of_mem _ _ (Finset.mem_univ (α := S3x7168.Idx) i))) $$ C0
  ihave X1 := (fly_in c 1 384 _ cc0_scratch2 main_arg3 (inM f3) _ f3 (fun i => View.write_emb_of_mem _ _ (Finset.mem_univ (α := S3x1008.Idx) i))) $$ C1
  ihave X2 := (fly_in c 2 48 _ cc0_scratch3 main_arg4 (inC f4) _ f4 (fun i => View.write_emb_of_mem _ _ (Finset.mem_univ (α := S3x1x40.Idx) i))) $$ C2
  ihave X3 := (fly_in c 3 4032 _ cc0_scratch1 main_arg2 (inS f2) _ f2 (fun i => View.write_emb_of_mem _ _ (Finset.mem_univ (α := S32256.Idx) i))) $$ C3
  sl_for (inv c f0 f2 f3 f4 fw) $$ [S16 S17 S18 S19 S20 S21 S28 S29 S23 S22 X0 X1 X2 X3 N0 N1 N2 F3 HO]
  case region =>
    intro k a
    unfold inv
    iintro ⟨%ha, H⟩
    subst ha
    iapply (trip c f0 f2 f3 f4 fw k _ _ _ _) $$ H
  · unfold inv tripSt sides sidesFly
    isplitr
    · ipureintro; decide
    iexists g16, g17, g18, g19, g20, g21, g28, g29, g23, W
    isplitr; · ipureintro; exact ⟨good_zero c f0 f2 f3 fw _ _ _ _ _ _, fun h => absurd rfl h⟩
    isplitl [S16]; · iexact S16
    isplitl [S17]; · iexact S17
    isplitl [S18]; · iexact S18
    isplitl [S19]; · iexact S19
    isplitl [S20]; · iexact S20
    isplitl [S21]; · iexact S21
    isplitl [S28]; · iexact S28
    isplitl [S29]; · iexact S29
    isplitl [S23]; · iexact S23
    isplitl [S22]
    · iapply (Entails.of_eq (congrArg (pt c cc0_scratch10) (show (Memref.whole cc0_scratch10).view.writes (Elt F) (Memref.whole cc0_scratch10).view.junk kernel_run.sl.S22_1 = fun _ => wd 0 from smem_zero (c := c) _))) $$ S22
    isplitl [X0 X1 X2 X3]
    · isplitl [X0]; · iexact X0
      isplitl [X1]; · iexact X1
      isplitl [X2]; · iexact X2
      iexact X3
    isplitl [N0]; · iapply (Entails.of_eq (role_lt c fw 0 _).symm) $$ N0
    isplitl [N1]; · iapply (Entails.of_eq (role_lt c fw 1 _).symm) $$ N1
    isplitl [N2]; · iapply (Entails.of_eq (role_lt c fw 2 _).symm) $$ N2
    isplitl [F3]; · iexact F3
    iexact HO
  iintro %a HI
  ihave HT := (inv_end c f0 f2 f3 f4 fw a) $$ HI
  unfold tripSt
  icases HT with ⟨%k16, %k17, %k18, %k19, %k20, %k21, %k28, %k29, %k23, %WW, %hG, S16, S17, S18, S19, S20, S21, S28, S29, S23, S22, Hsides, N0, N1, N2, F3, HO⟩
  sl_exec_parts
  sl_step
  ihave M0 := (Entails.of_eq (role_ge c fw 63 (by decide))) $$ N0
  ihave M1 := (Entails.of_eq (role_ge c fw 64 (by decide))) $$ N1
  ihave M2 := (Entails.of_eq (role_ge c fw 65 (by decide))) $$ N2
  ihave HE := (free_end c fw) $$ [M0 M1 M2 F3]
  · isplitl [M0]; · iexact M0
    isplitl [M1]; · iexact M1
    isplitl [M2]; · iexact M2
    iexact F3
  icases HE with ⟨Hring, Hw, C11, C12, C13, C14⟩
  ihave HD := (Entails.of_eq (sides_pos c 63 (by decide) f0 f2 f3 f4)) $$ Hsides
  unfold sidesDown
  icases HD with ⟨D0, D1, D2, D3⟩
  ihave E0 := (side_back c 0 (by decide) cc0_scratch0 main_v0 (inX f0) f0) $$ [D0 H0]
  · isplitl [D0]; · iexact D0
    iexact H0
  ihave E1 := (side_back c 1 (by decide) cc0_scratch2 main_arg3 (inM f3) f3) $$ [D1 H3]
  · isplitl [D1]; · iexact D1
    iexact H3
  ihave E2 := (side_back c 2 (by decide) cc0_scratch3 main_arg4 (inC f4) f4) $$ [D2 H4]
  · isplitl [D2]; · iexact D2
    iexact H4
  ihave E3 := (side_back c 3 (by decide) cc0_scratch1 main_arg2 (inS f2) f2) $$ [D3 H2]
  · isplitl [D3]; · iexact D3
    iexact H2
  icases E0 with ⟨S12, H0, C0⟩
  icases E1 with ⟨S14, H3, C1⟩
  icases E2 with ⟨S15, H4, C2⟩
  icases E3 with ⟨S13, H2, C3⟩
  iapply HK
  unfold Post
  isplitl [H0 Hw H2 H3 H4]
  · isplitl [H0]; · iexact H0
    isplitl [Hw]; · iexact Hw
    isplitl [H2]; · iexact H2
    isplitl [H3]; · iexact H3
    iexact H4
  isplitl [R5 R6 R7 R8 R9 R10 R11]
  · iexists _, _, _, _, _, _, _
    isplitr
    rotate_left
    · isplitl [R5]; · iexact R5
      isplitl [R6]; · iexact R6
      isplitl [R7]; · iexact R7
      isplitl [R8]; · iexact R8
      isplitl [R9]; · iexact R9
      isplitl [R10]; · iexact R10
      iexact R11
    · ipureintro
      refine ⟨k16, k17, k18, k28, k29, k23, k20, hG.1, funext fun i => View.write_emb_of_mem _ _ (Finset.mem_univ (α := S3x1x32256.Idx) i),
        funext fun i => View.write_emb_of_mem _ _ (Finset.mem_univ (α := S3x7168.Idx) i), funext fun i => View.write_emb_of_mem _ _ (Finset.mem_univ (α := S1x3.Idx) i), hG.2,
        ?_⟩
      funext i
      refine (View.write_emb_of_mem _ _ (Finset.mem_univ (α := S3x1x8.Idx) i)).trans ?_
      clear hG
      show kernel_run.sl.dma54 c g26 k20 i = _
      unfold kernel_run.sl.dma54
      show (Memref.whole cc0_scratch14).view.writes (Elt F) g26 (kernel_run.sl.S26_3 c k20) i = _
      refine Eq.trans ?_ (cm_final (c := c) g26 k20 i)
      refine congrArg (fun z => (Memref.whole cc0_scratch14).view.writes (Elt F) g26 z i) ?_
      unfold rowsP maxP
      unfold kernel_run.sl.S26_3 kernel_run.sl.S26_1
      unfold kernel_run.sl.v906
      unfold kernel_run.sl.v894
      unfold kernel_run.sl.r_74 kernel_run.sl.r_68 kernel_run.sl.r_66 kernel_run.sl.r_62 kernel_run.sl.r_53 kernel_run.sl.r_50
      unfold kernel_run.sl.r_44 kernel_run.sl.r_42 kernel_run.sl.r_36 kernel_run.sl.r_27 kernel_run.sl.r_23 kernel_run.sl.r_17
      unfold kernel_run.sl.r_16 kernel_run.sl.r_6
      unfold kernel_run.sl.v88 kernel_run.sl.v9 P9 rdStat
      rfl
  isplitl [S12 S13 S14 S15 S16 S17 S18 S19 S20 S21 S22 S23 S24 S25 S26 S27 S28 S29]
  · isplitl [S12]; · iexists _; iexact S12
    isplitl [S13]; · iexists _; iexact S13
    isplitl [S14]; · iexists _; iexact S14
    isplitl [S15]; · iexists _; iexact S15
    isplitl [S16]; · iexists _; iexact S16
    isplitl [S17]; · iexists _; iexact S17
    isplitl [S18]; · iexists _; iexact S18
    isplitl [S19]; · iexists _; iexact S19
    isplitl [S20]; · iexists _; iexact S20
    isplitl [S21]; · iexists _; iexact S21
    isplitl [S22]; · iexists _; iexact S22
    isplitl [S23]; · iexists _; iexact S23
    isplitl [S24]; · iexists _; iexact S24
    isplitl [S25]; · iexists _; iexact S25
    isplitl [S26]; · iexists _; iexact S26
    isplitl [S27]; · iexists _; iexact S27
    isplitl [S28]; · iexists _; iexact S28
    iexists _; iexact S29
  isplitl [Hring]; · iexact Hring
  isplitl [C0 C1 C2 C3 C4 C5 C6 C7 C8 C9 C10 C11 C12 C13 C14]
  · isplitl [C0]; · iexact C0
    isplitl [C1]; · iexact C1
    isplitl [C2]; · iexact C2
    isplitl [C3]; · iexact C3
    isplitl [C4]; · iexact C4
    isplitl [C5]; · iexact C5
    isplitl [C6]; · iexact C6
    isplitl [C7]; · iexact C7
    isplitl [C8]; · iexact C8
    isplitl [C9]; · iexact C9
    isplitl [C10]; · iexact C10
    isplitl [C11]; · iexact C11
    isplitl [C12]; · iexact C12
    isplitl [C13]; · iexact C13
    iexact C14
  iexists _
  iexact HO

end Cert.Proof.KernelIdeal

end
-- ==== Proof.KernelIdeal.Launch.lean ====
/-
  The launch: what a run of the whole program leaves.
-/
module

public import proofs.«01_k».proof.Proof.KernelIdeal.Run
public import proofs.«01_k».proof.Proof.Gen.KernelIdeal.Launch
public import proofs.«01_k».proof.Proof.Gen.KernelIdeal.Frame
public import proofs.«01_k».proof.Proof.Gen.KernelIdeal.Points
public import Idealize.ShloMosaic.Lib.Pipeline.FrameValue

@[expose] public section

set_option maxRecDepth 65536

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

variable (m : (ℓ : Loc nD τ sig) → Buf (Elt F) ℓ) (ρ : Dev nD → PrngReg)

/-- The results, which the body writes itself by transfers. -/
def R0 : Finset (Ref sig .tc) := {main_v1_0, main_v1_1, main_v1_2, main_v1_3, main_v1_4, main_v1_5, main_v1_6}
/-- The operands left in place that its transfers read. -/
def H0 : Finset (Ref sig .tc) := {main_v0, main_arg1, main_arg2, main_arg3, main_arg4}

theorem hmain (𝒱₀ : Variants) : Pipeline.HMain (Ix := Unit) (Name := ℕ) (U := UU nD τ) (Lvl := ℕ) cfgs 0 defs₀ 𝒱₀ m (main (F := F)) (V m) :=
  Pipeline.hmain_prefix cfgs 0 defs₀ 𝒱₀ m main hostOps0 hostOps0_sub hostOps0_fresh main_chain

/-- The body's fifteen cells. -/
abbrev osem0 : Fin 15 → SemLoc sig := fun j => (![SemLoc.dma 0, SemLoc.dma 1, SemLoc.dma 2, SemLoc.dma 3, SemLoc.dma 4, SemLoc.dma 5, SemLoc.dma 6, SemLoc.dma 7, SemLoc.dma 8, SemLoc.dma 9, SemLoc.dma 10, SemLoc.dma 11, SemLoc.dma 12, SemLoc.dma 13, SemLoc.dma 14] : Fin 15 → SemLoc sig) j
theorem ownSemFacts0 : Pipeline.OwnSemFacts (cfg0.spec) osem0 := by decide
theorem ownSems00_eq (c : Dev nD) :
    (Pipeline.ownSems0 (Ix := Unit) (Name := ℕ) (U := UU nD τ) (Lvl := ℕ) (Val := Elt F) (τ := τ) osem0 c : sProp 𝕄)
      = iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0) := by
  rw [Pipeline.ownSems0_eq_of_list c osem0 [0, 1, 2, 3, 4, 5, 6, 7, 8, 9, 10, 11, 12, 13, 14] (by decide) (by decide)]; rfl
theorem H0_sub : H0 ⊆ Pipeline.restRefs sig (cfg0.spec) := by decide
theorem hbmPts0_eq (c : Dev nD) :
    (bigSep H0 (fun b => ((c : Thread nD τ).loc b) ↦{fullShare} V m c b) : sProp 𝕄) = iprop(pt c main_v0 (V m c main_v0) ∗ pt c main_arg1 (V m c main_arg1) ∗ pt c main_arg2 (V m c main_arg2) ∗ pt c main_arg3 (V m c main_arg3) ∗ pt c main_arg4 (V m c main_arg4)) := by
  rw [BI.bigSep_eq_bigSepL_of_eq [main_v0, main_arg1, main_arg2, main_arg3, main_arg4] (by decide) (by decide)]; rfl
theorem R0_sub : R0 ⊆ Pipeline.restRefs sig (cfg0.spec) \ H0 := by decide
theorem ownedPts0_eq (c : Dev nD) : (Pipeline.owned R0 c : sProp 𝕄) = iprop((∃ f, pt c main_v1_0 f) ∗ (∃ f, pt c main_v1_1 f) ∗ (∃ f, pt c main_v1_2 f) ∗ (∃ f, pt c main_v1_3 f) ∗ (∃ f, pt c main_v1_4 f) ∗ (∃ f, pt c main_v1_5 f) ∗ (∃ f, pt c main_v1_6 f)) := by
  unfold Pipeline.owned; rw [BI.bigSep_eq_bigSepL_of_eq [main_v1_0, main_v1_1, main_v1_2, main_v1_3, main_v1_4, main_v1_5, main_v1_6] (by decide) (by decide)]; rfl
theorem routedPts0_eq (c : Dev nD) (W : (b : Ref sig .tc) → Buf (Elt F) ((c.tc : Thread nD τ).loc b)) :
    (Pipeline.routed R0 c W : sProp 𝕄) = iprop(pt c main_v1_0 (W main_v1_0) ∗ pt c main_v1_1 (W main_v1_1) ∗ pt c main_v1_2 (W main_v1_2) ∗ pt c main_v1_3 (W main_v1_3) ∗ pt c main_v1_4 (W main_v1_4) ∗ pt c main_v1_5 (W main_v1_5) ∗ pt c main_v1_6 (W main_v1_6)) := by
  unfold Pipeline.routed; rw [BI.bigSep_eq_bigSepL_of_eq [main_v1_0, main_v1_1, main_v1_2, main_v1_3, main_v1_4, main_v1_5, main_v1_6] (by decide) (by decide)]; rfl

/-- What the returned results satisfy. -/
def PG (c : Dev nD) (W : (b : Ref sig .tc) → Buf (Elt F) ((c.tc : Thread nD τ).loc b)) : Prop :=
  Res c (V m c main_v0) (V m c main_arg2) (V m c main_arg3) (V m c main_arg1) (W main_v1_0) (W main_v1_3) (W main_v1_5) (W main_v1_6)

/-- Contents of the seven results, as one assignment. -/
def W7 (c : Dev nD) (r5 : Bf F c main_v1_0) (r6 : Bf F c main_v1_1) (r7 : Bf F c main_v1_2) (r8 : Bf F c main_v1_3) (r9 : Bf F c main_v1_4)
    (r10 : Bf F c main_v1_5) (r11 : Bf F c main_v1_6) : (b : Ref sig .tc) → Buf (Elt F) ((c.tc : Thread nD τ).loc b) :=
  Function.update (Function.update (Function.update (Function.update (Function.update (Function.update (Function.update (V m c) main_v1_0 r5) main_v1_1 r6) main_v1_2 r7) main_v1_3 r8) main_v1_4 r9) main_v1_5 r10) main_v1_6 r11

theorem sep5 {a a' p b b' d d' e e' : sProp (MT nD τ sig Unit (Elt F) ℕ (UU nD τ) ℕ)} (h1 : a = a') (h2 : b = b') (h3 : d = d') (h4 : e = e') :
    iprop(a ∗ p ∗ b ∗ d ∗ e) = iprop(a' ∗ p ∗ b' ∗ d' ∗ e') := by subst h1 h2 h3 h4; rfl
theorem sep4 {a a' p b b' d d' e e' : sProp (MT nD τ sig Unit (Elt F) ℕ (UU nD τ) ℕ)} (h1 : a = a') (h2 : b = b') (h3 : d = d') (h4 : e = e') :
    iprop((a ∗ p ∗ b ∗ d) ∗ e) = iprop((a' ∗ p ∗ b' ∗ d') ∗ e') := by subst h1 h2 h3 h4; rfl
theorem routedSat_eq (c : Dev nD) (Q : ((b : Ref sig .tc) → Buf (Elt F) ((c.tc : Thread nD τ).loc b)) → Prop) :
    (Pipeline.routedSat R0 c Q : sProp 𝕄) = iprop(∃ W, ⌜Q W⌝ ∗ (pt c main_v1_0 (W main_v1_0) ∗ pt c main_v1_1 (W main_v1_1) ∗ pt c main_v1_2 (W main_v1_2) ∗ pt c main_v1_3 (W main_v1_3) ∗ pt c main_v1_4 (W main_v1_4) ∗ pt c main_v1_5 (W main_v1_5) ∗ pt c main_v1_6 (W main_v1_6))) := by
  unfold Pipeline.routedSat
  simp only [routedPts0_eq]

set_option maxHeartbeats 2000000 in
theorem PhiR_eq (c : Dev nD) :
    (Pipeline.ΦDR osem0 (cfg0.spec) H0 R0 (V m) c : sProp 𝕄)
      = iprop(((∃ f, pt c cc0_scratch0 f) ∗ (∃ f, pt c cc0_scratch1 f) ∗ (∃ f, pt c cc0_scratch2 f) ∗ (∃ f, pt c cc0_scratch3 f) ∗ (∃ f, pt c cc0_scratch4 f) ∗ (∃ f, pt c cc0_scratch5 f) ∗ (∃ f, pt c cc0_scratch6 f) ∗ (∃ f, pt c cc0_scratch7 f) ∗ (∃ f, pt c cc0_scratch8 f) ∗ (∃ f, pt c cc0_scratch9 f) ∗ (∃ f, pt c cc0_scratch11 f) ∗ (∃ f, pt c cc0_scratch12 f) ∗ (∃ f, pt c cc0_scratch13 f) ∗ (∃ f, pt c cc0_scratch14 f) ∗ (∃ f, pt c cc0_scratch15 f) ∗ (∃ f, pt c cc0_scratch16 f) ∗ (∃ f, pt c cc0_scratch17 f) ∗ (∃ f, pt c cc0_scoped0 f) ∗ (∃ f, pt c cc0_scratch10 f)) ∗ (∃ r, prngReg c r) ∗ (semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0) ∗ (pt c main_v0 (V m c main_v0) ∗ pt c main_arg1 (V m c main_arg1) ∗ pt c main_arg2 (V m c main_arg2) ∗ pt c main_arg3 (V m c main_arg3) ∗ pt c main_arg4 (V m c main_arg4)) ∗ ((∃ f, pt c main_v1_0 f) ∗ (∃ f, pt c main_v1_1 f) ∗ (∃ f, pt c main_v1_2 f) ∗ (∃ f, pt c main_v1_3 f) ∗ (∃ f, pt c main_v1_4 f) ∗ (∃ f, pt c main_v1_5 f) ∗ (∃ f, pt c main_v1_6 f))) := by
  exact (Pipeline.ΦDR_eq osem0 (cfg0.spec) H0 R0 (V m) c).trans (sep5 (scopedRest0_eq c) (ownSems00_eq c) (hbmPts0_eq m c) (ownedPts0_eq c))

set_option maxHeartbeats 2000000 in
theorem PhiS_eq (c : Dev nD) :
    (iprop(Pipeline.ΦD osem0 (cfg0.spec) H0 (V m) c ∗ Pipeline.routedSat R0 c (PG m c)) : sProp 𝕄)
      = iprop((((∃ f, pt c cc0_scratch0 f) ∗ (∃ f, pt c cc0_scratch1 f) ∗ (∃ f, pt c cc0_scratch2 f) ∗ (∃ f, pt c cc0_scratch3 f) ∗ (∃ f, pt c cc0_scratch4 f) ∗ (∃ f, pt c cc0_scratch5 f) ∗ (∃ f, pt c cc0_scratch6 f) ∗ (∃ f, pt c cc0_scratch7 f) ∗ (∃ f, pt c cc0_scratch8 f) ∗ (∃ f, pt c cc0_scratch9 f) ∗ (∃ f, pt c cc0_scratch11 f) ∗ (∃ f, pt c cc0_scratch12 f) ∗ (∃ f, pt c cc0_scratch13 f) ∗ (∃ f, pt c cc0_scratch14 f) ∗ (∃ f, pt c cc0_scratch15 f) ∗ (∃ f, pt c cc0_scratch16 f) ∗ (∃ f, pt c cc0_scratch17 f) ∗ (∃ f, pt c cc0_scoped0 f) ∗ (∃ f, pt c cc0_scratch10 f)) ∗ (∃ r, prngReg c r) ∗ (semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0) ∗ (pt c main_v0 (V m c main_v0) ∗ pt c main_arg1 (V m c main_arg1) ∗ pt c main_arg2 (V m c main_arg2) ∗ pt c main_arg3 (V m c main_arg3) ∗ pt c main_arg4 (V m c main_arg4))) ∗ (∃ W, ⌜PG m c W⌝ ∗ (pt c main_v1_0 (W main_v1_0) ∗ pt c main_v1_1 (W main_v1_1) ∗ pt c main_v1_2 (W main_v1_2) ∗ pt c main_v1_3 (W main_v1_3) ∗ pt c main_v1_4 (W main_v1_4) ∗ pt c main_v1_5 (W main_v1_5) ∗ pt c main_v1_6 (W main_v1_6)))) := by
  rw [Pipeline.ΦD_eq]
  exact sep4 (scopedRest0_eq c) (ownSems00_eq c) (hbmPts0_eq m c) (routedSat_eq c _)

/-- The invariant before the one point and after it. -/
def Phi (c : Dev nD) : ℕ → sProp 𝕄
  | 0 => Pipeline.ΦDR osem0 (cfg0.spec) H0 R0 (V m) c
  | _ + 1 => iprop(Pipeline.ΦD osem0 (cfg0.spec) H0 (V m) c ∗ Pipeline.routedSat R0 c (PG m c))

def dats (_ : Fin 1) (c : Dev nD) : Pipeline.Dat τ (Elt F) Unit ℕ (UU nD τ) ℕ cfg0 c where
  A w := V m c (Pipeline.arrRef (cfg0.spec) w)
  after w t := w.elim0
  Φ t := Phi m c t.val
  q _ := fullShare
  owed _ := 0

def bodyPre (c : Dev nD) (t : Fin cfg0.N) : sProp 𝕄 :=
  iprop((dats m 0 c).Φ t.castSucc ∗ (dats m 0 c).owesAt () t.castSucc)
def bodyPost (c : Dev nD) (t : Fin cfg0.N) : sProp 𝕄 :=
  iprop((dats m 0 c).Φ t.succ ∗ (dats m 0 c).owesAt () t.succ)

theorem W7_sep (c : Dev nD) (r5 : Bf F c main_v1_0) (r6 : Bf F c main_v1_1) (r7 : Bf F c main_v1_2) (r8 : Bf F c main_v1_3) (r9 : Bf F c main_v1_4)
    (r10 : Bf F c main_v1_5) (r11 : Bf F c main_v1_6)
    (h : Res c (V m c main_v0) (V m c main_arg2) (V m c main_arg3) (V m c main_arg1) r5 r8 r10 r11) :
    iprop(pt c main_v1_0 r5 ∗ pt c main_v1_1 r6 ∗ pt c main_v1_2 r7 ∗ pt c main_v1_3 r8 ∗ pt c main_v1_4 r9 ∗ pt c main_v1_5 r10 ∗ pt c main_v1_6 r11)
      ⊢ (iprop(∃ W, ⌜PG m c W⌝ ∗ (pt c main_v1_0 (W main_v1_0) ∗ pt c main_v1_1 (W main_v1_1) ∗ pt c main_v1_2 (W main_v1_2) ∗ pt c main_v1_3 (W main_v1_3) ∗ pt c main_v1_4 (W main_v1_4) ∗ pt c main_v1_5 (W main_v1_5) ∗ pt c main_v1_6 (W main_v1_6))) : sProp 𝕄) := by
  have e0 : W7 m c r5 r6 r7 r8 r9 r10 r11 main_v1_0 = r5 := by unfold W7; rw [Function.update_of_ne (by decide), Function.update_of_ne (by decide), Function.update_of_ne (by decide), Function.update_of_ne (by decide), Function.update_of_ne (by decide), Function.update_of_ne (by decide), Function.update_self]
  have e1 : W7 m c r5 r6 r7 r8 r9 r10 r11 main_v1_1 = r6 := by unfold W7; rw [Function.update_of_ne (by decide), Function.update_of_ne (by decide), Function.update_of_ne (by decide), Function.update_of_ne (by decide), Function.update_of_ne (by decide), Function.update_self]
  have e2 : W7 m c r5 r6 r7 r8 r9 r10 r11 main_v1_2 = r7 := by unfold W7; rw [Function.update_of_ne (by decide), Function.update_of_ne (by decide), Function.update_of_ne (by decide), Function.update_of_ne (by decide), Function.update_self]
  have e3 : W7 m c r5 r6 r7 r8 r9 r10 r11 main_v1_3 = r8 := by unfold W7; rw [Function.update_of_ne (by decide), Function.update_of_ne (by decide), Function.update_of_ne (by decide), Function.update_self]
  have e4 : W7 m c r5 r6 r7 r8 r9 r10 r11 main_v1_4 = r9 := by unfold W7; rw [Function.update_of_ne (by decide), Function.update_of_ne (by decide), Function.update_self]
  have e5 : W7 m c r5 r6 r7 r8 r9 r10 r11 main_v1_5 = r10 := by unfold W7; rw [Function.update_of_ne (by decide), Function.update_self]
  have e6 : W7 m c r5 r6 r7 r8 r9 r10 r11 main_v1_6 = r11 := by unfold W7; rw [Function.update_self]
  iintro H
  iexists (W7 m c r5 r6 r7 r8 r9 r10 r11)
  isplitr
  · ipureintro
    unfold PG
    rw [e0, e3, e5, e6]
    exact h
  iapply (Entails.of_eq (by rw [e0, e1, e2, e3, e4, e5, e6])) $$ H

theorem sound_body (c : Dev nD) (t : Fin cfg0.N) :
    bodyPre m c t ⊢ wp frame (wpE (defs₀ (F := F)) Variants.none c none) Set.univ (bodyAt0 t) (fun _ => bodyPost m c t) := by
  have ht := fin_N0 t
  subst ht
  unfold bodyPre bodyPost bodyAt0
  rw [show (dats m 0 c).Φ (Fin.succ t0_0) = iprop(Pipeline.ΦD osem0 (cfg0.spec) H0 (V m) c ∗ Pipeline.routedSat R0 c (PG m c)) from rfl,
    show (dats m 0 c).Φ (Fin.castSucc t0_0) = Pipeline.ΦDR osem0 (cfg0.spec) H0 R0 (V m) c from rfl, PhiR_eq, PhiS_eq]
  unfold Pipeline.Dat.owesAt Pipeline.owesWithin
  rw [show (dats m 0 c).owed (Fin.castSucc t0_0) = 0 from rfl, show (dats m 0 c).owed (Fin.succ t0_0) = 0 from rfl]
  iintro ⟨⟨⟨S0, S1, S2, S3, S4, S5, S6, S7, S8, S9, S11, S12, S13, S14, S15, S16, S17, SR, S10⟩, Hg, HCELLS, HH, HR⟩, ⟨%W, -, HW⟩⟩
  iapply (kernel_run c (V m c main_v0) (V m c main_arg2) (V m c main_arg3) (V m c main_arg4) (V m c main_arg1) W _)
  isplitl [HH]; · iexact HH
  isplitl [HR]; · iexact HR
  isplitl [S0 S1 S2 S3 S4 S5 S6 S7 S8 S9 S10 S11 S12 S13 S14 S15 S16 S17]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [S16]; · iexact S16
    iexact S17
  isplitl [SR]; · iexact SR
  isplitl [HCELLS]; · iexact HCELLS
  isplitl [HW]; · iexact HW
  unfold Post
  iintro ⟨HH, ⟨%r5, %r6, %r7, %r8, %r9, %r10, %r11, %hr, HR⟩, ⟨S0, S1, S2, S3, S4, S5, S6, S7, S8, S9, S10, S11, S12, S13, S14, S15, S16, S17⟩, SR, HCELLS, ⟨%W', HW'⟩⟩
  isplitr [HW']
  · isplitr [HR]
    · isplitl [S0 S1 S2 S3 S4 S5 S6 S7 S8 S9 S10 S11 S12 S13 S14 S15 S16 S17 SR]
      · isplitl [S0]; · iexact S0
        isplitl [S1]; · iexact S1
        isplitl [S2]; · iexact S2
        isplitl [S3]; · iexact S3
        isplitl [S4]; · iexact S4
        isplitl [S5]; · iexact S5
        isplitl [S6]; · iexact S6
        isplitl [S7]; · iexact S7
        isplitl [S8]; · iexact S8
        isplitl [S9]; · iexact S9
        isplitl [S11]; · iexact S11
        isplitl [S12]; · iexact S12
        isplitl [S13]; · iexact S13
        isplitl [S14]; · iexact S14
        isplitl [S15]; · iexact S15
        isplitl [S16]; · iexact S16
        isplitl [S17]; · iexact S17
        isplitl [SR]; · iexact SR
        iexact S10
      isplitl [Hg]; · iexact Hg
      isplitl [HCELLS]; · iexact HCELLS
      iexact HH
    iapply (W7_sep m c r5 r6 r7 r8 r9 r10 r11 hr) $$ HR
  iexists W'; isplitr; · ipureintro; exact fun _ _ => Or.inl trivial
  iexact HW'

theorem defs₀_row (t : Fin cfg0.N) : defs₀ (F := F) .tc cfg0.body (cfg0.bodyArgs t (cfg0.slots t)) = bodyAt0 t := by
  unfold defs₀; rw [Defs.onTc_tc]

theorem body_obligation (c : Dev nD) : Pipeline.BodyObligation (dats (F := F) m 0 c) (defs₀ (F := F)) Variants.none () Set.univ := fun t => by
  rw [defs₀_row]
  refine triple_restated (sound_body m c t) rfl ?_ fun _ => ?_
  · unfold bodyPre; iintro ⟨H1, H2, -⟩; isplitl [H1] <;> iassumption
  · unfold bodyPost; iintro ⟨H1, H2⟩
    isplitl [H1]; · iexact H1
    isplitl [H2]; · iexact H2
    iapply (show (BI.emp : sProp 𝕄) ⊢ _ from Entails.of_eq (by rfl))
    iempintro

set_option backward.isDefEq.respectTransparency.types false in
set_option maxHeartbeats 1600000 in
/-- The launch: the arguments end as launched, the results satisfy `PG`, every counter is zero. -/
theorem run_main : θ_run defs (onTc (τ := τ) (main (F := F))) (s₀ m ρ) (fun r => ((∀ c : Dev nD, ∀ b ∈ Pipeline.restRefs sig (cfg0.spec) \ R0, r.2.mem ((c.tc : Thread nD τ).loc b) = V m c b)
    ∧ ∀ c : Dev nD, ∃ W : (b : Ref sig .tc) → Buf (Elt F) ((c.tc : Thread nD τ).loc b), PG m c W ∧ ∀ b ∈ R0, r.2.mem ((c.tc : Thread nD τ).loc b) = W b) ∧ r.2.sem = fun _ => 0) := by
  have hrest : Pipeline.restRefs sig (cfg0.spec) ⊆ Pipeline.restRefsP sig Pipeline.Prefetch.none (cfg0.spec) :=
    fun b hb => Finset.mem_sdiff.mpr ⟨hb, fun h => ((Finset.mem_image.mp h).elim fun k _ => k.elim0)⟩
  refine Pipeline.RDat.θ_run_frameP_dmaRSat_shared (Q' := _) (fun q => (cfgs q).toPCfg (Val := Elt F)) (fun q => (cfgs q).toPCfg_adm) (0 : Fin 1) launch0.to₀.toP osem0 defs₀ Variants.none
    (fun c => (dats m 0 c).toR) ownSemFacts0 H0 R0 (H0_sub.trans hrest) (R0_sub.trans (Finset.sdiff_subset_sdiff hrest subset_rfl)) m ρ main
    (fun c => (body_obligation m c).loose.toR) (fun c w => w.elim0) (fun _ _ => rfl) (V m) (hmain m Variants.none) (fun c w => w.elim0) (fun _ k => k.elim0)
    (PG m) (fun c => ?_) (fun c => ?_) (fun r h => ?_)
  · exact (show _ ⊢ Pipeline.ΦDRG osem0 (cfg0.spec) H0 R0 (V m) (V m) c from by iintro ⟨H, -⟩; iexact H).trans (Pipeline.ΦDRG_ΦDR osem0 (cfg0.spec) H0 R0 (V m) (V m) c)
  · exact Entails.of_eq rfl
  · exact ⟨⟨fun c => (h.1.1 c).2, h.1.2⟩, h.2⟩

/-- The frame: the argument arrays end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨
      (h.1.1 c main_arg0 (Finset.mem_sdiff.mpr ⟨Pipeline.mem_restRefs_of main_arg0 (by decide) (by decide), by decide⟩)).trans (V_main_arg0 m c),
      (h.1.1 c main_arg1 (Finset.mem_sdiff.mpr ⟨Pipeline.mem_restRefs_of main_arg1 (by decide) (by decide), by decide⟩)).trans (V_main_arg1 m c),
      (h.1.1 c main_arg2 (Finset.mem_sdiff.mpr ⟨Pipeline.mem_restRefs_of main_arg2 (by decide) (by decide), by decide⟩)).trans (V_main_arg2 m c),
      (h.1.1 c main_arg3 (Finset.mem_sdiff.mpr ⟨Pipeline.mem_restRefs_of main_arg3 (by decide) (by decide), by decide⟩)).trans (V_main_arg3 m c),
      (h.1.1 c main_arg4 (Finset.mem_sdiff.mpr ⟨Pipeline.mem_restRefs_of main_arg4 (by decide) (by decide), by decide⟩)).trans (V_main_arg4 m c)⟩, h.2⟩) (run_main m ρ)

end Cert.Proof.KernelIdeal

end
-- ==== Proof.KernelIdeal.Raw.lean ====
/-
  The product's passes recombined, and the kernel's scale and quantising terms, at an index over the reals.
-/
module

public import proofs.«01_k».proof.Proof.KernelIdeal.Tile
public import Idealize.ShloMosaic.Lib.MatmulPlain
public import Idealize.ShloMosaic.PureOps.Ideal.Laws

@[expose] public section

set_option maxRecDepth 65536

noncomputable section

namespace Cert.Proof.KernelIdeal

open Cert.KernelIdeal Cert.KernelIdeal.Gen
open Idealize.ShloMosaic Idealize.ShloMosaic.ValueIdx

theorem zero_bits : (Scalar.ofBits (F := Ideal) .f32 0x00000000#32 : EReal) = 0 := by
  show Ideal.ieee 8 23 0#32 = 0
  unfold Ideal.ieee
  simp

/-- One term of the product. -/
def term (xq : S32x7168.Idx → Ideal .fp8e4m3) (w : S7168x512.Idx → Ideal .fp8e4m3) (r : Fin 8) (col : Fin 512) (i : ℕ) : EReal :=
  xq (ix2 (n0 := 32) (n1 := 7168) ⟨r.val, by omega⟩ (dd i)) * w (ix2 (n0 := 7168) (n1 := 512) (dd i) col)

theorem passA_apply (xq : S32x7168.Idx → Ideal .fp8e4m3) (w : S7168x512.Idx → Ideal .fp8e4m3) (o : ℕ) (r : Fin 8) (col : Fin 512) :
    passA (F := Ideal) xq w o (ix2 r col) = ∑ k ∈ Finset.range 256, term xq w r col (o + k) := by
  unfold passA
  refine (extractStridedSlice_apply _ _ _ _ (ix2 (n0 := 32) (n1 := 512) ⟨r.val, by omega⟩ col) (fun a => match a with
    | ⟨0, _⟩ => by show r.val = 0 + r.val; omega
    | ⟨1, _⟩ => by show col.val = 0 + col.val; omega)).trans ?_
  refine (Ideal.matmul_plain_apply (M := 32) (K := 256) (N := 512) (φ₁ := .fp8e4m3) (φ₂ := .fp8e4m3) none _ _ _ _ _).trans ?_
  rw [show (constant (F := Ideal) S32x512 .f32 0x00000000#32 (ix2 (n0 := 32) (n1 := 512) ⟨r.val, by omega⟩ col) : EReal) = 0 from zero_bits, zero_add,
    Finset.sum_range]
  rfl

theorem stepA (xq : S32x7168.Idx → Ideal .fp8e4m3) (w : S7168x512.Idx → Ideal .fp8e4m3) (o o' : ℕ) (h : o' = o + 256) (r : Fin 8) (col : Fin 512) :
    (∑ i ∈ Finset.range o, term xq w r col i) + passA (F := Ideal) xq w o (ix2 r col) = ∑ i ∈ Finset.range o', term xq w r col i := by
  rw [passA_apply, h, Finset.sum_range_add]

theorem addA (xq : S32x7168.Idx → Ideal .fp8e4m3) (w : S7168x512.Idx → Ideal .fp8e4m3) (acc : FVec Ideal S8x512 .f32) (o o' : ℕ) (h : o' = o + 256) (r : Fin 8) (col : Fin 512)
    (ha : acc (ix2 r col) = ∑ i ∈ Finset.range o, term xq w r col i) :
    addf acc (passA (F := Ideal) xq w o) (ix2 r col) = ∑ i ∈ Finset.range o', term xq w r col i := by
  show acc (ix2 r col) + passA (F := Ideal) xq w o (ix2 r col) = _
  rw [ha, stepA xq w o o' h]

theorem passB_apply (xq : S32x7168.Idx → Ideal .fp8e4m3) (w : S7168x512.Idx → Ideal .fp8e4m3) (o : ℕ) (r : Fin 8) (col : Fin 512) :
    passB (F := Ideal) xq w o (ix2 r col) = ∑ k ∈ Finset.range 128, term xq w r col (o + k) := by
  unfold passB
  refine (extractStridedSlice_apply _ _ _ _ (ix2 (n0 := 32) (n1 := 512) ⟨r.val, by omega⟩ col) (fun a => match a with
    | ⟨0, _⟩ => by show r.val = 0 + r.val; omega
    | ⟨1, _⟩ => by show col.val = 0 + col.val; omega)).trans ?_
  refine (Ideal.matmul_plain_apply (M := 32) (K := 128) (N := 512) (φ₁ := .fp8e4m3) (φ₂ := .fp8e4m3) none _ _ _ _ _).trans ?_
  rw [show (constant (F := Ideal) S32x512 .f32 0x00000000#32 (ix2 (n0 := 32) (n1 := 512) ⟨r.val, by omega⟩ col) : EReal) = 0 from zero_bits, zero_add,
    Finset.sum_range]
  rfl

theorem stepB (xq : S32x7168.Idx → Ideal .fp8e4m3) (w : S7168x512.Idx → Ideal .fp8e4m3) (o o' : ℕ) (h : o' = o + 128) (r : Fin 8) (col : Fin 512) :
    (∑ i ∈ Finset.range o, term xq w r col i) + passB (F := Ideal) xq w o (ix2 r col) = ∑ i ∈ Finset.range o', term xq w r col i := by
  rw [passB_apply, h, Finset.sum_range_add]

theorem addB (xq : S32x7168.Idx → Ideal .fp8e4m3) (w : S7168x512.Idx → Ideal .fp8e4m3) (acc : FVec Ideal S8x512 .f32) (o o' : ℕ) (h : o' = o + 128) (r : Fin 8) (col : Fin 512)
    (ha : acc (ix2 r col) = ∑ i ∈ Finset.range o, term xq w r col i) :
    addf acc (passB (F := Ideal) xq w o) (ix2 r col) = ∑ i ∈ Finset.range o', term xq w r col i := by
  show acc (ix2 r col) + passB (F := Ideal) xq w o (ix2 r col) = _
  rw [ha, stepB xq w o o' h]

/-- The passes together are the whole product. -/
theorem rawT_apply (xq : S32x7168.Idx → Ideal .fp8e4m3) (w : S7168x512.Idx → Ideal .fp8e4m3) (r : Fin 8) (col : Fin 512) :
    rawT (F := Ideal) xq w (ix2 r col)
      = ∑ i : Fin 7168, xq (ix2 (n0 := 32) (n1 := 7168) ⟨r.val, by omega⟩ i) * w (ix2 (n0 := 7168) (n1 := 512) i col) := by
  have e : rawT (F := Ideal) xq w (ix2 r col) = ∑ i ∈ Finset.range 7168, term xq w r col i := by
    unfold rawT
    refine addA xq w _ 6912 7168 rfl r col ?_
    refine addA xq w _ 6656 6912 rfl r col ?_
    refine addA xq w _ 6400 6656 rfl r col ?_
    refine addA xq w _ 6144 6400 rfl r col ?_
    refine addA xq w _ 5888 6144 rfl r col ?_
    refine addA xq w _ 5632 5888 rfl r col ?_
    refine addA xq w _ 5376 5632 rfl r col ?_
    refine addA xq w _ 5120 5376 rfl r col ?_
    refine addA xq w _ 4864 5120 rfl r col ?_
    refine addB xq w _ 4736 4864 rfl r col ?_
    refine addA xq w _ 4480 4736 rfl r col ?_
    refine addA xq w _ 4224 4480 rfl r col ?_
    refine addA xq w _ 3968 4224 rfl r col ?_
    refine addA xq w _ 3712 3968 rfl r col ?_
    refine addA xq w _ 3456 3712 rfl r col ?_
    refine addA xq w _ 3200 3456 rfl r col ?_
    refine addA xq w _ 2944 3200 rfl r col ?_
    refine addA xq w _ 2688 2944 rfl r col ?_
    refine addA xq w _ 2432 2688 rfl r col ?_
    refine addB xq w _ 2304 2432 rfl r col ?_
    refine addA xq w _ 2048 2304 rfl r col ?_
    refine addA xq w _ 1792 2048 rfl r col ?_
    refine addA xq w _ 1536 1792 rfl r col ?_
    refine addA xq w _ 1280 1536 rfl r col ?_
    refine addA xq w _ 1024 1280 rfl r col ?_
    refine addA xq w _ 768 1024 rfl r col ?_
    refine addA xq w _ 512 768 rfl r col ?_
    refine addA xq w _ 256 512 rfl r col ?_
    refine addA xq w _ 0 256 rfl r col ?_
    rw [Finset.sum_range_zero]
    exact zero_bits
  rw [e, Finset.sum_range]
  refine Finset.sum_congr rfl fun i _ => ?_
  have hd : dd i.val = i := Fin.ext (Nat.mod_eq_of_lt i.isLt)
  show xq _ * w _ = _
  rw [hd]

end Cert.Proof.KernelIdeal
-- ==== Proof.Expo.lean ====
/-
  The power-of-two scale of a row, over the extended reals: the largest exponent field whose power of two the row's scaled
  maximum reaches gives the same exponent as the floor of its base-two logarithm, and the words assembled from it denote
  the powers `2 ^ e` and `2 ^ (-e)`.
-/
module

public import Idealize.ShloMosaic.PureOps
public import Idealize.ShloMosaic.PureOps.Ideal
public import Idealize.ShloMosaic.PureOps.Ideal.Laws
public import Idealize.ShloMosaic.PureOps.Reduce

@[expose] public section

noncomputable section

namespace Cert.Proof.Expo

open Idealize.ShloMosaic

/-- The three fields of the word with exponent field `k` and nothing else. -/
theorem word_fields : ∀ k : Fin 256, ((BitVec.ofNat 32 k.val <<< (23#32)).extractLsb' 31 1 == 1#1) = false
    ∧ ((BitVec.ofNat 32 k.val <<< (23#32)).extractLsb' 23 8).toNat = k.val
    ∧ ((BitVec.ofNat 32 k.val <<< (23#32)).extractLsb' 0 23).toNat = 0 := by
  decide +kernel

theorem shl23 (x : BitVec 32) : IntOp.shli .vector x 23#32 = x <<< (23#32) := by
  unfold IntOp.shli; exact if_pos (by decide)

theorem bits_f32 (b : BitVec 32) : FloatOps.ofBits (F := Ideal) .f32 b = Ideal.ieee 8 23 b := rfl

theorem sbits_f32 (b : BitVec 32) : Scalar.ofBits (F := Ideal) .f32 b = Ideal.ieee 8 23 b := rfl

/-- The word with exponent field `k` denotes `2 ^ (k - 127)`. -/
theorem pow_word (k : Nat) (h1 : 1 ≤ k) (h2 : k ≤ 254) :
    (FloatOps.ofBits (F := Ideal) .f32 (IntOp.shli .vector (BitVec.ofNat 32 k) 23#32) : EReal) = (((2 : ℝ) ^ ((k : ℤ) - 127) : ℝ) : EReal) := by
  have h := word_fields ⟨k, by omega⟩
  have a := h.1
  have b := h.2.1
  have c := h.2.2
  rw [bits_f32, shl23]
  unfold Ideal.ieee
  simp only at a b c
  simp only [show 8 + 23 = 31 from rfl, a, b, c]
  rw [if_neg (by omega), if_neg (by omega)]
  refine congrArg Real.toEReal ?_
  rw [show (k : ℤ) - (2 ^ (8 - 1) - 1) - ((23 : ℕ) : ℤ) = ((k : ℤ) - 127) + (-23) by norm_num; omega, zpow_add₀ (by norm_num : (2:ℝ) ≠ 0)]
  simp only [Bool.false_eq_true, if_false, Nat.add_zero, one_mul, mul_comm, mul_one]
  rw [← mul_assoc, show (((2 ^ 23 : ℕ) : ℝ)) * 2 ^ (-23 : ℤ) = 1 by norm_num, one_mul]

theorem zero_word : (FloatOps.ofBits (F := Ideal) .f32 (IntOp.shli .vector (BitVec.ofNat 32 0) 23#32) : EReal) = 0 := by
  have h := word_fields ⟨0, by omega⟩
  have a := h.1
  have b := h.2.1
  have c := h.2.2
  rw [bits_f32, shl23]
  unfold Ideal.ieee
  simp only at a b c
  simp only [show 8 + 23 = 31 from rfl, a, b, c]
  norm_num

theorem top_word : (FloatOps.ofBits (F := Ideal) .f32 (IntOp.shli .vector (BitVec.ofNat 32 255) 23#32) : EReal) = ⊤ := by
  have h := word_fields ⟨255, by omega⟩
  have a := h.1
  have b := h.2.1
  have c := h.2.2
  rw [bits_f32, shl23]
  unfold Ideal.ieee
  simp only at a b c
  simp only [show 8 + 23 = 31 from rfl, a, b, c]
  norm_num

/-- A signed maximum fold from the least word is an upper bound and one of its terms. -/
theorem fold_maxsi {ι : Type*} [DecidableEq ι] (S : Finset ι) (g : ι → BitVec 32) :
    (∀ x ∈ S, (g x).toInt ≤ (S.fold IntOp.maxsi (2147483648#32) g).toInt)
    ∧ (S.fold IntOp.maxsi (2147483648#32) g = 2147483648#32 ∨ ∃ x ∈ S, S.fold IntOp.maxsi (2147483648#32) g = g x) := by
  induction S using Finset.induction_on with
  | empty => simp
  | insert a S ha ih =>
    rw [Finset.fold_insert ha]
    unfold IntOp.maxsi
    split
    · rename_i h
      have h' := BitVec.slt_iff_toInt_lt.mp h
      refine ⟨fun x hx => ?_, Or.inr ⟨a, by simp, rfl⟩⟩
      rcases Finset.mem_insert.mp hx with rfl | hx
      · exact le_refl _
      · exact (ih.1 x hx).trans h'.le
    · rename_i h
      have h' : ¬ (_ < _) := fun q => h (BitVec.slt_iff_toInt_lt.mpr q)
      refine ⟨fun x hx => ?_, ih.2.imp id fun ⟨x, hx, e⟩ => ⟨x, Finset.mem_insert_of_mem hx, e⟩⟩
      rcases Finset.mem_insert.mp hx with rfl | hx
      · exact not_lt.mp h'
      · exact ih.1 x hx

/-- The kernel's exponent word of a row with maximum `A`. -/
def kword (A : EReal) (B : BitVec 32) : BitVec 32 :=
  Scalar.select (FloatOps.cmpf (F := Ideal) (φ := .f32) .oeq A (Scalar.ofBits (F := Ideal) .f32 0x00000000#32)) 0#32
    (Scalar.select (IntOp.ori (IntOp.cmpi .eq B 0#32) (IntOp.cmpi .eq B 255#32)) 0#32 (IntOp.subi B 126#32))

/-- The table word at field `f`: the field if the scaled maximum reaches its power of two, else zero. -/
def entry (a : EReal) (f : Fin 256) : BitVec 32 :=
  Scalar.select (FloatOps.cmpf (F := Ideal) (φ := .f32) .oge a (FloatOps.ofBits (F := Ideal) .f32 (IntOp.shli .vector (BitVec.ofNat 32 f.val) 23#32)))
    (BitVec.ofNat 32 f.val) 0#32

/-- The reference's exponent of a row with scaled maximum `a`. -/
def rexp (a : EReal) : EReal :=
  Scalar.select (FloatOps.cmpf (F := Ideal) (φ := .f32) .olt a (Scalar.ofBits (F := Ideal) .f32 0x00800000#32)) (Scalar.ofBits (F := Ideal) .f32 0x00000000#32)
    (FloatOps.addf (F := Ideal) (φ := .f32) (FloatOps.floor (F := Ideal) (φ := .f32) (FloatOps.divf (F := Ideal) (φ := .f32) (FloatOps.log (F := Ideal) (φ := .f32) a)
      (FloatOps.log (F := Ideal) (φ := .f32) (Scalar.ofBits (F := Ideal) .f32 0x40000000#32)))) (Scalar.ofBits (F := Ideal) .f32 0x3F800000#32))

theorem c_zero : (Scalar.ofBits (F := Ideal) .f32 0x00000000#32 : EReal) = 0 := by
  rw [show (0x00000000#32) = IntOp.shli .vector (BitVec.ofNat 32 0) 23#32 by decide]
  exact zero_word
theorem c_one : (Scalar.ofBits (F := Ideal) .f32 0x3F800000#32 : EReal) = ((1 : ℝ) : EReal) := by
  rw [show (0x3F800000#32) = IntOp.shli .vector (BitVec.ofNat 32 127) 23#32 by decide]
  exact (pow_word 127 (by norm_num) (by norm_num)).trans (by norm_num)
theorem c_two : (Scalar.ofBits (F := Ideal) .f32 0x40000000#32 : EReal) = ((2 : ℝ) : EReal) := by
  rw [show (0x40000000#32) = IntOp.shli .vector (BitVec.ofNat 32 128) 23#32 by decide]
  exact (pow_word 128 (by norm_num) (by norm_num)).trans (by norm_num)
theorem c_tiny : (Scalar.ofBits (F := Ideal) .f32 0x00800000#32 : EReal) = (((2 : ℝ) ^ (-126 : ℤ) : ℝ) : EReal) := by
  rw [show (0x00800000#32) = IntOp.shli .vector (BitVec.ofNat 32 1) 23#32 by decide]
  exact (pow_word 1 (by norm_num) (by norm_num)).trans (by norm_num)

/-- The reciprocal of the largest code, a real between zero and `2 ^ (-8)`. -/
theorem c_inv : ∃ r : ℝ, (Scalar.ofBits (F := Ideal) .f32 0x3B124925#32 : EReal) = (r : EReal) ∧ 0 < r ∧ r < (2 : ℝ) ^ (-8 : ℤ) := by
  refine ⟨((2 ^ 23 + 1198373 : ℕ) : ℝ) * (2 : ℝ) ^ (-32 : ℤ), ?_, by positivity, by norm_num⟩
  rw [sbits_f32]
  unfold Ideal.ieee
  have a : ((0x3B124925#32).extractLsb' (8 + 23) 1 == 1#1) = false := by decide
  have b : ((0x3B124925#32).extractLsb' 23 8).toNat = 118 := by decide
  have c : ((0x3B124925#32).extractLsb' 0 23).toNat = 1198373 := by decide
  simp only [a, b, c]
  rw [if_neg (by omega), if_neg (by omega)]
  refine congrArg Real.toEReal ?_
  rw [show ((118 : ℕ) : ℤ) - (2 ^ (8 - 1) - 1) - ((23 : ℕ) : ℤ) = -32 by norm_num]
  simp only [Bool.false_eq_true, if_false, one_mul]

theorem entry_of_ge (a : EReal) (f : Fin 256) (h : (FloatOps.ofBits (F := Ideal) .f32 (IntOp.shli .vector (BitVec.ofNat 32 f.val) 23#32) : EReal) ≤ a) :
    entry a f = BitVec.ofNat 32 f.val := by
  unfold entry Scalar.select
  rw [if_pos]
  show BitVec.ofBool (decide (a ≥ _)) = 1
  rw [decide_eq_true h]; rfl

theorem entry_of_lt (a : EReal) (f : Fin 256) (h : a < (FloatOps.ofBits (F := Ideal) .f32 (IntOp.shli .vector (BitVec.ofNat 32 f.val) 23#32) : EReal)) :
    entry a f = 0#32 := by
  unfold entry Scalar.select
  rw [if_neg]
  show ¬ BitVec.ofBool (decide (a ≥ _)) = 1
  rw [decide_eq_false (not_le.mpr h)]; decide

theorem small_toInt (k : Nat) (h : k < 256) : (BitVec.ofNat 32 k).toInt = k := by
  rw [BitVec.toInt_eq_toNat_of_lt (by rw [BitVec.toNat_ofNat]; omega), BitVec.toNat_ofNat]
  omega

/-- No field above the exponent's is reached. -/
theorem above (a : ℝ) (n : ℤ) (hn : a < (2 : ℝ) ^ (n + 1)) (f : Fin 256) (hf : n + 127 < f.val) (h0 : 1 ≤ f.val) :
    entry (a : EReal) f = 0#32 := by
  refine entry_of_lt _ _ ?_
  by_cases h : f.val ≤ 254
  · rw [pow_word f.val h0 h]
    refine EReal.coe_lt_coe_iff.mpr (hn.trans_le ?_)
    exact zpow_le_zpow_right₀ (by norm_num) (by omega)
  · have e : f.val = 255 := by omega
    rw [e, top_word]
    exact EReal.coe_lt_top a

/-- The kernel's exponent word and the reference's exponent are one integer. -/
theorem exists_exp (A : ℝ) (r : ℝ) (hA0 : 0 ≤ A) (hA1 : A ≤ (2 : ℝ) ^ (128 : ℤ)) (hr0 : 0 < r) (hr1 : r < (2 : ℝ) ^ (-8 : ℤ)) :
    ∃ k : ℕ, 1 ≤ k ∧ k ≤ 250
      ∧ kword (A : EReal) (Finset.univ.fold IntOp.maxsi 2147483648#32 (entry ((A * r : ℝ) : EReal))) = BitVec.ofNat 32 k - 126#32
      ∧ rexp ((A * r : ℝ) : EReal) = ((((k : ℤ) - 126 : ℤ) : ℝ) : EReal) := by
  obtain ⟨hub, hat⟩ := fold_maxsi (Finset.univ : Finset (Fin 256)) (entry ((A * r : ℝ) : EReal))
  set B := Finset.univ.fold IntOp.maxsi 2147483648#32 (entry ((A * r : ℝ) : EReal)) with hB
  have htop : A * r < (2 : ℝ) ^ (120 : ℤ) := by
    calc A * r ≤ (2 : ℝ) ^ (128 : ℤ) * r := by gcongr
      _ < (2 : ℝ) ^ (128 : ℤ) * (2 : ℝ) ^ (-8 : ℤ) := by gcongr
      _ = _ := by norm_num
  by_cases hs : A * r < (2 : ℝ) ^ (-126 : ℤ)
  · have hz : ∀ f : Fin 256, entry ((A * r : ℝ) : EReal) f = 0#32 := fun f => by
      by_cases h0 : f.val = 0
      · unfold entry Scalar.select
        rw [h0]; split <;> rfl
      · exact above _ (-127) (by norm_num at hs ⊢; exact hs) f (by omega) (by omega)
    have hB0 : B = 0#32 := by
      rcases hat with h | ⟨x, -, h⟩
      · have := hub 0 (Finset.mem_univ _)
        rw [hz, h] at this
        exact absurd this (by decide)
      · exact h.trans (hz x)
    refine ⟨126, by omega, by omega, ?_, ?_⟩
    · rw [hB0]
      unfold kword
      rw [show Scalar.select (IntOp.ori (IntOp.cmpi .eq (0#32) 0#32) (IntOp.cmpi .eq (0#32) 255#32)) (0#32) (IntOp.subi (0#32) 126#32) = 0#32 from by decide]
      unfold Scalar.select
      split <;> decide
    · unfold rexp
      rw [c_tiny, c_zero]
      unfold Scalar.select
      rw [if_pos]
      · simp
      · show BitVec.ofBool (decide (_ < _)) = 1
        rw [decide_eq_true (EReal.coe_lt_coe_iff.mpr hs)]; rfl
  · have hs' := not_lt.mp hs
    have hpos : 0 < A * r := lt_of_lt_of_le (by positivity) hs'
    have hl2 : 0 < Real.log 2 := Real.log_pos (by norm_num)
    set n : ℤ := ⌊Real.log (A * r) / Real.log 2⌋ with hn
    have hlo : (2 : ℝ) ^ n ≤ A * r := by
      rw [← Real.log_le_log_iff (by positivity) hpos, Real.log_zpow]
      have := Int.floor_le (Real.log (A * r) / Real.log 2)
      rwa [le_div_iff₀ hl2] at this
    have hhi : A * r < (2 : ℝ) ^ (n + 1) := by
      rw [← Real.log_lt_log_iff hpos (by positivity), Real.log_zpow]
      have := Int.lt_floor_add_one (Real.log (A * r) / Real.log 2)
      rw [div_lt_iff₀ hl2] at this
      push_cast
      exact this
    have hn1 : -126 ≤ n := by
      by_contra h
      have : (2 : ℝ) ^ (n + 1) ≤ (2 : ℝ) ^ (-126 : ℤ) := zpow_le_zpow_right₀ (by norm_num) (by omega)
      exact absurd (hhi.trans_le this) (not_lt.mpr hs')
    have hn2 : n < 120 := by
      by_contra h
      have : (2 : ℝ) ^ (120 : ℤ) ≤ (2 : ℝ) ^ n := zpow_le_zpow_right₀ (by norm_num) (by omega)
      exact absurd (htop.trans_le (this.trans hlo)) (lt_irrefl _)
    obtain ⟨f0, hf0⟩ : ∃ f0 : ℕ, (f0 : ℤ) = n + 127 := ⟨(n + 127).toNat, by omega⟩
    have hge : entry ((A * r : ℝ) : EReal) ⟨f0, by omega⟩ = BitVec.ofNat 32 f0 := by
      refine entry_of_ge _ _ ?_
      rw [pow_word f0 (by omega) (by omega)]
      refine EReal.coe_le_coe_iff.mpr ?_
      rw [hf0]; simpa using hlo
    have hle : ∀ f : Fin 256, (entry ((A * r : ℝ) : EReal) f).toInt ≤ f0 := fun f => by
      by_cases h : n + 127 < f.val
      · rw [above _ n hhi f h (by omega)]; simp
      · unfold entry Scalar.select
        split
        · rw [small_toInt _ f.isLt]; omega
        · simp
    have hBi : B.toInt = f0 := by
      have h1 := hub ⟨f0, by omega⟩ (Finset.mem_univ _)
      rw [hge, small_toInt f0 (by omega)] at h1
      refine le_antisymm ?_ h1
      rcases hat with h | ⟨x, -, h⟩
      · rw [h] at h1 ⊢
        exact absurd h1 (by rw [show (2147483648#32).toInt = -2147483648 by decide]; omega)
      · rw [h]; exact hle x
    have hBe : B = BitVec.ofNat 32 f0 := BitVec.eq_of_toInt_eq (by rw [hBi, small_toInt f0 (by omega)])
    refine ⟨f0, by omega, by omega, ?_, ?_⟩
    · rw [hBe]
      unfold kword
      rw [c_zero]
      have hA : ¬ ((A : EReal) = 0) := fun h => by
        have : A = 0 := by exact_mod_cast h
        rw [this, zero_mul] at hpos; exact lt_irrefl _ hpos
      have e1 : FloatOps.cmpf (F := Ideal) (φ := .f32) .oeq (A : EReal) 0 = 0#1 := by
        show BitVec.ofBool (decide ((A : EReal) = 0)) = 0#1
        rw [decide_eq_false hA]; rfl
      have hne : ∀ j : Nat, j < 256 → j ≠ f0 → (BitVec.ofNat 32 f0 == BitVec.ofNat 32 j) = false := fun j hj hne => by
        rw [beq_eq_false_iff_ne]
        intro h
        have := congrArg BitVec.toInt h
        rw [small_toInt f0 (by omega), small_toInt j hj] at this
        omega
      have e2 : IntOp.cmpi .eq (BitVec.ofNat 32 f0) 0#32 = 0#1 := by
        show BitVec.ofBool (BitVec.ofNat 32 f0 == BitVec.ofNat 32 0) = _
        rw [hne 0 (by omega) (by omega)]; rfl
      have e3 : IntOp.cmpi .eq (BitVec.ofNat 32 f0) 255#32 = 0#1 := by
        show BitVec.ofBool (BitVec.ofNat 32 f0 == BitVec.ofNat 32 255) = _
        rw [hne 255 (by omega) (by omega)]; rfl
      rw [e1, e2, e3]
      rfl
    · unfold rexp
      rw [c_tiny, c_zero, c_one, c_two]
      unfold Scalar.select
      rw [if_neg]
      · show Ideal.liftRound Int.floor (Ideal.div (Ideal.log ((A * r : ℝ) : EReal)) (Ideal.log ((2 : ℝ) : EReal))) + ((1 : ℝ) : EReal) = _
        have l1 : Ideal.log ((A * r : ℝ) : EReal) = ((Real.log (A * r) : ℝ) : EReal) := if_neg (not_le.mpr hpos)
        have l2 : Ideal.log ((2 : ℝ) : EReal) = ((Real.log 2 : ℝ) : EReal) := if_neg (by norm_num)
        rw [l1, l2]
        have d : Ideal.div ((Real.log (A * r) : ℝ) : EReal) ((Real.log 2 : ℝ) : EReal) = ((Real.log (A * r) / Real.log 2 : ℝ) : EReal) := by
          unfold Ideal.div
          rw [if_neg (by exact_mod_cast hl2.ne'), ← EReal.coe_inv, ← EReal.coe_mul, div_eq_mul_inv]
        rw [d]
        show (((⌊Real.log (A * r) / Real.log 2⌋ : ℤ) : ℝ) : EReal) + ((1 : ℝ) : EReal) = _
        rw [← hn, ← EReal.coe_add]
        refine congrArg Real.toEReal ?_
        rw [hf0]; push_cast; ring
      · show ¬ BitVec.ofBool (decide (_ < _)) = 1
        rw [decide_eq_false (fun h => hs (EReal.coe_lt_coe_iff.mp h))]; decide

/-- The word of the scale denotes two to the reference's exponent. -/
theorem scale_word (k : ℕ) (h1 : 1 ≤ k) (h2 : k ≤ 250) :
    (FloatOps.ofBits (F := Ideal) .f32 (IntOp.shli .vector (IntOp.addi (BitVec.ofNat 32 k - 126#32) 127#32) 23#32) : EReal)
      = FloatOps.exp2 (F := Ideal) (φ := .f32) ((((k : ℤ) - 126 : ℤ) : ℝ) : EReal) := by
  have e : IntOp.addi (BitVec.ofNat 32 k - 126#32) 127#32 = BitVec.ofNat 32 (k + 1) := by
    unfold IntOp.addi
    apply BitVec.eq_of_toNat_eq
    simp only [BitVec.toNat_add, BitVec.toNat_sub, BitVec.toNat_ofNat]
    omega
  rw [e, pow_word (k + 1) (by omega) (by omega)]
  show _ = ((Real.rpow 2 (((k : ℤ) - 126 : ℤ) : ℝ) : ℝ) : EReal)
  refine congrArg Real.toEReal ?_
  refine Eq.trans ?_ (Real.rpow_intCast 2 ((k : ℤ) - 126)).symm
  congr 1; push_cast; ring

/-- The word of the inverse scale denotes two to the negated exponent. -/
theorem inv_word (k : ℕ) (h1 : 1 ≤ k) (h2 : k ≤ 250) :
    (FloatOps.ofBits (F := Ideal) .f32 (IntOp.shli .vector (IntOp.addi (IntOp.subi 0#32 (BitVec.ofNat 32 k - 126#32)) 127#32) 23#32) : EReal)
      = FloatOps.exp2 (F := Ideal) (φ := .f32) (FloatOps.subf (F := Ideal) (φ := .f32) (Scalar.ofBits (F := Ideal) .f32 0x00000000#32) ((((k : ℤ) - 126 : ℤ) : ℝ) : EReal)) := by
  have e : IntOp.addi (IntOp.subi 0#32 (BitVec.ofNat 32 k - 126#32)) 127#32 = BitVec.ofNat 32 (253 - k) := by
    unfold IntOp.addi IntOp.subi
    apply BitVec.eq_of_toNat_eq
    simp only [BitVec.toNat_add, BitVec.toNat_sub, BitVec.toNat_ofNat]
    omega
  rw [e, pow_word (253 - k) (by omega) (by omega), c_zero]
  have d : FloatOps.subf (F := Ideal) (φ := .f32) (0 : EReal) ((((k : ℤ) - 126 : ℤ) : ℝ) : EReal) = (((126 - (k : ℤ) : ℤ) : ℝ) : EReal) := by
    show (0 : EReal) - _ = _
    rw [zero_sub, ← EReal.coe_neg]
    refine congrArg Real.toEReal ?_
    push_cast; ring
  rw [d]
  show _ = ((Real.rpow 2 ((126 - (k : ℤ) : ℤ) : ℝ) : ℝ) : EReal)
  refine congrArg Real.toEReal ?_
  refine Eq.trans ?_ (Real.rpow_intCast 2 (126 - (k : ℤ))).symm
  congr 1; omega

end Cert.Proof.Expo

end
-- ==== Proof.Row.lean ====
/-
  A row of activations over the reals: its largest magnitude, the exponent of its scale, and one quantised activation. The
  kernel's integer words and the reference's logarithm give one scale.
-/
module

public import proofs.«01_k».proof.Proof.Expo

@[expose] public section

set_option maxRecDepth 65536

noncomputable section

namespace Cert.Proof.Expo

open Idealize.ShloMosaic

/-- The largest magnitude of a row. -/
def rowMax (v : Fin 7168 → EReal) : EReal :=
  (Finset.univ : Finset (Fin 7168)).fold (FloatOps.maximumf (F := Ideal) (φ := .f32)) (FloatOps.ofBits (F := Ideal) .f32 0xFF800000#32)
    (fun i => FloatOps.absf (F := Ideal) (φ := .f32) (v i))

/-- Minus infinity replaced by zero. -/
def fin0 (m : EReal) : EReal :=
  Scalar.select (FloatOps.cmpf (F := Ideal) (φ := .f32) .oeq m (Scalar.ofBits (F := Ideal) .f32 0xFF800000#32)) (Scalar.ofBits (F := Ideal) .f32 0x00000000#32) m

/-- The row's largest magnitude over the largest code. -/
def scaled (M : EReal) : EReal := FloatOps.mulf (F := Ideal) (φ := .f32) M (Scalar.ofBits (F := Ideal) .f32 0x3B124925#32)

/-- The kernel's exponent word of a row. -/
def kexp (M : EReal) : BitVec 32 := kword M ((Finset.univ : Finset (Fin 256)).fold IntOp.maxsi 2147483648#32 (entry (scaled M)))

/-- The scale of a row. -/
def scl (M : EReal) : EReal := FloatOps.exp2 (F := Ideal) (φ := .f32) (rexp (scaled M))

/-- The inverse scale of a row. -/
def inv (M : EReal) : EReal :=
  FloatOps.exp2 (F := Ideal) (φ := .f32) (FloatOps.subf (F := Ideal) (φ := .f32) (Scalar.ofBits (F := Ideal) .f32 0x00000000#32) (rexp (scaled M)))

/-- One quantised activation. -/
def quant (x s : EReal) : EReal :=
  FloatOps.minimumf (F := Ideal) (φ := .f32) (Scalar.ofBits (F := Ideal) .f32 0x43E00000#32)
    (FloatOps.maximumf (F := Ideal) (φ := .f32) (Scalar.ofBits (F := Ideal) .f32 0xC3E00000#32) (FloatOps.mulf (F := Ideal) (φ := .f32) x s))

/-- The words of the kernel's scales denote the reference's scales. -/
theorem row_exp (M : EReal) (hM : ∃ A : ℝ, M = (A : EReal) ∧ 0 ≤ A ∧ A ≤ (2 : ℝ) ^ (128 : ℤ)) :
    (FloatOps.ofBits (F := Ideal) .f32 (IntOp.shli .vector (IntOp.addi (kexp M) 127#32) 23#32) : EReal) = scl M
    ∧ (FloatOps.ofBits (F := Ideal) .f32 (IntOp.shli .vector (IntOp.addi (IntOp.subi 0#32 (kexp M)) 127#32) 23#32) : EReal) = inv M := by
  obtain ⟨A, rfl, h0, h1⟩ := hM
  obtain ⟨r, hr, hr0, hr1⟩ := c_inv
  have hs : scaled (A : EReal) = ((A * r : ℝ) : EReal) := by
    unfold scaled
    rw [hr]
    show (A : EReal) * (r : EReal) = _
    rw [← EReal.coe_mul]
  obtain ⟨k, k1, k2, hk, he⟩ := exists_exp A r h0 h1 hr0 hr1
  unfold kexp scl inv
  rw [hs, hk, he]
  exact ⟨scale_word k k1 k2, inv_word k k1 k2⟩

theorem neg_top_word : (FloatOps.ofBits (F := Ideal) .f32 0xFF800000#32 : EReal) = ⊥ := by
  rw [bits_f32]
  unfold Ideal.ieee
  have a : ((0xFF800000#32).extractLsb' (8 + 23) 1 == 1#1) = true := by decide
  have b : ((0xFF800000#32).extractLsb' 23 8).toNat = 255 := by decide
  have c : ((0xFF800000#32).extractLsb' 0 23).toNat = 0 := by decide
  simp only [a, b, c]
  norm_num

/-- The largest finite value of the activations' format. -/
theorem c_big : ∃ r : ℝ, (Scalar.ofBits (F := Ideal) .f32 0x7F7F0000#32 : EReal) = (r : EReal) ∧ r ≤ (2 : ℝ) ^ (128 : ℤ) := by
  refine ⟨((2 ^ 23 + 8323072 : ℕ) : ℝ) * (2 : ℝ) ^ (104 : ℤ), ?_, by norm_num⟩
  rw [sbits_f32]
  unfold Ideal.ieee
  have a : ((0x7F7F0000#32).extractLsb' (8 + 23) 1 == 1#1) = false := by decide
  have b : ((0x7F7F0000#32).extractLsb' 23 8).toNat = 254 := by decide
  have c : ((0x7F7F0000#32).extractLsb' 0 23).toNat = 8323072 := by decide
  simp only [a, b, c]
  rw [if_neg (by omega), if_neg (by omega)]
  refine congrArg Real.toEReal ?_
  rw [show ((254 : ℕ) : ℤ) - (2 ^ (8 - 1) - 1) - ((23 : ℕ) : ℤ) = 104 by norm_num]
  simp only [Bool.false_eq_true, if_false, one_mul]

/-- Of a row with every magnitude at most the format's largest, the largest magnitude is such a real. -/
theorem rowMax_real (v : Fin 7168 → EReal)
    (h : ∀ i, FloatOps.absf (F := Ideal) (φ := .f32) (v i) ≤ (Scalar.ofBits (F := Ideal) .f32 0x7F7F0000#32 : EReal)) :
    ∃ A : ℝ, rowMax v = (A : EReal) ∧ 0 ≤ A ∧ A ≤ (2 : ℝ) ^ (128 : ℤ) := by
  obtain ⟨B, hB, hB1⟩ := c_big
  have hup : rowMax v ≤ (B : EReal) := by
    unfold rowMax
    show Finset.fold max _ _ _ ≤ _
    rw [Finset.fold_max_le]
    refine ⟨?_, fun i _ => hB ▸ h i⟩
    rw [neg_top_word]; exact bot_le
  have hlo : (0 : EReal) ≤ rowMax v := by
    unfold rowMax
    show (0 : EReal) ≤ Finset.fold max _ _ _
    rw [Finset.le_fold_max]
    refine Or.inr ⟨0, Finset.mem_univ _, ?_⟩
    show (0 : EReal) ≤ max (v 0) (-(v 0))
    rcases le_total 0 (v 0) with h | h
    · exact le_max_of_le_left h
    · exact le_max_of_le_right (by simpa using EReal.neg_le_neg_iff.mpr h)
  have hne : rowMax v ≠ ⊤ := fun e => by rw [e] at hup; exact absurd hup (not_le.mpr (EReal.coe_lt_top B))
  have hnb : rowMax v ≠ ⊥ := fun e => by rw [e] at hlo; exact absurd hlo (not_le.mpr EReal.bot_lt_zero)
  have he : rowMax v = ((rowMax v).toReal : EReal) := (EReal.coe_toReal hne hnb).symm
  refine ⟨(rowMax v).toReal, he, ?_, ?_⟩
  · rw [he] at hlo; exact_mod_cast hlo
  · rw [he] at hup; exact (EReal.coe_le_coe_iff.mp hup).trans hB1

end Cert.Proof.Expo
-- ==== Proof.KernelIdeal.Quant.lean ====
/-
  The kernel's quantising terms at an index over the reals.
-/
module

public import proofs.«01_k».proof.Proof.KernelIdeal.Good
public import proofs.«01_k».proof.Proof.Row
public import Idealize.ShloMosaic.Lib.ValueLayoutCasts
public import Idealize.ShloMosaic.Lib.Pointwise.Reduce

@[expose] public section

set_option maxRecDepth 65536

noncomputable section

namespace Cert.Proof.KernelIdeal

open Cert.KernelIdeal Cert.KernelIdeal.Gen Cert.Proof.Expo
open Idealize.ShloMosaic hiding ix1 ix2 ix3
open Idealize.ShloMosaic.ValueIdx

/-- Row `b` of the activations. -/
def row (xf : S3x7168.Idx → Ideal .bf16) (b : Fin 3) (i : Fin 7168) : EReal := xf (ix2 (n0 := 3) (n1 := 7168) b i)

theorem pay1_apply (xf : S3x7168.Idx → Ideal .bf16) (b : Fin 3) (i : Fin 7168) :
    k0_pay1 (F := Ideal) xf (ix2 (n0 := 8) (n1 := 7168) ⟨b.val, by omega⟩ i) = row xf b i := by
  unfold k0_pay1
  exact concatenate_pair_apply_left (t := S8x7168) (s₁ := S3x7168) (s₂ := S5x7168) 0 _ _ _ _ rfl (ix2 (n0 := 3) (n1 := 7168) b i)
    (fun a => match a with | ⟨0, _⟩ => rfl | ⟨1, _⟩ => rfl)

def amaxK (xf : S3x7168.Idx → Ideal .bf16) : FVec Ideal S8x1 .f32 :=
  shapeCast S8x1 (multiReduction .maximumf [1] S8 (absf (k0_pay1 (F := Ideal) xf)) 0xFF800000#32 reduces_S8x7168_S8 (.inl rfl) rfl) shapeCasts_S8_S8x1

theorem amaxK_apply (xf : S3x7168.Idx → Ideal .bf16) (b : Fin 3) :
    amaxK xf (ix2 (n0 := 8) (n1 := 1) ⟨b.val, by omega⟩ 0) = rowMax (row xf b) := by
  unfold amaxK
  refine (shapeCast_a_a1_apply (a := 8) _ _ _ _).trans ?_
  refine (multiReduction_maximumf_eq_fold _ _ _ _ _ _).trans ?_
  refine (Shape.Reduces.fold_fiber_r2_a1 (n0 := 8) (n1 := 7168) _ _ _ _ _).trans ?_
  unfold rowMax
  refine Finset.fold_congr fun i _ => ?_
  show FloatOps.absf (k0_pay1 (F := Ideal) xf (ix2 (n0 := 8) (n1 := 7168) ⟨b.val, by omega⟩ i)) = _
  rw [pay1_apply]

def fieldSrc (M : FVec Ideal S8x1 .f32) : IVec S8x256 32 :=
  select (cmpf .oge (broadcastTo S8x256 (mulf M (broadcast S8x1 (Scalar.ofBits .f32 0x3B124925#32))) broadcasts_S8x1_S8x256)
      (bitcastToFloat .f32 (shli (addi (subi (iota .tc S8x256 32 [1] iota_S8x256_d1_w32) (broadcast S8x256 127#32)) (broadcast S8x256 127#32)) (broadcast S8x256 23#32))))
    (iota .tc S8x256 32 [1] iota_S8x256_d1_w32) (broadcast S8x256 0#32)

theorem fieldSrc_apply (M : FVec Ideal S8x1 .f32) (r : Fin 8) (k : Fin 256) :
    fieldSrc M (ix2 (n0 := 8) (n1 := 256) r k) = entry (scaled (M (ix2 (n0 := 8) (n1 := 1) r 0))) k := by
  have hio : iota .tc S8x256 32 [1] iota_S8x256_d1_w32 (ix2 (n0 := 8) (n1 := 256) r k) = BitVec.ofNat 32 k.val := iota_single_apply _ _ _ _ _ _
  have hb : broadcastTo S8x256 (mulf M (broadcast S8x1 (Scalar.ofBits .f32 0x3B124925#32))) broadcasts_S8x1_S8x256 (ix2 (n0 := 8) (n1 := 256) r k)
      = scaled (M (ix2 (n0 := 8) (n1 := 1) r 0)) :=
    broadcastTo_apply _ _ _ (ix2 (n0 := 8) (n1 := 1) r 0) (fun a => match a with | ⟨0, _⟩ => rfl | ⟨1, _⟩ => rfl)
  have hw : IntOp.addi (IntOp.subi (BitVec.ofNat 32 k.val) 127#32) 127#32 = BitVec.ofNat 32 k.val := by
    unfold IntOp.addi IntOp.subi
    exact BitVec.sub_add_cancel _ _
  unfold fieldSrc
  show Scalar.select (FloatOps.cmpf .oge (broadcastTo S8x256 (mulf M (broadcast S8x1 (Scalar.ofBits .f32 0x3B124925#32))) broadcasts_S8x1_S8x256 (ix2 (n0 := 8) (n1 := 256) r k))
    (FloatOps.ofBits .f32 (IntOp.shli .vector (IntOp.addi (IntOp.subi (iota .tc S8x256 32 [1] iota_S8x256_d1_w32 (ix2 (n0 := 8) (n1 := 256) r k)) 127#32) 127#32) 23#32)))
    (iota .tc S8x256 32 [1] iota_S8x256_d1_w32 (ix2 (n0 := 8) (n1 := 256) r k)) 0#32 = _
  rw [hb, hio, hw]
  rfl

def fieldK (M : FVec Ideal S8x1 .f32) : IVec S8x1 32 :=
  shapeCast S8x1 (multiReductionI .maxsi [1] S8 (fieldSrc M) 2147483648#32 reduces_S8x256_S8 rfl) shapeCasts_S8_S8x1

theorem fieldK_apply (M : FVec Ideal S8x1 .f32) (r : Fin 8) :
    fieldK M (ix2 (n0 := 8) (n1 := 1) r 0)
      = (Finset.univ : Finset (Fin 256)).fold IntOp.maxsi 2147483648#32 (entry (scaled (M (ix2 (n0 := 8) (n1 := 1) r 0)))) := by
  unfold fieldK
  refine (shapeCast_a_a1_apply (a := 8) _ _ _ _).trans ?_
  refine (multiReductionI_eq_fold _ _ _ _ _ _).trans ?_
  refine (Shape.Reduces.fold_fiber_r2_a1 (n0 := 8) (n1 := 256) _ _ _ _ _).trans ?_
  exact Finset.fold_congr fun k _ => fieldSrc_apply M r k

theorem pay2_apply (xf : S3x7168.Idx → Ideal .bf16) (b : Fin 3) :
    k0_pay2 (F := Ideal) xf (ix2 (n0 := 8) (n1 := 1) ⟨b.val, by omega⟩ 0) = kexp (rowMax (row xf b)) := by
  have e : k0_pay2 (F := Ideal) xf (ix2 (n0 := 8) (n1 := 1) ⟨b.val, by omega⟩ 0)
      = kword (amaxK xf (ix2 (n0 := 8) (n1 := 1) ⟨b.val, by omega⟩ 0)) (fieldK (amaxK xf) (ix2 (n0 := 8) (n1 := 1) ⟨b.val, by omega⟩ 0)) := rfl
  rw [e, fieldK_apply, amaxK_apply]
  rfl

theorem pay7_apply (W : IVec S8x1 32) (r : Fin 8) (l : Fin 128) :
    k0_pay7 (F := Ideal) W (ix2 (n0 := 8) (n1 := 128) r l)
      = FloatOps.ofBits .f32 (IntOp.shli .vector (IntOp.addi (W (ix2 (n0 := 8) (n1 := 1) r 0)) 127#32) 23#32) := by
  unfold k0_pay7
  rw [shapeCast_self, shapeCast_self]
  exact broadcastTo_apply _ _ _ (ix2 (n0 := 8) (n1 := 1) r 0) (fun a => match a with | ⟨0, _⟩ => rfl | ⟨1, _⟩ => rfl)

theorem pay9_apply (W : IVec S8x1 32) (r : Fin 8) (l : Fin 128) :
    k0_pay9 (F := Ideal) W (ix2 (n0 := 8) (n1 := 128) r l)
      = FloatOps.ofBits .f32 (IntOp.shli .vector (IntOp.addi (W (ix2 (n0 := 8) (n1 := 1) r 0)) 127#32) 23#32) := by
  unfold k0_pay9
  rw [shapeCast_self]
  exact broadcastTo_apply _ _ _ (ix2 (n0 := 8) (n1 := 1) r 0) (fun a => match a with | ⟨0, _⟩ => rfl | ⟨1, _⟩ => rfl)

theorem pay5_apply (x : FVec Ideal S8x7168 .f32) (W V : IVec S8x1 32) (r : Fin 8) (i : Fin 7168) :
    k0_pay5 (F := Ideal) x W V (ix2 (n0 := 32) (n1 := 7168) ⟨r.val, by omega⟩ i)
      = quant (x (ix2 (n0 := 8) (n1 := 7168) r i)) (FloatOps.ofBits (F := Ideal) .f32
          (IntOp.shli .vector (IntOp.addi (W (ix2 (n0 := 8) (n1 := 1) r 0)) (V (ix2 (n0 := 8) (n1 := 1) r 0))) 23#32)) := by
  have hb : ∀ z : FVec Ideal S8x1 .f32, broadcastTo S8x7168 z broadcasts_S8x1_S8x7168 (ix2 (n0 := 8) (n1 := 7168) r i) = z (ix2 (n0 := 8) (n1 := 1) r 0) := fun z =>
    broadcastTo_apply _ _ _ (ix2 (n0 := 8) (n1 := 1) r 0) (fun a => match a with | ⟨0, _⟩ => rfl | ⟨1, _⟩ => rfl)
  unfold k0_pay5
  rw [shapeCast_self]
  refine Eq.trans (concatenate_pair_apply_left (α := Ideal .f32) (t := S32x7168) (s₁ := S8x7168) (s₂ := S24x7168) 0 _ _ concatenates_S8x7168_S24x7168_S32x7168_d0 _ rfl (ix2 (n0 := 8) (n1 := 7168) r i)
    (fun a => match a with | ⟨0, _⟩ => rfl | ⟨1, _⟩ => rfl)) ?_
  unfold quant
  exact congrArg (fun z => FloatOps.minimumf (F := Ideal) (φ := .f32) (Scalar.ofBits (F := Ideal) .f32 0x43E00000#32)
    (FloatOps.maximumf (F := Ideal) (φ := .f32) (Scalar.ofBits (F := Ideal) .f32 0xC3E00000#32) (FloatOps.mulf (F := Ideal) (φ := .f32) (x (ix2 (n0 := 8) (n1 := 7168) r i)) z))) (hb _)

theorem pay10_apply (v : FVec Ideal S8x128 .f32) (b : Fin 3) (u : Fin 1) :
    k0_pay10 (F := Ideal) k0_pay8 (FloatOps.ofBits .f32 0x00000000#32) v (ix2 (n0 := 1) (n1 := 3) u b)
      = v (ix2 (n0 := 8) (n1 := 128) ⟨b.val, by omega⟩ ⟨b.val, by omega⟩) := by
  have hi0 : ∀ (r : Fin 8) (l : Fin 128), iota .tc S8x128 32 [0] iota_S8x128_d0_w32 (ix2 (n0 := 8) (n1 := 128) r l) = BitVec.ofNat 32 r.val := fun r l => iota_single_apply _ _ _ _ _ _
  have hi1 : ∀ (r : Fin 8) (l : Fin 128), iota .tc S8x128 32 [1] iota_S8x128_d1_w32 (ix2 (n0 := 8) (n1 := 128) r l) = BitVec.ofNat 32 l.val := fun r l => iota_single_apply _ _ _ _ _ _
  unfold k0_pay10
  dsimp only
  rw [shapeCast_self]
  refine (extractStridedSlice_apply _ _ _ _ (ix2 (n0 := 1) (n1 := 128) 0 ⟨b.val, by omega⟩) (fun a => match a with
    | ⟨0, _⟩ => by show 0 = 0 + u.val; omega
    | ⟨1, _⟩ => by show b.val = 0 + b.val; omega)).trans ?_
  refine (shapeCast_a_1a_apply (a := 128) _ _ _ _).trans ?_
  refine (multiReduction_add_apply _ _ _ _ _ _).trans ?_
  refine (Ideal.reduceAdd_r2_a0 (n0 := 8) (n1 := 128) _ _ _).trans ?_
  have hs : ∀ k : Fin 8, select (k0_pay8) v (broadcast S8x128 (FloatOps.ofBits (F := Ideal) .f32 0x00000000#32)) (ix2 (n0 := 8) (n1 := 128) k ⟨b.val, by omega⟩)
      = if k = ⟨b.val, by omega⟩ then v (ix2 (n0 := 8) (n1 := 128) ⟨b.val, by omega⟩ ⟨b.val, by omega⟩) else (0 : EReal) := fun k => by
    show Scalar.select (IntOp.cmpi .eq (iota .tc S8x128 32 [0] iota_S8x128_d0_w32 (ix2 (n0 := 8) (n1 := 128) k ⟨b.val, by omega⟩))
      (iota .tc S8x128 32 [1] iota_S8x128_d1_w32 (ix2 (n0 := 8) (n1 := 128) k ⟨b.val, by omega⟩))) (v (ix2 (n0 := 8) (n1 := 128) k ⟨b.val, by omega⟩)) (FloatOps.ofBits (F := Ideal) .f32 0x00000000#32) = _
    rw [hi0, hi1]
    by_cases h : k = ⟨b.val, by omega⟩
    · rw [if_pos h, h]
      show Scalar.select (BitVec.ofBool (_ == _)) _ _ = _
      rw [beq_self_eq_true]
      rfl
    · rw [if_neg h]
      have hne : (BitVec.ofNat 32 k.val == BitVec.ofNat 32 b.val) = false := by
        rw [beq_eq_false_iff_ne]
        intro e
        have := congrArg BitVec.toNat e
        simp only [BitVec.toNat_ofNat] at this
        exact h (Fin.ext (by have := k.isLt; have := b.isLt; show k.val = b.val; omega))
      show Scalar.select (BitVec.ofBool (_ == _)) _ _ = _
      rw [hne]
      exact c_zero
  refine (Finset.sum_congr rfl fun k _ => hs k).trans ?_
  rw [Finset.sum_ite_eq' Finset.univ _ _, if_pos (Finset.mem_univ _)]

/-! ## The results' values -/

section
variable {c : Dev nD} (f0 : Bf (F := Ideal) c main_v0)

/-- Every activation finite. -/
def Fin3 : Prop := ∀ b i, FloatOps.absf (F := Ideal) (φ := .f32) (row (xin f0) b i) ≤ (Scalar.ofBits (F := Ideal) .f32 0x7F7F0000#32 : EReal)

variable (hf : Fin3 f0)
include hf

theorem scOf_apply (b : Fin 3) (l : Fin 128) :
    scOf f0 (ix2 (n0 := 8) (n1 := 128) ⟨b.val, by omega⟩ l) = scl (rowMax (row (xin f0) b)) := by
  unfold scOf
  rw [pay7_apply, pay2_apply]
  exact (row_exp _ (rowMax_real _ (hf b))).1

theorem xsOf_apply (b : Fin 3) (u : Fin 1) : xsOf f0 (ix2 (n0 := 1) (n1 := 3) u b) = scl (rowMax (row (xin f0) b)) := by
  unfold xsOf
  rw [pay10_apply, pay9_apply, pay2_apply]
  exact (row_exp _ (rowMax_real _ (hf b))).1

theorem xqOf_apply (b : Fin 3) (i : Fin 7168) :
    xqOf f0 (ix2 (n0 := 32) (n1 := 7168) ⟨b.val, by omega⟩ i) = quant (row (xin f0) b i) (inv (rowMax (row (xin f0) b))) := by
  unfold xqOf
  refine (pay5_apply _ _ _ ⟨b.val, by omega⟩ i).trans ?_
  rw [pay1_apply]
  refine congrArg (quant _) ?_
  rw [show k0_pay3 (F := Ideal) (xin f0) (ix2 (n0 := 8) (n1 := 1) ⟨b.val, by omega⟩ 0)
    = IntOp.subi 0#32 (k0_pay2 (F := Ideal) (xin f0) (ix2 (n0 := 8) (n1 := 1) ⟨b.val, by omega⟩ 0)) from rfl, pay2_apply]
  exact (row_exp _ (rowMax_real _ (hf b))).2

end

end Cert.Proof.KernelIdeal
-- ==== Proof.RefVal.lean ====
/-
  The reference's run: each result array as a function of the arguments, and each function at an index over the reals.
-/
module

public import proofs.«01_k».proof.Proof.Gen.ReferenceIdeal.Frame
public import proofs.«01_k».proof.Proof.Row
public import Idealize.ShloMosaic.Lib.Pipeline.Value
public import Idealize.ShloMosaic.Lib.ValueIdxCore
public import Idealize.ShloMosaic.Lib.ValueLayout
public import Idealize.ShloMosaic.Lib.ValueLayoutCasts
public import Idealize.ShloMosaic.Lib.MatmulPlain
public import Idealize.ShloMosaic.Lib.Pointwise.Reduce
public import Idealize.ShloMosaic.Lib.StableHlo.Run
public import Idealize.ShloMosaic.Lib.Routing.Words
public import Idealize.ShloMosaic.Lib.WordCmp

@[expose] public section

set_option maxRecDepth 65536

noncomputable section

namespace Cert.Proof.Ref

open Cert.ReferenceIdeal Cert.ReferenceIdeal.Gen Cert.Proof.Expo
open Idealize.ShloMosaic hiding ix1 ix2 ix3
open Idealize.ShloMosaic.TcCoe Idealize.SL.Sem Idealize.ShloMosaic.ValueIdx
open Idealize.ShloMosaic.Pipeline (Dat)

/-! ## The result arrays -/

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

theorem emb0 (t : Fin cfg0.N) (j : S3x7168.Idx) : ((cfg0.win 0).blk t).view.emb j = j := by
  funext a; apply Fin.ext
  match a with
  | ⟨0, _⟩ => show 0 * 3 + 1 * (j 0).val = (j 0).val; omega
  | ⟨1, _⟩ => show 0 * 7168 + 1 * (j 1).val = (j 1).val; omega
theorem iblk0_eq (c : Dev nD) (t : Fin cfg0.N) : iblk m c 0 t = V m c main_v6 := by
  funext j; show V m c main_v6 (((cfg0.win 0).blk t).view.emb j) = V m c main_v6 j; rw [emb0]

theorem emb1 (t : Fin cfg0.N) (j : S7168x32256.Idx) : ((cfg0.win 1).blk t).view.emb j = j := by
  funext a; apply Fin.ext
  match a with
  | ⟨0, _⟩ => show 0 * 7168 + 1 * (j 0).val = (j 0).val; omega
  | ⟨1, _⟩ => show 0 * 32256 + 1 * (j 1).val = (j 1).val; omega
theorem iblk1_eq (c : Dev nD) (t : Fin cfg0.N) : iblk m c 1 t = V m c main_arg1 := by
  funext j; show V m c main_arg1 (((cfg0.win 1).blk t).view.emb j) = V m c main_arg1 j; rw [emb1]

theorem emb2 (t : Fin cfg0.N) (j : S1x32256.Idx) : ((cfg0.win 2).blk t).view.emb j = j := by
  funext a; apply Fin.ext
  match a with
  | ⟨0, _⟩ => show 0 * 1 + 1 * (j 0).val = (j 0).val; omega
  | ⟨1, _⟩ => show 0 * 32256 + 1 * (j 1).val = (j 1).val; omega
theorem iblk2_eq (c : Dev nD) (t : Fin cfg0.N) : iblk m c 2 t = V m c main_v7 := by
  funext j; show V m c main_v7 (((cfg0.win 2).blk t).view.emb j) = V m c main_v7 j; rw [emb2]

theorem emb3 (t : Fin cfg0.N) (j : S3x32256.Idx) : ((cfg0.win 3).blk t).view.emb j = j := by
  funext a; apply Fin.ext
  match a with
  | ⟨0, _⟩ => show 0 * 3 + 1 * (j 0).val = (j 0).val; omega
  | ⟨1, _⟩ => show 0 * 32256 + 1 * (j 1).val = (j 1).val; omega
theorem iblk3_eq (c : Dev nD) (t : Fin cfg0.N) : iblk m c 3 t = V m c main_v8 := by
  funext j; show V m c main_v8 (((cfg0.win 3).blk t).view.emb j) = V m c main_v8 j; rw [emb3]

theorem emb4 (t : Fin cfg0.N) (j : S3x1x32256.Idx) : ((cfg0.win 4).blk t).view.emb j = j := by
  funext a; apply Fin.ext
  match a with
  | ⟨0, _⟩ => show 0 * 3 + 1 * (j 0).val = (j 0).val; omega
  | ⟨1, _⟩ => show 0 * 1 + 1 * (j 1).val = (j 1).val; omega
  | ⟨2, _⟩ => show 0 * 32256 + 1 * (j 2).val = (j 2).val; omega
theorem cut4_eq (t : Fin cfg0.N) (X : Vec Ideal S3x1x32256 .f32) : (cfg0.win 4).cut (grid0.coords t) X = ((cfg0.win 4).blk t).view.read (Elt Ideal) X := by
  funext j
  show X j = X (((cfg0.win 4).blk t).view.emb j)
  rw [emb4]
theorem covered4 (i : S3x1x32256.Idx) : ∃ t : Fin cfg0.N, (cfg0.win 4).flush t = true ∧ i ∈ ((cfg0.win 4).blk t).view.set :=
  ⟨(⟨0, by decide⟩ : Fin cfg0.N), by decide, by
    have h := ((cfg0.win 4).blk (⟨0, by decide⟩ : Fin cfg0.N)).view.emb_mem_set i; rwa [emb4] at h⟩

theorem emb5 (t : Fin cfg0.N) (j : S3x1x8.Idx) : ((cfg0.win 5).blk t).view.emb j = j := by
  funext a; apply Fin.ext
  match a with
  | ⟨0, _⟩ => show 0 * 3 + 1 * (j 0).val = (j 0).val; omega
  | ⟨1, _⟩ => show 0 * 1 + 1 * (j 1).val = (j 1).val; omega
  | ⟨2, _⟩ => show 0 * 8 + 1 * (j 2).val = (j 2).val; omega
theorem cut5_eq (t : Fin cfg0.N) (X : Vec Ideal S3x1x8 .f32) : (cfg0.win 5).cut (grid0.coords t) X = ((cfg0.win 5).blk t).view.read (Elt Ideal) X := by
  funext j
  show X j = X (((cfg0.win 5).blk t).view.emb j)
  rw [emb5]
theorem covered5 (i : S3x1x8.Idx) : ∃ t : Fin cfg0.N, (cfg0.win 5).flush t = true ∧ i ∈ ((cfg0.win 5).blk t).view.set :=
  ⟨(⟨0, by decide⟩ : Fin cfg0.N), by decide, by
    have h := ((cfg0.win 5).blk (⟨0, by decide⟩ : Fin cfg0.N)).view.emb_mem_set i; rwa [emb5] at h⟩

theorem emb6 (t : Fin cfg0.N) (j : S3x7168.Idx) : ((cfg0.win 6).blk t).view.emb j = j := by
  funext a; apply Fin.ext
  match a with
  | ⟨0, _⟩ => show 0 * 3 + 1 * (j 0).val = (j 0).val; omega
  | ⟨1, _⟩ => show 0 * 7168 + 1 * (j 1).val = (j 1).val; omega
theorem cut6_eq (t : Fin cfg0.N) (X : Vec Ideal S3x7168 .fp8e4m3) : (cfg0.win 6).cut (grid0.coords t) X = ((cfg0.win 6).blk t).view.read (Elt Ideal) X := by
  funext j
  show X j = X (((cfg0.win 6).blk t).view.emb j)
  rw [emb6]
theorem covered6 (i : S3x7168.Idx) : ∃ t : Fin cfg0.N, (cfg0.win 6).flush t = true ∧ i ∈ ((cfg0.win 6).blk t).view.set :=
  ⟨(⟨0, by decide⟩ : Fin cfg0.N), by decide, by
    have h := ((cfg0.win 6).blk (⟨0, by decide⟩ : Fin cfg0.N)).view.emb_mem_set i; rwa [emb6] at h⟩

theorem emb7 (t : Fin cfg0.N) (j : S1x3.Idx) : ((cfg0.win 7).blk t).view.emb j = j := by
  funext a; apply Fin.ext
  match a with
  | ⟨0, _⟩ => show 0 * 1 + 1 * (j 0).val = (j 0).val; omega
  | ⟨1, _⟩ => show 0 * 3 + 1 * (j 1).val = (j 1).val; omega
theorem cut7_eq (t : Fin cfg0.N) (X : Vec Ideal S1x3 .f32) : (cfg0.win 7).cut (grid0.coords t) X = ((cfg0.win 7).blk t).view.read (Elt Ideal) X := by
  funext j
  show X j = X (((cfg0.win 7).blk t).view.emb j)
  rw [emb7]
theorem covered7 (i : S1x3.Idx) : ∃ t : Fin cfg0.N, (cfg0.win 7).flush t = true ∧ i ∈ ((cfg0.win 7).blk t).view.set :=
  ⟨(⟨0, by decide⟩ : Fin cfg0.N), by decide, by
    have h := ((cfg0.win 7).blk (⟨0, by decide⟩ : Fin cfg0.N)).view.emb_mem_set i; rwa [emb7] at h⟩

abbrev X0 (c : Dev nD) : S3x7168.Idx → Ideal .bf16 := V m c main_v6
abbrev R4 (c : Dev nD) : S3x1x32256.Idx → Ideal .f32 := k0_pay2 (F := Ideal) (k0_pay8 (V m c main_v6) (V m c main_arg1) (V m c main_v7)) (V m c main_v8)
abbrev R5 (c : Dev nD) : S3x1x8.Idx → Ideal .f32 := k0_pay3 (F := Ideal) (k0_pay8 (V m c main_v6) (V m c main_arg1) (V m c main_v7)) (V m c main_v8)
abbrev R6 (c : Dev nD) : S3x7168.Idx → Ideal .fp8e4m3 := k0_pay6 (F := Ideal) (V m c main_v6)
abbrev R7 (c : Dev nD) : S1x3.Idx → Ideal .f32 := k0_pay9 (F := Ideal) (V m c main_v6)

theorem out4_eq (x0 : Vec Ideal S3x7168 .bf16) (x1 : Vec Ideal S7168x32256 .fp8e4m3) (x2 : Vec Ideal S1x32256 .f32) (x3 : Vec Ideal S3x32256 .i32) :
    out0_4 x0 x1 x2 x3 = k0_pay2 (k0_pay8 x0 x1 x2) x3 := by
  unfold out0_4 k0_pay10
  rw [View.canon_unit_zero (S := S3x1x32256) hz3, View.ld_unit_zero (S := S3x7168) hz2, View.ld_unit_zero (S := S7168x32256) hz2,
    View.ld_unit_zero (S := S1x32256) hz2, View.ld_unit_zero (S := S3x32256) hz2]
theorem out5_eq (x0 : Vec Ideal S3x7168 .bf16) (x1 : Vec Ideal S7168x32256 .fp8e4m3) (x2 : Vec Ideal S1x32256 .f32) (x3 : Vec Ideal S3x32256 .i32) :
    out0_5 x0 x1 x2 x3 = k0_pay3 (k0_pay8 x0 x1 x2) x3 := by
  unfold out0_5 k0_pay10
  rw [View.canon_unit_zero (S := S3x1x8) hz3, View.ld_unit_zero (S := S3x7168) hz2, View.ld_unit_zero (S := S7168x32256) hz2,
    View.ld_unit_zero (S := S1x32256) hz2, View.ld_unit_zero (S := S3x32256) hz2]
theorem out6_eq (x0 : Vec Ideal S3x7168 .bf16) (x1 : Vec Ideal S7168x32256 .fp8e4m3) (x2 : Vec Ideal S1x32256 .f32) (x3 : Vec Ideal S3x32256 .i32) :
    out0_6 x0 x1 x2 x3 = k0_pay6 x0 := by
  unfold out0_6
  rw [View.canon_unit_zero (S := S3x7168) hz2, View.ld_unit_zero (S := S3x7168) hz2]
theorem out7_eq (x0 : Vec Ideal S3x7168 .bf16) (x1 : Vec Ideal S7168x32256 .fp8e4m3) (x2 : Vec Ideal S1x32256 .f32) (x3 : Vec Ideal S3x32256 .i32) :
    out0_7 x0 x1 x2 x3 = k0_pay9 x0 := by
  unfold out0_7
  rw [View.canon_unit_zero (S := S1x3) hz2, View.ld_unit_zero (S := S3x7168) hz2]

theorem flushed4 (c : Dev nD) (t : Fin cfg0.N) : (dats m 0 c).flushed 4 t = ((cfg0.win 4).blk t).view.read (Elt Ideal) (R4 m c) := by
  show (cfg0.win 4).cut (grid0.coords t) ((dats m 0 c).after 4 t) = _
  rw [after0_4, out4_eq, iblk0_eq, iblk1_eq, iblk2_eq, iblk3_eq]
  exact cut4_eq t _
theorem final4 (c : Dev nD) : (dats m 0 c).arrAt 4 cfg0.N = R4 m c :=
  (dats m 0 c).arrAt_eq_of_cover 4 (R4 m c) (fun t _ => flushed4 m c t) covered4

theorem flushed5 (c : Dev nD) (t : Fin cfg0.N) : (dats m 0 c).flushed 5 t = ((cfg0.win 5).blk t).view.read (Elt Ideal) (R5 m c) := by
  show (cfg0.win 5).cut (grid0.coords t) ((dats m 0 c).after 5 t) = _
  rw [after0_5, out5_eq, iblk0_eq, iblk1_eq, iblk2_eq, iblk3_eq]
  exact cut5_eq t _
theorem final5 (c : Dev nD) : (dats m 0 c).arrAt 5 cfg0.N = R5 m c :=
  (dats m 0 c).arrAt_eq_of_cover 5 (R5 m c) (fun t _ => flushed5 m c t) covered5

theorem flushed6 (c : Dev nD) (t : Fin cfg0.N) : (dats m 0 c).flushed 6 t = ((cfg0.win 6).blk t).view.read (Elt Ideal) (R6 m c) := by
  show (cfg0.win 6).cut (grid0.coords t) ((dats m 0 c).after 6 t) = _
  rw [after0_6, out6_eq, iblk0_eq]
  exact cut6_eq t _
theorem final6 (c : Dev nD) : (dats m 0 c).arrAt 6 cfg0.N = R6 m c :=
  (dats m 0 c).arrAt_eq_of_cover 6 (R6 m c) (fun t _ => flushed6 m c t) covered6

theorem flushed7 (c : Dev nD) (t : Fin cfg0.N) : (dats m 0 c).flushed 7 t = ((cfg0.win 7).blk t).view.read (Elt Ideal) (R7 m c) := by
  show (cfg0.win 7).cut (grid0.coords t) ((dats m 0 c).after 7 t) = _
  rw [after0_7, out7_eq, iblk0_eq]
  exact cut7_eq t _
theorem final7 (c : Dev nD) : (dats m 0 c).arrAt 7 cfg0.N = R7 m c :=
  (dats m 0 c).arrAt_eq_of_cover 7 (R7 m c) (fun t _ => flushed7 m c t) covered7

/-- The run: each result array, the arguments unchanged. -/
theorem run : θ_run defs (onTc (τ := τ) (main (F := Ideal))) ⟨m, fun _ => 0, ρ⟩ fun r => ∀ c : Dev nD,
      r.2.mem ((c : Thread nD τ).loc main_v9_0) = R4 m c
      ∧ r.2.mem ((c : Thread nD τ).loc main_v9_1) = R5 m c
      ∧ r.2.mem ((c : Thread nD τ).loc main_v9_2) = R6 m c
      ∧ r.2.mem ((c : Thread nD τ).loc main_v9_3) = R7 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 4).trans (final4 m c), ((h c).1 5).trans (final5 m c), ((h c).1 6).trans (final6 m c), ((h c).1 7).trans (final7 m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

/-! ## What the host prepares -/

theorem V6 (c : Dev nD) (b : Fin 3) (i : Fin 7168) :
    V m c main_v6 (ix2 (n0 := 3) (n1 := 7168) b i) = m ((c : Thread nD τ).loc main_arg0) (ix3 (n0 := 3) (n1 := 1) (n2 := 7168) b 0 i) := by
  have e : V m c main_v6 = shapeCast S3x7168 (m ((c : Thread nD τ).loc main_arg0)) shapeCasts_S3x1x7168_S3x7168 := by
    show StableHlo.after hostOps0 _ (Proc.devRef .tc main_v6) = _
    after_results
    rfl
  rw [e]
  have hc : ∀ z : Vec Ideal S3x1x7168 .bf16, shapeCast S3x7168 z shapeCasts_S3x1x7168_S3x7168 (ix2 (n0 := 3) (n1 := 7168) b i)
      = z (ix3 (n0 := 3) (n1 := 1) (n2 := 7168) b 0 i) := fun z => shapeCast_apply _ _ _ _ (by
    rw [Shape.rowMajor_val_two, Shape.rowMajor_val_three]
    show (b.val * 1 + 0) * 7168 + i.val = b.val * 7168 + i.val
    omega)
  exact hc _

theorem V7 (c : Dev nD) (n : Fin 32256) :
    V m c main_v7 (ix2 (n0 := 1) (n1 := 32256) 0 n) = m ((c : Thread nD τ).loc main_arg2) (ix1 (n := 32256) n) := by
  have e : V m c main_v7 = shapeCast S1x32256 (m ((c : Thread nD τ).loc main_arg2)) shapeCasts_S32256_S1x32256 := by
    show StableHlo.after hostOps0 _ (Proc.devRef .tc main_v7) = _
    after_results
    rfl
  rw [e]
  exact shapeCast_a_1a_apply (a := 32256) _ _ _ _

theorem V8 (c : Dev nD) (b : Fin 3) (n : Fin 32256) :
    V m c main_v8 (ix2 (n0 := 3) (n1 := 32256) b n)
      = IntOp.andi (IntOp.shrsi .host (m ((c : Thread nD τ).loc main_arg3) (ix2 (n0 := 3) (n1 := 1008) b ⟨n.val / 32, by omega⟩)) (BitVec.ofNat 32 (n.val % 32))) 1#32 := by
  have e : V m c main_v8 = shapeCast S3x32256 (andi (Host.shrsi (broadcastInDim S3x1008x32 ![0, 1, 2] bcast_S3x1008x1_S3x1008x32_0_1_2
      (broadcastInDim S3x1008x1 ![0, 1] bcast_S3x1008_S3x1008x1_0_1 (m ((c : Thread nD τ).loc main_arg3)))) (iotaInDim S3x1008x32 32 2))
      (broadcastInDim S3x1008x32 ![] bcast_S_S3x1008x32 (constantI S_ 32 1#32))) shapeCasts_S3x1008x32_S3x32256 := by
    show StableHlo.after hostOps0 _ (Proc.devRef .tc main_v8) = _
    after_results
    rfl
  rw [e]
  refine (shapeCast_apply _ _ _ (ix3 (n0 := 3) (n1 := 1008) (n2 := 32) b ⟨n.val / 32, by omega⟩ ⟨n.val % 32, by omega⟩) (by
    rw [Shape.rowMajor_val_two, Shape.rowMajor_val_three]
    show (b.val * 1008 + n.val / 32) * 32 + n.val % 32 = b.val * 32256 + n.val
    omega)).trans ?_
  refine congrArg (fun z => IntOp.andi (IntOp.shrsi .host z (BitVec.ofNat 32 (n.val % 32))) 1#32) ?_
  refine (broadcastInDim_apply _ _ _ _ (ix3 (n0 := 3) (n1 := 1008) (n2 := 1) b ⟨n.val / 32, by omega⟩ 0) (fun a => match a with
    | ⟨0, _⟩ => rfl | ⟨1, _⟩ => rfl | ⟨2, _⟩ => rfl)).trans ?_
  exact broadcastInDim_apply _ _ _ _ (ix2 (n0 := 3) (n1 := 1008) b ⟨n.val / 32, by omega⟩) (fun a => match a with
    | ⟨0, _⟩ => rfl | ⟨1, _⟩ => rfl)

/-! ## The result arrays at an index -/

/-- Row `b` of the activations. -/
def row (xf : S3x7168.Idx → Ideal .bf16) (b : Fin 3) (i : Fin 7168) : EReal := xf (ix2 (n0 := 3) (n1 := 7168) b i)

theorem pay4_eq (x : S3x7168.Idx → Ideal .bf16) (b : Fin 3) (i : Fin 7168) : k0_pay4 (F := Ideal) x (ix2 (n0 := 3) (n1 := 7168) b i) = row x b i := by
  unfold k0_pay4
  rw [shapeCast_self]
  rfl

def amax (x : S3x7168.Idx → Ideal .bf16) : FVec Ideal S3x1 .f32 :=
  shapeCast S3x1 (multiReduction .maximumf [1] S3 (absf (k0_pay4 (F := Ideal) x)) 0xFF800000#32 reduces_S3x7168_S3 (.inl rfl) rfl) shapeCasts_S3_S3x1

theorem amax_apply (x : S3x7168.Idx → Ideal .bf16) (b : Fin 3) : amax x (ix2 (n0 := 3) (n1 := 1) b 0) = rowMax (row x b) := by
  unfold amax
  refine (shapeCast_a_a1_apply (a := 3) _ _ _ _).trans ?_
  refine (multiReduction_maximumf_eq_fold _ _ _ _ _ _).trans ?_
  refine (Shape.Reduces.fold_fiber_r2_a1 (n0 := 3) (n1 := 7168) _ _ _ _ _).trans ?_
  unfold rowMax
  refine Finset.fold_congr fun i _ => ?_
  show FloatOps.absf (k0_pay4 (F := Ideal) x (ix2 (n0 := 3) (n1 := 7168) b i)) = _
  rw [pay4_eq]

theorem pay5_apply (x : S3x7168.Idx → Ideal .bf16) (b : Fin 3) :
    k0_pay5 (F := Ideal) x (ix2 (n0 := 3) (n1 := 1) b 0) = rexp (scaled (rowMax (row x b))) := by
  have e : k0_pay5 (F := Ideal) x (ix2 (n0 := 3) (n1 := 1) b 0) = rexp (scaled (amax x (ix2 (n0 := 3) (n1 := 1) b 0))) := rfl
  rw [e, amax_apply]

theorem pay7_apply (x : S3x7168.Idx → Ideal .bf16) (b : Fin 3) : k0_pay7 (F := Ideal) x (ix2 (n0 := 3) (n1 := 1) b 0) = scl (rowMax (row x b)) := by
  show FloatOps.exp2 (F := Ideal) (φ := .f32) (k0_pay5 (F := Ideal) x (ix2 (n0 := 3) (n1 := 1) b 0)) = _
  rw [pay5_apply]
  rfl

theorem pay9_apply (x : S3x7168.Idx → Ideal .bf16) (b : Fin 3) (u : Fin 1) : k0_pay9 (F := Ideal) x (ix2 (n0 := 1) (n1 := 3) u b) = scl (rowMax (row x b)) := by
  unfold k0_pay9
  refine (shapeCast_apply _ _ _ (ix2 (n0 := 3) (n1 := 1) b 0) (by
    rw [Shape.rowMajor_val_two, Shape.rowMajor_val_two]
    show b.val * 1 + 0 = u.val * 3 + b.val
    omega)).trans ?_
  exact pay7_apply x b

theorem pay6_apply (x : S3x7168.Idx → Ideal .bf16) (b : Fin 3) (i : Fin 7168) :
    k0_pay6 (F := Ideal) x (ix2 (n0 := 3) (n1 := 7168) b i) = quant (row x b i) (inv (rowMax (row x b))) := by
  have hb : ∀ z : FVec Ideal S3x1 .f32, broadcastTo S3x7168 z broadcasts_S3x1_S3x7168 (ix2 (n0 := 3) (n1 := 7168) b i) = z (ix2 (n0 := 3) (n1 := 1) b 0) := fun z =>
    broadcastTo_apply _ _ _ (ix2 (n0 := 3) (n1 := 1) b 0) (fun a => match a with | ⟨0, _⟩ => rfl | ⟨1, _⟩ => rfl)
  show quant (k0_pay4 (F := Ideal) x (ix2 (n0 := 3) (n1 := 7168) b i)) (broadcastTo S3x7168 (exp2 (subf (broadcast S3x1 (Scalar.ofBits (F := Ideal) .f32 0x00000000#32)) (k0_pay5 (F := Ideal) x)))
    broadcasts_S3x1_S3x7168 (ix2 (n0 := 3) (n1 := 7168) b i)) = _
  rw [hb, pay4_eq]
  refine congrArg (quant _) ?_
  show FloatOps.exp2 (F := Ideal) (φ := .f32) (FloatOps.subf (F := Ideal) (φ := .f32) (Scalar.ofBits (F := Ideal) .f32 0x00000000#32) (k0_pay5 (F := Ideal) x (ix2 (n0 := 3) (n1 := 1) b 0))) = _
  rw [pay5_apply]
  rfl

theorem pay8_apply (x : S3x7168.Idx → Ideal .bf16) (w : S7168x32256.Idx → Ideal .fp8e4m3) (s : S1x32256.Idx → Ideal .f32) (b : Fin 3) (n : Fin 32256) :
    k0_pay8 (F := Ideal) x w s (ix2 (n0 := 3) (n1 := 32256) b n)
      = FloatOps.mulf (F := Ideal) (φ := .f32) (FloatOps.mulf (F := Ideal) (φ := .f32)
          (∑ i : Fin 7168, quant (row x b i) (inv (rowMax (row x b))) * w (ix2 (n0 := 7168) (n1 := 32256) i n) : EReal) (scl (rowMax (row x b))))
          (s (ix2 (n0 := 1) (n1 := 32256) 0 n)) := by
  have hb : ∀ z : FVec Ideal S3x1 .f32, broadcastTo S3x32256 z broadcasts_S3x1_S3x32256 (ix2 (n0 := 3) (n1 := 32256) b n) = z (ix2 (n0 := 3) (n1 := 1) b 0) := fun z =>
    broadcastTo_apply _ _ _ (ix2 (n0 := 3) (n1 := 1) b 0) (fun a => match a with | ⟨0, _⟩ => rfl | ⟨1, _⟩ => rfl)
  have hs : ∀ z : FVec Ideal S1x32256 .f32, broadcastTo S3x32256 z broadcasts_S1x32256_S3x32256 (ix2 (n0 := 3) (n1 := 32256) b n) = z (ix2 (n0 := 1) (n1 := 32256) 0 n) := fun z =>
    broadcastTo_1b_ab_apply (a := 3) (b := 32256) _ _ _ _
  have hm : matmul dot_S3x7168_S7168x32256_S3x32256_1_0_0_1_n_n none (k0_pay6 (F := Ideal) x) w (constant S3x32256 .f32 0x00000000#32) (ix2 (n0 := 3) (n1 := 32256) b n)
      = (∑ i : Fin 7168, quant (row x b i) (inv (rowMax (row x b))) * w (ix2 (n0 := 7168) (n1 := 32256) i n) : EReal) := by
    refine (Ideal.matmul_plain_apply (M := 3) (K := 7168) (N := 32256) (φ₁ := .fp8e4m3) (φ₂ := .fp8e4m3) none _ _ _ _ _).trans ?_
    rw [show (constant (F := Ideal) S3x32256 .f32 0x00000000#32 (ix2 (n0 := 3) (n1 := 32256) b n) : EReal) = 0 from c_zero, zero_add]
    refine Finset.sum_congr rfl fun i _ => ?_
    rw [pay6_apply]
  unfold k0_pay8
  show FloatOps.mulf (F := Ideal) (φ := .f32) (FloatOps.mulf (F := Ideal) (φ := .f32)
    (matmul dot_S3x7168_S7168x32256_S3x32256_1_0_0_1_n_n none (k0_pay6 (F := Ideal) x) w (constant S3x32256 .f32 0x00000000#32) (ix2 (n0 := 3) (n1 := 32256) b n))
    (broadcastTo S3x32256 (k0_pay7 (F := Ideal) x) broadcasts_S3x1_S3x32256 (ix2 (n0 := 3) (n1 := 32256) b n)))
    (broadcastTo S3x32256 (shapeCast S1x32256 s shapeCasts_S1x32256_S1x32256) broadcasts_S1x32256_S3x32256 (ix2 (n0 := 3) (n1 := 32256) b n)) = _
  rw [hm, hb, hs, shapeCast_self, pay7_apply]

theorem pay2_apply (v : FVec Ideal S3x32256 .f32) (a : Vec Ideal S3x32256 .i32) (b : Fin 3) (u : Fin 1) (n : Fin 32256) :
    k0_pay2 (F := Ideal) v a (ix3 (n0 := 3) (n1 := 1) (n2 := 32256) b u n)
      = Scalar.select (IntOp.cmpi .eq (a (ix2 (n0 := 3) (n1 := 32256) b n)) 1#32) (v (ix2 (n0 := 3) (n1 := 32256) b n)) (Scalar.ofBits (F := Ideal) .f32 0x00000000#32) := by
  unfold k0_pay2 k0_pay1
  rw [shapeCast_self]
  exact shapeCast_apply _ _ _ (ix2 (n0 := 3) (n1 := 32256) b n) (by
    rw [Shape.rowMajor_val_two, Shape.rowMajor_val_three]
    show b.val * 32256 + n.val = (b.val * 1 + u.val) * 32256 + n.val
    omega)

/-- A masked logit of the reference, minus infinity where the mask forbids. -/
def negR (v : FVec Ideal S3x32256 .f32) (a : Vec Ideal S3x32256 .i32) (b : Fin 3) (n : Fin 32256) : EReal :=
  Scalar.select (IntOp.cmpi .eq (a (ix2 (n0 := 3) (n1 := 32256) b n)) 1#32) (v (ix2 (n0 := 3) (n1 := 32256) b n)) (Scalar.ofBits (F := Ideal) .f32 0xFF800000#32)

/-- The chunk of a column, as words. -/
theorem chunk_word (n : Fin 32256) (ch : Fin 8) :
    IntOp.cmpi .eq (IntOp.divsi .vector (BitVec.ofNat 32 n.val) 4096#32) (BitVec.ofNat 32 ch.val) = if n.val / 4096 = ch.val then 1#1 else 0#1 := by
  rw [show (4096#32 : BitVec 32) = BitVec.ofNat 32 4096 from rfl, Idealize.ShloMosaic.Routing.divsi_word .vector (by omega) (by decide) (by decide), Idealize.ShloMosaic.WordCmp.cmpi_eq_ofNat (by omega) (by omega)]
  by_cases h : n.val / 4096 = ch.val
  · rw [if_pos h, decide_eq_true h]; rfl
  · rw [if_neg h, decide_eq_false h]; rfl

/-- The largest masked logit of a chunk. -/
def topR (v : FVec Ideal S3x32256 .f32) (a : Vec Ideal S3x32256 .i32) (b : Fin 3) (ch : Fin 8) : EReal :=
  (Finset.univ : Finset (Fin 32256)).fold (FloatOps.maximumf (F := Ideal) (φ := .f32)) (FloatOps.ofBits (F := Ideal) .f32 0xFF800000#32)
    (fun n => if n.val / 4096 = ch.val then negR v a b n else FloatOps.ofBits (F := Ideal) .f32 0xFF800000#32)

theorem pay3_apply (v : FVec Ideal S3x32256 .f32) (a : Vec Ideal S3x32256 .i32) (b : Fin 3) (u : Fin 1) (ch : Fin 8) :
    k0_pay3 (F := Ideal) v a (ix3 (n0 := 3) (n1 := 1) (n2 := 8) b u ch) = fin0 (topR v a b ch) := by
  unfold k0_pay3 k0_pay1
  rw [shapeCast_self, shapeCast_self]
  refine (shapeCast_apply _ _ _ (ix2 (n0 := 3) (n1 := 8) b ch) (by
    rw [Shape.rowMajor_val_two, Shape.rowMajor_val_three]
    show b.val * 8 + ch.val = (b.val * 1 + u.val) * 8 + ch.val
    omega)).trans ?_
  refine congrArg fin0 ?_
  refine (multiReduction_maximumf_eq_fold _ _ _ _ _ _).trans ?_
  refine (Shape.Reduces.fold_fiber_r3_a2 (n0 := 3) (n1 := 8) (n2 := 32256) _ _ _ _ _).trans ?_
  unfold topR
  refine Finset.fold_congr fun n _ => ?_
  have hb : ∀ z : FVec Ideal S3x1x32256 .f32, broadcastTo S3x8x32256 z broadcasts_S3x1x32256_S3x8x32256 (ix3 (n0 := 3) (n1 := 8) (n2 := 32256) b ch n)
      = z (ix3 (n0 := 3) (n1 := 1) (n2 := 32256) b 0 n) := fun z =>
    broadcastTo_apply _ _ _ (ix3 (n0 := 3) (n1 := 1) (n2 := 32256) b 0 n) (fun a => match a with | ⟨0, _⟩ => rfl | ⟨1, _⟩ => rfl | ⟨2, _⟩ => rfl)
  have hc : ∀ z : FVec Ideal S3x32256 .f32, shapeCast S3x1x32256 z shapeCasts_S3x32256_S3x1x32256 (ix3 (n0 := 3) (n1 := 1) (n2 := 32256) b 0 n)
      = z (ix2 (n0 := 3) (n1 := 32256) b n) := fun z => shapeCast_apply _ _ _ (ix2 (n0 := 3) (n1 := 32256) b n) (by
    rw [Shape.rowMajor_val_two, Shape.rowMajor_val_three]
    show b.val * 32256 + n.val = (b.val * 1 + 0) * 32256 + n.val
    omega)
  have h2 : iota .tc S3x8x32256 32 [2] iota_S3x8x32256_d2_w32 (ix3 (n0 := 3) (n1 := 8) (n2 := 32256) b ch n) = BitVec.ofNat 32 n.val := iota_single_apply _ _ _ _ _ _
  have h1 : iota .tc S3x8x32256 32 [1] iota_S3x8x32256_d1_w32 (ix3 (n0 := 3) (n1 := 8) (n2 := 32256) b ch n) = BitVec.ofNat 32 ch.val := iota_single_apply _ _ _ _ _ _
  show Scalar.select (IntOp.cmpi .eq (IntOp.divsi .vector (iota .tc S3x8x32256 32 [2] iota_S3x8x32256_d2_w32 (ix3 (n0 := 3) (n1 := 8) (n2 := 32256) b ch n)) 4096#32)
    (iota .tc S3x8x32256 32 [1] iota_S3x8x32256_d1_w32 (ix3 (n0 := 3) (n1 := 8) (n2 := 32256) b ch n)))
    (broadcastTo S3x8x32256 _ broadcasts_S3x1x32256_S3x8x32256 (ix3 (n0 := 3) (n1 := 8) (n2 := 32256) b ch n)) _ = _
  rw [h2, h1, chunk_word, hb, hc]
  by_cases h : n.val / 4096 = ch.val
  · rw [if_pos h, if_pos h]; rfl
  · rw [if_neg h, if_neg h]; rfl

end Cert.Proof.Ref
-- ==== Proof.Algebraic.lean ====
/-
  The kernel and the reference over the reals end with equal logits, chunk maxima, codes and scales.
-/
module

public import proofs.«01_k».proof.Defs
public import proofs.«01_k».proof.Proof.KernelIdeal.Launch
public import proofs.«01_k».proof.Proof.KernelIdeal.Raw
public import proofs.«01_k».proof.Proof.KernelIdeal.Quant
public import proofs.«01_k».proof.Proof.RefVal
public import proofs.«01_k».proof.Proof.Gen.Pre_inputs_finite
public import Idealize.ShloMosaic.Lib.ReduceAll
public import Idealize.ShloMosaic.Lib.KernelVsHost
public import Idealize.ShloMosaic.Lib.StableHlo.Run

@[expose] public section

set_option maxRecDepth 65536

noncomputable section

/-! ## The kernel's run -/

namespace Cert.Proof.KernelIdeal

open Cert.KernelIdeal Cert.KernelIdeal.Gen Cert.Proof.Expo
open Idealize.ShloMosaic hiding ix1 ix2 ix3 ix4
open Idealize.ShloMosaic.TcCoe Idealize.SL.Sem Idealize.ShloMosaic.ValueIdx

variable (m : (ℓ : Loc nD τ sig) → Buf (Elt Ideal) ℓ) (ρ : Dev nD → PrngReg)

/-- The masked logits the kernel ends with. -/
def logitsK (c : Dev nD) : S3x1x32256.Idx → Ideal .f32 := fun i =>
  outOf (F := Ideal) (c := c) (V m c main_v0) (V m c main_arg2) (V m c main_arg3) (V m c main_arg1) (i 0) (i 2)

/-- The maximum of a chunk's masked logits, from the lanes' running maxima. -/
def laneMax (c : Dev nD) (b : Fin 3) (ch : Fin 8) : EReal :=
  (Finset.univ : Finset (Fin 128)).fold (FloatOps.maximumf (F := Ideal) (φ := .f32)) (FloatOps.ofBits (F := Ideal) .f32 0xFF800000#32)
    (fun l => topOf (F := Ideal) (c := c) (V m c main_v0) (V m c main_arg2) (V m c main_arg3) (V m c main_arg1) 63 ch b l)

/-- The chunk maxima the kernel ends with. -/
def cmK (c : Dev nD) : S3x1x8.Idx → Ideal .f32 := fun i => fin0 (laneMax m c (i 0) (i 2))

theorem rowMax_apply (x : FVec Ideal S1x1x8x128 .f32) (r : Fin 8) :
    Cert.Proof.KernelIdeal.rowMax x (ix2 (n0 := 8) (n1 := 1) r 0)
      = (Finset.univ : Finset (Fin 128)).fold (FloatOps.maximumf (F := Ideal) (φ := .f32)) (FloatOps.ofBits (F := Ideal) .f32 0xFF800000#32)
          (fun l => x (ix4 (n0 := 1) (n1 := 1) (n2 := 8) (n3 := 128) 0 0 r l)) := by
  unfold Cert.Proof.KernelIdeal.rowMax
  refine (shapeCast_a_a1_apply (a := 8) _ _ _ _).trans ?_
  refine (multiReduction_maximumf_eq_fold _ _ _ _ _ _).trans ?_
  refine (Shape.Reduces.fold_fiber_r2_a1 (n0 := 8) (n1 := 128) _ _ _ _ _).trans ?_
  exact Finset.fold_congr fun l _ => cast_out x r l

theorem cmOf_val (c : Dev nD) (g20 : Bf Ideal c cc0_scratch8)
    (hS : Stat (F := Ideal) c 63 (V m c main_v0) (V m c main_arg2) (V m c main_arg3) (V m c main_arg1) g20) (b : Fin 3) (u : Fin 1) (ch : Fin 8) :
    cmOf (F := Ideal) (c := c) g20 (ix3 (n0 := 3) (n1 := 1) (n2 := 8) b u ch) = cmK m c (ix3 (n0 := 3) (n1 := 1) (n2 := 8) b u ch) := by
  show allMaxT (F := Ideal) (rdStat (c := c) g20) (ix2 (n0 := 8) (n1 := 128) ⟨b.val, by omega⟩ ⟨ch.val, by omega⟩) = fin0 (laneMax m c b ch)
  refine (allMaxT_apply _ ⟨b.val, by omega⟩ ch).trans ?_
  show fin0 (Cert.Proof.KernelIdeal.rowMax (rdStat (F := Ideal) (c := c) g20 ch) (ix2 (n0 := 8) (n1 := 1) ⟨b.val, by omega⟩ 0)) = _
  refine congrArg fin0 ((rowMax_apply _ _).trans ?_)
  unfold laneMax
  refine Finset.fold_congr fun l _ => ?_
  exact (readStat (F := Ideal) (c := c) ![ch.val, 0, 0, 0] ch rfl g20 _ _ l).trans (hS (by decide) ch b l)

theorem run_val : θ_run defs (onTc (τ := τ) (main (F := Ideal))) ⟨m, fun _ => 0, ρ⟩ (fun r => ∀ c : Dev nD,
      r.2.mem ((c.tc : Thread nD τ).loc main_v1_0) = logitsK m c
      ∧ r.2.mem ((c.tc : Thread nD τ).loc main_v1_3) = cmK m c
      ∧ r.2.mem ((c.tc : Thread nD τ).loc main_v1_5) = cdOf (F := Ideal) (c := c) (V m c main_v0)
      ∧ r.2.mem ((c.tc : Thread nD τ).loc main_v1_6) = xsOf (F := Ideal) (c := c) (V m c main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (run_main m ρ)
  obtain ⟨W, ⟨g16, g17, g18, g28, g29, g23, g20, hG, h5, h10, h11, hS, h8⟩, hW⟩ := h.1.2 c
  obtain ⟨-, -, -, e28, e29⟩ := hG.1 (by decide)
  refine ⟨?_, ?_, ?_, ?_,
    (h.1.1 c main_arg0 (Finset.mem_sdiff.mpr ⟨Pipeline.mem_restRefs_of main_arg0 (by decide) (by decide), by decide⟩)).trans (V_main_arg0 m c),
    (h.1.1 c main_arg1 (Finset.mem_sdiff.mpr ⟨Pipeline.mem_restRefs_of main_arg1 (by decide) (by decide), by decide⟩)).trans (V_main_arg1 m c),
    (h.1.1 c main_arg2 (Finset.mem_sdiff.mpr ⟨Pipeline.mem_restRefs_of main_arg2 (by decide) (by decide), by decide⟩)).trans (V_main_arg2 m c),
    (h.1.1 c main_arg3 (Finset.mem_sdiff.mpr ⟨Pipeline.mem_restRefs_of main_arg3 (by decide) (by decide), by decide⟩)).trans (V_main_arg3 m c),
    (h.1.1 c main_arg4 (Finset.mem_sdiff.mpr ⟨Pipeline.mem_restRefs_of main_arg4 (by decide) (by decide), by decide⟩)).trans (V_main_arg4 m c)⟩
  · refine (hW main_v1_0 (by decide)).trans (h5.trans ?_)
    funext i
    have hi : i = ix3 (n0 := 3) (n1 := 1) (n2 := 32256) (i 0) 0 (i 2) := by
      funext a
      match a with
      | ⟨0, _⟩ => rfl
      | ⟨1, _⟩ => exact Subsingleton.elim (α := Fin 1) _ _
      | ⟨2, _⟩ => rfl
    refine (congrArg g23 hi).trans ?_
    exact hG.2 (i 0) (i 2) (i 2).isLt
  · refine (hW main_v1_3 (by decide)).trans (h8.trans ?_)
    funext i
    have hi : i = ix3 (n0 := 3) (n1 := 1) (n2 := 8) (i 0) (i 1) (i 2) := by
      funext a
      match a with
      | ⟨0, _⟩ => rfl
      | ⟨1, _⟩ => rfl
      | ⟨2, _⟩ => rfl
    exact (congrArg (cmOf (F := Ideal) (c := c) g20) hi).trans ((cmOf_val m c g20 hS (i 0) (i 1) (i 2)).trans (congrArg (cmK m c) hi.symm))
  · refine (hW main_v1_5 (by decide)).trans (h10.trans ?_)
    rw [e28]
  · refine (hW main_v1_6 (by decide)).trans (h11.trans ?_)
    rw [e29]

theorem V0 (c : Dev nD) (b : Fin 3) (i : Fin 7168) :
    V m c main_v0 (ix2 (n0 := 3) (n1 := 7168) b i) = m ((c : Thread nD τ).loc main_arg0) (ix3 (n0 := 3) (n1 := 1) (n2 := 7168) b 0 i) := by
  have e : V m c main_v0 = shapeCast S3x7168 (m ((c : Thread nD τ).loc main_arg0)) shapeCasts_S3x1x7168_S3x7168 := by
    show StableHlo.after hostOps0 _ (Proc.devRef .tc main_v0) = _
    after_results
    rfl
  rw [e]
  have hc : ∀ z : Vec Ideal S3x1x7168 .bf16, shapeCast S3x7168 z shapeCasts_S3x1x7168_S3x7168 (ix2 (n0 := 3) (n1 := 7168) b i)
      = z (ix3 (n0 := 3) (n1 := 1) (n2 := 7168) b 0 i) := fun z => shapeCast_apply _ _ _ _ (by
    rw [Shape.rowMajor_val_two, Shape.rowMajor_val_three]
    show (b.val * 1 + 0) * 7168 + i.val = b.val * 7168 + i.val
    omega)
  exact hc _

end Cert.Proof.KernelIdeal

/-! ## The results agree -/

namespace Cert.Proof

open Cert.Proof.Expo
open Idealize.ShloMosaic hiding ix1 ix2 ix3 ix4
open Idealize.ShloMosaic.TcCoe Idealize.SL.Sem Idealize.ShloMosaic.ValueIdx

/-- What the precondition says of an activation. -/
theorem pre_abs (x : FVec Ideal (⟨3, ![3, 1, 7168]⟩ : Shape) .bf16) (w : FVec Ideal Cert.Pre_inputs_finite.S7168x32256 .fp8e4m3) (s : FVec Ideal Cert.Pre_inputs_finite.S32256 .f32)
    (p : IVec Cert.Pre_inputs_finite.S3x1008 32) (q : IVec Cert.Pre_inputs_finite.S3x1x40 32)
    (h : Cert.Pre_inputs_finite.fn (F := Ideal) x w s p q = (fun _ => 1#1)) (b : Fin 3) (i : Fin 7168) :
    FloatOps.absf (F := Ideal) (φ := .f32) (x (ix3 (n0 := 3) (n1 := 1) (n2 := 7168) b 0 i)) ≤ (Scalar.ofBits (F := Ideal) .f32 0x7F7F0000#32 : EReal) := by
  have h1 := congrFun h (fun a => a.elim0)
  have h2 := Host.reduce_andi_eq_one _ _ _ _ _ h1 (ix3 (n0 := 3) (n1 := 1) (n2 := 7168) b 0 i) (funext fun a => a.elim0)
  have h3 : FloatOps.cmpf (F := Ideal) (φ := .f32) .ole (FloatOps.absf (F := Ideal) (φ := .f32) (x (ix3 (n0 := 3) (n1 := 1) (n2 := 7168) b 0 i)))
      (Scalar.ofBits (F := Ideal) .f32 0x7F7F0000#32) = 1#1 := h2
  by_contra hn
  have h4 : FloatOps.cmpf (F := Ideal) (φ := .f32) .ole (FloatOps.absf (F := Ideal) (φ := .f32) (x (ix3 (n0 := 3) (n1 := 1) (n2 := 7168) b 0 i)))
      (Scalar.ofBits (F := Ideal) .f32 0x7F7F0000#32) = 0#1 := by
    show BitVec.ofBool (decide _) = 0#1
    rw [decide_eq_false hn]; rfl
  rw [h4] at h3
  exact absurd h3 (by decide)

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The two memories hold the same arguments on device `c`. -/
def Same : Prop :=
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)

variable (hs : Same m m' c)
  (hf : Cert.Proof.KernelIdeal.Fin3 (c := c) (Cert.KernelIdeal.Gen.V (F := Ideal) m c Cert.KernelIdeal.main_v0))

include hs in
theorem row_same (b : Fin 3) :
    Cert.Proof.Ref.row (Cert.ReferenceIdeal.Gen.V (F := Ideal) m' c Cert.ReferenceIdeal.main_v6) b
      = Cert.Proof.KernelIdeal.row (Cert.Proof.KernelIdeal.xin (F := Ideal) (c := c) (Cert.KernelIdeal.Gen.V (F := Ideal) m c Cert.KernelIdeal.main_v0)) b := by
  funext i
  refine (Cert.Proof.Ref.V6 m' c b i).trans ?_
  refine Eq.trans ?_ (Cert.Proof.KernelIdeal.V0 m c b i).symm
  exact congrFun hs.1 _

include hs hf in
theorem scales_same : Cert.Proof.Ref.R7 m' c = Cert.Proof.KernelIdeal.xsOf (F := Ideal) (c := c) (Cert.KernelIdeal.Gen.V (F := Ideal) m c Cert.KernelIdeal.main_v0) := by
  funext i
  obtain ⟨b, k, rfl⟩ : ∃ (b : Fin 1) (k : Fin 3), i = ix2 (n0 := 1) (n1 := 3) b k :=
    ⟨i 0, i 1, by
      funext a
      match a with
      | ⟨0, _⟩ => rfl
      | ⟨1, _⟩ => rfl⟩
  refine (Cert.Proof.Ref.pay9_apply _ k b).trans ?_
  rw [row_same m m' c hs]
  exact (Cert.Proof.KernelIdeal.xsOf_apply _ hf k b).symm

include hs hf in
theorem codes_same : Cert.Proof.Ref.R6 m' c = Cert.Proof.KernelIdeal.cdOf (F := Ideal) (c := c) (Cert.KernelIdeal.Gen.V (F := Ideal) m c Cert.KernelIdeal.main_v0) := by
  funext i
  obtain ⟨b, k, rfl⟩ : ∃ (b : Fin 3) (k : Fin 7168), i = ix2 (n0 := 3) (n1 := 7168) b k :=
    ⟨i 0, i 1, by
      funext a
      match a with
      | ⟨0, _⟩ => rfl
      | ⟨1, _⟩ => rfl⟩
  refine (Cert.Proof.Ref.pay6_apply _ b k).trans ?_
  rw [row_same m m' c hs]
  exact (Cert.Proof.KernelIdeal.xqOf_apply _ hf b k).symm

theorem bit_host (w : BitVec 32) (p : ℕ) :
    IntOp.cmpi .eq (IntOp.andi (IntOp.shrsi .host w (BitVec.ofNat 32 p)) 1#32) 1#32 = Cert.Proof.KernelIdeal.bit w p := by
  unfold Cert.Proof.KernelIdeal.bit
  rw [shrsi_unit .host .vector]

include hs hf in
theorem logits_same : Cert.Proof.Ref.R4 m' c = Cert.Proof.KernelIdeal.logitsK m c := by
  funext i
  obtain ⟨b, u, n, rfl⟩ : ∃ (b : Fin 3) (u : Fin 1) (n : Fin 32256), i = ix3 (n0 := 3) (n1 := 1) (n2 := 32256) b u n :=
    ⟨i 0, i 1, i 2, by
      funext a
      match a with
      | ⟨0, _⟩ => rfl
      | ⟨1, _⟩ => rfl
      | ⟨2, _⟩ => rfl⟩
  refine (Cert.Proof.Ref.pay2_apply _ _ b u n).trans ?_
  rw [Cert.Proof.Ref.pay8_apply, Cert.Proof.Ref.V7, Cert.Proof.Ref.V8, bit_host, row_same m m' c hs]
  show _ = Cert.Proof.KernelIdeal.outOf (F := Ideal) (c := c) _ _ _ _ b n
  unfold Cert.Proof.KernelIdeal.outOf
  rw [Cert.Proof.KernelIdeal.rawT_apply, Cert.Proof.KernelIdeal.scOf_apply _ hf, Cert.KernelIdeal.Gen.V_main_arg2, Cert.KernelIdeal.Gen.V_main_arg3,
    Cert.KernelIdeal.Gen.V_main_arg1, Cert.ReferenceIdeal.Gen.V_main_arg1]
  have hsum : (∑ i : Fin 7168, quant (Cert.Proof.KernelIdeal.row (Cert.Proof.KernelIdeal.xin (F := Ideal) (c := c) (Cert.KernelIdeal.Gen.V (F := Ideal) m c Cert.KernelIdeal.main_v0)) b i)
        (inv (rowMax (Cert.Proof.KernelIdeal.row (Cert.Proof.KernelIdeal.xin (F := Ideal) (c := c) (Cert.KernelIdeal.Gen.V (F := Ideal) m c Cert.KernelIdeal.main_v0)) b)))
        * m' ((c.tc : Thread Cert.ReferenceIdeal.nD Cert.ReferenceIdeal.τ).loc Cert.ReferenceIdeal.main_arg1) (ix2 (n0 := 7168) (n1 := 32256) i n) : EReal)
      = ∑ i : Fin 7168, Cert.Proof.KernelIdeal.xqOf (F := Ideal) (c := c) (Cert.KernelIdeal.Gen.V (F := Ideal) m c Cert.KernelIdeal.main_v0) (ix2 (n0 := 32) (n1 := 7168) ⟨b.val, by omega⟩ i)
          * Cert.Proof.KernelIdeal.wBlk (F := Ideal) (c := c) (m ((c.tc : Thread Cert.KernelIdeal.nD Cert.KernelIdeal.τ).loc Cert.KernelIdeal.main_arg1)) (n.val / 512)
              (ix2 (n0 := 7168) (n1 := 512) i ⟨n.val % 512, by omega⟩) := by
    refine Finset.sum_congr rfl fun i _ => ?_
    refine congrArg₂ (fun (y z : EReal) => y * z) (Cert.Proof.KernelIdeal.xqOf_apply _ hf b i).symm ?_
    refine (congrFun hs.2.1 _).trans ?_
    refine congrArg (m ((c.tc : Thread Cert.KernelIdeal.nD Cert.KernelIdeal.τ).loc Cert.KernelIdeal.main_arg1)) ?_
    refine congrArg (ix2 (n0 := 7168) (n1 := 32256) i) (Fin.ext ?_)
    show n.val = (512 * (n.val / 512) + n.val % 512) % 32256
    rw [Nat.div_add_mod, Nat.mod_eq_of_lt n.isLt]
  have h2 := congrFun hs.2.2.1 (ix1 (n := 32256) n)
  have h3 := congrFun hs.2.2.2.1 (ix2 (n0 := 3) (n1 := 1008) b ⟨n.val / 32, by omega⟩)
  rw [hsum]
  refine congrArg₂ (fun (w : BitVec 32) (s : EReal) => Scalar.select (Cert.Proof.KernelIdeal.bit w (n.val % 32))
    (FloatOps.mulf (F := Ideal) (φ := .f32) (FloatOps.mulf (F := Ideal) (φ := .f32) _ _) s) (Scalar.ofBits (F := Ideal) .f32 0x00000000#32)) h3 h2

include hs hf in
/-- The two masked logits agree. -/
theorem neg_same (b : Fin 3) (n : Fin 32256) :
    Cert.Proof.Ref.negR (Cert.ReferenceIdeal.Gen.k0_pay8 (F := Ideal) (Cert.ReferenceIdeal.Gen.V (F := Ideal) m' c Cert.ReferenceIdeal.main_v6) (Cert.ReferenceIdeal.Gen.V (F := Ideal) m' c Cert.ReferenceIdeal.main_arg1) (Cert.ReferenceIdeal.Gen.V (F := Ideal) m' c Cert.ReferenceIdeal.main_v7)) (Cert.ReferenceIdeal.Gen.V (F := Ideal) m' c Cert.ReferenceIdeal.main_v8) b n
      = Cert.Proof.KernelIdeal.negOf (F := Ideal) (c := c) (Cert.KernelIdeal.Gen.V (F := Ideal) m c Cert.KernelIdeal.main_v0) (Cert.KernelIdeal.Gen.V (F := Ideal) m c Cert.KernelIdeal.main_arg2) (Cert.KernelIdeal.Gen.V (F := Ideal) m c Cert.KernelIdeal.main_arg3) (Cert.KernelIdeal.Gen.V (F := Ideal) m c Cert.KernelIdeal.main_arg1) b n := by
  unfold Cert.Proof.Ref.negR
  rw [Cert.Proof.Ref.pay8_apply, Cert.Proof.Ref.V7, Cert.Proof.Ref.V8, bit_host, row_same m m' c hs]
  unfold Cert.Proof.KernelIdeal.negOf
  rw [Cert.Proof.KernelIdeal.rawT_apply, Cert.Proof.KernelIdeal.scOf_apply _ hf, Cert.KernelIdeal.Gen.V_main_arg2, Cert.KernelIdeal.Gen.V_main_arg3,
    Cert.KernelIdeal.Gen.V_main_arg1, Cert.ReferenceIdeal.Gen.V_main_arg1]
  have hsum : (∑ i : Fin 7168, quant (Cert.Proof.KernelIdeal.row (Cert.Proof.KernelIdeal.xin (F := Ideal) (c := c) (Cert.KernelIdeal.Gen.V (F := Ideal) m c Cert.KernelIdeal.main_v0)) b i)
        (inv (rowMax (Cert.Proof.KernelIdeal.row (Cert.Proof.KernelIdeal.xin (F := Ideal) (c := c) (Cert.KernelIdeal.Gen.V (F := Ideal) m c Cert.KernelIdeal.main_v0)) b)))
        * m' ((c.tc : Thread Cert.ReferenceIdeal.nD Cert.ReferenceIdeal.τ).loc Cert.ReferenceIdeal.main_arg1) (ix2 (n0 := 7168) (n1 := 32256) i n) : EReal)
      = ∑ i : Fin 7168, Cert.Proof.KernelIdeal.xqOf (F := Ideal) (c := c) (Cert.KernelIdeal.Gen.V (F := Ideal) m c Cert.KernelIdeal.main_v0) (ix2 (n0 := 32) (n1 := 7168) ⟨b.val, by omega⟩ i)
          * Cert.Proof.KernelIdeal.wBlk (F := Ideal) (c := c) (m ((c.tc : Thread Cert.KernelIdeal.nD Cert.KernelIdeal.τ).loc Cert.KernelIdeal.main_arg1)) (n.val / 512)
              (ix2 (n0 := 7168) (n1 := 512) i ⟨n.val % 512, by omega⟩) := by
    refine Finset.sum_congr rfl fun i _ => ?_
    refine congrArg₂ (fun (y z : EReal) => y * z) (Cert.Proof.KernelIdeal.xqOf_apply _ hf b i).symm ?_
    refine (congrFun hs.2.1 _).trans ?_
    refine congrArg (m ((c.tc : Thread Cert.KernelIdeal.nD Cert.KernelIdeal.τ).loc Cert.KernelIdeal.main_arg1)) ?_
    refine congrArg (ix2 (n0 := 7168) (n1 := 32256) i) (Fin.ext ?_)
    show n.val = (512 * (n.val / 512) + n.val % 512) % 32256
    rw [Nat.div_add_mod, Nat.mod_eq_of_lt n.isLt]
  have h2 := congrFun hs.2.2.1 (ix1 (n := 32256) n)
  have h3 := congrFun hs.2.2.2.1 (ix2 (n0 := 3) (n1 := 1008) b ⟨n.val / 32, by omega⟩)
  rw [hsum]
  refine congrArg₂ (fun (w : BitVec 32) (s : EReal) => Scalar.select (Cert.Proof.KernelIdeal.bit w (n.val % 32))
    (FloatOps.mulf (F := Ideal) (φ := .f32) (FloatOps.mulf (F := Ideal) (φ := .f32) _ _) s) (Scalar.ofBits (F := Ideal) .f32 0xFF800000#32)) h3 h2

/-- A lane's running maximum is at most `a` exactly when every logit of it so far is. -/
theorem topOf_le (f0 : Cert.Proof.KernelIdeal.Bf Ideal c Cert.KernelIdeal.main_v0) (f2 : Cert.Proof.KernelIdeal.Bf Ideal c Cert.KernelIdeal.main_arg2) (f3 : Cert.Proof.KernelIdeal.Bf Ideal c Cert.KernelIdeal.main_arg3) (fw : Cert.Proof.KernelIdeal.Bf Ideal c Cert.KernelIdeal.main_arg1)
    (ch : Fin 8) (b : Fin 3) (l : Fin 128) (a : EReal) : ∀ k : ℕ, (Cert.Proof.KernelIdeal.topOf (F := Ideal) f0 f2 f3 fw k ch b l : EReal) ≤ a
      ↔ ∀ k' < k, k' / 8 = ch.val → ∀ t < 4, (Cert.Proof.KernelIdeal.negOf (F := Ideal) f0 f2 f3 fw b (Cert.Proof.KernelIdeal.colOf k' t l) : EReal) ≤ a
  | 0 => by
    constructor
    · intro _ k' hk'; omega
    · intro _
      show (FloatOps.ofBits (F := Ideal) .f32 0xFF800000#32 : EReal) ≤ a
      rw [neg_top_word]; exact bot_le
  | k + 1 => by
    have ih := topOf_le f0 f2 f3 fw ch b l a k
    by_cases hk : k / 8 = ch.val
    · have e : (Cert.Proof.KernelIdeal.topOf (F := Ideal) f0 f2 f3 fw (k + 1) ch b l : EReal)
          = max (max (max (max (Cert.Proof.KernelIdeal.topOf (F := Ideal) f0 f2 f3 fw k ch b l : EReal)
            (Cert.Proof.KernelIdeal.negOf (F := Ideal) f0 f2 f3 fw b (Cert.Proof.KernelIdeal.colOf k 0 l)))
            (Cert.Proof.KernelIdeal.negOf (F := Ideal) f0 f2 f3 fw b (Cert.Proof.KernelIdeal.colOf k 1 l)))
            (Cert.Proof.KernelIdeal.negOf (F := Ideal) f0 f2 f3 fw b (Cert.Proof.KernelIdeal.colOf k 2 l)))
            (Cert.Proof.KernelIdeal.negOf (F := Ideal) f0 f2 f3 fw b (Cert.Proof.KernelIdeal.colOf k 3 l)) := if_pos hk
      rw [e, max_le_iff, max_le_iff, max_le_iff, max_le_iff, ih]
      constructor
      · rintro ⟨⟨⟨⟨h, h0⟩, h1⟩, h2⟩, h3⟩ k' hk' hc t ht
        by_cases hkk : k' = k
        · subst hkk
          match t, ht with
          | 0, _ => exact h0
          | 1, _ => exact h1
          | 2, _ => exact h2
          | 3, _ => exact h3
        · exact h k' (by omega) hc t ht
      · intro h
        exact ⟨⟨⟨⟨fun k' hk' => h k' (by omega), h k (by omega) hk 0 (by omega)⟩, h k (by omega) hk 1 (by omega)⟩, h k (by omega) hk 2 (by omega)⟩, h k (by omega) hk 3 (by omega)⟩
    · have e : (Cert.Proof.KernelIdeal.topOf (F := Ideal) f0 f2 f3 fw (k + 1) ch b l : EReal) = Cert.Proof.KernelIdeal.topOf (F := Ideal) f0 f2 f3 fw k ch b l := if_neg hk
      rw [e, ih]
      constructor
      · intro h k' hk' hc
        by_cases hkk : k' = k
        · subst hkk; exact absurd hc hk
        · exact h k' (by omega) hc
      · exact fun h k' hk' => h k' (by omega)

include hs hf in
theorem cmax_same : Cert.Proof.Ref.R5 m' c = Cert.Proof.KernelIdeal.cmK m c := by
  funext i
  obtain ⟨b, u, ch, rfl⟩ : ∃ (b : Fin 3) (u : Fin 1) (ch : Fin 8), i = ix3 (n0 := 3) (n1 := 1) (n2 := 8) b u ch :=
    ⟨i 0, i 1, i 2, by
      funext a
      match a with
      | ⟨0, _⟩ => rfl
      | ⟨1, _⟩ => rfl
      | ⟨2, _⟩ => rfl⟩
  refine (Cert.Proof.Ref.pay3_apply _ _ b u ch).trans ?_
  show fin0 _ = fin0 (Cert.Proof.KernelIdeal.laneMax m c b ch)
  refine congrArg fin0 (eq_of_forall_ge_iff fun a => ?_)
  unfold Cert.Proof.Ref.topR Cert.Proof.KernelIdeal.laneMax
  show Finset.fold max _ _ _ ≤ a ↔ Finset.fold max _ _ _ ≤ a
  rw [Finset.fold_max_le, Finset.fold_max_le]
  refine and_congr Iff.rfl ?_
  constructor
  · intro h l _
    refine (topOf_le c _ _ _ _ ch b l a 63).2 fun k hk hc t ht => ?_
    rw [← neg_same m m' c hs hf]
    have hn := h (Cert.Proof.KernelIdeal.colOf k t l) (Finset.mem_univ _)
    rwa [if_pos (by show ((512 * k + 128 * t + l.val) % 32256) / 4096 = ch.val; omega)] at hn
  · intro h n _
    by_cases hn : n.val / 4096 = ch.val
    · rw [if_pos hn, neg_same m m' c hs hf]
      have hl := (topOf_le c _ _ _ _ ch b ⟨n.val % 128, by omega⟩ a 63).1 (h ⟨n.val % 128, by omega⟩ (Finset.mem_univ _)) (n.val / 512) (by omega) (by omega) (n.val % 512 / 128) (by omega)
      have e : Cert.Proof.KernelIdeal.colOf (n.val / 512) (n.val % 512 / 128) ⟨n.val % 128, by omega⟩ = n := Fin.ext (by
        show (512 * (n.val / 512) + 128 * (n.val % 512 / 128) + n.val % 128) % 32256 = n.val
        omega)
      rwa [e] at hl
    · rw [if_neg hn, neg_top_word]; exact bot_le

end

theorem algebraic : Cert.algebraic_KernelIdeal_ReferenceIdeal (hKernelIdeal := Cert.KernelIdeal.Gen.facts) (hReferenceIdeal := Cert.ReferenceIdeal.Gen.facts)
    (hPre_inputs_finite := Cert.Pre_inputs_finite.Gen.facts) := by
  intro m g m' g' hpre hs
  have hf : ∀ c, Cert.Proof.KernelIdeal.Fin3 (c := c) (Cert.KernelIdeal.Gen.V (F := Ideal) m c Cert.KernelIdeal.main_v0) := fun c b i => by
    have e : Cert.Proof.KernelIdeal.row (Cert.Proof.KernelIdeal.xin (F := Ideal) (c := c) (Cert.KernelIdeal.Gen.V (F := Ideal) m c Cert.KernelIdeal.main_v0)) b i = _ :=
      Cert.Proof.KernelIdeal.V0 m c b i
    rw [e]
    exact pre_abs _ _ _ _ _ (hpre c) b i
  refine ⟨fun c => Cert.Proof.KernelIdeal.logitsK m c, fun c => Cert.Proof.KernelIdeal.cmK m c, fun c => Cert.Proof.KernelIdeal.cdOf (F := Ideal) (c := c) (Cert.KernelIdeal.Gen.V (F := Ideal) m c Cert.KernelIdeal.main_v0),
    fun c => Cert.Proof.KernelIdeal.xsOf (F := Ideal) (c := c) (Cert.KernelIdeal.Gen.V (F := Ideal) m c Cert.KernelIdeal.main_v0), Cert.Proof.KernelIdeal.run_val m g, ?_⟩
  refine (θ_run Cert.ReferenceIdeal.defs _ _).mono (fun r h c => ?_) (Cert.Proof.Ref.run m' g')
  exact ⟨(h c).1.trans (logits_same m m' c (hs c) (hf c)), (h c).2.1.trans (cmax_same m m' c (hs c) (hf c)), (h c).2.2.1.trans (codes_same m m' c (hs c) (hf c)), (h c).2.2.2.1.trans (scales_same m m' c (hs c) (hf c)), (h c).2.2.2.2⟩

end Cert.Proof
-- ==== Proof.lean ====
/-
  The proof of `Cert.Claim`: the frames of the kernel, of the kernel read over the reals and of the reference, and the equality of the results over the reals.
-/
module

public import proofs.«01_k».proof.Defs
public import proofs.«01_k».proof.Proof.Kernel.Launch
public import proofs.«01_k».proof.Proof.KernelIdeal.Launch
public import proofs.«01_k».proof.Proof.Gen.ReferenceIdeal
public import proofs.«01_k».proof.Proof.Gen.ReferenceIdeal.Frame
public import proofs.«01_k».proof.Proof.Algebraic
public import proofs.«01_k».proof.Proof.Gen.Pre_inputs_finite
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_inputs_finite.Gen.facts,
  fun m ρ _ => Cert.Proof.Kernel.frame m ρ, fun m ρ _ => Cert.Proof.KernelIdeal.frame m ρ, fun m ρ _ => Cert.ReferenceIdeal.Gen.frame m ρ, trivial, Cert.Proof.algebraic⟩

end Cert.Proof

end
